-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2)
      ∧ r.2.mem ((c.tc : Thread Cert.Kernel11.nD Cert.Kernel11.τ).loc Cert.Kernel11.main_arg3) = m ((c.tc : Thread Cert.Kernel11.nD Cert.Kernel11.τ).loc Cert.Kernel11.main_arg3)
      ∧ r.2.mem ((c.tc : Thread Cert.Kernel11.nD Cert.Kernel11.τ).loc Cert.Kernel11.main_arg4) = m ((c.tc : Thread Cert.Kernel11.nD Cert.Kernel11.τ).loc Cert.Kernel11.main_arg4))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
      ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3)
      ∧ r.2.mem ((c.tc : Thread Cert.Reference11Ideal.nD Cert.Reference11Ideal.τ).loc Cert.Reference11Ideal.main_arg4) = m ((c.tc : Thread Cert.Reference11Ideal.nD Cert.Reference11Ideal.τ).loc Cert.Reference11Ideal.main_arg4))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1)
      ∧ r.2.mem ((c.tc : Thread Cert.Kernel16.nD Cert.Kernel16.τ).loc Cert.Kernel16.main_arg2) = m ((c.tc : Thread Cert.Kernel16.nD Cert.Kernel16.τ).loc Cert.Kernel16.main_arg2))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
      ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1)
      ∧ r.2.mem ((c.tc : Thread Cert.Kernel18.nD Cert.Kernel18.τ).loc Cert.Kernel18.main_arg2) = m ((c.tc : Thread Cert.Kernel18.nD Cert.Kernel18.τ).loc Cert.Kernel18.main_arg2)
      ∧ r.2.mem ((c.tc : Thread Cert.Kernel18.nD Cert.Kernel18.τ).loc Cert.Kernel18.main_arg3) = m ((c.tc : Thread Cert.Kernel18.nD Cert.Kernel18.τ).loc Cert.Kernel18.main_arg3))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
      ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
      ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1)
      ∧ r.2.mem ((c.tc : Thread Cert.Reference18Ideal.nD Cert.Reference18Ideal.τ).loc Cert.Reference18Ideal.main_arg2) = m ((c.tc : Thread Cert.Reference18Ideal.nD Cert.Reference18Ideal.τ).loc Cert.Reference18Ideal.main_arg2)
      ∧ r.2.mem ((c.tc : Thread Cert.Reference18Ideal.nD Cert.Reference18Ideal.τ).loc Cert.Reference18Ideal.main_arg3) = m ((c.tc : Thread Cert.Reference18Ideal.nD Cert.Reference18Ideal.τ).loc Cert.Reference18Ideal.main_arg3))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1)
      ∧ r.2.mem ((c.tc : Thread Cert.Kernel19.nD Cert.Kernel19.τ).loc Cert.Kernel19.main_arg2) = m ((c.tc : Thread Cert.Kernel19.nD Cert.Kernel19.τ).loc Cert.Kernel19.main_arg2)
      ∧ r.2.mem ((c.tc : Thread Cert.Kernel19.nD Cert.Kernel19.τ).loc Cert.Kernel19.main_arg3) = m ((c.tc : Thread Cert.Kernel19.nD Cert.Kernel19.τ).loc Cert.Kernel19.main_arg3))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
      ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
      ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1)
      ∧ r.2.mem ((c.tc : Thread Cert.Reference19Ideal.nD Cert.Reference19Ideal.τ).loc Cert.Reference19Ideal.main_arg2) = m ((c.tc : Thread Cert.Reference19Ideal.nD Cert.Reference19Ideal.τ).loc Cert.Reference19Ideal.main_arg2)
      ∧ r.2.mem ((c.tc : Thread Cert.Reference19Ideal.nD Cert.Reference19Ideal.τ).loc Cert.Reference19Ideal.main_arg3) = m ((c.tc : Thread Cert.Reference19Ideal.nD Cert.Reference19Ideal.τ).loc Cert.Reference19Ideal.main_arg3))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v50_0)) (v1 : (c : Dev Cert.KernelIdeal.nD) → Buf (Elt Ideal) ((c.tc : Thread Cert.KernelIdeal.nD Cert.KernelIdeal.τ).loc Cert.KernelIdeal.main_v50_1)) (v2 : (c : Dev Cert.KernelIdeal.nD) → Buf (Elt Ideal) ((c.tc : Thread Cert.KernelIdeal.nD Cert.KernelIdeal.τ).loc Cert.KernelIdeal.main_v50_2)) (v3 : (c : Dev Cert.KernelIdeal.nD) → Buf (Elt Ideal) ((c.tc : Thread Cert.KernelIdeal.nD Cert.KernelIdeal.τ).loc Cert.KernelIdeal.main_v50_3)) (v4 : (c : Dev Cert.KernelIdeal.nD) → Buf (Elt Ideal) ((c.tc : Thread Cert.KernelIdeal.nD Cert.KernelIdeal.τ).loc Cert.KernelIdeal.main_v50_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v50_0) = v0 c
          ∧ r.2.mem ((c.tc : Thread Cert.KernelIdeal.nD Cert.KernelIdeal.τ).loc Cert.KernelIdeal.main_v50_1) = v1 c
          ∧ r.2.mem ((c.tc : Thread Cert.KernelIdeal.nD Cert.KernelIdeal.τ).loc Cert.KernelIdeal.main_v50_2) = v2 c
          ∧ r.2.mem ((c.tc : Thread Cert.KernelIdeal.nD Cert.KernelIdeal.τ).loc Cert.KernelIdeal.main_v50_3) = v3 c
          ∧ r.2.mem ((c.tc : Thread Cert.KernelIdeal.nD Cert.KernelIdeal.τ).loc Cert.KernelIdeal.main_v50_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v91) = v0 c
          ∧ r.2.mem ((c.tc : Thread Cert.ReferenceIdeal.nD Cert.ReferenceIdeal.τ).loc Cert.ReferenceIdeal.main_v93) = v1 c
          ∧ r.2.mem ((c.tc : Thread Cert.ReferenceIdeal.nD Cert.ReferenceIdeal.τ).loc Cert.ReferenceIdeal.main_v95) = v2 c
          ∧ r.2.mem ((c.tc : Thread Cert.ReferenceIdeal.nD Cert.ReferenceIdeal.τ).loc Cert.ReferenceIdeal.main_v98) = v3 c
          ∧ r.2.mem ((c.tc : Thread Cert.ReferenceIdeal.nD Cert.ReferenceIdeal.τ).loc Cert.ReferenceIdeal.main_v100) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v3)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v3) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v16) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v2) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v16) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v2)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v2) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v6) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v7) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v7) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)) →
    ∃ (v0 : (c : Dev Cert.Kernel7Ideal.nD) → Buf (Elt Ideal) ((c.tc : Thread Cert.Kernel7Ideal.nD Cert.Kernel7Ideal.τ).loc Cert.Kernel7Ideal.main_v2)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v2) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v6) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v2)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v2) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v2) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v2)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v2) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v3) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)) →
    ∃ (v0 : (c : Dev Cert.Kernel10Ideal.nD) → Buf (Elt Ideal) ((c.tc : Thread Cert.Kernel10Ideal.nD Cert.Kernel10Ideal.τ).loc Cert.Kernel10Ideal.main_v1)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v1) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v3) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)
      ∧ m' ((c.tc : Thread Cert.Reference11Ideal.nD Cert.Reference11Ideal.τ).loc Cert.Reference11Ideal.main_arg3) = m ((c.tc : Thread Cert.Kernel11Ideal.nD Cert.Kernel11Ideal.τ).loc Cert.Kernel11Ideal.main_arg3)
      ∧ m' ((c.tc : Thread Cert.Reference11Ideal.nD Cert.Reference11Ideal.τ).loc Cert.Reference11Ideal.main_arg4) = m ((c.tc : Thread Cert.Kernel11Ideal.nD Cert.Kernel11Ideal.τ).loc Cert.Kernel11Ideal.main_arg4)) →
    ∃ (v0 : (c : Dev Cert.Kernel11Ideal.nD) → Buf (Elt Ideal) ((c.tc : Thread Cert.Kernel11Ideal.nD Cert.Kernel11Ideal.τ).loc Cert.Kernel11Ideal.main_v1_0)) (v1 : (c : Dev Cert.Kernel11Ideal.nD) → Buf (Elt Ideal) ((c.tc : Thread Cert.Kernel11Ideal.nD Cert.Kernel11Ideal.τ).loc Cert.Kernel11Ideal.main_v1_1)) (v2 : (c : Dev Cert.Kernel11Ideal.nD) → Buf (Elt Ideal) ((c.tc : Thread Cert.Kernel11Ideal.nD Cert.Kernel11Ideal.τ).loc Cert.Kernel11Ideal.main_v1_2)) (v3 : (c : Dev Cert.Kernel11Ideal.nD) → Buf (Elt Ideal) ((c.tc : Thread Cert.Kernel11Ideal.nD Cert.Kernel11Ideal.τ).loc Cert.Kernel11Ideal.main_v1_3)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v1_0) = v0 c
          ∧ r.2.mem ((c.tc : Thread Cert.Kernel11Ideal.nD Cert.Kernel11Ideal.τ).loc Cert.Kernel11Ideal.main_v1_1) = v1 c
          ∧ r.2.mem ((c.tc : Thread Cert.Kernel11Ideal.nD Cert.Kernel11Ideal.τ).loc Cert.Kernel11Ideal.main_v1_2) = v2 c
          ∧ r.2.mem ((c.tc : Thread Cert.Kernel11Ideal.nD Cert.Kernel11Ideal.τ).loc Cert.Kernel11Ideal.main_v1_3) = v3 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
          ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
          ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v38) = v0 c
          ∧ r.2.mem ((c.tc : Thread Cert.Reference11Ideal.nD Cert.Reference11Ideal.τ).loc Cert.Reference11Ideal.main_v39) = v1 c
          ∧ r.2.mem ((c.tc : Thread Cert.Reference11Ideal.nD Cert.Reference11Ideal.τ).loc Cert.Reference11Ideal.main_v40) = v2 c
          ∧ r.2.mem ((c.tc : Thread Cert.Reference11Ideal.nD Cert.Reference11Ideal.τ).loc Cert.Reference11Ideal.main_v41) = v3 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2)
          ∧ r.2.mem ((c.tc : Thread Cert.Reference11Ideal.nD Cert.Reference11Ideal.τ).loc Cert.Reference11Ideal.main_arg3) = m' ((c.tc : Thread Cert.Reference11Ideal.nD Cert.Reference11Ideal.τ).loc Cert.Reference11Ideal.main_arg3)
          ∧ r.2.mem ((c.tc : Thread Cert.Reference11Ideal.nD Cert.Reference11Ideal.τ).loc Cert.Reference11Ideal.main_arg4) = m' ((c.tc : Thread Cert.Reference11Ideal.nD Cert.Reference11Ideal.τ).loc Cert.Reference11Ideal.main_arg4))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)) →
    ∃ (v0 : (c : Dev Cert.Kernel12Ideal.nD) → Buf (Elt Ideal) ((c.tc : Thread Cert.Kernel12Ideal.nD Cert.Kernel12Ideal.τ).loc Cert.Kernel12Ideal.main_v0)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v6) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)) →
    ∃ (v0 : (c : Dev Cert.Kernel13Ideal.nD) → Buf (Elt Ideal) ((c.tc : Thread Cert.Kernel13Ideal.nD Cert.Kernel13Ideal.τ).loc Cert.Kernel13Ideal.main_v2)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v2) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v6) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)) →
    ∃ (v0 : (c : Dev Cert.Kernel14Ideal.nD) → Buf (Elt Ideal) ((c.tc : Thread Cert.Kernel14Ideal.nD Cert.Kernel14Ideal.τ).loc Cert.Kernel14Ideal.main_v2)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v2) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v6) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)) →
    ∃ (v0 : (c : Dev Cert.Kernel15Ideal.nD) → Buf (Elt Ideal) ((c.tc : Thread Cert.Kernel15Ideal.nD Cert.Kernel15Ideal.τ).loc Cert.Kernel15Ideal.main_v0)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v0) = v0 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v7) = v0 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)
      ∧ m' ((c.tc : Thread Cert.Reference16Ideal.nD Cert.Reference16Ideal.τ).loc Cert.Reference16Ideal.main_arg2) = m ((c.tc : Thread Cert.Kernel16Ideal.nD Cert.Kernel16Ideal.τ).loc Cert.Kernel16Ideal.main_arg2)) →
    ∃ (v0 : (c : Dev Cert.Kernel16Ideal.nD) → Buf (Elt Ideal) ((c.tc : Thread Cert.Kernel16Ideal.nD Cert.Kernel16Ideal.τ).loc Cert.Kernel16Ideal.main_v0)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v0) = v0 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
          ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v7) = v0 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1)
          ∧ r.2.mem ((c.tc : Thread Cert.Reference16Ideal.nD Cert.Reference16Ideal.τ).loc Cert.Reference16Ideal.main_arg2) = m' ((c.tc : Thread Cert.Reference16Ideal.nD Cert.Reference16Ideal.τ).loc Cert.Reference16Ideal.main_arg2))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)) →
    ∃ (v0 : (c : Dev Cert.Kernel17Ideal.nD) → Buf (Elt Ideal) ((c.tc : Thread Cert.Kernel17Ideal.nD Cert.Kernel17Ideal.τ).loc Cert.Kernel17Ideal.main_v2)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v2) = v0 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v2) = v0 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)
      ∧ m' ((c.tc : Thread Cert.Reference18Ideal.nD Cert.Reference18Ideal.τ).loc Cert.Reference18Ideal.main_arg2) = m ((c.tc : Thread Cert.Kernel18Ideal.nD Cert.Kernel18Ideal.τ).loc Cert.Kernel18Ideal.main_arg2)
      ∧ m' ((c.tc : Thread Cert.Reference18Ideal.nD Cert.Reference18Ideal.τ).loc Cert.Reference18Ideal.main_arg3) = m ((c.tc : Thread Cert.Kernel18Ideal.nD Cert.Kernel18Ideal.τ).loc Cert.Kernel18Ideal.main_arg3)) →
    ∃ (v0 : (c : Dev Cert.Kernel18Ideal.nD) → Buf (Elt Ideal) ((c.tc : Thread Cert.Kernel18Ideal.nD Cert.Kernel18Ideal.τ).loc Cert.Kernel18Ideal.main_v2_0)) (v1 : (c : Dev Cert.Kernel18Ideal.nD) → Buf (Elt Ideal) ((c.tc : Thread Cert.Kernel18Ideal.nD Cert.Kernel18Ideal.τ).loc Cert.Kernel18Ideal.main_v2_1)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v2_0) = v0 c
          ∧ r.2.mem ((c.tc : Thread Cert.Kernel18Ideal.nD Cert.Kernel18Ideal.τ).loc Cert.Kernel18Ideal.main_v2_1) = v1 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
          ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
          ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v2) = v0 c
          ∧ r.2.mem ((c.tc : Thread Cert.Reference18Ideal.nD Cert.Reference18Ideal.τ).loc Cert.Reference18Ideal.main_v23) = v1 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1)
          ∧ r.2.mem ((c.tc : Thread Cert.Reference18Ideal.nD Cert.Reference18Ideal.τ).loc Cert.Reference18Ideal.main_arg2) = m' ((c.tc : Thread Cert.Reference18Ideal.nD Cert.Reference18Ideal.τ).loc Cert.Reference18Ideal.main_arg2)
          ∧ r.2.mem ((c.tc : Thread Cert.Reference18Ideal.nD Cert.Reference18Ideal.τ).loc Cert.Reference18Ideal.main_arg3) = m' ((c.tc : Thread Cert.Reference18Ideal.nD Cert.Reference18Ideal.τ).loc Cert.Reference18Ideal.main_arg3))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)
      ∧ m' ((c.tc : Thread Cert.Reference19Ideal.nD Cert.Reference19Ideal.τ).loc Cert.Reference19Ideal.main_arg2) = m ((c.tc : Thread Cert.Kernel19Ideal.nD Cert.Kernel19Ideal.τ).loc Cert.Kernel19Ideal.main_arg2)
      ∧ m' ((c.tc : Thread Cert.Reference19Ideal.nD Cert.Reference19Ideal.τ).loc Cert.Reference19Ideal.main_arg3) = m ((c.tc : Thread Cert.Kernel19Ideal.nD Cert.Kernel19Ideal.τ).loc Cert.Kernel19Ideal.main_arg3)) →
    ∃ (v0 : (c : Dev Cert.Kernel19Ideal.nD) → Buf (Elt Ideal) ((c.tc : Thread Cert.Kernel19Ideal.nD Cert.Kernel19Ideal.τ).loc Cert.Kernel19Ideal.main_v1_0)) (v1 : (c : Dev Cert.Kernel19Ideal.nD) → Buf (Elt Ideal) ((c.tc : Thread Cert.Kernel19Ideal.nD Cert.Kernel19Ideal.τ).loc Cert.Kernel19Ideal.main_v1_1)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v1_0) = v0 c
          ∧ r.2.mem ((c.tc : Thread Cert.Kernel19Ideal.nD Cert.Kernel19Ideal.τ).loc Cert.Kernel19Ideal.main_v1_1) = v1 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
          ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
          ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v2) = v0 c
          ∧ r.2.mem ((c.tc : Thread Cert.Reference19Ideal.nD Cert.Reference19Ideal.τ).loc Cert.Reference19Ideal.main_v17) = v1 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1)
          ∧ r.2.mem ((c.tc : Thread Cert.Reference19Ideal.nD Cert.Reference19Ideal.τ).loc Cert.Reference19Ideal.main_arg2) = m' ((c.tc : Thread Cert.Reference19Ideal.nD Cert.Reference19Ideal.τ).loc Cert.Reference19Ideal.main_arg2)
          ∧ r.2.mem ((c.tc : Thread Cert.Reference19Ideal.nD Cert.Reference19Ideal.τ).loc Cert.Reference19Ideal.main_arg3) = m' ((c.tc : Thread Cert.Reference19Ideal.nD Cert.Reference19Ideal.τ).loc Cert.Reference19Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
-- ==== Pre_finite.lean ====
abbrev S8192x8704 : Shape := ⟨2, ![8192, 8704]⟩
abbrev S16x8192 : Shape := ⟨2, ![16, 8192]⟩
abbrev S8192x1024 : Shape := ⟨2, ![8192, 1024]⟩
abbrev S8192x3072 : Shape := ⟨2, ![8192, 3072]⟩
abbrev S_ : Shape := ⟨0, ![]⟩

class Facts : Prop where
  slices_S8192x8704_S8192x3072_0_5376 : S8192x8704.Slices ![0, 5376] S8192x3072
  bitsLt_bf16_f32 : FTy.bits .bf16 < FTy.bits .f32
  bcast_S_S8192x3072 : S_.BroadcastsInDim S8192x3072 (![] : Fin 0 → Fin S8192x3072.rank)
  reducesTo_S8192x3072_S_d0_1 : S8192x3072.ReducesTo [0, 1] S_
  h_S_ : 0 < S_.numel
  bcast_S_S16x8192 : S_.BroadcastsInDim S16x8192 (![] : Fin 0 → Fin S16x8192.rank)
  reducesTo_S16x8192_S_d0_1 : S16x8192.ReducesTo [0, 1] S_
  bcast_S_S8192x1024 : S_.BroadcastsInDim S8192x1024 (![] : Fin 0 → Fin S8192x1024.rank)
  reducesTo_S8192x1024_S_d0_1 : S8192x1024.ReducesTo [0, 1] S_

variable [Facts]

def fn {F : FTy → Type} [FloatOps F] (main_arg0 : FVec F S8192x8704 .bf16) (main_arg1 : FVec F S16x8192 .f32) (main_arg2 : FVec F S8192x1024 .bf16) : IVec S_ 1 :=
  let main_v0 : FVec F S8192x3072 .bf16 := (extractStridedSlice S8192x3072 ![0, 5376] · slices_S8192x8704_S8192x3072_0_5376) main_arg0
  let main_v1 : FVec F S8192x3072 .f32 := (extf .f32 · bitsLt_bf16_f32) main_v0
  let main_v2 : FVec F S8192x3072 .f32 := Host.absf main_v1
  let main_cst : FVec F S_ .f32 := constant S_ .f32 0x7F800000#32
  let main_v3 : FVec F S8192x3072 .f32 := broadcastInDim S8192x3072 ![] bcast_S_S8192x3072 main_cst
  let main_v4 : IVec S8192x3072 1 := cmpf .olt main_v2 main_v3
  let main_c : IVec S_ 1 := constantI S_ 1 1#1
  let main_v5 : IVec S_ 1 := (fun x v => Host.reduce IntOp.andi x v reducesTo_S8192x3072_S_d0_1 h_S_) main_v4 main_c
  let main_v6 : FVec F S16x8192 .f32 := Host.absf main_arg1
  let main_cst_0 : FVec F S_ .f32 := constant S_ .f32 0x7F800000#32
  let main_v7 : FVec F S16x8192 .f32 := broadcastInDim S16x8192 ![] bcast_S_S16x8192 main_cst_0
  let main_v8 : IVec S16x8192 1 := cmpf .olt main_v6 main_v7
  let main_c_1 : IVec S_ 1 := constantI S_ 1 1#1
  let main_v9 : IVec S_ 1 := (fun x v => Host.reduce IntOp.andi x v reducesTo_S16x8192_S_d0_1 h_S_) main_v8 main_c_1
  let main_v10 : IVec S_ 1 := andi main_v5 main_v9
  let main_v11 : FVec F S8192x1024 .f32 := (extf .f32 · bitsLt_bf16_f32) main_arg2
  let main_v12 : FVec F S8192x1024 .f32 := Host.absf main_v11
  let main_cst_2 : FVec F S_ .f32 := constant S_ .f32 0x7F800000#32
  let main_v13 : FVec F S8192x1024 .f32 := broadcastInDim S8192x1024 ![] bcast_S_S8192x1024 main_cst_2
  let main_v14 : IVec S8192x1024 1 := cmpf .olt main_v12 main_v13
  let main_c_3 : IVec S_ 1 := constantI S_ 1 1#1
  let main_v15 : IVec S_ 1 := (fun x v => Host.reduce IntOp.andi x v reducesTo_S8192x1024_S_d0_1 h_S_) main_v14 main_c_3
  let main_v16 : IVec S_ 1 := andi main_v10 main_v15
  main_v16
-- ==== Kernel.lean ====
abbrev S8192x8704 : Shape := ⟨2, ![8192, 8704]⟩
abbrev S16x8192 : Shape := ⟨2, ![16, 8192]⟩
abbrev S8192x1024 : Shape := ⟨2, ![8192, 1024]⟩
abbrev S8192x16x64 : Shape := ⟨3, ![8192, 16, 64]⟩
abbrev S16x8192x8192 : Shape := ⟨3, ![16, 8192, 8192]⟩
abbrev S_ : Shape := ⟨0, ![]⟩
abbrev S16x1x8192 : Shape := ⟨3, ![16, 1, 8192]⟩
abbrev S8192 : Shape := ⟨1, ![8192]⟩
abbrev S1x1x8192 : Shape := ⟨3, ![1, 1, 8192]⟩
abbrev S1x8192x1 : Shape := ⟨3, ![1, 8192, 1]⟩
abbrev S1x8192x8192 : Shape := ⟨3, ![1, 8192, 8192]⟩
abbrev S16x8192x1 : Shape := ⟨3, ![16, 8192, 1]⟩
abbrev S16x64x8192 : Shape := ⟨3, ![16, 64, 8192]⟩
abbrev S8x2x8192 : Shape := ⟨3, ![8, 2, 8192]⟩
abbrev S8x8192x2 : Shape := ⟨3, ![8, 8192, 2]⟩
abbrev S8x8192x2x1 : Shape := ⟨4, ![8, 8192, 2, 1]⟩
abbrev S8x8192x2x64 : Shape := ⟨4, ![8, 8192, 2, 64]⟩
abbrev S8x8192x128 : Shape := ⟨3, ![8, 8192, 128]⟩
abbrev S8x2x16x512 : Shape := ⟨4, ![8, 2, 16, 512]⟩
abbrev S8x16x2x512 : Shape := ⟨4, ![8, 16, 2, 512]⟩
abbrev S8x1024x1024 : Shape := ⟨3, ![8, 1024, 1024]⟩
abbrev S8x8x2x1024 : Shape := ⟨4, ![8, 8, 2, 1024]⟩
abbrev S8192x128 : Shape := ⟨2, ![8192, 128]⟩
abbrev S512x128 : Shape := ⟨2, ![512, 128]⟩
abbrev S1x1x2x512 : Shape := ⟨4, ![1, 1, 2, 512]⟩
abbrev S1x8192x128 : Shape := ⟨3, ![1, 8192, 128]⟩
abbrev S8x128x1024 : Shape := ⟨3, ![8, 128, 1024]⟩
abbrev S1x8x2x1024 : Shape := ⟨4, ![1, 8, 2, 1024]⟩
abbrev S1x128 : Shape := ⟨2, ![1, 128]⟩
abbrev S128x1 : Shape := ⟨2, ![128, 1]⟩
abbrev S2x512 : Shape := ⟨2, ![2, 512]⟩
abbrev S1024x512 : Shape := ⟨2, ![1024, 512]⟩
abbrev S1024x128 : Shape := ⟨2, ![1024, 128]⟩
abbrev S1024 : Shape := ⟨1, ![1024]⟩
abbrev S1024x1 : Shape := ⟨2, ![1024, 1]⟩
abbrev S128x512 : Shape := ⟨2, ![128, 512]⟩
abbrev S1x128x1024 : Shape := ⟨3, ![1, 128, 1024]⟩
abbrev S128x1024 : Shape := ⟨2, ![128, 1024]⟩
abbrev S1x512x128 : Shape := ⟨3, ![1, 512, 128]⟩
abbrev S512x512 : Shape := ⟨2, ![512, 512]⟩
abbrev S1x512 : Shape := ⟨2, ![1, 512]⟩
abbrev S512x1 : Shape := ⟨2, ![512, 1]⟩
abbrev S1x1024x128 : Shape := ⟨3, ![1, 1024, 128]⟩
abbrev S1x1024 : Shape := ⟨2, ![1, 1024]⟩
abbrev S2x1024 : Shape := ⟨2, ![2, 1024]⟩
abbrev S1x1x2x1024 : Shape := ⟨4, ![1, 1, 2, 1024]⟩

abbrev nBuf : Space → Nat
  | .hbm => 65
  | .vmem => 30
  | .smem => 0
  | _ => 0

abbrev bufTy : (tb : Table) → Fin (tcTables nBuf tb) → BufTy
  | .hbm, ⟨0, _⟩ => ⟨S8192x8704, .bf16⟩
  | .hbm, ⟨1, _⟩ => ⟨S16x8192, .f32⟩
  | .hbm, ⟨2, _⟩ => ⟨S8192x1024, .bf16⟩
  | .hbm, ⟨3, _⟩ => ⟨S8192x1024, .bf16⟩
  | .hbm, ⟨4, _⟩ => ⟨S8192x1024, .f32⟩
  | .hbm, ⟨5, _⟩ => ⟨S8192x16x64, .f32⟩
  | .hbm, ⟨6, _⟩ => ⟨S8192x1024, .bf16⟩
  | .hbm, ⟨7, _⟩ => ⟨S8192x1024, .f32⟩
  | .hbm, ⟨8, _⟩ => ⟨S8192x16x64, .f32⟩
  | .hbm, ⟨9, _⟩ => ⟨S16x8192x8192, .f32⟩
  | .hbm, ⟨10, _⟩ => ⟨S_, .f32⟩
  | .hbm, ⟨11, _⟩ => ⟨S16x8192x8192, .f32⟩
  | .hbm, ⟨12, _⟩ => ⟨S16x8192x8192, .f32⟩
  | .hbm, ⟨13, _⟩ => ⟨S16x1x8192, .f32⟩
  | .hbm, ⟨14, _⟩ => ⟨S16x8192x8192, .f32⟩
  | .hbm, ⟨15, _⟩ => ⟨S16x8192x8192, .f32⟩
  | .hbm, ⟨16, _⟩ => ⟨S8192, .i32⟩
  | .hbm, ⟨17, _⟩ => ⟨S1x1x8192, .i32⟩
  | .hbm, ⟨18, _⟩ => ⟨S8192, .i32⟩
  | .hbm, ⟨19, _⟩ => ⟨S1x8192x1, .i32⟩
  | .hbm, ⟨20, _⟩ => ⟨S1x8192x8192, .i32⟩
  | .hbm, ⟨21, _⟩ => ⟨S1x8192x8192, .i32⟩
  | .hbm, ⟨22, _⟩ => ⟨S1x8192x8192, .i1⟩
  | .hbm, ⟨23, _⟩ => ⟨S_, .f32⟩
  | .hbm, ⟨24, _⟩ => ⟨S_, .f32⟩
  | .hbm, ⟨25, _⟩ => ⟨S16x8192x8192, .i1⟩
  | .hbm, ⟨26, _⟩ => ⟨S16x8192x8192, .f32⟩
  | .hbm, ⟨27, _⟩ => ⟨S16x8192x8192, .f32⟩
  | .hbm, ⟨28, _⟩ => ⟨S_, .f32⟩
  | .hbm, ⟨29, _⟩ => ⟨S16x8192, .f32⟩
  | .hbm, ⟨30, _⟩ => ⟨S16x8192x1, .f32⟩
  | .hbm, ⟨31, _⟩ => ⟨S16x8192x8192, .f32⟩
  | .hbm, ⟨32, _⟩ => ⟨S16x8192x8192, .f32⟩
  | .hbm, ⟨33, _⟩ => ⟨S16x8192x8192, .f32⟩
  | .hbm, ⟨34, _⟩ => ⟨S_, .f32⟩
  | .hbm, ⟨35, _⟩ => ⟨S16x8192, .f32⟩
  | .hbm, ⟨36, _⟩ => ⟨S16x8192x1, .f32⟩
  | .hbm, ⟨37, _⟩ => ⟨S16x8192x8192, .f32⟩
  | .hbm, ⟨38, _⟩ => ⟨S16x8192x8192, .f32⟩
  | .hbm, ⟨39, _⟩ => ⟨S8192x1024, .bf16⟩
  | .hbm, ⟨40, _⟩ => ⟨S8192x1024, .f32⟩
  | .hbm, ⟨41, _⟩ => ⟨S8192x16x64, .f32⟩
  | .hbm, ⟨42, _⟩ => ⟨S16x64x8192, .f32⟩
  | .hbm, ⟨43, _⟩ => ⟨S8192x16x64, .f32⟩
  | .hbm, ⟨44, _⟩ => ⟨S8192x1024, .f32⟩
  | .hbm, ⟨45, _⟩ => ⟨S8192x1024, .bf16⟩
  | .hbm, ⟨46, _⟩ => ⟨S16x8192x1, .f32⟩
  | .hbm, ⟨47, _⟩ => ⟨S16x8192x1, .f32⟩
  | .hbm, ⟨48, _⟩ => ⟨S8x2x8192, .f32⟩
  | .hbm, ⟨49, _⟩ => ⟨S8x8192x2, .f32⟩
  | .hbm, ⟨50, _⟩ => ⟨S8x8192x2x1, .f32⟩
  | .hbm, ⟨51, _⟩ => ⟨S8x8192x2x64, .f32⟩
  | .hbm, ⟨52, _⟩ => ⟨S8x8192x128, .f32⟩
  | .hbm, ⟨53, _⟩ => ⟨S8x2x16x512, .f32⟩
  | .hbm, ⟨54, _⟩ => ⟨S8x16x2x512, .f32⟩
  | .hbm, ⟨55, _⟩ => ⟨S8192x1024, .bf16⟩
  | .hbm, ⟨56, _⟩ => ⟨S8x1024x1024, .bf16⟩
  | .hbm, ⟨57, _⟩ => ⟨S8x1024x1024, .bf16⟩
  | .hbm, ⟨58, _⟩ => ⟨S8x1024x1024, .bf16⟩
  | .hbm, ⟨59, _⟩ => ⟨S8x1024x1024, .bf16⟩
  | .hbm, ⟨60, _⟩ => ⟨S8192x1024, .bf16⟩
  | .hbm, ⟨61, _⟩ => ⟨S8192x1024, .bf16⟩
  | .hbm, ⟨62, _⟩ => ⟨S8192x1024, .bf16⟩
  | .hbm, ⟨63, _⟩ => ⟨S8x16x2x512, .f32⟩
  | .hbm, ⟨64, _⟩ => ⟨S8x8x2x1024, .f32⟩
  | .local _ .vmem, ⟨0, _⟩ => ⟨S8192x128, .bf16⟩
  | .local _ .vmem, ⟨1, _⟩ => ⟨S8192x128, .bf16⟩
  | .local _ .vmem, ⟨2, _⟩ => ⟨S512x128, .bf16⟩
  | .local _ .vmem, ⟨3, _⟩ => ⟨S512x128, .bf16⟩
  | .local _ .vmem, ⟨4, _⟩ => ⟨S512x128, .bf16⟩
  | .local _ .vmem, ⟨5, _⟩ => ⟨S512x128, .bf16⟩
  | .local _ .vmem, ⟨6, _⟩ => ⟨S1x1x2x512, .f32⟩
  | .local _ .vmem, ⟨7, _⟩ => ⟨S1x1x2x512, .f32⟩
  | .local _ .vmem, ⟨8, _⟩ => ⟨S8192x128, .bf16⟩
  | .local _ .vmem, ⟨9, _⟩ => ⟨S8192x128, .bf16⟩
  | .local _ .vmem, ⟨10, _⟩ => ⟨S1x8192x128, .f32⟩
  | .local _ .vmem, ⟨11, _⟩ => ⟨S8192x128, .bf16⟩
  | .local _ .vmem, ⟨12, _⟩ => ⟨S8192x128, .bf16⟩
  | .local _ .vmem, ⟨13, _⟩ => ⟨S8x128x1024, .bf16⟩
  | .local _ .vmem, ⟨14, _⟩ => ⟨S8x128x1024, .bf16⟩
  | .local _ .vmem, ⟨15, _⟩ => ⟨S8x128x1024, .bf16⟩
  | .local _ .vmem, ⟨16, _⟩ => ⟨S8x128x1024, .bf16⟩
  | .local _ .vmem, ⟨17, _⟩ => ⟨S8192x128, .bf16⟩
  | .local _ .vmem, ⟨18, _⟩ => ⟨S8192x128, .bf16⟩
  | .local _ .vmem, ⟨19, _⟩ => ⟨S512x128, .bf16⟩
  | .local _ .vmem, ⟨20, _⟩ => ⟨S512x128, .bf16⟩
  | .local _ .vmem, ⟨21, _⟩ => ⟨S512x128, .bf16⟩
  | .local _ .vmem, ⟨22, _⟩ => ⟨S512x128, .bf16⟩
  | .local _ .vmem, ⟨23, _⟩ => ⟨S1x1x2x512, .f32⟩
  | .local _ .vmem, ⟨24, _⟩ => ⟨S1x1x2x512, .f32⟩
  | .local _ .vmem, ⟨25, _⟩ => ⟨S1x8x2x1024, .f32⟩
  | .local _ .vmem, ⟨26, _⟩ => ⟨S1x8x2x1024, .f32⟩
  | .local _ .vmem, ⟨27, _⟩ => ⟨S8192x128, .f32⟩
  | .local _ .vmem, ⟨28, _⟩ => ⟨S8192x128, .f32⟩
  | .local _ .vmem, ⟨29, _⟩ => ⟨S8192x128, .f32⟩
  | _, _ => ⟨S8192x8704, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_cst_0 : Ref sig .tc := ⟨.hbm, 23, rfl⟩
abbrev main_call0_v0 : Ref sig .tc := ⟨.hbm, 24, rfl⟩
abbrev main_call0_v1 : Ref sig .tc := ⟨.hbm, 25, rfl⟩
abbrev main_call0_v2 : Ref sig .tc := ⟨.hbm, 26, rfl⟩
abbrev main_v19 : Ref sig .tc := ⟨.hbm, 27, rfl⟩
abbrev main_cst_1 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_cst_2 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50_0 : Ref sig .tc := ⟨.hbm, 60, rfl⟩
abbrev main_v50_1 : Ref sig .tc := ⟨.hbm, 61, rfl⟩
abbrev main_v50_2 : Ref sig .tc := ⟨.hbm, 62, rfl⟩
abbrev main_v50_3 : Ref sig .tc := ⟨.hbm, 63, rfl⟩
abbrev main_v50_4 : Ref sig .tc := ⟨.hbm, 64, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_stg11_1 : Ref sig .tc := ⟨.vmem, 22, rfl⟩
abbrev cc0_stg12_0 : Ref sig .tc := ⟨.vmem, 23, rfl⟩
abbrev cc0_stg12_1 : Ref sig .tc := ⟨.vmem, 24, rfl⟩
abbrev cc0_stg13_0 : Ref sig .tc := ⟨.vmem, 25, rfl⟩
abbrev cc0_stg13_1 : Ref sig .tc := ⟨.vmem, 26, rfl⟩
abbrev cc0_scratch0 : Ref sig .tc := ⟨.vmem, 27, rfl⟩
abbrev cc0_scratch1 : Ref sig .tc := ⟨.vmem, 28, rfl⟩
abbrev cc0_scratch2 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22
abbrev cc0_sem12_0 : DmaSem sig := 23
abbrev cc0_sem12_1 : DmaSem sig := 24
abbrev cc0_sem13_0 : DmaSem sig := 25
abbrev cc0_sem13_1 : DmaSem sig := 26

abbrev nD : Nat := 1
abbrev τ : Topo := Topo.v7x

variable {F : FTy → Type} [FloatOps F]

abbrev grid0 : Pipeline.Grid := ⟨2, ![8, 16], ![false, false]⟩

def k0_cond2 (i : grid0.Coords) : BitVec 1 :=
  let arg1 : BitVec 32 := BitVec.ofNat 32 (i 1).val
  let c2_i32 : BitVec 32 := 2#32
  let c0_i32_23 : BitVec 32 := 0#32
  let v62 : BitVec 1 := Scalar.cmpi .eq c2_i32 c0_i32_23
  let c1_i32_24 : BitVec 32 := 1#32
  let v63 : BitVec 32 := Scalar.select v62 c1_i32_24 c2_i32
  let v64 : BitVec 32 := Scalar.remsi arg1 v63
  let c0_i32_26 : BitVec 32 := 0#32
  let v66 : BitVec 1 := Scalar.cmpi .slt v64 c0_i32_26
  let c0_i32_27 : BitVec 32 := 0#32
  let v67 : BitVec 1 := Scalar.cmpi .slt v63 c0_i32_27
  let v68 : BitVec 1 := Scalar.xori v66 v67
  let c0_i32_25 : BitVec 32 := 0#32
  let v65 : BitVec 1 := Scalar.cmpi .ne v64 c0_i32_25
  let v69 : BitVec 1 := Scalar.andi v68 v65
  let v70 : BitVec 32 := Scalar.addi v64 v63
  let v71 : BitVec 32 := Scalar.select v69 v70 v64
  let c0_i32_28 : BitVec 32 := 0#32
  let v72 : BitVec 32 := Scalar.maxsi v71 c0_i32_28
  let c1_i32_29 : BitVec 32 := 1#32
  let v73 : BitVec 32 := Scalar.minsi v72 c1_i32_29
  let c0_i32_30 : BitVec 32 := 0#32
  let v74 : BitVec 1 := Scalar.cmpi .ne v73 c0_i32_30
  v74

def k0_mult1 (i : grid0.Coords) : BitVec 32 :=
  let arg1 : BitVec 32 := BitVec.ofNat 32 (i 1).val
  let c512_i32 : BitVec 32 := 512#32
  let v40 : BitVec 32 := Scalar.muli arg1 c512_i32
  let c0_i32_15 : BitVec 32 := 0#32
  let v42 : BitVec 1 := Scalar.cmpi .sgt v40 c0_i32_15
  let v43 : BitVec 32 := Scalar.extui v42
  let c0_i32_16 : BitVec 32 := 0#32
  let v44 : BitVec 1 := Scalar.cmpi .slt v40 c0_i32_16
  let v45 : BitVec 32 := Scalar.extui v44
  let v46 : BitVec 32 := Scalar.subi v43 v45
  let c1024_i32 : BitVec 32 := 1024#32
  let c0_i32_17 : BitVec 32 := 0#32
  let v47 : BitVec 1 := Scalar.cmpi .sgt c1024_i32 c0_i32_17
  let v48 : BitVec 32 := Scalar.extui v47
  let c0_i32_18 : BitVec 32 := 0#32
  let v49 : BitVec 1 := Scalar.cmpi .slt c1024_i32 c0_i32_18
  let v50 : BitVec 32 := Scalar.extui v49
  let v51 : BitVec 32 := Scalar.subi v48 v50
  let v52 : BitVec 1 := Scalar.cmpi .ne v46 v51
  let v53 : BitVec 32 := Scalar.remsi v40 c1024_i32
  let c0_i32_19 : BitVec 32 := 0#32
  let v54 : BitVec 1 := Scalar.cmpi .ne v53 c0_i32_19
  let v55 : BitVec 1 := Scalar.andi v52 v54
  let v41 : BitVec 32 := Scalar.divsi v40 c1024_i32
  let c1_i32 : BitVec 32 := 1#32
  let v56 : BitVec 32 := Scalar.subi v41 c1_i32
  let v57 : BitVec 32 := Scalar.select v55 v56 v41
  let c1024_i32_44 : BitVec 32 := 1024#32
  let v102 : BitVec 32 := Scalar.muli v57 c1024_i32_44
  let c512_i32_45 : BitVec 32 := 512#32
  let v103 : BitVec 32 := Scalar.addi v102 c512_i32_45
  v103
def k0_off1 (i : grid0.Coords) : Fin 2 → Nat :=
  let arg1 : BitVec 32 := BitVec.ofNat 32 (i 1).val
  let c512_i32 : BitVec 32 := 512#32
  let v40 : BitVec 32 := Scalar.muli arg1 c512_i32
  let c0_i32_15 : BitVec 32 := 0#32
  let v42 : BitVec 1 := Scalar.cmpi .sgt v40 c0_i32_15
  let v43 : BitVec 32 := Scalar.extui v42
  let c0_i32_16 : BitVec 32 := 0#32
  let v44 : BitVec 1 := Scalar.cmpi .slt v40 c0_i32_16
  let v45 : BitVec 32 := Scalar.extui v44
  let v46 : BitVec 32 := Scalar.subi v43 v45
  let c1024_i32 : BitVec 32 := 1024#32
  let c0_i32_17 : BitVec 32 := 0#32
  let v47 : BitVec 1 := Scalar.cmpi .sgt c1024_i32 c0_i32_17
  let v48 : BitVec 32 := Scalar.extui v47
  let c0_i32_18 : BitVec 32 := 0#32
  let v49 : BitVec 1 := Scalar.cmpi .slt c1024_i32 c0_i32_18
  let v50 : BitVec 32 := Scalar.extui v49
  let v51 : BitVec 32 := Scalar.subi v48 v50
  let v52 : BitVec 1 := Scalar.cmpi .ne v46 v51
  let v53 : BitVec 32 := Scalar.remsi v40 c1024_i32
  let c0_i32_19 : BitVec 32 := 0#32
  let v54 : BitVec 1 := Scalar.cmpi .ne v53 c0_i32_19
  let v55 : BitVec 1 := Scalar.andi v52 v54
  let v41 : BitVec 32 := Scalar.divsi v40 c1024_i32
  let c1_i32 : BitVec 32 := 1#32
  let v56 : BitVec 32 := Scalar.subi v41 c1_i32
  let v57 : BitVec 32 := Scalar.select v55 v56 v41
  let c1024_i32_44 : BitVec 32 := 1024#32
  let v102 : BitVec 32 := Scalar.muli v57 c1024_i32_44
  let c512_i32_45 : BitVec 32 := 512#32
  let v103 : BitVec 32 := Scalar.addi v102 c512_i32_45
  let v104 : BitVec 32 := v103
  let v105 : Index := Scalar.indexCast v104
  let c0_46 : Index := 0#32
  ![v105.toNat, 0]
def k0_off2 (i : grid0.Coords) : Fin 3 → Nat :=
  let arg1 : BitVec 32 := BitVec.ofNat 32 (i 1).val
  let c512_i32 : BitVec 32 := 512#32
  let v40 : BitVec 32 := Scalar.muli arg1 c512_i32
  let c0_i32_15 : BitVec 32 := 0#32
  let v42 : BitVec 1 := Scalar.cmpi .sgt v40 c0_i32_15
  let v43 : BitVec 32 := Scalar.extui v42
  let c0_i32_16 : BitVec 32 := 0#32
  let v44 : BitVec 1 := Scalar.cmpi .slt v40 c0_i32_16
  let v45 : BitVec 32 := Scalar.extui v44
  let v46 : BitVec 32 := Scalar.subi v43 v45
  let c1024_i32 : BitVec 32 := 1024#32
  let c0_i32_17 : BitVec 32 := 0#32
  let v47 : BitVec 1 := Scalar.cmpi .sgt c1024_i32 c0_i32_17
  let v48 : BitVec 32 := Scalar.extui v47
  let c0_i32_18 : BitVec 32 := 0#32
  let v49 : BitVec 1 := Scalar.cmpi .slt c1024_i32 c0_i32_18
  let v50 : BitVec 32 := Scalar.extui v49
  let v51 : BitVec 32 := Scalar.subi v48 v50
  let v52 : BitVec 1 := Scalar.cmpi .ne v46 v51
  let v53 : BitVec 32 := Scalar.remsi v40 c1024_i32
  let c0_i32_19 : BitVec 32 := 0#32
  let v54 : BitVec 1 := Scalar.cmpi .ne v53 c0_i32_19
  let v55 : BitVec 1 := Scalar.andi v52 v54
  let v41 : BitVec 32 := Scalar.divsi v40 c1024_i32
  let c1_i32 : BitVec 32 := 1#32
  let v56 : BitVec 32 := Scalar.subi v41 c1_i32
  let v57 : BitVec 32 := Scalar.select v55 v56 v41
  let v111 : Index := Scalar.indexCast v57
  let c0_49 : Index := 0#32
  let c0_50 : Index := 0#32
  ![v111.toNat, 0, 0]
def k0_off3 (i : grid0.Coords) : Fin 3 → Nat :=
  let c0_54 : Index := 0#32
  let arg1 : BitVec 32 := BitVec.ofNat 32 (i 1).val
  let c512_i32 : BitVec 32 := 512#32
  let v40 : BitVec 32 := Scalar.muli arg1 c512_i32
  let c0_i32_15 : BitVec 32 := 0#32
  let v42 : BitVec 1 := Scalar.cmpi .sgt v40 c0_i32_15
  let v43 : BitVec 32 := Scalar.extui v42
  let c0_i32_16 : BitVec 32 := 0#32
  let v44 : BitVec 1 := Scalar.cmpi .slt v40 c0_i32_16
  let v45 : BitVec 32 := Scalar.extui v44
  let v46 : BitVec 32 := Scalar.subi v43 v45
  let c1024_i32 : BitVec 32 := 1024#32
  let c0_i32_17 : BitVec 32 := 0#32
  let v47 : BitVec 1 := Scalar.cmpi .sgt c1024_i32 c0_i32_17
  let v48 : BitVec 32 := Scalar.extui v47
  let c0_i32_18 : BitVec 32 := 0#32
  let v49 : BitVec 1 := Scalar.cmpi .slt c1024_i32 c0_i32_18
  let v50 : BitVec 32 := Scalar.extui v49
  let v51 : BitVec 32 := Scalar.subi v48 v50
  let v52 : BitVec 1 := Scalar.cmpi .ne v46 v51
  let v53 : BitVec 32 := Scalar.remsi v40 c1024_i32
  let c0_i32_19 : BitVec 32 := 0#32
  let v54 : BitVec 1 := Scalar.cmpi .ne v53 c0_i32_19
  let v55 : BitVec 1 := Scalar.andi v52 v54
  let v41 : BitVec 32 := Scalar.divsi v40 c1024_i32
  let c1_i32 : BitVec 32 := 1#32
  let v56 : BitVec 32 := Scalar.subi v41 c1_i32
  let v57 : BitVec 32 := Scalar.select v55 v56 v41
  let c1024_i32_44 : BitVec 32 := 1024#32
  let v102 : BitVec 32 := Scalar.muli v57 c1024_i32_44
  let c512_i32_45 : BitVec 32 := 512#32
  let v103 : BitVec 32 := Scalar.addi v102 c512_i32_45
  let v104 : BitVec 32 := v103
  let v121 : Index := Scalar.indexCast v104
  let c0_55 : Index := 0#32
  ![0, v121.toNat, 0]
def k0_mult2 (i : grid0.Coords) : BitVec 32 :=
  let arg1 : BitVec 32 := BitVec.ofNat 32 (i 1).val
  let c512_i32 : BitVec 32 := 512#32
  let v40 : BitVec 32 := Scalar.muli arg1 c512_i32
  let c0_i32_15 : BitVec 32 := 0#32
  let v42 : BitVec 1 := Scalar.cmpi .sgt v40 c0_i32_15
  let v43 : BitVec 32 := Scalar.extui v42
  let c0_i32_16 : BitVec 32 := 0#32
  let v44 : BitVec 1 := Scalar.cmpi .slt v40 c0_i32_16
  let v45 : BitVec 32 := Scalar.extui v44
  let v46 : BitVec 32 := Scalar.subi v43 v45
  let c1024_i32 : BitVec 32 := 1024#32
  let c0_i32_17 : BitVec 32 := 0#32
  let v47 : BitVec 1 := Scalar.cmpi .sgt c1024_i32 c0_i32_17
  let v48 : BitVec 32 := Scalar.extui v47
  let c0_i32_18 : BitVec 32 := 0#32
  let v49 : BitVec 1 := Scalar.cmpi .slt c1024_i32 c0_i32_18
  let v50 : BitVec 32 := Scalar.extui v49
  let v51 : BitVec 32 := Scalar.subi v48 v50
  let v52 : BitVec 1 := Scalar.cmpi .ne v46 v51
  let v53 : BitVec 32 := Scalar.remsi v40 c1024_i32
  let c0_i32_19 : BitVec 32 := 0#32
  let v54 : BitVec 1 := Scalar.cmpi .ne v53 c0_i32_19
  let v55 : BitVec 1 := Scalar.andi v52 v54
  let v41 : BitVec 32 := Scalar.divsi v40 c1024_i32
  let c1_i32 : BitVec 32 := 1#32
  let v56 : BitVec 32 := Scalar.subi v41 c1_i32
  let v57 : BitVec 32 := Scalar.select v55 v56 v41
  let c1024_i32_44 : BitVec 32 := 1024#32
  let v102 : BitVec 32 := Scalar.muli v57 c1024_i32_44
  let c0_i32_45 : BitVec 32 := 0#32
  let v103 : BitVec 32 := Scalar.addi v102 c0_i32_45
  v103
def k0_off4 (i : grid0.Coords) : Fin 2 → Nat :=
  let arg1 : BitVec 32 := BitVec.ofNat 32 (i 1).val
  let c512_i32 : BitVec 32 := 512#32
  let v40 : BitVec 32 := Scalar.muli arg1 c512_i32
  let c0_i32_15 : BitVec 32 := 0#32
  let v42 : BitVec 1 := Scalar.cmpi .sgt v40 c0_i32_15
  let v43 : BitVec 32 := Scalar.extui v42
  let c0_i32_16 : BitVec 32 := 0#32
  let v44 : BitVec 1 := Scalar.cmpi .slt v40 c0_i32_16
  let v45 : BitVec 32 := Scalar.extui v44
  let v46 : BitVec 32 := Scalar.subi v43 v45
  let c1024_i32 : BitVec 32 := 1024#32
  let c0_i32_17 : BitVec 32 := 0#32
  let v47 : BitVec 1 := Scalar.cmpi .sgt c1024_i32 c0_i32_17
  let v48 : BitVec 32 := Scalar.extui v47
  let c0_i32_18 : BitVec 32 := 0#32
  let v49 : BitVec 1 := Scalar.cmpi .slt c1024_i32 c0_i32_18
  let v50 : BitVec 32 := Scalar.extui v49
  let v51 : BitVec 32 := Scalar.subi v48 v50
  let v52 : BitVec 1 := Scalar.cmpi .ne v46 v51
  let v53 : BitVec 32 := Scalar.remsi v40 c1024_i32
  let c0_i32_19 : BitVec 32 := 0#32
  let v54 : BitVec 1 := Scalar.cmpi .ne v53 c0_i32_19
  let v55 : BitVec 1 := Scalar.andi v52 v54
  let v41 : BitVec 32 := Scalar.divsi v40 c1024_i32
  let c1_i32 : BitVec 32 := 1#32
  let v56 : BitVec 32 := Scalar.subi v41 c1_i32
  let v57 : BitVec 32 := Scalar.select v55 v56 v41
  let c1024_i32_44 : BitVec 32 := 1024#32
  let v102 : BitVec 32 := Scalar.muli v57 c1024_i32_44
  let c0_i32_45 : BitVec 32 := 0#32
  let v103 : BitVec 32 := Scalar.addi v102 c0_i32_45
  let v104 : BitVec 32 := v103
  let v105 : Index := Scalar.indexCast v104
  let c0_46 : Index := 0#32
  ![v105.toNat, 0]
def k0_off5 (i : grid0.Coords) : Fin 3 → Nat :=
  let arg1 : BitVec 32 := BitVec.ofNat 32 (i 1).val
  let c512_i32 : BitVec 32 := 512#32
  let v40 : BitVec 32 := Scalar.muli arg1 c512_i32
  let c0_i32_15 : BitVec 32 := 0#32
  let v42 : BitVec 1 := Scalar.cmpi .sgt v40 c0_i32_15
  let v43 : BitVec 32 := Scalar.extui v42
  let c0_i32_16 : BitVec 32 := 0#32
  let v44 : BitVec 1 := Scalar.cmpi .slt v40 c0_i32_16
  let v45 : BitVec 32 := Scalar.extui v44
  let v46 : BitVec 32 := Scalar.subi v43 v45
  let c1024_i32 : BitVec 32 := 1024#32
  let c0_i32_17 : BitVec 32 := 0#32
  let v47 : BitVec 1 := Scalar.cmpi .sgt c1024_i32 c0_i32_17
  let v48 : BitVec 32 := Scalar.extui v47
  let c0_i32_18 : BitVec 32 := 0#32
  let v49 : BitVec 1 := Scalar.cmpi .slt c1024_i32 c0_i32_18
  let v50 : BitVec 32 := Scalar.extui v49
  let v51 : BitVec 32 := Scalar.subi v48 v50
  let v52 : BitVec 1 := Scalar.cmpi .ne v46 v51
  let v53 : BitVec 32 := Scalar.remsi v40 c1024_i32
  let c0_i32_19 : BitVec 32 := 0#32
  let v54 : BitVec 1 := Scalar.cmpi .ne v53 c0_i32_19
  let v55 : BitVec 1 := Scalar.andi v52 v54
  let v41 : BitVec 32 := Scalar.divsi v40 c1024_i32
  let c1_i32 : BitVec 32 := 1#32
  let v56 : BitVec 32 := Scalar.subi v41 c1_i32
  let v57 : BitVec 32 := Scalar.select v55 v56 v41
  let v111 : Index := Scalar.indexCast v57
  let c0_49 : Index := 0#32
  let c0_50 : Index := 0#32
  ![v111.toNat, 0, 0]
def k0_off6 (i : grid0.Coords) : Fin 3 → Nat :=
  let c0_54 : Index := 0#32
  let arg1 : BitVec 32 := BitVec.ofNat 32 (i 1).val
  let c512_i32 : BitVec 32 := 512#32
  let v40 : BitVec 32 := Scalar.muli arg1 c512_i32
  let c0_i32_15 : BitVec 32 := 0#32
  let v42 : BitVec 1 := Scalar.cmpi .sgt v40 c0_i32_15
  let v43 : BitVec 32 := Scalar.extui v42
  let c0_i32_16 : BitVec 32 := 0#32
  let v44 : BitVec 1 := Scalar.cmpi .slt v40 c0_i32_16
  let v45 : BitVec 32 := Scalar.extui v44
  let v46 : BitVec 32 := Scalar.subi v43 v45
  let c1024_i32 : BitVec 32 := 1024#32
  let c0_i32_17 : BitVec 32 := 0#32
  let v47 : BitVec 1 := Scalar.cmpi .sgt c1024_i32 c0_i32_17
  let v48 : BitVec 32 := Scalar.extui v47
  let c0_i32_18 : BitVec 32 := 0#32
  let v49 : BitVec 1 := Scalar.cmpi .slt c1024_i32 c0_i32_18
  let v50 : BitVec 32 := Scalar.extui v49
  let v51 : BitVec 32 := Scalar.subi v48 v50
  let v52 : BitVec 1 := Scalar.cmpi .ne v46 v51
  let v53 : BitVec 32 := Scalar.remsi v40 c1024_i32
  let c0_i32_19 : BitVec 32 := 0#32
  let v54 : BitVec 1 := Scalar.cmpi .ne v53 c0_i32_19
  let v55 : BitVec 1 := Scalar.andi v52 v54
  let v41 : BitVec 32 := Scalar.divsi v40 c1024_i32
  let c1_i32 : BitVec 32 := 1#32
  let v56 : BitVec 32 := Scalar.subi v41 c1_i32
  let v57 : BitVec 32 := Scalar.select v55 v56 v41
  let c1024_i32_44 : BitVec 32 := 1024#32
  let v102 : BitVec 32 := Scalar.muli v57 c1024_i32_44
  let c0_i32_45 : BitVec 32 := 0#32
  let v103 : BitVec 32 := Scalar.addi v102 c0_i32_45
  let v104 : BitVec 32 := v103
  let v119 : Index := Scalar.indexCast v104
  let c0_55 : Index := 0#32
  ![0, v119.toNat, 0]
@[reducible] def k0_t1_loop (i : grid0.Coords) : Scf.Loop 32 :=
  let arg1 : BitVec 32 := BitVec.ofNat 32 (i 1).val
  let c512_i32 : BitVec 32 := 512#32
  let v40 : BitVec 32 := Scalar.muli arg1 c512_i32
  let c0_i32_15 : BitVec 32 := 0#32
  let v42 : BitVec 1 := Scalar.cmpi .sgt v40 c0_i32_15
  let v43 : BitVec 32 := Scalar.extui v42
  let c0_i32_16 : BitVec 32 := 0#32
  let v44 : BitVec 1 := Scalar.cmpi .slt v40 c0_i32_16
  let v45 : BitVec 32 := Scalar.extui v44
  let v46 : BitVec 32 := Scalar.subi v43 v45
  let c1024_i32 : BitVec 32 := 1024#32
  let c0_i32_17 : BitVec 32 := 0#32
  let v47 : BitVec 1 := Scalar.cmpi .sgt c1024_i32 c0_i32_17
  let v48 : BitVec 32 := Scalar.extui v47
  let c0_i32_18 : BitVec 32 := 0#32
  let v49 : BitVec 1 := Scalar.cmpi .slt c1024_i32 c0_i32_18
  let v50 : BitVec 32 := Scalar.extui v49
  let v51 : BitVec 32 := Scalar.subi v48 v50
  let v52 : BitVec 1 := Scalar.cmpi .ne v46 v51
  let v53 : BitVec 32 := Scalar.remsi v40 c1024_i32
  let c0_i32_19 : BitVec 32 := 0#32
  let v54 : BitVec 1 := Scalar.cmpi .ne v53 c0_i32_19
  let v55 : BitVec 1 := Scalar.andi v52 v54
  let v41 : BitVec 32 := Scalar.divsi v40 c1024_i32
  let c1_i32 : BitVec 32 := 1#32
  let v56 : BitVec 32 := Scalar.subi v41 c1_i32
  let v57 : BitVec 32 := Scalar.select v55 v56 v41
  let c1_i32_31 : BitVec 32 := 1#32
  let v76 : BitVec 32 := Scalar.addi v57 c1_i32_31
  let c8_i32 : BitVec 32 := 8#32
  let v77 : BitVec 32 := Scalar.subi c8_i32 v76
  let c1_i32_32 : BitVec 32 := 1#32
  let v79 : BitVec 32 := Scalar.divsi v77 c1_i32_32
  let v80 : BitVec 32 := Scalar.muli v79 c1_i32_32
  let v81 : BitVec 32 := Scalar.addi v76 v80
  let c1_i32_33 : BitVec 32 := 1#32
  ⟨v76, v81, c1_i32_33⟩
def k0_mult3 (i : grid0.Coords) (k0_t1 : Fin (k0_t1_loop i).trips) : BitVec 32 :=
  let arg1 : BitVec 32 := BitVec.ofNat 32 (i 1).val
  let c512_i32 : BitVec 32 := 512#32
  let v40 : BitVec 32 := Scalar.muli arg1 c512_i32
  let c0_i32_15 : BitVec 32 := 0#32
  let v42 : BitVec 1 := Scalar.cmpi .sgt v40 c0_i32_15
  let v43 : BitVec 32 := Scalar.extui v42
  let c0_i32_16 : BitVec 32 := 0#32
  let v44 : BitVec 1 := Scalar.cmpi .slt v40 c0_i32_16
  let v45 : BitVec 32 := Scalar.extui v44
  let v46 : BitVec 32 := Scalar.subi v43 v45
  let c1024_i32 : BitVec 32 := 1024#32
  let c0_i32_17 : BitVec 32 := 0#32
  let v47 : BitVec 1 := Scalar.cmpi .sgt c1024_i32 c0_i32_17
  let v48 : BitVec 32 := Scalar.extui v47
  let c0_i32_18 : BitVec 32 := 0#32
  let v49 : BitVec 1 := Scalar.cmpi .slt c1024_i32 c0_i32_18
  let v50 : BitVec 32 := Scalar.extui v49
  let v51 : BitVec 32 := Scalar.subi v48 v50
  let v52 : BitVec 1 := Scalar.cmpi .ne v46 v51
  let v53 : BitVec 32 := Scalar.remsi v40 c1024_i32
  let c0_i32_19 : BitVec 32 := 0#32
  let v54 : BitVec 1 := Scalar.cmpi .ne v53 c0_i32_19
  let v55 : BitVec 1 := Scalar.andi v52 v54
  let v41 : BitVec 32 := Scalar.divsi v40 c1024_i32
  let c1_i32 : BitVec 32 := 1#32
  let v56 : BitVec 32 := Scalar.subi v41 c1_i32
  let v57 : BitVec 32 := Scalar.select v55 v56 v41
  let c1_i32_31 : BitVec 32 := 1#32
  let v76 : BitVec 32 := Scalar.addi v57 c1_i32_31
  let c1_i32_33 : BitVec 32 := 1#32
  let arg19 : BitVec 32 := Scf.iv v76 c1_i32_33 k0_t1
  let c1024_i32_44 : BitVec 32 := 1024#32
  let v102 : BitVec 32 := Scalar.muli arg19 c1024_i32_44
  let c0_i32_45 : BitVec 32 := 0#32
  let v103 : BitVec 32 := Scalar.addi v102 c0_i32_45
  v103
def k0_off7 (i : grid0.Coords) (k0_t1 : Fin (k0_t1_loop i).trips) : Fin 2 → Nat :=
  let arg1 : BitVec 32 := BitVec.ofNat 32 (i 1).val
  let c512_i32 : BitVec 32 := 512#32
  let v40 : BitVec 32 := Scalar.muli arg1 c512_i32
  let c0_i32_15 : BitVec 32 := 0#32
  let v42 : BitVec 1 := Scalar.cmpi .sgt v40 c0_i32_15
  let v43 : BitVec 32 := Scalar.extui v42
  let c0_i32_16 : BitVec 32 := 0#32
  let v44 : BitVec 1 := Scalar.cmpi .slt v40 c0_i32_16
  let v45 : BitVec 32 := Scalar.extui v44
  let v46 : BitVec 32 := Scalar.subi v43 v45
  let c1024_i32 : BitVec 32 := 1024#32
  let c0_i32_17 : BitVec 32 := 0#32
  let v47 : BitVec 1 := Scalar.cmpi .sgt c1024_i32 c0_i32_17
  let v48 : BitVec 32 := Scalar.extui v47
  let c0_i32_18 : BitVec 32 := 0#32
  let v49 : BitVec 1 := Scalar.cmpi .slt c1024_i32 c0_i32_18
  let v50 : BitVec 32 := Scalar.extui v49
  let v51 : BitVec 32 := Scalar.subi v48 v50
  let v52 : BitVec 1 := Scalar.cmpi .ne v46 v51
  let v53 : BitVec 32 := Scalar.remsi v40 c1024_i32
  let c0_i32_19 : BitVec 32 := 0#32
  let v54 : BitVec 1 := Scalar.cmpi .ne v53 c0_i32_19
  let v55 : BitVec 1 := Scalar.andi v52 v54
  let v41 : BitVec 32 := Scalar.divsi v40 c1024_i32
  let c1_i32 : BitVec 32 := 1#32
  let v56 : BitVec 32 := Scalar.subi v41 c1_i32
  let v57 : BitVec 32 := Scalar.select v55 v56 v41
  let c1_i32_31 : BitVec 32 := 1#32
  let v76 : BitVec 32 := Scalar.addi v57 c1_i32_31
  let c1_i32_33 : BitVec 32 := 1#32
  let arg19 : BitVec 32 := Scf.iv v76 c1_i32_33 k0_t1
  let c1024_i32_44 : BitVec 32 := 1024#32
  let v102 : BitVec 32 := Scalar.muli arg19 c1024_i32_44
  let c0_i32_45 : BitVec 32 := 0#32
  let v103 : BitVec 32 := Scalar.addi v102 c0_i32_45
  let v104 : BitVec 32 := v103
  let v105 : Index := Scalar.indexCast v104
  let c0_46 : Index := 0#32
  ![v105.toNat, 0]
def k0_off8 (i : grid0.Coords) (k0_t1 : Fin (k0_t1_loop i).trips) : Fin 3 → Nat :=
  let arg1 : BitVec 32 := BitVec.ofNat 32 (i 1).val
  let c512_i32 : BitVec 32 := 512#32
  let v40 : BitVec 32 := Scalar.muli arg1 c512_i32
  let c0_i32_15 : BitVec 32 := 0#32
  let v42 : BitVec 1 := Scalar.cmpi .sgt v40 c0_i32_15
  let v43 : BitVec 32 := Scalar.extui v42
  let c0_i32_16 : BitVec 32 := 0#32
  let v44 : BitVec 1 := Scalar.cmpi .slt v40 c0_i32_16
  let v45 : BitVec 32 := Scalar.extui v44
  let v46 : BitVec 32 := Scalar.subi v43 v45
  let c1024_i32 : BitVec 32 := 1024#32
  let c0_i32_17 : BitVec 32 := 0#32
  let v47 : BitVec 1 := Scalar.cmpi .sgt c1024_i32 c0_i32_17
  let v48 : BitVec 32 := Scalar.extui v47
  let c0_i32_18 : BitVec 32 := 0#32
  let v49 : BitVec 1 := Scalar.cmpi .slt c1024_i32 c0_i32_18
  let v50 : BitVec 32 := Scalar.extui v49
  let v51 : BitVec 32 := Scalar.subi v48 v50
  let v52 : BitVec 1 := Scalar.cmpi .ne v46 v51
  let v53 : BitVec 32 := Scalar.remsi v40 c1024_i32
  let c0_i32_19 : BitVec 32 := 0#32
  let v54 : BitVec 1 := Scalar.cmpi .ne v53 c0_i32_19
  let v55 : BitVec 1 := Scalar.andi v52 v54
  let v41 : BitVec 32 := Scalar.divsi v40 c1024_i32
  let c1_i32 : BitVec 32 := 1#32
  let v56 : BitVec 32 := Scalar.subi v41 c1_i32
  let v57 : BitVec 32 := Scalar.select v55 v56 v41
  let c1_i32_31 : BitVec 32 := 1#32
  let v76 : BitVec 32 := Scalar.addi v57 c1_i32_31
  let c1_i32_33 : BitVec 32 := 1#32
  let arg19 : BitVec 32 := Scf.iv v76 c1_i32_33 k0_t1
  let v111 : Index := Scalar.indexCast arg19
  let c0_49 : Index := 0#32
  let c0_50 : Index := 0#32
  ![v111.toNat, 0, 0]
def k0_off9 (i : grid0.Coords) (k0_t1 : Fin (k0_t1_loop i).trips) : Fin 3 → Nat :=
  let c0_54 : Index := 0#32
  let arg1 : BitVec 32 := BitVec.ofNat 32 (i 1).val
  let c512_i32 : BitVec 32 := 512#32
  let v40 : BitVec 32 := Scalar.muli arg1 c512_i32
  let c0_i32_15 : BitVec 32 := 0#32
  let v42 : BitVec 1 := Scalar.cmpi .sgt v40 c0_i32_15
  let v43 : BitVec 32 := Scalar.extui v42
  let c0_i32_16 : BitVec 32 := 0#32
  let v44 : BitVec 1 := Scalar.cmpi .slt v40 c0_i32_16
  let v45 : BitVec 32 := Scalar.extui v44
  let v46 : BitVec 32 := Scalar.subi v43 v45
  let c1024_i32 : BitVec 32 := 1024#32
  let c0_i32_17 : BitVec 32 := 0#32
  let v47 : BitVec 1 := Scalar.cmpi .sgt c1024_i32 c0_i32_17
  let v48 : BitVec 32 := Scalar.extui v47
  let c0_i32_18 : BitVec 32 := 0#32
  let v49 : BitVec 1 := Scalar.cmpi .slt c1024_i32 c0_i32_18
  let v50 : BitVec 32 := Scalar.extui v49
  let v51 : BitVec 32 := Scalar.subi v48 v50
  let v52 : BitVec 1 := Scalar.cmpi .ne v46 v51
  let v53 : BitVec 32 := Scalar.remsi v40 c1024_i32
  let c0_i32_19 : BitVec 32 := 0#32
  let v54 : BitVec 1 := Scalar.cmpi .ne v53 c0_i32_19
  let v55 : BitVec 1 := Scalar.andi v52 v54
  let v41 : BitVec 32 := Scalar.divsi v40 c1024_i32
  let c1_i32 : BitVec 32 := 1#32
  let v56 : BitVec 32 := Scalar.subi v41 c1_i32
  let v57 : BitVec 32 := Scalar.select v55 v56 v41
  let c1_i32_31 : BitVec 32 := 1#32
  let v76 : BitVec 32 := Scalar.addi v57 c1_i32_31
  let c1_i32_33 : BitVec 32 := 1#32
  let arg19 : BitVec 32 := Scf.iv v76 c1_i32_33 k0_t1
  let c1024_i32_44 : BitVec 32 := 1024#32
  let v102 : BitVec 32 := Scalar.muli arg19 c1024_i32_44
  let c0_i32_45 : BitVec 32 := 0#32
  let v103 : BitVec 32 := Scalar.addi v102 c0_i32_45
  let v104 : BitVec 32 := v103
  let v119 : Index := Scalar.indexCast v104
  let c0_55 : Index := 0#32
  ![0, v119.toNat, 0]
@[reducible] def k0_t2_loop (i : grid0.Coords) : Scf.Loop 32 :=
  let arg1 : BitVec 32 := BitVec.ofNat 32 (i 1).val
  let c512_i32 : BitVec 32 := 512#32
  let v40 : BitVec 32 := Scalar.muli arg1 c512_i32
  let c0_i32_15 : BitVec 32 := 0#32
  let v42 : BitVec 1 := Scalar.cmpi .sgt v40 c0_i32_15
  let v43 : BitVec 32 := Scalar.extui v42
  let c0_i32_16 : BitVec 32 := 0#32
  let v44 : BitVec 1 := Scalar.cmpi .slt v40 c0_i32_16
  let v45 : BitVec 32 := Scalar.extui v44
  let v46 : BitVec 32 := Scalar.subi v43 v45
  let c1024_i32 : BitVec 32 := 1024#32
  let c0_i32_17 : BitVec 32 := 0#32
  let v47 : BitVec 1 := Scalar.cmpi .sgt c1024_i32 c0_i32_17
  let v48 : BitVec 32 := Scalar.extui v47
  let c0_i32_18 : BitVec 32 := 0#32
  let v49 : BitVec 1 := Scalar.cmpi .slt c1024_i32 c0_i32_18
  let v50 : BitVec 32 := Scalar.extui v49
  let v51 : BitVec 32 := Scalar.subi v48 v50
  let v52 : BitVec 1 := Scalar.cmpi .ne v46 v51
  let v53 : BitVec 32 := Scalar.remsi v40 c1024_i32
  let c0_i32_19 : BitVec 32 := 0#32
  let v54 : BitVec 1 := Scalar.cmpi .ne v53 c0_i32_19
  let v55 : BitVec 1 := Scalar.andi v52 v54
  let v41 : BitVec 32 := Scalar.divsi v40 c1024_i32
  let c1_i32 : BitVec 32 := 1#32
  let v56 : BitVec 32 := Scalar.subi v41 c1_i32
  let v57 : BitVec 32 := Scalar.select v55 v56 v41
  let c1_i32_31 : BitVec 32 := 1#32
  let v76 : BitVec 32 := Scalar.addi v57 c1_i32_31
  let c8_i32 : BitVec 32 := 8#32
  let v77 : BitVec 32 := Scalar.subi c8_i32 v76
  let c1_i32_32 : BitVec 32 := 1#32
  let v79 : BitVec 32 := Scalar.divsi v77 c1_i32_32
  let v80 : BitVec 32 := Scalar.muli v79 c1_i32_32
  let v81 : BitVec 32 := Scalar.addi v76 v80
  let v78 : BitVec 32 := Scalar.addi v76 v77
  let c1_i32_34 : BitVec 32 := 1#32
  ⟨v81, v78, c1_i32_34⟩
def k0_mult4 (i : grid0.Coords) (k0_t2 : Fin (k0_t2_loop i).trips) : BitVec 32 :=
  let arg1 : BitVec 32 := BitVec.ofNat 32 (i 1).val
  let c512_i32 : BitVec 32 := 512#32
  let v40 : BitVec 32 := Scalar.muli arg1 c512_i32
  let c0_i32_15 : BitVec 32 := 0#32
  let v42 : BitVec 1 := Scalar.cmpi .sgt v40 c0_i32_15
  let v43 : BitVec 32 := Scalar.extui v42
  let c0_i32_16 : BitVec 32 := 0#32
  let v44 : BitVec 1 := Scalar.cmpi .slt v40 c0_i32_16
  let v45 : BitVec 32 := Scalar.extui v44
  let v46 : BitVec 32 := Scalar.subi v43 v45
  let c1024_i32 : BitVec 32 := 1024#32
  let c0_i32_17 : BitVec 32 := 0#32
  let v47 : BitVec 1 := Scalar.cmpi .sgt c1024_i32 c0_i32_17
  let v48 : BitVec 32 := Scalar.extui v47
  let c0_i32_18 : BitVec 32 := 0#32
  let v49 : BitVec 1 := Scalar.cmpi .slt c1024_i32 c0_i32_18
  let v50 : BitVec 32 := Scalar.extui v49
  let v51 : BitVec 32 := Scalar.subi v48 v50
  let v52 : BitVec 1 := Scalar.cmpi .ne v46 v51
  let v53 : BitVec 32 := Scalar.remsi v40 c1024_i32
  let c0_i32_19 : BitVec 32 := 0#32
  let v54 : BitVec 1 := Scalar.cmpi .ne v53 c0_i32_19
  let v55 : BitVec 1 := Scalar.andi v52 v54
  let v41 : BitVec 32 := Scalar.divsi v40 c1024_i32
  let c1_i32 : BitVec 32 := 1#32
  let v56 : BitVec 32 := Scalar.subi v41 c1_i32
  let v57 : BitVec 32 := Scalar.select v55 v56 v41
  let c1_i32_31 : BitVec 32 := 1#32
  let v76 : BitVec 32 := Scalar.addi v57 c1_i32_31
  let c8_i32 : BitVec 32 := 8#32
  let v77 : BitVec 32 := Scalar.subi c8_i32 v76
  let c1_i32_32 : BitVec 32 := 1#32
  let v79 : BitVec 32 := Scalar.divsi v77 c1_i32_32
  let v80 : BitVec 32 := Scalar.muli v79 c1_i32_32
  let v81 : BitVec 32 := Scalar.addi v76 v80
  let c1_i32_34 : BitVec 32 := 1#32
  let arg19 : BitVec 32 := Scf.iv v81 c1_i32_34 k0_t2
  let c1024_i32_44 : BitVec 32 := 1024#32
  let v102 : BitVec 32 := Scalar.muli arg19 c1024_i32_44
  let c0_i32_45 : BitVec 32 := 0#32
  let v103 : BitVec 32 := Scalar.addi v102 c0_i32_45
  v103
def k0_off10 (i : grid0.Coords) (k0_t2 : Fin (k0_t2_loop i).trips) : Fin 2 → Nat :=
  let arg1 : BitVec 32 := BitVec.ofNat 32 (i 1).val
  let c512_i32 : BitVec 32 := 512#32
  let v40 : BitVec 32 := Scalar.muli arg1 c512_i32
  let c0_i32_15 : BitVec 32 := 0#32
  let v42 : BitVec 1 := Scalar.cmpi .sgt v40 c0_i32_15
  let v43 : BitVec 32 := Scalar.extui v42
  let c0_i32_16 : BitVec 32 := 0#32
  let v44 : BitVec 1 := Scalar.cmpi .slt v40 c0_i32_16
  let v45 : BitVec 32 := Scalar.extui v44
  let v46 : BitVec 32 := Scalar.subi v43 v45
  let c1024_i32 : BitVec 32 := 1024#32
  let c0_i32_17 : BitVec 32 := 0#32
  let v47 : BitVec 1 := Scalar.cmpi .sgt c1024_i32 c0_i32_17
  let v48 : BitVec 32 := Scalar.extui v47
  let c0_i32_18 : BitVec 32 := 0#32
  let v49 : BitVec 1 := Scalar.cmpi .slt c1024_i32 c0_i32_18
  let v50 : BitVec 32 := Scalar.extui v49
  let v51 : BitVec 32 := Scalar.subi v48 v50
  let v52 : BitVec 1 := Scalar.cmpi .ne v46 v51
  let v53 : BitVec 32 := Scalar.remsi v40 c1024_i32
  let c0_i32_19 : BitVec 32 := 0#32
  let v54 : BitVec 1 := Scalar.cmpi .ne v53 c0_i32_19
  let v55 : BitVec 1 := Scalar.andi v52 v54
  let v41 : BitVec 32 := Scalar.divsi v40 c1024_i32
  let c1_i32 : BitVec 32 := 1#32
  let v56 : BitVec 32 := Scalar.subi v41 c1_i32
  let v57 : BitVec 32 := Scalar.select v55 v56 v41
  let c1_i32_31 : BitVec 32 := 1#32
  let v76 : BitVec 32 := Scalar.addi v57 c1_i32_31
  let c8_i32 : BitVec 32 := 8#32
  let v77 : BitVec 32 := Scalar.subi c8_i32 v76
  let c1_i32_32 : BitVec 32 := 1#32
  let v79 : BitVec 32 := Scalar.divsi v77 c1_i32_32
  let v80 : BitVec 32 := Scalar.muli v79 c1_i32_32
  let v81 : BitVec 32 := Scalar.addi v76 v80
  let c1_i32_34 : BitVec 32 := 1#32
  let arg19 : BitVec 32 := Scf.iv v81 c1_i32_34 k0_t2
  let c1024_i32_44 : BitVec 32 := 1024#32
  let v102 : BitVec 32 := Scalar.muli arg19 c1024_i32_44
  let c0_i32_45 : BitVec 32 := 0#32
  let v103 : BitVec 32 := Scalar.addi v102 c0_i32_45
  let v104 : BitVec 32 := v103
  let v105 : Index := Scalar.indexCast v104
  let c0_46 : Index := 0#32
  ![v105.toNat, 0]
def k0_off11 (i : grid0.Coords) (k0_t2 : Fin (k0_t2_loop i).trips) : Fin 3 → Nat :=
  let arg1 : BitVec 32 := BitVec.ofNat 32 (i 1).val
  let c512_i32 : BitVec 32 := 512#32
  let v40 : BitVec 32 := Scalar.muli arg1 c512_i32
  let c0_i32_15 : BitVec 32 := 0#32
  let v42 : BitVec 1 := Scalar.cmpi .sgt v40 c0_i32_15
  let v43 : BitVec 32 := Scalar.extui v42
  let c0_i32_16 : BitVec 32 := 0#32
  let v44 : BitVec 1 := Scalar.cmpi .slt v40 c0_i32_16
  let v45 : BitVec 32 := Scalar.extui v44
  let v46 : BitVec 32 := Scalar.subi v43 v45
  let c1024_i32 : BitVec 32 := 1024#32
  let c0_i32_17 : BitVec 32 := 0#32
  let v47 : BitVec 1 := Scalar.cmpi .sgt c1024_i32 c0_i32_17
  let v48 : BitVec 32 := Scalar.extui v47
  let c0_i32_18 : BitVec 32 := 0#32
  let v49 : BitVec 1 := Scalar.cmpi .slt c1024_i32 c0_i32_18
  let v50 : BitVec 32 := Scalar.extui v49
  let v51 : BitVec 32 := Scalar.subi v48 v50
  let v52 : BitVec 1 := Scalar.cmpi .ne v46 v51
  let v53 : BitVec 32 := Scalar.remsi v40 c1024_i32
  let c0_i32_19 : BitVec 32 := 0#32
  let v54 : BitVec 1 := Scalar.cmpi .ne v53 c0_i32_19
  let v55 : BitVec 1 := Scalar.andi v52 v54
  let v41 : BitVec 32 := Scalar.divsi v40 c1024_i32
  let c1_i32 : BitVec 32 := 1#32
  let v56 : BitVec 32 := Scalar.subi v41 c1_i32
  let v57 : BitVec 32 := Scalar.select v55 v56 v41
  let c1_i32_31 : BitVec 32 := 1#32
  let v76 : BitVec 32 := Scalar.addi v57 c1_i32_31
  let c8_i32 : BitVec 32 := 8#32
  let v77 : BitVec 32 := Scalar.subi c8_i32 v76
  let c1_i32_32 : BitVec 32 := 1#32
  let v79 : BitVec 32 := Scalar.divsi v77 c1_i32_32
  let v80 : BitVec 32 := Scalar.muli v79 c1_i32_32
  let v81 : BitVec 32 := Scalar.addi v76 v80
  let c1_i32_34 : BitVec 32 := 1#32
  let arg19 : BitVec 32 := Scf.iv v81 c1_i32_34 k0_t2
  let v111 : Index := Scalar.indexCast arg19
  let c0_49 : Index := 0#32
  let c0_50 : Index := 0#32
  ![v111.toNat, 0, 0]
def k0_off12 (i : grid0.Coords) (k0_t2 : Fin (k0_t2_loop i).trips) : Fin 3 → Nat :=
  let c0_54 : Index := 0#32
  let arg1 : BitVec 32 := BitVec.ofNat 32 (i 1).val
  let c512_i32 : BitVec 32 := 512#32
  let v40 : BitVec 32 := Scalar.muli arg1 c512_i32
  let c0_i32_15 : BitVec 32 := 0#32
  let v42 : BitVec 1 := Scalar.cmpi .sgt v40 c0_i32_15
  let v43 : BitVec 32 := Scalar.extui v42
  let c0_i32_16 : BitVec 32 := 0#32
  let v44 : BitVec 1 := Scalar.cmpi .slt v40 c0_i32_16
  let v45 : BitVec 32 := Scalar.extui v44
  let v46 : BitVec 32 := Scalar.subi v43 v45
  let c1024_i32 : BitVec 32 := 1024#32
  let c0_i32_17 : BitVec 32 := 0#32
  let v47 : BitVec 1 := Scalar.cmpi .sgt c1024_i32 c0_i32_17
  let v48 : BitVec 32 := Scalar.extui v47
  let c0_i32_18 : BitVec 32 := 0#32
  let v49 : BitVec 1 := Scalar.cmpi .slt c1024_i32 c0_i32_18
  let v50 : BitVec 32 := Scalar.extui v49
  let v51 : BitVec 32 := Scalar.subi v48 v50
  let v52 : BitVec 1 := Scalar.cmpi .ne v46 v51
  let v53 : BitVec 32 := Scalar.remsi v40 c1024_i32
  let c0_i32_19 : BitVec 32 := 0#32
  let v54 : BitVec 1 := Scalar.cmpi .ne v53 c0_i32_19
  let v55 : BitVec 1 := Scalar.andi v52 v54
  let v41 : BitVec 32 := Scalar.divsi v40 c1024_i32
  let c1_i32 : BitVec 32 := 1#32
  let v56 : BitVec 32 := Scalar.subi v41 c1_i32
  let v57 : BitVec 32 := Scalar.select v55 v56 v41
  let c1_i32_31 : BitVec 32 := 1#32
  let v76 : BitVec 32 := Scalar.addi v57 c1_i32_31
  let c8_i32 : BitVec 32 := 8#32
  let v77 : BitVec 32 := Scalar.subi c8_i32 v76
  let c1_i32_32 : BitVec 32 := 1#32
  let v79 : BitVec 32 := Scalar.divsi v77 c1_i32_32
  let v80 : BitVec 32 := Scalar.muli v79 c1_i32_32
  let v81 : BitVec 32 := Scalar.addi v76 v80
  let c1_i32_34 : BitVec 32 := 1#32
  let arg19 : BitVec 32 := Scf.iv v81 c1_i32_34 k0_t2
  let c1024_i32_44 : BitVec 32 := 1024#32
  let v102 : BitVec 32 := Scalar.muli arg19 c1024_i32_44
  let c0_i32_45 : BitVec 32 := 0#32
  let v103 : BitVec 32 := Scalar.addi v102 c0_i32_45
  let v104 : BitVec 32 := v103
  let v119 : Index := Scalar.indexCast v104
  let c0_55 : Index := 0#32
  ![0, v119.toNat, 0]
def k0_cond3 (i : grid0.Coords) : BitVec 1 :=
  let arg1 : BitVec 32 := BitVec.ofNat 32 (i 1).val
  let c15_i32 : BitVec 32 := 15#32
  let v99 : BitVec 1 := Scalar.cmpi .eq arg1 c15_i32
  let v100 : BitVec 32 := Scalar.extui v99
  let c0_i32_43 : BitVec 32 := 0#32
  let v101 : BitVec 1 := Scalar.cmpi .ne v100 c0_i32_43
  v101

def cc0_transform_0 (i : grid0.Coords) : Fin 2 → Nat :=
  let arg0 : BitVec 32 := BitVec.ofNat 32 (i 0).val
  let arg1 : BitVec 32 := BitVec.ofNat 32 (i 1).val
  let c42_i32 : BitVec 32 := 42#32
  let v0 : BitVec 32 := Scalar.addi c42_i32 arg0
  let c0_i32 : BitVec 32 := 0#32
  let c0_i32_0 : BitVec 32 := 0#32
  ![c0_i32.toNat, v0.toNat]

def cc0_transform_1 (i : grid0.Coords) : Fin 2 → Nat :=
  let arg0 : BitVec 32 := BitVec.ofNat 32 (i 0).val
  let arg1 : BitVec 32 := BitVec.ofNat 32 (i 1).val
  let c50_i32 : BitVec 32 := 50#32
  let v0 : BitVec 32 := Scalar.addi c50_i32 arg0
  let c0_i32 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let c58_i32 : BitVec 32 := 58#32
  let v0 : BitVec 32 := Scalar.addi c58_i32 arg0
  let c0_i32 : BitVec 32 := 0#32
  ![arg1.toNat, v0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_12 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_13 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S8192x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x2x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S8192x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S1x8192x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, false]

abbrev stage0_6 : Fin 2 → Memref sig .tc .vmem S8192x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S8x128x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S8x128x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S8192x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S512x128 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S512x128 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x1x2x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x8x2x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, false]
-- ==== ReferenceIdeal.lean ====
abbrev S8192x8704 : Shape := ⟨2, ![8192, 8704]⟩
abbrev S16x8192 : Shape := ⟨2, ![16, 8192]⟩
abbrev S8192x1024 : Shape := ⟨2, ![8192, 1024]⟩
abbrev S8192x16x64 : Shape := ⟨3, ![8192, 16, 64]⟩
abbrev S16x8192x8192 : Shape := ⟨3, ![16, 8192, 8192]⟩
abbrev S_ : Shape := ⟨0, ![]⟩
abbrev S16x8192x1 : Shape := ⟨3, ![16, 8192, 1]⟩
abbrev S16x1x8192 : Shape := ⟨3, ![16, 1, 8192]⟩
abbrev S8192 : Shape := ⟨1, ![8192]⟩
abbrev S1x1x8192 : Shape := ⟨3, ![1, 1, 8192]⟩
abbrev S1x8192x1 : Shape := ⟨3, ![1, 8192, 1]⟩
abbrev S1x8192x8192 : Shape := ⟨3, ![1, 8192, 8192]⟩
abbrev S16x64x8192 : Shape := ⟨3, ![16, 64, 8192]⟩
abbrev S16x8192x64 : Shape := ⟨3, ![16, 8192, 64]⟩
abbrev S8x2x16x512 : Shape := ⟨4, ![8, 2, 16, 512]⟩
abbrev S8x16x2x512 : Shape := ⟨4, ![8, 16, 2, 512]⟩
abbrev S8x2x8x1024 : Shape := ⟨4, ![8, 2, 8, 1024]⟩
abbrev S8x8x2x1024 : Shape := ⟨4, ![8, 8, 2, 1024]⟩

abbrev nBuf : Space → Nat
  | .hbm => 130
  | .vmem => 0
  | .smem => 0
  | _ => 0

abbrev hbmTy0_0 (i : Nat) : BufTy := match i % 128 with
  | 0 => ⟨S8192x8704, .bf16⟩
  | 1 => ⟨S16x8192, .f32⟩
  | 2 => ⟨S8192x1024, .bf16⟩
  | 3 => ⟨S8192x1024, .bf16⟩
  | 4 => ⟨S8192x1024, .f32⟩
  | 5 => ⟨S8192x16x64, .f32⟩
  | 6 => ⟨S8192x1024, .bf16⟩
  | 7 => ⟨S8192x1024, .f32⟩
  | 8 => ⟨S8192x16x64, .f32⟩
  | 9 => ⟨S8192x1024, .bf16⟩
  | 10 => ⟨S8192x1024, .f32⟩
  | 11 => ⟨S8192x16x64, .f32⟩
  | 12 => ⟨S8192x1024, .f32⟩
  | 13 => ⟨S8192x16x64, .f32⟩
  | 14 => ⟨S16x8192, .f32⟩
  | 15 => ⟨S16x8192, .f32⟩
  | 16 => ⟨S16x8192x8192, .f32⟩
  | 17 => ⟨S_, .f32⟩
  | 18 => ⟨S16x8192x8192, .f32⟩
  | 19 => ⟨S16x8192x8192, .f32⟩
  | 20 => ⟨S16x8192x1, .f32⟩
  | 21 => ⟨S16x1x8192, .f32⟩
  | 22 => ⟨S16x8192x8192, .f32⟩
  | 23 => ⟨S16x8192x8192, .f32⟩
  | 24 => ⟨S16x8192x8192, .f32⟩
  | 25 => ⟨S16x8192x8192, .f32⟩
  | 26 => ⟨S8192, .i32⟩
  | 27 => ⟨S1x1x8192, .i32⟩
  | 28 => ⟨S8192, .i32⟩
  | 29 => ⟨S1x8192x1, .i32⟩
  | 30 => ⟨S1x8192x8192, .i32⟩
  | 31 => ⟨S1x8192x8192, .i32⟩
  | 32 => ⟨S1x8192x8192, .i1⟩
  | 33 => ⟨S_, .f32⟩
  | 34 => ⟨S_, .f32⟩
  | 35 => ⟨S16x8192x8192, .i1⟩
  | 36 => ⟨S16x8192x8192, .f32⟩
  | 37 => ⟨S16x8192x8192, .f32⟩
  | 38 => ⟨S_, .f32⟩
  | 39 => ⟨S16x8192x8192, .f32⟩
  | 40 => ⟨S_, .f32⟩
  | 41 => ⟨S16x8192, .f32⟩
  | 42 => ⟨S16x8192x1, .f32⟩
  | 43 => ⟨S16x8192x8192, .f32⟩
  | 44 => ⟨S16x8192x8192, .i1⟩
  | 45 => ⟨S16x8192x8192, .f32⟩
  | 46 => ⟨S_, .f32⟩
  | 47 => ⟨S16x8192, .f32⟩
  | 48 => ⟨S_, .f32⟩
  | 49 => ⟨S16x8192, .f32⟩
  | 50 => ⟨S16x8192, .f32⟩
  | 51 => ⟨S_, .f32⟩
  | 52 => ⟨S16x8192, .f32⟩
  | 53 => ⟨S16x8192, .i1⟩
  | 54 => ⟨S_, .f32⟩
  | 55 => ⟨S16x8192, .f32⟩
  | 56 => ⟨S16x8192, .i1⟩
  | 57 => ⟨S_, .f32⟩
  | 58 => ⟨S16x8192, .f32⟩
  | 59 => ⟨S_, .f32⟩
  | 60 => ⟨S16x8192, .f32⟩
  | 61 => ⟨S_, .f32⟩
  | 62 => ⟨S16x8192, .f32⟩
  | 63 => ⟨S16x8192, .f32⟩
  | 64 => ⟨S16x8192, .f32⟩
  | 65 => ⟨S16x8192x1, .f32⟩
  | 66 => ⟨S16x8192x8192, .f32⟩
  | 67 => ⟨S16x8192x8192, .f32⟩
  | 68 => ⟨S16x8192x8192, .f32⟩
  | 69 => ⟨S_, .f32⟩
  | 70 => ⟨S16x8192, .f32⟩
  | 71 => ⟨S16x8192x1, .f32⟩
  | 72 => ⟨S16x8192x8192, .f32⟩
  | 73 => ⟨S16x8192x8192, .f32⟩
  | 74 => ⟨S16x8192x1, .f32⟩
  | 75 => ⟨S_, .f32⟩
  | 76 => ⟨S16x8192x1, .f32⟩
  | 77 => ⟨S16x8192x1, .f32⟩
  | 78 => ⟨S16x64x8192, .f32⟩
  | 79 => ⟨S8192x16x64, .f32⟩
  | 80 => ⟨S16x64x8192, .f32⟩
  | 81 => ⟨S16x8192x8192, .f32⟩
  | 82 => ⟨S16x64x8192, .f32⟩
  | 83 => ⟨S8192x16x64, .f32⟩
  | 84 => ⟨S16x8192x8192, .f32⟩
  | 85 => ⟨S16x8192x8192, .f32⟩
  | 86 => ⟨S16x8192x8192, .f32⟩
  | 87 => ⟨S_, .f32⟩
  | 88 => ⟨S16x8192, .f32⟩
  | 89 => ⟨S16x8192x1, .f32⟩
  | 90 => ⟨S16x8192x1, .f32⟩
  | 91 => ⟨S16x8192x8192, .f32⟩
  | 92 => ⟨S16x8192x8192, .f32⟩
  | 93 => ⟨S_, .f32⟩
  | 94 => ⟨S16x8192, .f32⟩
  | 95 => ⟨S16x8192x8192, .f32⟩
  | 96 => ⟨S16x8192x8192, .f32⟩
  | 97 => ⟨S16x8192x8192, .f32⟩
  | 98 => ⟨S_, .f32⟩
  | 99 => ⟨S16x8192x8192, .f32⟩
  | 100 => ⟨S16x8192x8192, .f32⟩
  | 101 => ⟨S_, .f32⟩
  | 102 => ⟨S16x8192, .f32⟩
  | 103 => ⟨S16x8192x1, .f32⟩
  | 104 => ⟨S16x8192x8192, .f32⟩
  | 105 => ⟨S_, .f32⟩
  | 106 => ⟨S16x8192, .f32⟩
  | 107 => ⟨S16x1x8192, .f32⟩
  | 108 => ⟨S_, .f32⟩
  | 109 => ⟨S16x8192, .f32⟩
  | 110 => ⟨S_, .f32⟩
  | 111 => ⟨S16x8192, .f32⟩
  | 112 => ⟨S_, .f32⟩
  | 113 => ⟨S16x8192x8192, .f32⟩
  | 114 => ⟨S16x8192x8192, .f32⟩
  | 115 => ⟨S16x8192x64, .f32⟩
  | 116 => ⟨S8192x16x64, .f32⟩
  | 117 => ⟨S16x8192x64, .f32⟩
  | 118 => ⟨S8192x16x64, .f32⟩
  | 119 => ⟨S8192x1024, .f32⟩
  | 120 => ⟨S8192x1024, .bf16⟩
  | 121 => ⟨S8192x1024, .f32⟩
  | 122 => ⟨S8192x1024, .bf16⟩
  | 123 => ⟨S8192x1024, .f32⟩
  | 124 => ⟨S8192x1024, .bf16⟩
  | 125 => ⟨S16x8192, .f32⟩
  | 126 => ⟨S8x2x16x512, .f32⟩
  | 127 => ⟨S8x16x2x512, .f32⟩
  | _ => ⟨S8192x8704, .bf16⟩

abbrev hbmTy0_1 (i : Nat) : BufTy := match i % 128 with
  | 0 => ⟨S8x2x8x1024, .f32⟩
  | 1 => ⟨S8x8x2x1024, .f32⟩
  | _ => ⟨S8192x8704, .bf16⟩

abbrev hbmTy (i : Nat) : BufTy := match i / 128 with
  | 0 => hbmTy0_0 i
  | 1 => hbmTy0_1 i
  | _ => ⟨S8192x8704, .bf16⟩

abbrev bufTy : (tb : Table) → Fin (tcTables nBuf tb) → BufTy
  | .hbm, ⟨i, _⟩ => hbmTy i
  | _, _ => ⟨S8192x8704, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_cst : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_cst_0 : Ref sig .tc := ⟨.hbm, 33, rfl⟩
abbrev main_call0_v0 : Ref sig .tc := ⟨.hbm, 34, rfl⟩
abbrev main_v29_1 : Ref sig .tc := ⟨.hbm, 35, rfl⟩
abbrev main_call0_v2 : Ref sig .tc := ⟨.hbm, 36, rfl⟩
abbrev main_v29_0 : Ref sig .tc := ⟨.hbm, 37, rfl⟩
abbrev main_call0_cst : Ref sig .tc := ⟨.hbm, 38, rfl⟩
abbrev main_v29_2 : Ref sig .tc := ⟨.hbm, 39, rfl⟩
abbrev main_cst_1 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_cst_2 : Ref sig .tc := ⟨.hbm, 46, rfl⟩
abbrev main_v35 : Ref sig .tc := ⟨.hbm, 47, rfl⟩
abbrev main_cst_3 : Ref sig .tc := ⟨.hbm, 48, rfl⟩
abbrev main_v36 : Ref sig .tc := ⟨.hbm, 49, rfl⟩
abbrev main_v37 : Ref sig .tc := ⟨.hbm, 50, rfl⟩
abbrev main_cst_4 : Ref sig .tc := ⟨.hbm, 51, rfl⟩
abbrev main_v38 : Ref sig .tc := ⟨.hbm, 52, rfl⟩
abbrev main_v39 : Ref sig .tc := ⟨.hbm, 53, rfl⟩
abbrev main_cst_5 : Ref sig .tc := ⟨.hbm, 54, rfl⟩
abbrev main_v40 : Ref sig .tc := ⟨.hbm, 55, rfl⟩
abbrev main_v41 : Ref sig .tc := ⟨.hbm, 56, rfl⟩
abbrev main_cst_6 : Ref sig .tc := ⟨.hbm, 57, rfl⟩
abbrev main_v42 : Ref sig .tc := ⟨.hbm, 58, rfl⟩
abbrev main_cst_7 : Ref sig .tc := ⟨.hbm, 59, rfl⟩
abbrev main_v43 : Ref sig .tc := ⟨.hbm, 60, rfl⟩
abbrev main_cst_8 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_cst_9 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_cst_10 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_cst_11 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_cst_12 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_call1_cst : Ref sig .tc := ⟨.hbm, 98, rfl⟩
abbrev main_call1_v0 : Ref sig .tc := ⟨.hbm, 99, rfl⟩
abbrev main_v76 : Ref sig .tc := ⟨.hbm, 100, rfl⟩
abbrev main_cst_13 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_cst_14 : Ref sig .tc := ⟨.hbm, 105, rfl⟩
abbrev main_v80 : Ref sig .tc := ⟨.hbm, 106, rfl⟩
abbrev main_v81 : Ref sig .tc := ⟨.hbm, 107, rfl⟩
abbrev main_cst_15 : Ref sig .tc := ⟨.hbm, 108, rfl⟩
abbrev main_v82 : Ref sig .tc := ⟨.hbm, 109, rfl⟩
abbrev main_cst_16 : Ref sig .tc := ⟨.hbm, 110, rfl⟩
abbrev main_v83 : Ref sig .tc := ⟨.hbm, 111, rfl⟩
abbrev main_cst_17 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_v87 : Ref sig .tc := ⟨.hbm, 116, rfl⟩
abbrev main_v88 : Ref sig .tc := ⟨.hbm, 117, rfl⟩
abbrev main_v89 : Ref sig .tc := ⟨.hbm, 118, rfl⟩
abbrev main_v90 : Ref sig .tc := ⟨.hbm, 119, rfl⟩
abbrev main_v91 : Ref sig .tc := ⟨.hbm, 120, rfl⟩
abbrev main_v92 : Ref sig .tc := ⟨.hbm, 121, rfl⟩
abbrev main_v93 : Ref sig .tc := ⟨.hbm, 122, rfl⟩
abbrev main_v94 : Ref sig .tc := ⟨.hbm, 123, rfl⟩
abbrev main_v95 : Ref sig .tc := ⟨.hbm, 124, rfl⟩
abbrev main_v96 : Ref sig .tc := ⟨.hbm, 125, rfl⟩
abbrev main_v97 : Ref sig .tc := ⟨.hbm, 126, rfl⟩
abbrev main_v98 : Ref sig .tc := ⟨.hbm, 127, rfl⟩
abbrev main_v99 : Ref sig .tc := ⟨.hbm, 128, rfl⟩
abbrev main_v100 : Ref sig .tc := ⟨.hbm, 129, rfl⟩

abbrev nD : Nat := 1
abbrev τ : Topo := Topo.v7x

variable {F : FTy → Type} [FloatOps F]
-- ==== Kernel2.lean ====
abbrev S8192x8192 : Shape := ⟨2, ![8192, 8192]⟩
abbrev S8192x2048 : Shape := ⟨2, ![8192, 2048]⟩
abbrev S_ : Shape := ⟨0, ![]⟩
abbrev S2048x2048 : Shape := ⟨2, ![2048, 2048]⟩
abbrev S1024x2048 : Shape := ⟨2, ![1024, 2048]⟩
abbrev S2048x1024 : Shape := ⟨2, ![2048, 1024]⟩

abbrev nBuf : Space → Nat
  | .hbm => 8
  | .vmem => 8
  | .smem => 0
  | _ => 0

abbrev bufTy : (tb : Table) → Fin (tcTables nBuf tb) → BufTy
  | .hbm, ⟨0, _⟩ => ⟨S8192x8192, .bf16⟩
  | .hbm, ⟨1, _⟩ => ⟨S8192x2048, .f32⟩
  | .hbm, ⟨2, _⟩ => ⟨S8192x2048, .bf16⟩
  | .hbm, ⟨3, _⟩ => ⟨S_, .bf16⟩
  | .hbm, ⟨4, _⟩ => ⟨S8192x8192, .bf16⟩
  | .hbm, ⟨5, _⟩ => ⟨S8192x8192, .bf16⟩
  | .hbm, ⟨6, _⟩ => ⟨S8192x2048, .bf16⟩
  | .hbm, ⟨7, _⟩ => ⟨S8192x8192, .bf16⟩
  | .local _ .vmem, ⟨0, _⟩ => ⟨S2048x2048, .bf16⟩
  | .local _ .vmem, ⟨1, _⟩ => ⟨S2048x2048, .bf16⟩
  | .local _ .vmem, ⟨2, _⟩ => ⟨S1024x2048, .bf16⟩
  | .local _ .vmem, ⟨3, _⟩ => ⟨S1024x2048, .bf16⟩
  | .local _ .vmem, ⟨4, _⟩ => ⟨S2048x1024, .bf16⟩
  | .local _ .vmem, ⟨5, _⟩ => ⟨S2048x1024, .bf16⟩
  | .local _ .vmem, ⟨6, _⟩ => ⟨S2048x1024, .bf16⟩
  | .local _ .vmem, ⟨7, _⟩ => ⟨S2048x1024, .bf16⟩
  | _, _ => ⟨S8192x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S2048x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference2Ideal.lean ====
abbrev S8192x8192 : Shape := ⟨2, ![8192, 8192]⟩
abbrev S8192x2048 : Shape := ⟨2, ![8192, 2048]⟩
abbrev S_ : Shape := ⟨0, ![]⟩
abbrev S2048x8192 : Shape := ⟨2, ![2048, 8192]⟩

abbrev nBuf : Space → Nat
  | .hbm => 25
  | .vmem => 0
  | .smem => 0
  | _ => 0

abbrev bufTy : (tb : Table) → Fin (tcTables nBuf tb) → BufTy
  | .hbm, ⟨0, _⟩ => ⟨S8192x8192, .bf16⟩
  | .hbm, ⟨1, _⟩ => ⟨S8192x2048, .f32⟩
  | .hbm, ⟨2, _⟩ => ⟨S8192x2048, .bf16⟩
  | .hbm, ⟨3, _⟩ => ⟨S8192x8192, .f32⟩
  | .hbm, ⟨4, _⟩ => ⟨S_, .f32⟩
  | .hbm, ⟨5, _⟩ => ⟨S8192x8192, .f32⟩
  | .hbm, ⟨6, _⟩ => ⟨S8192x8192, .f32⟩
  | .hbm, ⟨7, _⟩ => ⟨S_, .f32⟩
  | .hbm, ⟨8, _⟩ => ⟨S8192x8192, .f32⟩
  | .hbm, ⟨9, _⟩ => ⟨S8192x8192, .i1⟩
  | .hbm, ⟨10, _⟩ => ⟨S_, .f32⟩
  | .hbm, ⟨11, _⟩ => ⟨S8192x8192, .f32⟩
  | .hbm, ⟨12, _⟩ => ⟨S8192x8192, .f32⟩
  | .hbm, ⟨13, _⟩ => ⟨S8192x2048, .f32⟩
  | .hbm, ⟨14, _⟩ => ⟨S8192x2048, .f32⟩
  | .hbm, ⟨15, _⟩ => ⟨S2048x8192, .f32⟩
  | .hbm, ⟨16, _⟩ => ⟨S8192x2048, .f32⟩
  | .hbm, ⟨17, _⟩ => ⟨S8192x8192, .f32⟩
  | .hbm, ⟨18, _⟩ => ⟨S8192x8192, .f32⟩
  | .hbm, ⟨19, _⟩ => ⟨S8192x8192, .f32⟩
  | .hbm, ⟨20, _⟩ => ⟨S8192x8192, .f32⟩
  | .hbm, ⟨21, _⟩ => ⟨S_, .f32⟩
  | .hbm, ⟨22, _⟩ => ⟨S8192x8192, .f32⟩
  | .hbm, ⟨23, _⟩ => ⟨S8192x8192, .f32⟩
  | .hbm, ⟨24, _⟩ => ⟨S8192x8192, .bf16⟩
  | _, _ => ⟨S8192x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_call0_cst : Ref sig .tc := ⟨.hbm, 4, rfl⟩
abbrev main_call0_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_1 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩

abbrev nD : Nat := 1
abbrev τ : Topo := Topo.v7x

variable {F : FTy → Type} [FloatOps F]
-- ==== Kernel3.lean ====
abbrev S8192x8192 : Shape := ⟨2, ![8192, 8192]⟩
abbrev S8192x2048 : Shape := ⟨2, ![8192, 2048]⟩
abbrev S_ : Shape := ⟨0, ![]⟩
abbrev S2048x1024 : Shape := ⟨2, ![2048, 1024]⟩
abbrev S1024x1024 : Shape := ⟨2, ![1024, 1024]⟩

abbrev nBuf : Space → Nat
  | .hbm => 7
  | .vmem => 7
  | .smem => 0
  | _ => 0

abbrev bufTy : (tb : Table) → Fin (tcTables nBuf tb) → BufTy
  | .hbm, ⟨0, _⟩ => ⟨S8192x8192, .bf16⟩
  | .hbm, ⟨1, _⟩ => ⟨S8192x2048, .f32⟩
  | .hbm, ⟨2, _⟩ => ⟨S8192x2048, .bf16⟩
  | .hbm, ⟨3, _⟩ => ⟨S_, .bf16⟩
  | .hbm, ⟨4, _⟩ => ⟨S8192x8192, .bf16⟩
  | .hbm, ⟨5, _⟩ => ⟨S8192x8192, .bf16⟩
  | .hbm, ⟨6, _⟩ => ⟨S8192x2048, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S8192x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 4], ![false, false, false]⟩

def k0_cond2 (i : grid0.Coords) : BitVec 1 :=
  let arg2 : BitVec 32 := BitVec.ofNat 32 (i 2).val
  let c3_i32 : BitVec 32 := 3#32
  let v15 : BitVec 1 := Scalar.cmpi .eq arg2 c3_i32
  let v16 : BitVec 32 := Scalar.extui v15
  let c0_i32_8 : BitVec 32 := 0#32
  let v17 : BitVec 1 := Scalar.cmpi .ne v16 c0_i32_8
  v17

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference3Ideal.lean ====
abbrev S8192x8192 : Shape := ⟨2, ![8192, 8192]⟩
abbrev S8192x2048 : Shape := ⟨2, ![8192, 2048]⟩
abbrev S_ : Shape := ⟨0, ![]⟩
abbrev S2048x8192 : Shape := ⟨2, ![2048, 8192]⟩

abbrev nBuf : Space → Nat
  | .hbm => 25
  | .vmem => 0
  | .smem => 0
  | _ => 0

abbrev bufTy : (tb : Table) → Fin (tcTables nBuf tb) → BufTy
  | .hbm, ⟨0, _⟩ => ⟨S8192x8192, .bf16⟩
  | .hbm, ⟨1, _⟩ => ⟨S8192x2048, .f32⟩
  | .hbm, ⟨2, _⟩ => ⟨S8192x2048, .bf16⟩
  | .hbm, ⟨3, _⟩ => ⟨S8192x8192, .f32⟩
  | .hbm, ⟨4, _⟩ => ⟨S_, .f32⟩
  | .hbm, ⟨5, _⟩ => ⟨S8192x8192, .f32⟩
  | .hbm, ⟨6, _⟩ => ⟨S8192x8192, .f32⟩
  | .hbm, ⟨7, _⟩ => ⟨S_, .f32⟩
  | .hbm, ⟨8, _⟩ => ⟨S8192x8192, .f32⟩
  | .hbm, ⟨9, _⟩ => ⟨S8192x8192, .i1⟩
  | .hbm, ⟨10, _⟩ => ⟨S_, .f32⟩
  | .hbm, ⟨11, _⟩ => ⟨S8192x8192, .f32⟩
  | .hbm, ⟨12, _⟩ => ⟨S8192x8192, .f32⟩
  | .hbm, ⟨13, _⟩ => ⟨S8192x2048, .f32⟩
  | .hbm, ⟨14, _⟩ => ⟨S8192x2048, .f32⟩
  | .hbm, ⟨15, _⟩ => ⟨S2048x8192, .f32⟩
  | .hbm, ⟨16, _⟩ => ⟨S8192x2048, .f32⟩
  | .hbm, ⟨17, _⟩ => ⟨S8192x8192, .f32⟩
  | .hbm, ⟨18, _⟩ => ⟨S8192x8192, .f32⟩
  | .hbm, ⟨19, _⟩ => ⟨S8192x8192, .f32⟩
  | .hbm, ⟨20, _⟩ => ⟨S8192x8192, .f32⟩
  | .hbm, ⟨21, _⟩ => ⟨S_, .f32⟩
  | .hbm, ⟨22, _⟩ => ⟨S8192x8192, .f32⟩
  | .hbm, ⟨23, _⟩ => ⟨S8192x8192, .f32⟩
  | .hbm, ⟨24, _⟩ => ⟨S8192x2048, .bf16⟩
  | _, _ => ⟨S8192x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_call0_cst : Ref sig .tc := ⟨.hbm, 4, rfl⟩
abbrev main_call0_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_1 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩

abbrev nD : Nat := 1
abbrev τ : Topo := Topo.v7x

variable {F : FTy → Type} [FloatOps F]
-- ==== Kernel4.lean ====
abbrev S8192x2048 : Shape := ⟨2, ![8192, 2048]⟩
abbrev S2048x8192 : Shape := ⟨2, ![2048, 8192]⟩
abbrev S8192x8192 : Shape := ⟨2, ![8192, 8192]⟩
abbrev S512x2048 : Shape := ⟨2, ![512, 2048]⟩
abbrev S2048x2048 : Shape := ⟨2, ![2048, 2048]⟩

abbrev nBuf : Space → Nat
  | .hbm => 6
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S2048x8192, .f32⟩
  | .hbm, ⟨2, _⟩ => ⟨S8192x8192, .bf16⟩
  | .hbm, ⟨3, _⟩ => ⟨S8192x2048, .f32⟩
  | .hbm, ⟨4, _⟩ => ⟨S8192x2048, .bf16⟩
  | .hbm, ⟨5, _⟩ => ⟨S8192x2048, .bf16⟩
  | .local _ .vmem, ⟨0, _⟩ => ⟨S512x2048, .bf16⟩
  | .local _ .vmem, ⟨1, _⟩ => ⟨S512x2048, .bf16⟩
  | .local _ .vmem, ⟨2, _⟩ => ⟨S2048x2048, .bf16⟩
  | .local _ .vmem, ⟨3, _⟩ => ⟨S2048x2048, .bf16⟩
  | .local _ .vmem, ⟨4, _⟩ => ⟨S512x2048, .bf16⟩
  | .local _ .vmem, ⟨5, _⟩ => ⟨S512x2048, .bf16⟩
  | .local _ .vmem, ⟨6, _⟩ => ⟨S512x2048, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![16, 1, 4], ![false, false, false]⟩

def k0_cond2 (i : grid0.Coords) : BitVec 1 :=
  let arg2 : BitVec 32 := BitVec.ofNat 32 (i 2).val
  let c3_i32 : BitVec 32 := 3#32
  let v12 : BitVec 1 := Scalar.cmpi .eq arg2 c3_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference4Ideal.lean ====
abbrev S8192x2048 : Shape := ⟨2, ![8192, 2048]⟩
abbrev S2048x8192 : Shape := ⟨2, ![2048, 8192]⟩
abbrev S8192x8192 : Shape := ⟨2, ![8192, 8192]⟩

abbrev nBuf : Space → Nat
  | .hbm => 10
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x8192, .f32⟩
  | .hbm, ⟨2, _⟩ => ⟨S8192x8192, .bf16⟩
  | .hbm, ⟨3, _⟩ => ⟨S8192x2048, .f32⟩
  | .hbm, ⟨4, _⟩ => ⟨S8192x8192, .f32⟩
  | .hbm, ⟨5, _⟩ => ⟨S8192x8192, .f32⟩
  | .hbm, ⟨6, _⟩ => ⟨S8192x2048, .f32⟩
  | .hbm, ⟨7, _⟩ => ⟨S2048x8192, .f32⟩
  | .hbm, ⟨8, _⟩ => ⟨S8192x2048, .f32⟩
  | .hbm, ⟨9, _⟩ => ⟨S8192x2048, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel5.lean ====
abbrev S8192x2048 : Shape := ⟨2, ![8192, 2048]⟩
abbrev S2048x8192 : Shape := ⟨2, ![2048, 8192]⟩
abbrev S8192x8192 : Shape := ⟨2, ![8192, 8192]⟩
abbrev S2048x1024 : Shape := ⟨2, ![2048, 1024]⟩
abbrev S1024x1024 : Shape := ⟨2, ![1024, 1024]⟩

abbrev nBuf : Space → Nat
  | .hbm => 4
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S2048x8192, .f32⟩
  | .hbm, ⟨2, _⟩ => ⟨S8192x8192, .bf16⟩
  | .hbm, ⟨3, _⟩ => ⟨S8192x2048, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference5Ideal.lean ====
abbrev S8192x2048 : Shape := ⟨2, ![8192, 2048]⟩
abbrev S2048x8192 : Shape := ⟨2, ![2048, 8192]⟩
abbrev S8192x8192 : Shape := ⟨2, ![8192, 8192]⟩

abbrev nBuf : Space → Nat
  | .hbm => 11
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x8192, .f32⟩
  | .hbm, ⟨2, _⟩ => ⟨S8192x8192, .bf16⟩
  | .hbm, ⟨3, _⟩ => ⟨S8192x2048, .f32⟩
  | .hbm, ⟨4, _⟩ => ⟨S8192x8192, .f32⟩
  | .hbm, ⟨5, _⟩ => ⟨S8192x8192, .f32⟩
  | .hbm, ⟨6, _⟩ => ⟨S8192x2048, .f32⟩
  | .hbm, ⟨7, _⟩ => ⟨S2048x8192, .f32⟩
  | .hbm, ⟨8, _⟩ => ⟨S8192x2048, .f32⟩
  | .hbm, ⟨9, _⟩ => ⟨S8192x2048, .f32⟩
  | .hbm, ⟨10, _⟩ => ⟨S8192x2048, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel6.lean ====
abbrev S8192x2048 : Shape := ⟨2, ![8192, 2048]⟩
abbrev S2048x8704 : Shape := ⟨2, ![2048, 8704]⟩
abbrev S8192x8704 : Shape := ⟨2, ![8192, 8704]⟩
abbrev S8704x2048 : Shape := ⟨2, ![8704, 2048]⟩
abbrev S2048x512 : Shape := ⟨2, ![2048, 512]⟩
abbrev S2048x2048 : Shape := ⟨2, ![2048, 2048]⟩
abbrev S512x2048 : Shape := ⟨2, ![512, 2048]⟩

abbrev nBuf : Space → Nat
  | .hbm => 4
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S2048x8704, .f32⟩
  | .hbm, ⟨2, _⟩ => ⟨S8192x8704, .bf16⟩
  | .hbm, ⟨3, _⟩ => ⟨S8704x2048, .bf16⟩
  | .local _ .vmem, ⟨0, _⟩ => ⟨S2048x512, .bf16⟩
  | .local _ .vmem, ⟨1, _⟩ => ⟨S2048x512, .bf16⟩
  | .local _ .vmem, ⟨2, _⟩ => ⟨S2048x2048, .bf16⟩
  | .local _ .vmem, ⟨3, _⟩ => ⟨S2048x2048, .bf16⟩
  | .local _ .vmem, ⟨4, _⟩ => ⟨S512x2048, .bf16⟩
  | .local _ .vmem, ⟨5, _⟩ => ⟨S512x2048, .bf16⟩
  | .local _ .vmem, ⟨6, _⟩ => ⟨S512x2048, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![17, 1, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference6Ideal.lean ====
abbrev S8192x2048 : Shape := ⟨2, ![8192, 2048]⟩
abbrev S2048x8704 : Shape := ⟨2, ![2048, 8704]⟩
abbrev S8192x8704 : Shape := ⟨2, ![8192, 8704]⟩
abbrev S8704x2048 : Shape := ⟨2, ![8704, 2048]⟩

abbrev nBuf : Space → Nat
  | .hbm => 11
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x8704, .f32⟩
  | .hbm, ⟨2, _⟩ => ⟨S8192x8704, .bf16⟩
  | .hbm, ⟨3, _⟩ => ⟨S8192x2048, .f32⟩
  | .hbm, ⟨4, _⟩ => ⟨S8192x8704, .f32⟩
  | .hbm, ⟨5, _⟩ => ⟨S8192x8704, .f32⟩
  | .hbm, ⟨6, _⟩ => ⟨S8704x2048, .f32⟩
  | .hbm, ⟨7, _⟩ => ⟨S2048x8704, .f32⟩
  | .hbm, ⟨8, _⟩ => ⟨S8192x2048, .f32⟩
  | .hbm, ⟨9, _⟩ => ⟨S8704x2048, .f32⟩
  | .hbm, ⟨10, _⟩ => ⟨S8704x2048, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel7.lean ====
abbrev S8192x2048 : Shape := ⟨2, ![8192, 2048]⟩
abbrev S2048x8704 : Shape := ⟨2, ![2048, 8704]⟩
abbrev S8192x8704 : Shape := ⟨2, ![8192, 8704]⟩
abbrev S8704x2048 : Shape := ⟨2, ![8704, 2048]⟩
abbrev S1024x2176 : Shape := ⟨2, ![1024, 2176]⟩
abbrev S2176x1024 : Shape := ⟨2, ![2176, 1024]⟩
abbrev S1024x1024 : Shape := ⟨2, ![1024, 1024]⟩

abbrev nBuf : Space → Nat
  | .hbm => 6
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S2048x8704, .f32⟩
  | .hbm, ⟨2, _⟩ => ⟨S8192x8704, .bf16⟩
  | .hbm, ⟨3, _⟩ => ⟨S8704x2048, .f32⟩
  | .hbm, ⟨4, _⟩ => ⟨S8704x2048, .bf16⟩
  | .hbm, ⟨5, _⟩ => ⟨S8192x2048, .bf16⟩
  | .local _ .vmem, ⟨0, _⟩ => ⟨S1024x2176, .bf16⟩
  | .local _ .vmem, ⟨1, _⟩ => ⟨S1024x2176, .bf16⟩
  | .local _ .vmem, ⟨2, _⟩ => ⟨S2176x1024, .bf16⟩
  | .local _ .vmem, ⟨3, _⟩ => ⟨S2176x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 4], ![false, false, false]⟩

def k0_cond2 (i : grid0.Coords) : BitVec 1 :=
  let arg2 : BitVec 32 := BitVec.ofNat 32 (i 2).val
  let c3_i32 : BitVec 32 := 3#32
  let v12 : BitVec 1 := Scalar.cmpi .eq arg2 c3_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2176 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2176x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference7Ideal.lean ====
abbrev S8192x2048 : Shape := ⟨2, ![8192, 2048]⟩
abbrev S2048x8704 : Shape := ⟨2, ![2048, 8704]⟩
abbrev S8192x8704 : Shape := ⟨2, ![8192, 8704]⟩
abbrev S8704x2048 : Shape := ⟨2, ![8704, 2048]⟩

abbrev nBuf : Space → Nat
  | .hbm => 10
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x8704, .f32⟩
  | .hbm, ⟨2, _⟩ => ⟨S8192x8704, .bf16⟩
  | .hbm, ⟨3, _⟩ => ⟨S8192x2048, .f32⟩
  | .hbm, ⟨4, _⟩ => ⟨S8192x8704, .f32⟩
  | .hbm, ⟨5, _⟩ => ⟨S8192x8704, .f32⟩
  | .hbm, ⟨6, _⟩ => ⟨S8704x2048, .f32⟩
  | .hbm, ⟨7, _⟩ => ⟨S2048x8704, .f32⟩
  | .hbm, ⟨8, _⟩ => ⟨S8192x2048, .f32⟩
  | .hbm, ⟨9, _⟩ => ⟨S8192x2048, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel8.lean ====
abbrev S8192x2048 : Shape := ⟨2, ![8192, 2048]⟩
abbrev S2048x8704 : Shape := ⟨2, ![2048, 8704]⟩
abbrev S8704x2048 : Shape := ⟨2, ![8704, 2048]⟩
abbrev S8192x8704 : Shape := ⟨2, ![8192, 8704]⟩
abbrev S2048x2048 : Shape := ⟨2, ![2048, 2048]⟩
abbrev S512x2048 : Shape := ⟨2, ![512, 2048]⟩
abbrev S2048x512 : Shape := ⟨2, ![2048, 512]⟩

abbrev nBuf : Space → Nat
  | .hbm => 5
  | .vmem => 6
  | .smem => 0
  | _ => 0

abbrev bufTy : (tb : Table) → Fin (tcTables nBuf tb) → BufTy
  | .hbm, ⟨0, _⟩ => ⟨S8192x2048, .bf16⟩
  | .hbm, ⟨1, _⟩ => ⟨S2048x8704, .f32⟩
  | .hbm, ⟨2, _⟩ => ⟨S8704x2048, .f32⟩
  | .hbm, ⟨3, _⟩ => ⟨S8704x2048, .bf16⟩
  | .hbm, ⟨4, _⟩ => ⟨S8192x8704, .bf16⟩
  | .local _ .vmem, ⟨0, _⟩ => ⟨S2048x2048, .bf16⟩
  | .local _ .vmem, ⟨1, _⟩ => ⟨S2048x2048, .bf16⟩
  | .local _ .vmem, ⟨2, _⟩ => ⟨S512x2048, .bf16⟩
  | .local _ .vmem, ⟨3, _⟩ => ⟨S512x2048, .bf16⟩
  | .local _ .vmem, ⟨4, _⟩ => ⟨S2048x512, .bf16⟩
  | .local _ .vmem, ⟨5, _⟩ => ⟨S2048x512, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 17, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference8Ideal.lean ====
abbrev S8192x2048 : Shape := ⟨2, ![8192, 2048]⟩
abbrev S2048x8704 : Shape := ⟨2, ![2048, 8704]⟩
abbrev S8192x8704 : Shape := ⟨2, ![8192, 8704]⟩

abbrev nBuf : Space → Nat
  | .hbm => 5
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x8704, .f32⟩
  | .hbm, ⟨2, _⟩ => ⟨S8192x2048, .f32⟩
  | .hbm, ⟨3, _⟩ => ⟨S8192x8704, .f32⟩
  | .hbm, ⟨4, _⟩ => ⟨S8192x8704, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel9.lean ====
abbrev S8192x2048 : Shape := ⟨2, ![8192, 2048]⟩
abbrev S2048x8192 : Shape := ⟨2, ![2048, 8192]⟩
abbrev S8192x8192 : Shape := ⟨2, ![8192, 8192]⟩
abbrev S2048x2048 : Shape := ⟨2, ![2048, 2048]⟩
abbrev S1024x2048 : Shape := ⟨2, ![1024, 2048]⟩
abbrev S2048x1024 : Shape := ⟨2, ![2048, 1024]⟩

abbrev nBuf : Space → Nat
  | .hbm => 5
  | .vmem => 6
  | .smem => 0
  | _ => 0

abbrev bufTy : (tb : Table) → Fin (tcTables nBuf tb) → BufTy
  | .hbm, ⟨0, _⟩ => ⟨S8192x2048, .bf16⟩
  | .hbm, ⟨1, _⟩ => ⟨S2048x8192, .f32⟩
  | .hbm, ⟨2, _⟩ => ⟨S8192x2048, .f32⟩
  | .hbm, ⟨3, _⟩ => ⟨S8192x2048, .bf16⟩
  | .hbm, ⟨4, _⟩ => ⟨S8192x8192, .bf16⟩
  | .local _ .vmem, ⟨0, _⟩ => ⟨S2048x2048, .bf16⟩
  | .local _ .vmem, ⟨1, _⟩ => ⟨S2048x2048, .bf16⟩
  | .local _ .vmem, ⟨2, _⟩ => ⟨S1024x2048, .bf16⟩
  | .local _ .vmem, ⟨3, _⟩ => ⟨S1024x2048, .bf16⟩
  | .local _ .vmem, ⟨4, _⟩ => ⟨S2048x1024, .bf16⟩
  | .local _ .vmem, ⟨5, _⟩ => ⟨S2048x1024, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference9Ideal.lean ====
abbrev S8192x2048 : Shape := ⟨2, ![8192, 2048]⟩
abbrev S2048x8192 : Shape := ⟨2, ![2048, 8192]⟩
abbrev S8192x8192 : Shape := ⟨2, ![8192, 8192]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x8192, .f32⟩
  | .hbm, ⟨2, _⟩ => ⟨S8192x2048, .f32⟩
  | .hbm, ⟨3, _⟩ => ⟨S8192x8192, .f32⟩
  | .hbm, ⟨4, _⟩ => ⟨S_, .f32⟩
  | .hbm, ⟨5, _⟩ => ⟨S8192x8192, .f32⟩
  | .hbm, ⟨6, _⟩ => ⟨S8192x8192, .f32⟩
  | .hbm, ⟨7, _⟩ => ⟨S8192x8192, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_call0_cst : Ref sig .tc := ⟨.hbm, 4, rfl⟩
abbrev main_call0_v0 : Ref sig .tc := ⟨.hbm, 5, rfl⟩
abbrev main_v2 : Ref sig .tc := ⟨.hbm, 6, rfl⟩
abbrev main_v3 : Ref sig .tc := ⟨.hbm, 7, rfl⟩

abbrev nD : Nat := 1
abbrev τ : Topo := Topo.v7x

variable {F : FTy → Type} [FloatOps F]
-- ==== Kernel10.lean ====
abbrev S8192x2048 : Shape := ⟨2, ![8192, 2048]⟩
abbrev S8192x8192 : Shape := ⟨2, ![8192, 8192]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 5
  | .vmem => 9
  | .smem => 0
  | _ => 0

abbrev bufTy : (tb : Table) → Fin (tcTables nBuf tb) → BufTy
  | .hbm, ⟨0, _⟩ => ⟨S8192x2048, .f32⟩
  | .hbm, ⟨1, _⟩ => ⟨S8192x8192, .bf16⟩
  | .hbm, ⟨2, _⟩ => ⟨S8192x2048, .f32⟩
  | .hbm, ⟨3, _⟩ => ⟨S8192x2048, .bf16⟩
  | .hbm, ⟨4, _⟩ => ⟨S8192x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 2, 4], ![false, false, false]⟩

def k0_cond2 (i : grid0.Coords) : BitVec 1 :=
  let arg2 : BitVec 32 := BitVec.ofNat 32 (i 2).val
  let c3_i32 : BitVec 32 := 3#32
  let v15 : BitVec 1 := Scalar.cmpi .eq arg2 c3_i32
  let v16 : BitVec 32 := Scalar.extui v15
  let c0_i32_8 : BitVec 32 := 0#32
  let v17 : BitVec 1 := Scalar.cmpi .ne v16 c0_i32_8
  v17

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference10Ideal.lean ====
abbrev S8192x2048 : Shape := ⟨2, ![8192, 2048]⟩
abbrev S8192x8192 : Shape := ⟨2, ![8192, 8192]⟩

abbrev nBuf : Space → Nat
  | .hbm => 7
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x8192, .bf16⟩
  | .hbm, ⟨2, _⟩ => ⟨S8192x2048, .f32⟩
  | .hbm, ⟨3, _⟩ => ⟨S8192x8192, .f32⟩
  | .hbm, ⟨4, _⟩ => ⟨S8192x8192, .f32⟩
  | .hbm, ⟨5, _⟩ => ⟨S8192x2048, .f32⟩
  | .hbm, ⟨6, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel11.lean ====
abbrev S8192x2048 : Shape := ⟨2, ![8192, 2048]⟩
abbrev S8192x8704 : Shape := ⟨2, ![8192, 8704]⟩
abbrev S2048x2048 : Shape := ⟨2, ![2048, 2048]⟩
abbrev S1024x2048 : Shape := ⟨2, ![1024, 2048]⟩
abbrev S1024x1024 : Shape := ⟨2, ![1024, 1024]⟩

abbrev nBuf : Space → Nat
  | .hbm => 10
  | .vmem => 20
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .bf16⟩
  | .hbm, ⟨2, _⟩ => ⟨S8192x8704, .bf16⟩
  | .hbm, ⟨3, _⟩ => ⟨S2048x2048, .f32⟩
  | .hbm, ⟨4, _⟩ => ⟨S8192x2048, .bf16⟩
  | .hbm, ⟨5, _⟩ => ⟨S2048x2048, .bf16⟩
  | .hbm, ⟨6, _⟩ => ⟨S8192x2048, .bf16⟩
  | .hbm, ⟨7, _⟩ => ⟨S8192x2048, .bf16⟩
  | .hbm, ⟨8, _⟩ => ⟨S8192x2048, .bf16⟩
  | .hbm, ⟨9, _⟩ => ⟨S8192x2048, .bf16⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | .local _ .vmem, ⟨8, _⟩ => ⟨S1024x1024, .bf16⟩
  | .local _ .vmem, ⟨9, _⟩ => ⟨S1024x1024, .bf16⟩
  | .local _ .vmem, ⟨10, _⟩ => ⟨S1024x1024, .bf16⟩
  | .local _ .vmem, ⟨11, _⟩ => ⟨S1024x1024, .bf16⟩
  | .local _ .vmem, ⟨12, _⟩ => ⟨S1024x1024, .bf16⟩
  | .local _ .vmem, ⟨13, _⟩ => ⟨S1024x1024, .bf16⟩
  | .local _ .vmem, ⟨14, _⟩ => ⟨S1024x1024, .bf16⟩
  | .local _ .vmem, ⟨15, _⟩ => ⟨S1024x1024, .bf16⟩
  | .local _ .vmem, ⟨16, _⟩ => ⟨S1024x1024, .bf16⟩
  | .local _ .vmem, ⟨17, _⟩ => ⟨S1024x1024, .bf16⟩
  | .local _ .vmem, ⟨18, _⟩ => ⟨S1024x1024, .bf16⟩
  | .local _ .vmem, ⟨19, _⟩ => ⟨S1024x1024, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev main_v1_3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨3, ![8, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.addi arg1 c2_i32
  let c0_i32 : BitVec 32 := 0#32
  ![arg0.toNat, v0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_9 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S1024x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 2 → Memref sig .tc .vmem S1024x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]

abbrev stage0_8 : Fin 2 → Memref sig .tc .vmem S1024x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, false]

abbrev stage0_9 : Fin 2 → Memref sig .tc .vmem S1024x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, false]
-- ==== Reference11Ideal.lean ====
abbrev S8192x2048 : Shape := ⟨2, ![8192, 2048]⟩
abbrev S8192x8704 : Shape := ⟨2, ![8192, 8704]⟩
abbrev S2048x2048 : Shape := ⟨2, ![2048, 2048]⟩
abbrev S_ : Shape := ⟨0, ![]⟩

abbrev nBuf : Space → Nat
  | .hbm => 53
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .bf16⟩
  | .hbm, ⟨2, _⟩ => ⟨S8192x8704, .bf16⟩
  | .hbm, ⟨3, _⟩ => ⟨S2048x2048, .f32⟩
  | .hbm, ⟨4, _⟩ => ⟨S8192x2048, .bf16⟩
  | .hbm, ⟨5, _⟩ => ⟨S8192x2048, .f32⟩
  | .hbm, ⟨6, _⟩ => ⟨S8192x2048, .f32⟩
  | .hbm, ⟨7, _⟩ => ⟨S8192x2048, .bf16⟩
  | .hbm, ⟨8, _⟩ => ⟨S8192x2048, .f32⟩
  | .hbm, ⟨9, _⟩ => ⟨S8192x2048, .bf16⟩
  | .hbm, ⟨10, _⟩ => ⟨S8192x2048, .f32⟩
  | .hbm, ⟨11, _⟩ => ⟨S8192x2048, .f32⟩
  | .hbm, ⟨12, _⟩ => ⟨S8192x2048, .f32⟩
  | .hbm, ⟨13, _⟩ => ⟨S_, .f32⟩
  | .hbm, ⟨14, _⟩ => ⟨S8192x2048, .f32⟩
  | .hbm, ⟨15, _⟩ => ⟨S8192x2048, .f32⟩
  | .hbm, ⟨16, _⟩ => ⟨S_, .f32⟩
  | .hbm, ⟨17, _⟩ => ⟨S8192x2048, .f32⟩
  | .hbm, ⟨18, _⟩ => ⟨S8192x2048, .f32⟩
  | .hbm, ⟨19, _⟩ => ⟨S_, .f32⟩
  | .hbm, ⟨20, _⟩ => ⟨S8192x2048, .f32⟩
  | .hbm, ⟨21, _⟩ => ⟨S8192x2048, .f32⟩
  | .hbm, ⟨22, _⟩ => ⟨S8192x2048, .f32⟩
  | .hbm, ⟨23, _⟩ => ⟨S8192x2048, .f32⟩
  | .hbm, ⟨24, _⟩ => ⟨S8192x2048, .f32⟩
  | .hbm, ⟨25, _⟩ => ⟨S8192x2048, .f32⟩
  | .hbm, ⟨26, _⟩ => ⟨S_, .f32⟩
  | .hbm, ⟨27, _⟩ => ⟨S8192x2048, .f32⟩
  | .hbm, ⟨28, _⟩ => ⟨S8192x2048, .f32⟩
  | .hbm, ⟨29, _⟩ => ⟨S_, .f32⟩
  | .hbm, ⟨30, _⟩ => ⟨S8192x2048, .f32⟩
  | .hbm, ⟨31, _⟩ => ⟨S8192x2048, .f32⟩
  | .hbm, ⟨32, _⟩ => ⟨S_, .f32⟩
  | .hbm, ⟨33, _⟩ => ⟨S8192x2048, .f32⟩
  | .hbm, ⟨34, _⟩ => ⟨S8192x2048, .f32⟩
  | .hbm, ⟨35, _⟩ => ⟨S8192x2048, .f32⟩
  | .hbm, ⟨36, _⟩ => ⟨S8192x2048, .f32⟩
  | .hbm, ⟨37, _⟩ => ⟨S8192x2048, .f32⟩
  | .hbm, ⟨38, _⟩ => ⟨S8192x2048, .f32⟩
  | .hbm, ⟨39, _⟩ => ⟨S8192x2048, .f32⟩
  | .hbm, ⟨40, _⟩ => ⟨S2048x2048, .f32⟩
  | .hbm, ⟨41, _⟩ => ⟨S2048x2048, .f32⟩
  | .hbm, ⟨42, _⟩ => ⟨S8192x2048, .f32⟩
  | .hbm, ⟨43, _⟩ => ⟨S8192x2048, .f32⟩
  | .hbm, ⟨44, _⟩ => ⟨S8192x2048, .f32⟩
  | .hbm, ⟨45, _⟩ => ⟨S8192x2048, .f32⟩
  | .hbm, ⟨46, _⟩ => ⟨S8192x2048, .f32⟩
  | .hbm, ⟨47, _⟩ => ⟨S8192x2048, .f32⟩
  | .hbm, ⟨48, _⟩ => ⟨S8192x2048, .f32⟩
  | .hbm, ⟨49, _⟩ => ⟨S8192x2048, .bf16⟩
  | .hbm, ⟨50, _⟩ => ⟨S8192x2048, .bf16⟩
  | .hbm, ⟨51, _⟩ => ⟨S8192x2048, .bf16⟩
  | .hbm, ⟨52, _⟩ => ⟨S8192x2048, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst : Ref sig .tc := ⟨.hbm, 13, rfl⟩
abbrev main_v8 : Ref sig .tc := ⟨.hbm, 14, rfl⟩
abbrev main_v9 : Ref sig .tc := ⟨.hbm, 15, rfl⟩
abbrev main_cst_0 : Ref sig .tc := ⟨.hbm, 16, rfl⟩
abbrev main_v10 : Ref sig .tc := ⟨.hbm, 17, rfl⟩
abbrev main_v11 : Ref sig .tc := ⟨.hbm, 18, rfl⟩
abbrev main_cst_1 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_2 : Ref sig .tc := ⟨.hbm, 26, rfl⟩
abbrev main_v18 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_v21 : Ref sig .tc := ⟨.hbm, 31, rfl⟩
abbrev main_cst_4 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩

abbrev nD : Nat := 1
abbrev τ : Topo := Topo.v7x

variable {F : FTy → Type} [FloatOps F]
-- ==== Kernel12.lean ====
abbrev S8192x2048 : Shape := ⟨2, ![8192, 2048]⟩
abbrev S2048x2048 : Shape := ⟨2, ![2048, 2048]⟩
abbrev S2048x1024 : Shape := ⟨2, ![2048, 1024]⟩
abbrev S1024x1024 : Shape := ⟨2, ![1024, 1024]⟩

abbrev nBuf : Space → Nat
  | .hbm => 4
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .f32⟩
  | .hbm, ⟨2, _⟩ => ⟨S8192x2048, .bf16⟩
  | .hbm, ⟨3, _⟩ => ⟨S2048x2048, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference12Ideal.lean ====
abbrev S8192x2048 : Shape := ⟨2, ![8192, 2048]⟩
abbrev S2048x2048 : Shape := ⟨2, ![2048, 2048]⟩

abbrev nBuf : Space → Nat
  | .hbm => 10
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .f32⟩
  | .hbm, ⟨2, _⟩ => ⟨S8192x2048, .bf16⟩
  | .hbm, ⟨3, _⟩ => ⟨S8192x2048, .f32⟩
  | .hbm, ⟨4, _⟩ => ⟨S8192x2048, .f32⟩
  | .hbm, ⟨5, _⟩ => ⟨S8192x2048, .f32⟩
  | .hbm, ⟨6, _⟩ => ⟨S2048x2048, .f32⟩
  | .hbm, ⟨7, _⟩ => ⟨S2048x2048, .f32⟩
  | .hbm, ⟨8, _⟩ => ⟨S8192x2048, .f32⟩
  | .hbm, ⟨9, _⟩ => ⟨S2048x2048, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel13.lean ====
abbrev S8192x1024 : Shape := ⟨2, ![8192, 1024]⟩
abbrev S1024x2048 : Shape := ⟨2, ![1024, 2048]⟩
abbrev S8192x2048 : Shape := ⟨2, ![8192, 2048]⟩
abbrev S2048x1024 : Shape := ⟨2, ![2048, 1024]⟩
abbrev S1024x1024 : Shape := ⟨2, ![1024, 1024]⟩

abbrev nBuf : Space → Nat
  | .hbm => 6
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S1024x2048, .f32⟩
  | .hbm, ⟨2, _⟩ => ⟨S8192x2048, .bf16⟩
  | .hbm, ⟨3, _⟩ => ⟨S2048x1024, .f32⟩
  | .hbm, ⟨4, _⟩ => ⟨S2048x1024, .bf16⟩
  | .hbm, ⟨5, _⟩ => ⟨S8192x1024, .bf16⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S1024x1024, .bf16⟩
  | .local _ .vmem, ⟨4, _⟩ => ⟨S1024x1024, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference13Ideal.lean ====
abbrev S8192x1024 : Shape := ⟨2, ![8192, 1024]⟩
abbrev S1024x2048 : Shape := ⟨2, ![1024, 2048]⟩
abbrev S8192x2048 : Shape := ⟨2, ![8192, 2048]⟩
abbrev S2048x1024 : Shape := ⟨2, ![2048, 1024]⟩

abbrev nBuf : Space → Nat
  | .hbm => 10
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x2048, .f32⟩
  | .hbm, ⟨2, _⟩ => ⟨S8192x2048, .bf16⟩
  | .hbm, ⟨3, _⟩ => ⟨S8192x1024, .f32⟩
  | .hbm, ⟨4, _⟩ => ⟨S8192x2048, .f32⟩
  | .hbm, ⟨5, _⟩ => ⟨S8192x2048, .f32⟩
  | .hbm, ⟨6, _⟩ => ⟨S2048x1024, .f32⟩
  | .hbm, ⟨7, _⟩ => ⟨S1024x2048, .f32⟩
  | .hbm, ⟨8, _⟩ => ⟨S8192x1024, .f32⟩
  | .hbm, ⟨9, _⟩ => ⟨S8192x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel14.lean ====
abbrev S8192x1024 : Shape := ⟨2, ![8192, 1024]⟩
abbrev S1024x2048 : Shape := ⟨2, ![1024, 2048]⟩
abbrev S8192x2048 : Shape := ⟨2, ![8192, 2048]⟩
abbrev S2048x1024 : Shape := ⟨2, ![2048, 1024]⟩
abbrev S1024x1024 : Shape := ⟨2, ![1024, 1024]⟩

abbrev nBuf : Space → Nat
  | .hbm => 6
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S1024x2048, .f32⟩
  | .hbm, ⟨2, _⟩ => ⟨S8192x2048, .bf16⟩
  | .hbm, ⟨3, _⟩ => ⟨S2048x1024, .f32⟩
  | .hbm, ⟨4, _⟩ => ⟨S2048x1024, .bf16⟩
  | .hbm, ⟨5, _⟩ => ⟨S8192x1024, .bf16⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S1024x1024, .bf16⟩
  | .local _ .vmem, ⟨4, _⟩ => ⟨S1024x1024, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference14Ideal.lean ====
abbrev S8192x1024 : Shape := ⟨2, ![8192, 1024]⟩
abbrev S1024x2048 : Shape := ⟨2, ![1024, 2048]⟩
abbrev S8192x2048 : Shape := ⟨2, ![8192, 2048]⟩
abbrev S2048x1024 : Shape := ⟨2, ![2048, 1024]⟩

abbrev nBuf : Space → Nat
  | .hbm => 10
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x2048, .f32⟩
  | .hbm, ⟨2, _⟩ => ⟨S8192x2048, .bf16⟩
  | .hbm, ⟨3, _⟩ => ⟨S8192x1024, .f32⟩
  | .hbm, ⟨4, _⟩ => ⟨S8192x2048, .f32⟩
  | .hbm, ⟨5, _⟩ => ⟨S8192x2048, .f32⟩
  | .hbm, ⟨6, _⟩ => ⟨S2048x1024, .f32⟩
  | .hbm, ⟨7, _⟩ => ⟨S1024x2048, .f32⟩
  | .hbm, ⟨8, _⟩ => ⟨S8192x1024, .f32⟩
  | .hbm, ⟨9, _⟩ => ⟨S8192x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel15.lean ====
abbrev S8192x1024 : Shape := ⟨2, ![8192, 1024]⟩
abbrev S1024x2048 : Shape := ⟨2, ![1024, 2048]⟩
abbrev S8192x2048 : Shape := ⟨2, ![8192, 2048]⟩
abbrev S2048x1024 : Shape := ⟨2, ![2048, 1024]⟩
abbrev S4096x1024 : Shape := ⟨2, ![4096, 1024]⟩
abbrev S1024x1024 : Shape := ⟨2, ![1024, 1024]⟩

abbrev nBuf : Space → Nat
  | .hbm => 4
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S1024x2048, .f32⟩
  | .hbm, ⟨2, _⟩ => ⟨S8192x2048, .bf16⟩
  | .hbm, ⟨3, _⟩ => ⟨S2048x1024, .bf16⟩
  | .local _ .vmem, ⟨0, _⟩ => ⟨S4096x1024, .bf16⟩
  | .local _ .vmem, ⟨1, _⟩ => ⟨S4096x1024, .bf16⟩
  | .local _ .vmem, ⟨2, _⟩ => ⟨S4096x1024, .bf16⟩
  | .local _ .vmem, ⟨3, _⟩ => ⟨S4096x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 2], ![false, false, false]⟩

def k0_cond2 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference15Ideal.lean ====
abbrev S8192x1024 : Shape := ⟨2, ![8192, 1024]⟩
abbrev S1024x2048 : Shape := ⟨2, ![1024, 2048]⟩
abbrev S8192x2048 : Shape := ⟨2, ![8192, 2048]⟩
abbrev S2048x1024 : Shape := ⟨2, ![2048, 1024]⟩

abbrev nBuf : Space → Nat
  | .hbm => 11
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x2048, .f32⟩
  | .hbm, ⟨2, _⟩ => ⟨S8192x2048, .bf16⟩
  | .hbm, ⟨3, _⟩ => ⟨S8192x1024, .f32⟩
  | .hbm, ⟨4, _⟩ => ⟨S8192x2048, .f32⟩
  | .hbm, ⟨5, _⟩ => ⟨S8192x2048, .f32⟩
  | .hbm, ⟨6, _⟩ => ⟨S2048x1024, .f32⟩
  | .hbm, ⟨7, _⟩ => ⟨S1024x2048, .f32⟩
  | .hbm, ⟨8, _⟩ => ⟨S8192x1024, .f32⟩
  | .hbm, ⟨9, _⟩ => ⟨S2048x1024, .f32⟩
  | .hbm, ⟨10, _⟩ => ⟨S2048x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel16.lean ====
abbrev S8192x1024 : Shape := ⟨2, ![8192, 1024]⟩
abbrev S1024x2048 : Shape := ⟨2, ![1024, 2048]⟩
abbrev S8192x2048 : Shape := ⟨2, ![8192, 2048]⟩
abbrev S2048x1024 : Shape := ⟨2, ![2048, 1024]⟩
abbrev S4096x1024 : Shape := ⟨2, ![4096, 1024]⟩
abbrev S1024x1024 : Shape := ⟨2, ![1024, 1024]⟩

abbrev nBuf : Space → Nat
  | .hbm => 4
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S1024x2048, .f32⟩
  | .hbm, ⟨2, _⟩ => ⟨S8192x2048, .bf16⟩
  | .hbm, ⟨3, _⟩ => ⟨S2048x1024, .bf16⟩
  | .local _ .vmem, ⟨0, _⟩ => ⟨S4096x1024, .bf16⟩
  | .local _ .vmem, ⟨1, _⟩ => ⟨S4096x1024, .bf16⟩
  | .local _ .vmem, ⟨2, _⟩ => ⟨S4096x1024, .bf16⟩
  | .local _ .vmem, ⟨3, _⟩ => ⟨S4096x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 2], ![false, false, false]⟩

def k0_cond2 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference16Ideal.lean ====
abbrev S8192x1024 : Shape := ⟨2, ![8192, 1024]⟩
abbrev S1024x2048 : Shape := ⟨2, ![1024, 2048]⟩
abbrev S8192x2048 : Shape := ⟨2, ![8192, 2048]⟩
abbrev S2048x1024 : Shape := ⟨2, ![2048, 1024]⟩

abbrev nBuf : Space → Nat
  | .hbm => 11
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x2048, .f32⟩
  | .hbm, ⟨2, _⟩ => ⟨S8192x2048, .bf16⟩
  | .hbm, ⟨3, _⟩ => ⟨S8192x1024, .f32⟩
  | .hbm, ⟨4, _⟩ => ⟨S8192x2048, .f32⟩
  | .hbm, ⟨5, _⟩ => ⟨S8192x2048, .f32⟩
  | .hbm, ⟨6, _⟩ => ⟨S2048x1024, .f32⟩
  | .hbm, ⟨7, _⟩ => ⟨S1024x2048, .f32⟩
  | .hbm, ⟨8, _⟩ => ⟨S8192x1024, .f32⟩
  | .hbm, ⟨9, _⟩ => ⟨S2048x1024, .f32⟩
  | .hbm, ⟨10, _⟩ => ⟨S2048x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel17.lean ====
abbrev S8192x1024 : Shape := ⟨2, ![8192, 1024]⟩
abbrev S1024x2048 : Shape := ⟨2, ![1024, 2048]⟩
abbrev S2048x1024 : Shape := ⟨2, ![2048, 1024]⟩
abbrev S8192x2048 : Shape := ⟨2, ![8192, 2048]⟩
abbrev S512x1024 : Shape := ⟨2, ![512, 1024]⟩
abbrev S512x2048 : Shape := ⟨2, ![512, 2048]⟩

abbrev nBuf : Space → Nat
  | .hbm => 5
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S1024x2048, .f32⟩
  | .hbm, ⟨2, _⟩ => ⟨S2048x1024, .f32⟩
  | .hbm, ⟨3, _⟩ => ⟨S2048x1024, .bf16⟩
  | .hbm, ⟨4, _⟩ => ⟨S8192x2048, .bf16⟩
  | .local _ .vmem, ⟨0, _⟩ => ⟨S512x1024, .bf16⟩
  | .local _ .vmem, ⟨1, _⟩ => ⟨S512x1024, .bf16⟩
  | .local _ .vmem, ⟨2, _⟩ => ⟨S2048x1024, .bf16⟩
  | .local _ .vmem, ⟨3, _⟩ => ⟨S512x2048, .bf16⟩
  | .local _ .vmem, ⟨4, _⟩ => ⟨S512x2048, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![16, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference17Ideal.lean ====
abbrev S8192x1024 : Shape := ⟨2, ![8192, 1024]⟩
abbrev S1024x2048 : Shape := ⟨2, ![1024, 2048]⟩
abbrev S8192x2048 : Shape := ⟨2, ![8192, 2048]⟩

abbrev nBuf : Space → Nat
  | .hbm => 5
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x2048, .f32⟩
  | .hbm, ⟨2, _⟩ => ⟨S8192x1024, .f32⟩
  | .hbm, ⟨3, _⟩ => ⟨S8192x2048, .f32⟩
  | .hbm, ⟨4, _⟩ => ⟨S8192x2048, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel18.lean ====
abbrev S8192x2048 : Shape := ⟨2, ![8192, 2048]⟩
abbrev S8192x1024 : Shape := ⟨2, ![8192, 1024]⟩
abbrev S8192x8704 : Shape := ⟨2, ![8192, 8704]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 8
  | .vmem => 14
  | .smem => 0
  | _ => 0

abbrev bufTy : (tb : Table) → Fin (tcTables nBuf tb) → BufTy
  | .hbm, ⟨0, _⟩ => ⟨S8192x2048, .bf16⟩
  | .hbm, ⟨1, _⟩ => ⟨S8192x1024, .bf16⟩
  | .hbm, ⟨2, _⟩ => ⟨S8192x8704, .bf16⟩
  | .hbm, ⟨3, _⟩ => ⟨S1024x2048, .f32⟩
  | .hbm, ⟨4, _⟩ => ⟨S2048x1024, .f32⟩
  | .hbm, ⟨5, _⟩ => ⟨S2048x1024, .bf16⟩
  | .hbm, ⟨6, _⟩ => ⟨S8192x2048, .bf16⟩
  | .hbm, ⟨7, _⟩ => ⟨S8192x2048, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | .local _ .vmem, ⟨8, _⟩ => ⟨S1024x1024, .bf16⟩
  | .local _ .vmem, ⟨9, _⟩ => ⟨S1024x1024, .bf16⟩
  | .local _ .vmem, ⟨10, _⟩ => ⟨S1024x1024, .bf16⟩
  | .local _ .vmem, ⟨11, _⟩ => ⟨S1024x1024, .bf16⟩
  | .local _ .vmem, ⟨12, _⟩ => ⟨S1024x1024, .bf16⟩
  | .local _ .vmem, ⟨13, _⟩ => ⟨S1024x1024, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨3, ![8, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.addi arg1 c2_i32
  let c0_i32 : BitVec 32 := 0#32
  ![arg0.toNat, v0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S1024x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]
-- ==== Reference18Ideal.lean ====
abbrev S8192x2048 : Shape := ⟨2, ![8192, 2048]⟩
abbrev S8192x1024 : Shape := ⟨2, ![8192, 1024]⟩
abbrev S8192x8704 : Shape := ⟨2, ![8192, 8704]⟩
abbrev S1024x2048 : Shape := ⟨2, ![1024, 2048]⟩
abbrev S_ : Shape := ⟨0, ![]⟩

abbrev nBuf : Space → Nat
  | .hbm => 32
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x1024, .bf16⟩
  | .hbm, ⟨2, _⟩ => ⟨S8192x8704, .bf16⟩
  | .hbm, ⟨3, _⟩ => ⟨S1024x2048, .f32⟩
  | .hbm, ⟨4, _⟩ => ⟨S8192x1024, .f32⟩
  | .hbm, ⟨5, _⟩ => ⟨S8192x2048, .f32⟩
  | .hbm, ⟨6, _⟩ => ⟨S8192x2048, .bf16⟩
  | .hbm, ⟨7, _⟩ => ⟨S8192x2048, .f32⟩
  | .hbm, ⟨8, _⟩ => ⟨S8192x2048, .bf16⟩
  | .hbm, ⟨9, _⟩ => ⟨S8192x2048, .f32⟩
  | .hbm, ⟨10, _⟩ => ⟨S8192x2048, .bf16⟩
  | .hbm, ⟨11, _⟩ => ⟨S8192x2048, .f32⟩
  | .hbm, ⟨12, _⟩ => ⟨S8192x2048, .f32⟩
  | .hbm, ⟨13, _⟩ => ⟨S8192x2048, .f32⟩
  | .hbm, ⟨14, _⟩ => ⟨S_, .f32⟩
  | .hbm, ⟨15, _⟩ => ⟨S8192x2048, .f32⟩
  | .hbm, ⟨16, _⟩ => ⟨S8192x2048, .f32⟩
  | .hbm, ⟨17, _⟩ => ⟨S_, .f32⟩
  | .hbm, ⟨18, _⟩ => ⟨S8192x2048, .f32⟩
  | .hbm, ⟨19, _⟩ => ⟨S8192x2048, .f32⟩
  | .hbm, ⟨20, _⟩ => ⟨S8192x2048, .f32⟩
  | .hbm, ⟨21, _⟩ => ⟨S8192x2048, .f32⟩
  | .hbm, ⟨22, _⟩ => ⟨S8192x2048, .f32⟩
  | .hbm, ⟨23, _⟩ => ⟨S_, .f32⟩
  | .hbm, ⟨24, _⟩ => ⟨S8192x2048, .f32⟩
  | .hbm, ⟨25, _⟩ => ⟨S8192x2048, .f32⟩
  | .hbm, ⟨26, _⟩ => ⟨S_, .f32⟩
  | .hbm, ⟨27, _⟩ => ⟨S8192x2048, .f32⟩
  | .hbm, ⟨28, _⟩ => ⟨S8192x2048, .f32⟩
  | .hbm, ⟨29, _⟩ => ⟨S8192x2048, .f32⟩
  | .hbm, ⟨30, _⟩ => ⟨S8192x2048, .f32⟩
  | .hbm, ⟨31, _⟩ => ⟨S8192x2048, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst : Ref sig .tc := ⟨.hbm, 14, rfl⟩
abbrev main_v10 : Ref sig .tc := ⟨.hbm, 15, rfl⟩
abbrev main_v11 : Ref sig .tc := ⟨.hbm, 16, rfl⟩
abbrev main_cst_0 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_1 : Ref sig .tc := ⟨.hbm, 23, rfl⟩
abbrev main_v17 : Ref sig .tc := ⟨.hbm, 24, rfl⟩
abbrev main_v18 : Ref sig .tc := ⟨.hbm, 25, rfl⟩
abbrev main_cst_2 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩

abbrev nD : Nat := 1
abbrev τ : Topo := Topo.v7x

variable {F : FTy → Type} [FloatOps F]
-- ==== Kernel19.lean ====
abbrev S8192x2048 : Shape := ⟨2, ![8192, 2048]⟩
abbrev S2048x2048 : Shape := ⟨2, ![2048, 2048]⟩
abbrev S1x2048 : Shape := ⟨2, ![1, 2048]⟩
abbrev S512x2048 : Shape := ⟨2, ![512, 2048]⟩
abbrev S512 : Shape := ⟨1, ![512]⟩
abbrev S512x1 : Shape := ⟨2, ![512, 1]⟩

abbrev nBuf : Space → Nat
  | .hbm => 7
  | .vmem => 10
  | .smem => 0
  | _ => 0

abbrev bufTy : (tb : Table) → Fin (tcTables nBuf tb) → BufTy
  | .hbm, ⟨0, _⟩ => ⟨S8192x2048, .f32⟩
  | .hbm, ⟨1, _⟩ => ⟨S8192x2048, .bf16⟩
  | .hbm, ⟨2, _⟩ => ⟨S2048x2048, .f32⟩
  | .hbm, ⟨3, _⟩ => ⟨S1x2048, .f32⟩
  | .hbm, ⟨4, _⟩ => ⟨S2048x2048, .bf16⟩
  | .hbm, ⟨5, _⟩ => ⟨S8192x2048, .f32⟩
  | .hbm, ⟨6, _⟩ => ⟨S8192x2048, .bf16⟩
  | .local _ .vmem, ⟨0, _⟩ => ⟨S512x2048, .bf16⟩
  | .local _ .vmem, ⟨1, _⟩ => ⟨S512x2048, .bf16⟩
  | .local _ .vmem, ⟨2, _⟩ => ⟨S2048x2048, .bf16⟩
  | .local _ .vmem, ⟨3, _⟩ => ⟨S512x2048, .f32⟩
  | .local _ .vmem, ⟨4, _⟩ => ⟨S512x2048, .f32⟩
  | .local _ .vmem, ⟨5, _⟩ => ⟨S1x2048, .f32⟩
  | .local _ .vmem, ⟨6, _⟩ => ⟨S512x2048, .f32⟩
  | .local _ .vmem, ⟨7, _⟩ => ⟨S512x2048, .f32⟩
  | .local _ .vmem, ⟨8, _⟩ => ⟨S512x2048, .bf16⟩
  | .local _ .vmem, ⟨9, _⟩ => ⟨S512x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨3, ![16, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S512x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== Reference19Ideal.lean ====
abbrev S8192x2048 : Shape := ⟨2, ![8192, 2048]⟩
abbrev S2048x2048 : Shape := ⟨2, ![2048, 2048]⟩
abbrev S1x2048 : Shape := ⟨2, ![1, 2048]⟩
abbrev S2048 : Shape := ⟨1, ![2048]⟩
abbrev S_ : Shape := ⟨0, ![]⟩
abbrev S8192 : Shape := ⟨1, ![8192]⟩
abbrev S8192x1 : Shape := ⟨2, ![8192, 1]⟩

abbrev nBuf : Space → Nat
  | .hbm => 25
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x2048, .bf16⟩
  | .hbm, ⟨2, _⟩ => ⟨S2048x2048, .f32⟩
  | .hbm, ⟨3, _⟩ => ⟨S1x2048, .f32⟩
  | .hbm, ⟨4, _⟩ => ⟨S8192x2048, .f32⟩
  | .hbm, ⟨5, _⟩ => ⟨S8192x2048, .f32⟩
  | .hbm, ⟨6, _⟩ => ⟨S8192x2048, .f32⟩
  | .hbm, ⟨7, _⟩ => ⟨S2048, .f32⟩
  | .hbm, ⟨8, _⟩ => ⟨S8192x2048, .f32⟩
  | .hbm, ⟨9, _⟩ => ⟨S_, .f32⟩
  | .hbm, ⟨10, _⟩ => ⟨S8192, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S8192x1, .f32⟩
  | .hbm, ⟨19, _⟩ => ⟨S8192x2048, .f32⟩
  | .hbm, ⟨20, _⟩ => ⟨S8192x2048, .f32⟩
  | .hbm, ⟨21, _⟩ => ⟨S1x2048, .f32⟩
  | .hbm, ⟨22, _⟩ => ⟨S8192x2048, .f32⟩
  | .hbm, ⟨23, _⟩ => ⟨S8192x2048, .f32⟩
  | .hbm, ⟨24, _⟩ => ⟨S8192x2048, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩

abbrev nD : Nat := 1
abbrev τ : Topo := Topo.v7x

variable {F : FTy → Type} [FloatOps F]
-- ==== Proof.Step.lean ====
/-
  What the kernel's body computes, as functions of values alone: one trip of its loop over the row blocks below the diagonal, the
  step on the diagonal block (an even and an odd form), the filling of the three carried arrays at a head pair's first point, and
  from these the arrays after one grid point. Every function is over any float values; the payloads `k0_payN` are the program's own.

  Names: `x2` q, `x3` a block of k, `x4` a block of v, `x5` the negated bias of that block, `x6` the forward output, `x7` its row
  log-sums, `x8` the output's gradient, `x9` and `x10` q and the output's gradient transposed by row blocks. The carried arrays are
  `D` (per row the sum of gradient times output), `R` (row sums of ds) and `Q` (the gradient of q).
-/
module

public import proofs.«01_k».proof.Proof.Gen.KernelIdeal.Frame
public import proofs.«01_k».proof.Proof.Gen.KernelIdeal.Skeleton

@[expose] public section

noncomputable section

namespace Cert.Proof.Fox

open Cert.KernelIdeal Cert.KernelIdeal.Gen
open Idealize.ShloMosaic Idealize.ShloMosaic.TcCoe

variable {F : FTy → Type} [FloatOps F]

/-- The whole of a block of k or v, -/
abbrev rB : Rect S512x128 := Rect.unit (s := S512x128) ![0, 0] S512x128.size inb_S512x128_S512x128_0_0
/-- of a block's bias, -/
abbrev rN : Rect S1x1x2x512 := Rect.unit (s := S1x1x2x512) ![0, 0, 0, 0] S1x1x2x512.size inb_S1x1x2x512_S1x1x2x512_0_0_0_0
/-- of an array of all rows. -/
abbrev rA : Rect S8192x128 := Rect.unit (s := S8192x128) ![0, 0] S8192x128.size inb_S8192x128_S8192x128_0_0

/-- The three running sums of one column block: dk of the first head, dk of the second, dv (each transposed). -/
abbrev Sums (F : FTy → Type) : Type := FVec F S128x512 .f32 × FVec F S128x512 .f32 × FVec F S128x512 .f32

/-! ## One trip of the loop over the row blocks below the diagonal -/

/-- The rows of trip `k` of the loop, as a rectangle of an array of all rows; -/
abbrev rT (i : grid0.Coords) (k : Fin (k0_t1_loop i).trips) : Rect S8192x128 :=
  Rect.unit (s := S8192x128) (k0_off7 i k) S1024x128.size (k0_off7_inb i k)
/-- the same block of a transposed array; -/
abbrev rTt (i : grid0.Coords) (k : Fin (k0_t1_loop i).trips) : Rect S8x128x1024 :=
  Rect.unit (s := S8x128x1024) (k0_off8 i k) S1x128x1024.size (k0_off8_inb i k)
/-- the same rows of the log-sums. -/
abbrev rTl (i : grid0.Coords) (k : Fin (k0_t1_loop i).trips) : Rect S1x8192x128 :=
  Rect.unit (s := S1x8192x128) (k0_off9 i k) S1x1024x128.size (k0_off9_inb i k)

section Block

variable (q qo : Vec F S1024x128 .bf16) (qt dt : Vec F S1x128x1024 .bf16) (l : Vec F S1x1024x128 .f32) (de : Vec F S1024x128 .f32)
  (kb vb : Vec F S512x128 .bf16) (nb : FVec F S2x512 .f32)

/-- The first head's contribution to the gradient of q's rows, -/
def tDq0 : FVec F S1024x128 .f32 :=
  k0_pay100 kb vb (k0_pay142 kb) nb (k0_pay90 l) de (k0_pay91 k0_pay133 q) (k0_pay92 k0_pay133 qo)
/-- the second head's scores, exponentiated, -/
def tP1 : FVec F S1024x512 .f32 := k0_pay104 k0_pay134 kb nb (k0_pay87 q) (k0_pay90 l)
/-- and the rows of the two carried arrays and the running sums after the trip. -/
def tQ (Q : Vec F S1024x128 .f32) : FVec F S1024x128 .f32 :=
  k0_pay5 k0_pay133 vb (k0_pay143 kb) de (tDq0 q qo l de kb vb nb) (k0_pay101 k0_pay134 qo) (tP1 q l kb nb) Q
def tR (R : Vec F S1024x128 .f32) : FVec F S1024x128 .f32 :=
  k0_pay6 k0_pay135 k0_pay136 vb (k0_pay143 kb) de (tDq0 q qo l de kb vb nb) (k0_pay101 k0_pay134 qo) (tP1 q l kb nb) R
def tS (a : Sums F) : Sums F :=
  (k0_pay99 kb vb nb a.1 (k0_pay90 l) de (k0_pay91 k0_pay133 q) (k0_pay92 k0_pay133 qo) (k0_pay93 k0_pay137 k0_pay139 qt),
   k0_pay3 vb a.2.1 de (k0_pay101 k0_pay134 qo) (k0_pay102 k0_pay138 k0_pay140 (k0_pay88 qt)) (tP1 q l kb nb),
   k0_pay2 (k0_pay98 kb nb a.2.2 (k0_pay89 dt) (k0_pay90 l) (k0_pay91 k0_pay133 q) k0_pay94 (k0_pay95 k0_pay137))
     (k0_pay103 k0_pay138 (k0_pay89 dt)) (tP1 q l kb nb))

end Block

/-- One trip: the running sums, `R` and `Q` after it. -/
def trip (i : grid0.Coords) (x2 : Vec F S8192x128 .bf16) (x7 : Vec F S1x8192x128 .f32) (x8 : Vec F S8192x128 .bf16) (x9 x10 : Vec F S8x128x1024 .bf16)
    (D : Vec F S8192x128 .f32) (kb vb : Vec F S512x128 .bf16) (nb : FVec F S2x512 .f32) (k : Fin (k0_t1_loop i).trips)
    (s : Sums F × Vec F S8192x128 .f32 × Vec F S8192x128 .f32) : Sums F × Vec F S8192x128 .f32 × Vec F S8192x128 .f32 :=
  (tS (View.ld x2 (rT i k)) (View.ld x8 (rT i k)) (View.ld x9 (rTt i k)) (View.ld x10 (rTt i k)) (View.ld x7 (rTl i k)) (View.ld D (rT i k)) kb vb nb s.1,
   (rT i k).overlay s.2.1 (tR (View.ld x2 (rT i k)) (View.ld x8 (rT i k)) (View.ld x7 (rTl i k)) (View.ld D (rT i k)) kb vb nb (View.ld s.2.1 (rT i k))),
   (rT i k).overlay s.2.2 (tQ (View.ld x2 (rT i k)) (View.ld x8 (rT i k)) (View.ld x7 (rTl i k)) (View.ld D (rT i k)) kb vb nb (View.ld s.2.2 (rT i k))))

/-- The loop's state before trip `k`. -/
def loopAt (i : grid0.Coords) (x2 : Vec F S8192x128 .bf16) (x7 : Vec F S1x8192x128 .f32) (x8 : Vec F S8192x128 .bf16) (x9 x10 : Vec F S8x128x1024 .bf16)
    (D : Vec F S8192x128 .f32) (kb vb : Vec F S512x128 .bf16) (nb : FVec F S2x512 .f32)
    (s : Sums F × Vec F S8192x128 .f32 × Vec F S8192x128 .f32) : ℕ → Sums F × Vec F S8192x128 .f32 × Vec F S8192x128 .f32
  | 0 => s
  | k + 1 => if h : k < (k0_t1_loop i).trips then trip i x2 x7 x8 x9 x10 D kb vb nb ⟨k, h⟩ (loopAt i x2 x7 x8 x9 x10 D kb vb nb s k)
      else loopAt i x2 x7 x8 x9 x10 D kb vb nb s k

theorem loopAt_succ (i : grid0.Coords) (x2 : Vec F S8192x128 .bf16) (x7 : Vec F S1x8192x128 .f32) (x8 : Vec F S8192x128 .bf16) (x9 x10 : Vec F S8x128x1024 .bf16)
    (D : Vec F S8192x128 .f32) (kb vb : Vec F S512x128 .bf16) (nb : FVec F S2x512 .f32)
    (s : Sums F × Vec F S8192x128 .f32 × Vec F S8192x128 .f32) (k : Fin (k0_t1_loop i).trips) :
    loopAt i x2 x7 x8 x9 x10 D kb vb nb s (k.val + 1) = trip i x2 x7 x8 x9 x10 D kb vb nb k (loopAt i x2 x7 x8 x9 x10 D kb vb nb s k.val) := by
  rw [loopAt, dif_pos k.isLt]

/-! ## The step on the diagonal block -/

/-- The number of the row block on the diagonal, as the body computes it. -/
def blk (i : grid0.Coords) : BitVec 32 :=
  let v40 : BitVec 32 := Scalar.muli (BitVec.ofNat 32 (i 1).val) 512#32
  Scalar.select (Scalar.andi (Scalar.cmpi .ne (Scalar.subi (Scalar.extui (Scalar.cmpi .sgt v40 0#32)) (Scalar.extui (Scalar.cmpi .slt v40 0#32)))
      (Scalar.subi (Scalar.extui (Scalar.cmpi .sgt 1024#32 0#32)) (Scalar.extui (Scalar.cmpi .slt 1024#32 0#32))))
      (Scalar.cmpi .ne (Scalar.remsi v40 1024#32) 0#32)) (Scalar.subi (Scalar.divsi v40 1024#32) 1#32) (Scalar.divsi v40 1024#32)

/-- Row number minus column number within a block. -/
abbrev rel : IVec S1024x512 32 :=
  k0_pay145 (iota .tc S1024x512 32 [0] iota_S1024x512_d0_w32) (iota .tc S1024x512 32 [1] iota_S1024x512_d1_w32)

/-- Even column blocks: all rows of the diagonal row block. -/
abbrev rE (i : grid0.Coords) (h : ¬(k0_cond2 i = 1#1)) : Rect S8192x128 :=
  Rect.unit (s := S8192x128) (k0_off4 i) S1024x128.size (k0_off4_inb i h)
abbrev rEt (i : grid0.Coords) (h : ¬(k0_cond2 i = 1#1)) : Rect S8x128x1024 :=
  Rect.unit (s := S8x128x1024) (k0_off5 i) S1x128x1024.size (k0_off5_inb i h)
abbrev rEl (i : grid0.Coords) (h : ¬(k0_cond2 i = 1#1)) : Rect S1x8192x128 :=
  Rect.unit (s := S1x8192x128) (k0_off6 i) S1x1024x128.size (k0_off6_inb i h)

section Even

variable (a b : BitVec 32) (q qo : Vec F S1024x128 .bf16) (qt dt : Vec F S1x128x1024 .bf16) (l : Vec F S1x1024x128 .f32) (de : Vec F S1024x128 .f32)
  (kb vb : Vec F S512x128 .bf16) (nb : FVec F S2x512 .f32)

def eDq0 : FVec F S1024x128 .f32 :=
  k0_pay74 a kb vb (k0_pay142 kb) nb rel b (k0_pay65 l) de (k0_pay66 k0_pay133 q) (k0_pay67 k0_pay133 qo)
def eQ (Q : Vec F S1024x128 .f32) : FVec F S1024x128 .f32 :=
  k0_pay84 a k0_pay133 kb vb (k0_pay143 kb) nb rel b (k0_pay65 l) de (eDq0 a b q qo l de kb vb nb)
    (k0_pay75 k0_pay134 (k0_pay62 q)) (k0_pay76 k0_pay134 qo) Q
def eR (R : Vec F S1024x128 .f32) : FVec F S1024x128 .f32 :=
  k0_pay149 (eDq0 a b q qo l de kb vb nb) R
    (k0_pay85 a k0_pay136 kb vb (k0_pay143 kb) nb rel b (k0_pay65 l) de (k0_pay75 k0_pay134 (k0_pay62 q)) (k0_pay76 k0_pay134 qo)) (k0_pay86 k0_pay135)
def eS : Sums F :=
  (k0_pay73 a kb vb nb rel b k0_pay147 (k0_pay65 l) de (k0_pay66 k0_pay133 q) (k0_pay67 k0_pay133 qo) (k0_pay68 k0_pay137 k0_pay139 qt),
   k0_pay82 a kb vb nb rel b k0_pay147 (k0_pay65 l) de (k0_pay75 k0_pay134 (k0_pay62 q)) (k0_pay76 k0_pay134 qo) (k0_pay77 k0_pay138 k0_pay140 (k0_pay63 qt)),
   k0_pay81 a kb nb rel b (k0_pay65 l)
     (k0_pay72 a kb nb rel b k0_pay147 (k0_pay65 l) (k0_pay66 k0_pay133 q) (k0_pay69 k0_pay137 dt))
     (k0_pay75 k0_pay134 (k0_pay62 q)) (k0_pay78 k0_pay138 (k0_pay64 dt)))

end Even

/-- Odd column blocks: the second half of the rows of the diagonal row block. -/
abbrev rO (i : grid0.Coords) (h : k0_cond2 i = 1#1) : Rect S8192x128 :=
  Rect.unit (s := S8192x128) (k0_off1 i) S512x128.size (k0_off1_inb i h)
abbrev rOt (i : grid0.Coords) (h : k0_cond2 i = 1#1) : Rect S8x128x1024 :=
  Rect.unit (s := S8x128x1024) (k0_off2 i) S1x128x1024.size (k0_off2_inb i h)
abbrev rOl (i : grid0.Coords) (h : k0_cond2 i = 1#1) : Rect S1x8192x128 :=
  Rect.unit (s := S1x8192x128) (k0_off3 i) S1x512x128.size (k0_off3_inb i h)

section Odd

variable (a b : BitVec 32) (q qo : Vec F S512x128 .bf16) (qt dt : Vec F S1x128x1024 .bf16) (l : Vec F S1x512x128 .f32) (de : Vec F S512x128 .f32)
  (kb vb : Vec F S512x128 .bf16) (nb : FVec F S2x512 .f32)

def oDq0 : FVec F S512x128 .f32 :=
  k0_pay50 a kb vb (k0_pay142 kb) nb rel b (k0_pay40 l) de (k0_pay41 k0_pay133 q) (k0_pay42 k0_pay133 qo)
def oDq1 : FVec F S512x128 .f32 :=
  k0_pay59 a kb vb (k0_pay143 kb) nb rel b (k0_pay40 l) de (k0_pay51 k0_pay134 (k0_pay37 q)) (k0_pay52 k0_pay134 qo)
def oQ (Q : Vec F S512x128 .f32) : FVec F S512x128 .f32 :=
  k0_pay60 a k0_pay133 kb vb (k0_pay143 kb) nb rel b (k0_pay40 l) de (oDq0 a b q qo l de kb vb nb)
    (k0_pay51 k0_pay134 (k0_pay37 q)) (k0_pay52 k0_pay134 qo) Q
def oR (R : Vec F S512x128 .f32) : FVec F S512x128 .f32 :=
  k0_pay148 k0_pay135 (oDq0 a b q qo l de kb vb nb) (oDq1 a b q qo l de kb vb nb) R (Scalar.ofBits .f32 0x00000000#32) (k0_pay61 k0_pay136)
def oS : Sums F :=
  (k0_pay49 a kb vb nb rel b k0_pay147 (k0_pay40 l) de (k0_pay41 k0_pay133 q) (k0_pay42 k0_pay133 qo) (k0_pay43 k0_pay137 k0_pay139 qt),
   k0_pay58 a kb vb nb rel b k0_pay147 (k0_pay40 l) de (k0_pay51 k0_pay134 (k0_pay37 q)) (k0_pay52 k0_pay134 qo) (k0_pay53 k0_pay138 k0_pay140 (k0_pay38 qt)),
   k0_pay57 a k0_pay138 kb nb rel b (k0_pay39 dt) (k0_pay40 l)
     (k0_pay48 a kb nb rel b k0_pay147 (k0_pay39 dt) (k0_pay40 l) (k0_pay41 k0_pay133 q) k0_pay44 (k0_pay45 k0_pay137))
     (k0_pay51 k0_pay134 (k0_pay37 q)) k0_pay54)

end Odd

/-- The step on the diagonal block: the running sums begin with it, and its rows of `R` and `Q` change. -/
def diag (i : grid0.Coords) (x2 : Vec F S8192x128 .bf16) (x7 : Vec F S1x8192x128 .f32) (x8 : Vec F S8192x128 .bf16) (x9 x10 : Vec F S8x128x1024 .bf16)
    (kb vb : Vec F S512x128 .bf16) (nb : FVec F S2x512 .f32) (D R Q : Vec F S8192x128 .f32) :
    Sums F × Vec F S8192x128 .f32 × Vec F S8192x128 .f32 :=
  if h : k0_cond2 i = 1#1 then
    (oS (BitVec.ofNat 32 (i 1).val) (blk i) (View.ld x2 (rO i h)) (View.ld x8 (rO i h)) (View.ld x9 (rOt i h)) (View.ld x10 (rOt i h)) (View.ld x7 (rOl i h)) (View.ld D (rO i h)) kb vb nb,
     (rO i h).overlay R (oR (BitVec.ofNat 32 (i 1).val) (blk i) (View.ld x2 (rO i h)) (View.ld x8 (rO i h)) (View.ld x7 (rOl i h)) (View.ld D (rO i h)) kb vb nb (View.ld R (rO i h))),
     (rO i h).overlay Q (oQ (BitVec.ofNat 32 (i 1).val) (blk i) (View.ld x2 (rO i h)) (View.ld x8 (rO i h)) (View.ld x7 (rOl i h)) (View.ld D (rO i h)) kb vb nb (View.ld Q (rO i h))))
  else
    (eS (BitVec.ofNat 32 (i 1).val) (blk i) (View.ld x2 (rE i h)) (View.ld x8 (rE i h)) (View.ld x9 (rEt i h)) (View.ld x10 (rEt i h)) (View.ld x7 (rEl i h)) (View.ld D (rE i h)) kb vb nb,
     (rE i h).overlay R (eR (BitVec.ofNat 32 (i 1).val) (blk i) (View.ld x2 (rE i h)) (View.ld x8 (rE i h)) (View.ld x7 (rEl i h)) (View.ld D (rE i h)) kb vb nb (View.ld R (rE i h))),
     (rE i h).overlay Q (eQ (BitVec.ofNat 32 (i 1).val) (blk i) (View.ld x2 (rE i h)) (View.ld x8 (rE i h)) (View.ld x7 (rEl i h)) (View.ld D (rE i h)) kb vb nb (View.ld Q (rE i h))))

/-! ## The filling at a head pair's first point -/

/-- Row block `b` (a literal) of an array of all rows. -/
abbrev rR0 : Rect S8192x128 := Rect.unit (s := S8192x128) ![0, 0] S1024x128.size inb_S8192x128_S1024x128_0_0
abbrev rR1 : Rect S8192x128 := Rect.unit (s := S8192x128) ![1024, 0] S1024x128.size inb_S8192x128_S1024x128_1024_0
abbrev rR2 : Rect S8192x128 := Rect.unit (s := S8192x128) ![2048, 0] S1024x128.size inb_S8192x128_S1024x128_2048_0
abbrev rR3 : Rect S8192x128 := Rect.unit (s := S8192x128) ![3072, 0] S1024x128.size inb_S8192x128_S1024x128_3072_0
abbrev rR4 : Rect S8192x128 := Rect.unit (s := S8192x128) ![4096, 0] S1024x128.size inb_S8192x128_S1024x128_4096_0
abbrev rR5 : Rect S8192x128 := Rect.unit (s := S8192x128) ![5120, 0] S1024x128.size inb_S8192x128_S1024x128_5120_0
abbrev rR6 : Rect S8192x128 := Rect.unit (s := S8192x128) ![6144, 0] S1024x128.size inb_S8192x128_S1024x128_6144_0
abbrev rR7 : Rect S8192x128 := Rect.unit (s := S8192x128) ![7168, 0] S1024x128.size inb_S8192x128_S1024x128_7168_0

/-- `D`, from the output's gradient `x8` and the output `x6`, by row blocks. -/
def fillD (x6 x8 : Vec F S8192x128 .bf16) : Vec F S8192x128 .f32 :=
  View.canon [
    ⟨rR7, k0_pay146 k0_pay133 k0_pay134 (k0_pay36 (View.ld x8 rR7) (View.ld x6 rR7)) (Scalar.ofBits .f32 0x00000000#32)⟩,
    ⟨rR6, k0_pay35 k0_pay133 k0_pay134 (View.ld x8 rR6) (View.ld x6 rR6)⟩,
    ⟨rR5, k0_pay34 (k0_pay31 k0_pay134 (View.ld x8 rR5) (View.ld x6 rR5)) (k0_pay32 k0_pay133) (k0_pay33 k0_pay133 (View.ld x8 rR5) (View.ld x6 rR5))⟩,
    ⟨rR4, k0_pay29 k0_pay133 k0_pay134 (k0_pay27 (View.ld x8 rR4)) (k0_pay28 (View.ld x6 rR4))⟩,
    ⟨rR3, k0_pay26 k0_pay133 k0_pay134 (View.ld x8 rR3) (View.ld x6 rR3)⟩,
    ⟨rR2, k0_pay25 k0_pay133 (k0_pay23 k0_pay133 (View.ld x8 rR2) (View.ld x6 rR2)) (k0_pay24 k0_pay134 (View.ld x8 rR2) (View.ld x6 rR2))⟩,
    ⟨rR1, k0_pay21 k0_pay133 k0_pay134 (k0_pay20 (View.ld x8 rR1)) (View.ld x6 rR1)⟩,
    ⟨rR0, k0_pay19 k0_pay133 k0_pay134 (View.ld x8 rR0) (View.ld x6 rR0)⟩]

/-- Whether a point is its head pair's first, as the body asks. -/
def first (i : grid0.Coords) : BitVec 1 :=
  Scalar.cmpi .ne (Scalar.extui (Scalar.cmpi .eq (BitVec.ofNat 32 (i 1).val) 0#32)) 0#32

/-- The carried arrays as the diagonal step finds them. -/
def initD (i : grid0.Coords) (x6 x8 : Vec F S8192x128 .bf16) (D : Vec F S8192x128 .f32) : Vec F S8192x128 .f32 :=
  if first i = 1#1 then fillD x6 x8 else D
def initR (i : grid0.Coords) (R : Vec F S8192x128 .f32) : Vec F S8192x128 .f32 :=
  if first i = 1#1 then k0_pay18 (F := F) else R
def initQ (i : grid0.Coords) (Q : Vec F S8192x128 .f32) : Vec F S8192x128 .f32 :=
  if first i = 1#1 then k0_pay17 (F := F) else Q

/-! ## One grid point -/

/-- The running sums, `R` and `Q` after the body's loop at point `i`, from the carried arrays before the point. -/
def point (i : grid0.Coords) (x2 : Vec F S8192x128 .bf16) (x3 x4 : Vec F S512x128 .bf16) (x5 : Vec F S1x1x2x512 .f32)
    (x6 : Vec F S8192x128 .bf16) (x7 : Vec F S1x8192x128 .f32) (x8 : Vec F S8192x128 .bf16) (x9 x10 : Vec F S8x128x1024 .bf16)
    (D R Q : Vec F S8192x128 .f32) : Sums F × Vec F S8192x128 .f32 × Vec F S8192x128 .f32 :=
  loopAt i x2 x7 x8 x9 x10 (initD i x6 x8 D) (View.ld x3 rB) (View.ld x4 rB) (k0_pay144 (View.ld x5 rN))
    (diag i x2 x7 x8 x9 x10 (View.ld x3 rB) (View.ld x4 rB) (k0_pay144 (View.ld x5 rN)) (initD i x6 x8 D) (initR i R) (initQ i Q))
    (k0_t1_loop i).trips

/-- A row block of `dr`'s buffer. -/
abbrev rS (b : Fin 8) : Rect S1x8x2x1024 :=
  Rect.unit (s := S1x8x2x1024) ![0, b.val, 0, 0] S1x1x2x1024.size (by
    intro a; have := b.isLt; fin_cases a <;> simp [Shape.size] <;> omega)

end Cert.Proof.Fox

end
-- ==== Proof.Trip.lean ====
/-
  One trip of the body's loop, run: it reads its operands as they are, changes the carried arrays `R` and `Q` on its rows and yields
  the new running sums, all by `trip` (Step.lean). From it the loop's invariant.
-/
module

public import proofs.«01_k».proof.Proof.Step
public import Idealize.ShloMosaic.Lib.Exec

@[expose] public section

noncomputable section

namespace Cert.Proof.Fox

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- What a buffer holds after one more store: the store's payload laid over what it held. -/
theorem read_writes_cons {κ : Kind} {sp : Space} {s : Shape} {e : EltTy} (v : View sig κ sp s e) (f : v.ty.Contents (Elt F))
    (p : View.Piece (Elt F) s e) (L : List (View.Piece (Elt F) s e)) :
    v.read (Elt F) (v.writes (Elt F) f (p :: L)) = p.1.overlay (v.read (Elt F) (v.writes (Elt F) f L)) p.2 := by
  obtain ⟨r, w⟩ := p
  funext y
  by_cases hy : y ∈ r.set
  · obtain ⟨x, rfl⟩ := r.exists_idx_of_mem hy
    exact (View.read_writes_cons_emb v f r w L x).trans (r.overlay_emb _ w x).symm
  · rw [View.read_writes_cons_miss v f ⟨r, w⟩ L y hy, r.overlay_of_not_mem _ _ hy]

/-- The operands a trip reads, at what they hold. -/
def reads (c : Dev nD) (arg2 : Memref sig .tc .vmem S8192x128 .bf16) (arg7 : Memref sig .tc .vmem S1x8192x128 .f32) (arg8 : Memref sig .tc .vmem S8192x128 .bf16)
    (arg9 arg10 : Memref sig .tc .vmem S8x128x1024 .bf16) (arg16 : Memref sig .tc .vmem S8192x128 .f32)
    (x2 : Vec F S8192x128 .bf16) (x7 : Vec F S1x8192x128 .f32) (x8 : Vec F S8192x128 .bf16) (x9 x10 : Vec F S8x128x1024 .bf16) (D : Vec F S8192x128 .f32) : sProp 𝕄 :=
  iprop(owns (c : Thread nD τ) arg2 fullShare x2 ∗ owns (c : Thread nD τ) arg7 fullShare x7 ∗ owns (c : Thread nD τ) arg8 fullShare x8
    ∗ owns (c : Thread nD τ) arg9 fullShare x9 ∗ owns (c : Thread nD τ) arg10 fullShare x10 ∗ owns (c : Thread nD τ) arg16 fullShare D)

/-- The loop's invariant: before trip `k` the operands as they were, `R`, `Q` and the running sums at state `k`. -/
def loopInv (c : Dev nD) (i : grid0.Coords) (arg2 : Memref sig .tc .vmem S8192x128 .bf16) (arg7 : Memref sig .tc .vmem S1x8192x128 .f32) (arg8 : Memref sig .tc .vmem S8192x128 .bf16)
    (arg9 arg10 : Memref sig .tc .vmem S8x128x1024 .bf16) (arg16 arg17 arg18 : Memref sig .tc .vmem S8192x128 .f32)
    (x2 : Vec F S8192x128 .bf16) (x7 : Vec F S1x8192x128 .f32) (x8 : Vec F S8192x128 .bf16) (x9 x10 : Vec F S8x128x1024 .bf16) (D : Vec F S8192x128 .f32)
    (kb vb : Vec F S512x128 .bf16) (nb : FVec F S2x512 .f32) (s : Sums F × Vec F S8192x128 .f32 × Vec F S8192x128 .f32) (k : ℕ) (acc : Sums F) : sProp 𝕄 :=
  iprop(reads c arg2 arg7 arg8 arg9 arg10 arg16 x2 x7 x8 x9 x10 D
    ∗ owns (c : Thread nD τ) arg17 fullShare (loopAt i x2 x7 x8 x9 x10 D kb vb nb s k).2.1
    ∗ owns (c : Thread nD τ) arg18 fullShare (loopAt i x2 x7 x8 x9 x10 D kb vb nb s k).2.2
    ∗ ⌜acc = (loopAt i x2 x7 x8 x9 x10 D kb vb nb s k).1⌝)

theorem trip_run (c : Dev nD) (E : Set ℕ) (i : grid0.Coords) (arg2 : Memref sig .tc .vmem S8192x128 .bf16) (harg2 : arg2.IsWhole) (arg3 : Memref sig .tc .vmem S512x128 .bf16) (harg3 : arg3.IsWhole) (arg4 : Memref sig .tc .vmem S512x128 .bf16) (harg4 : arg4.IsWhole) (arg5 : Memref sig .tc .vmem S1x1x2x512 .f32) (harg5 : arg5.IsWhole) (arg6 : Memref sig .tc .vmem S8192x128 .bf16) (harg6 : arg6.IsWhole) (arg7 : Memref sig .tc .vmem S1x8192x128 .f32) (harg7 : arg7.IsWhole) (arg8 : Memref sig .tc .vmem S8192x128 .bf16) (harg8 : arg8.IsWhole) (arg9 : Memref sig .tc .vmem S8x128x1024 .bf16) (harg9 : arg9.IsWhole) (arg10 : Memref sig .tc .vmem S8x128x1024 .bf16) (harg10 : arg10.IsWhole) (arg11 : Memref sig .tc .vmem S8192x128 .bf16) (harg11 : arg11.IsWhole) (arg12 : Memref sig .tc .vmem S512x128 .bf16) (harg12 : arg12.IsWhole) (arg13 : Memref sig .tc .vmem S512x128 .bf16) (harg13 : arg13.IsWhole) (arg14 : Memref sig .tc .vmem S1x1x2x512 .f32) (harg14 : arg14.IsWhole) (arg15 : Memref sig .tc .vmem S1x8x2x1024 .f32) (harg15 : arg15.IsWhole) (arg16 : Memref sig .tc .vmem S8192x128 .f32) (harg16 : arg16.IsWhole) (arg17 : Memref sig .tc .vmem S8192x128 .f32) (harg17 : arg17.IsWhole) (arg18 : Memref sig .tc .vmem S8192x128 .f32) (harg18 : arg18.IsWhole)
    (x2 : Vec F S8192x128 .bf16) (x7 : Vec F S1x8192x128 .f32) (x8 : Vec F S8192x128 .bf16) (x9 x10 : Vec F S8x128x1024 .bf16) (D : Vec F S8192x128 .f32)
    (kb vb : Vec F S512x128 .bf16) (nb : FVec F S2x512 .f32) (w : BitVec 32) (k : Fin (k0_t1_loop i).trips)
    (s : Sums F × Vec F S8192x128 .f32 × Vec F S8192x128 .f32) :
    iprop(reads c arg2 arg7 arg8 arg9 arg10 arg16 x2 x7 x8 x9 x10 D
      ∗ owns (c : Thread nD τ) arg17 fullShare s.2.1 ∗ owns (c : Thread nD τ) arg18 fullShare s.2.2)
      ⊢ wp frame (wpE (defs₀ (F := F)) Variants.none c none) E
          (k0_t1_body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 k0_pay133 k0_pay134 k0_pay135 k0_pay136 k0_pay137 k0_pay138 k0_pay139 k0_pay140 kb vb (k0_pay142 kb) (k0_pay143 kb) nb w k s.1)
          (fun acc => iprop(reads c arg2 arg7 arg8 arg9 arg10 arg16 x2 x7 x8 x9 x10 D
            ∗ owns (c : Thread nD τ) arg17 fullShare (trip i x2 x7 x8 x9 x10 D kb vb nb k s).2.1
            ∗ owns (c : Thread nD τ) arg18 fullShare (trip i x2 x7 x8 x9 x10 D kb vb nb k s).2.2
            ∗ ⌜acc = (trip i x2 x7 x8 x9 x10 D kb vb nb k s).1⌝)) := by
  obtain ⟨⟨a0, a1, a2⟩, R, Q⟩ := s
  unfold k0_t1_body reads owns
  dsimp only
  iintro ⟨⟨⟨%f2, %h2, H2⟩, ⟨%f7, %h7, H7⟩, ⟨%f8, %h8, H8⟩, ⟨%f9, %h9, H9⟩, ⟨%f10, %h10, H10⟩, ⟨%f16, %h16, H16⟩⟩, ⟨%f17, %h17, H17⟩, ⟨%f18, %h18, H18⟩⟩
  subst h2 h7 h8 h9 h10 h16 h17 h18
  sl_exec
  sl_step
  isplitl [H2 H7 H8 H9 H10 H16]
  · isplitl [H2]; · iexists f2; isplitr; · ipureintro; rfl
                    iexact H2
    isplitl [H7]; · iexists f7; isplitr; · ipureintro; rfl
                    iexact H7
    isplitl [H8]; · iexists f8; isplitr; · ipureintro; rfl
                    iexact H8
    isplitl [H9]; · iexists f9; isplitr; · ipureintro; rfl
                    iexact H9
    isplitl [H10]; · iexists f10; isplitr; · ipureintro; rfl
                     iexact H10
    iexists f16; isplitr; · ipureintro; rfl
    iexact H16
  isplitl [H17]
  · iexists _; isplitr
    swap; · iexact H17
    ipureintro
    rw [read_writes_cons]; sl_unfold_run_names; dsimp only [trip, tQ, tR, tS, tDq0, tP1]; rfl
  isplitl [H18]
  · iexists _; isplitr
    swap; · iexact H18
    ipureintro
    rw [read_writes_cons]; sl_unfold_run_names; dsimp only [trip, tQ, tR, tS, tDq0, tP1]; rfl
  ipureintro
  sl_unfold_run_names; dsimp only [trip, tQ, tR, tS, tDq0, tP1]; rfl

/-- A trip takes the invariant at `k` to the invariant at `k + 1`. -/
theorem loopInv_step (c : Dev nD) (E : Set ℕ) (i : grid0.Coords) (arg2 : Memref sig .tc .vmem S8192x128 .bf16) (harg2 : arg2.IsWhole) (arg3 : Memref sig .tc .vmem S512x128 .bf16) (harg3 : arg3.IsWhole) (arg4 : Memref sig .tc .vmem S512x128 .bf16) (harg4 : arg4.IsWhole) (arg5 : Memref sig .tc .vmem S1x1x2x512 .f32) (harg5 : arg5.IsWhole) (arg6 : Memref sig .tc .vmem S8192x128 .bf16) (harg6 : arg6.IsWhole) (arg7 : Memref sig .tc .vmem S1x8192x128 .f32) (harg7 : arg7.IsWhole) (arg8 : Memref sig .tc .vmem S8192x128 .bf16) (harg8 : arg8.IsWhole) (arg9 : Memref sig .tc .vmem S8x128x1024 .bf16) (harg9 : arg9.IsWhole) (arg10 : Memref sig .tc .vmem S8x128x1024 .bf16) (harg10 : arg10.IsWhole) (arg11 : Memref sig .tc .vmem S8192x128 .bf16) (harg11 : arg11.IsWhole) (arg12 : Memref sig .tc .vmem S512x128 .bf16) (harg12 : arg12.IsWhole) (arg13 : Memref sig .tc .vmem S512x128 .bf16) (harg13 : arg13.IsWhole) (arg14 : Memref sig .tc .vmem S1x1x2x512 .f32) (harg14 : arg14.IsWhole) (arg15 : Memref sig .tc .vmem S1x8x2x1024 .f32) (harg15 : arg15.IsWhole) (arg16 : Memref sig .tc .vmem S8192x128 .f32) (harg16 : arg16.IsWhole) (arg17 : Memref sig .tc .vmem S8192x128 .f32) (harg17 : arg17.IsWhole) (arg18 : Memref sig .tc .vmem S8192x128 .f32) (harg18 : arg18.IsWhole)
    (x2 : Vec F S8192x128 .bf16) (x7 : Vec F S1x8192x128 .f32) (x8 : Vec F S8192x128 .bf16) (x9 x10 : Vec F S8x128x1024 .bf16) (D : Vec F S8192x128 .f32)
    (kb vb : Vec F S512x128 .bf16) (nb : FVec F S2x512 .f32) (w : BitVec 32)
    (s : Sums F × Vec F S8192x128 .f32 × Vec F S8192x128 .f32) (k : Fin (k0_t1_loop i).trips) (acc : Sums F) :
    loopInv c i arg2 arg7 arg8 arg9 arg10 arg16 arg17 arg18 x2 x7 x8 x9 x10 D kb vb nb s k.val acc
      ⊢ wp frame (wpE (defs₀ (F := F)) Variants.none c none) E
          (k0_t1_body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 k0_pay133 k0_pay134 k0_pay135 k0_pay136 k0_pay137 k0_pay138 k0_pay139 k0_pay140 kb vb (k0_pay142 kb) (k0_pay143 kb) nb w k acc)
          (loopInv c i arg2 arg7 arg8 arg9 arg10 arg16 arg17 arg18 x2 x7 x8 x9 x10 D kb vb nb s (k.val + 1)) := by
  unfold loopInv
  rw [loopAt_succ]
  iintro ⟨HR, H17, H18, %ha⟩
  subst ha
  iapply (trip_run c E i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x2 x7 x8 x9 x10 D kb vb nb w k (loopAt i x2 x7 x8 x9 x10 D kb vb nb s k.val))
  isplitl [HR]; · iexact HR
  isplitl [H17]; · iexact H17
  iexact H18

end Cert.Proof.Fox

end
-- ==== Proof.Offsets.lean ====
/-
  Where the body reads and writes, in closed form: at column block `j` the diagonal row block is `j / 2`, trip `k` of the loop is at row
  block `j / 2 + 1 + k`, and the loop makes the trips that are left of eight row blocks.
-/
module

public import proofs.«01_k».proof.Proof.Step
public import Idealize.ShloMosaic.Lib.Exec

@[expose] public section

noncomputable section

namespace Cert.Proof.Fox

open Cert.KernelIdeal Cert.KernelIdeal.Gen
open Idealize.ShloMosaic Idealize.ShloMosaic.TcCoe Idealize.ShloMosaic.Tactic

theorem off1_eq : ∀ i : grid0.Coords, k0_off1 i = ![1024 * ((i 1).val / 2) + 512, 0] := by decide +kernel
theorem off2_eq : ∀ i : grid0.Coords, k0_off2 i = ![(i 1).val / 2, 0, 0] := by decide +kernel
theorem off3_eq : ∀ i : grid0.Coords, k0_off3 i = ![0, 1024 * ((i 1).val / 2) + 512, 0] := by decide +kernel
theorem off4_eq : ∀ i : grid0.Coords, k0_off4 i = ![1024 * ((i 1).val / 2), 0] := by decide +kernel
theorem off5_eq : ∀ i : grid0.Coords, k0_off5 i = ![(i 1).val / 2, 0, 0] := by decide +kernel
theorem off6_eq : ∀ i : grid0.Coords, k0_off6 i = ![0, 1024 * ((i 1).val / 2), 0] := by decide +kernel
theorem trips_eq : ∀ i : grid0.Coords, (k0_t1_loop i).trips = 7 - (i 1).val / 2 := by decide +kernel
theorem trips2_eq : ∀ i : grid0.Coords, (k0_t2_loop i).trips = 0 := by decide +kernel
theorem off7_eq : ∀ (i : grid0.Coords) (k : Fin (k0_t1_loop i).trips), k0_off7 i k = ![1024 * ((i 1).val / 2 + 1 + k.val), 0] := by decide +kernel
theorem off8_eq : ∀ (i : grid0.Coords) (k : Fin (k0_t1_loop i).trips), k0_off8 i k = ![(i 1).val / 2 + 1 + k.val, 0, 0] := by decide +kernel
theorem off9_eq : ∀ (i : grid0.Coords) (k : Fin (k0_t1_loop i).trips), k0_off9 i k = ![0, 1024 * ((i 1).val / 2 + 1 + k.val), 0] := by decide +kernel

theorem first_iff : ∀ i : grid0.Coords, first i = 1#1 ↔ (i 1).val = 0 := by decide +kernel
theorem odd_iff : ∀ i : grid0.Coords, k0_cond2 i = 1#1 ↔ (i 1).val % 2 = 1 := by decide +kernel
theorem last_iff : ∀ i : grid0.Coords, k0_cond3 i = 1#1 ↔ (i 1).val = 15 := by decide +kernel

instance (i : grid0.Coords) : ClosedOff (k0_off1 i) := ⟨_, off1_eq i⟩
instance (i : grid0.Coords) : ClosedOff (k0_off4 i) := ⟨_, off4_eq i⟩

end Cert.Proof.Fox

end
-- ==== Proof.Diag.lean ====
/-
  The step on the diagonal block, run: at a head pair's first point the carried arrays are filled first; then the running sums begin
  and the diagonal rows of `R` and `Q` change, all by `initD`, `initR`, `initQ` and `diag` (Step.lean).
-/
module

public import proofs.«01_k».proof.Proof.Trip
public import proofs.«01_k».proof.Proof.Offsets

@[expose] public section

noncomputable section

namespace Cert.Proof.Fox

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The eight row blocks fill an array of all rows. -/
theorem cover_rows (p0 p1 p2 p3 p4 p5 p6 p7 : Vec F S1024x128 .f32) (y : S8192x128.Idx) :
    ∃ pc ∈ ([⟨rR7, p7⟩, ⟨rR6, p6⟩, ⟨rR5, p5⟩, ⟨rR4, p4⟩, ⟨rR3, p3⟩, ⟨rR2, p2⟩, ⟨rR1, p1⟩, ⟨rR0, p0⟩] : List (View.Piece (Elt F) S8192x128 .f32)), y ∈ pc.1.set :=
  View.cover_of_tiled [⟨rR7, p7⟩, ⟨rR6, p6⟩, ⟨rR5, p5⟩, ⟨rR4, p4⟩, ⟨rR3, p3⟩, ⟨rR2, p2⟩, ⟨rR1, p1⟩, ⟨rR0, p0⟩] S1024x128.size (by rfl) y

/-- A store through the whole of an array of all rows leaves its payload. -/
theorem overlay_whole (X p : Vec F S8192x128 .f32) : rA.overlay X p = p := by
  funext y
  have h : rA.emb y = y := rA.emb_eq_of_coords y y fun a => by
    show (y a).val = (![0, 0] : Fin 2 → ℕ) a + 1 * (y a).val
    fin_cases a <;> simp
  conv_lhs => rw [← h]
  exact rA.overlay_emb X p y

set_option maxHeartbeats 4000000 in
theorem part19_run (c : Dev nD) (E : Set ℕ) (i : grid0.Coords) (arg2 : Memref sig .tc .vmem S8192x128 .bf16) (harg2 : arg2.IsWhole) (arg3 : Memref sig .tc .vmem S512x128 .bf16) (harg3 : arg3.IsWhole) (arg4 : Memref sig .tc .vmem S512x128 .bf16) (harg4 : arg4.IsWhole) (arg5 : Memref sig .tc .vmem S1x1x2x512 .f32) (harg5 : arg5.IsWhole) (arg6 : Memref sig .tc .vmem S8192x128 .bf16) (harg6 : arg6.IsWhole) (arg7 : Memref sig .tc .vmem S1x8192x128 .f32) (harg7 : arg7.IsWhole) (arg8 : Memref sig .tc .vmem S8192x128 .bf16) (harg8 : arg8.IsWhole) (arg9 : Memref sig .tc .vmem S8x128x1024 .bf16) (harg9 : arg9.IsWhole) (arg10 : Memref sig .tc .vmem S8x128x1024 .bf16) (harg10 : arg10.IsWhole) (arg11 : Memref sig .tc .vmem S8192x128 .bf16) (harg11 : arg11.IsWhole) (arg12 : Memref sig .tc .vmem S512x128 .bf16) (harg12 : arg12.IsWhole) (arg13 : Memref sig .tc .vmem S512x128 .bf16) (harg13 : arg13.IsWhole) (arg14 : Memref sig .tc .vmem S1x1x2x512 .f32) (harg14 : arg14.IsWhole) (arg15 : Memref sig .tc .vmem S1x8x2x1024 .f32) (harg15 : arg15.IsWhole) (arg16 : Memref sig .tc .vmem S8192x128 .f32) (harg16 : arg16.IsWhole) (arg17 : Memref sig .tc .vmem S8192x128 .f32) (harg17 : arg17.IsWhole) (arg18 : Memref sig .tc .vmem S8192x128 .f32) (harg18 : arg18.IsWhole)
    (x2 : Vec F S8192x128 .bf16) (x6 : Vec F S8192x128 .bf16) (x7 : Vec F S1x8192x128 .f32) (x8 : Vec F S8192x128 .bf16) (x9 x10 : Vec F S8x128x1024 .bf16) (D R Q : Vec F S8192x128 .f32)
    (kb vb : Vec F S512x128 .bf16) (nb : FVec F S2x512 .f32) :
    iprop(reads c arg2 arg7 arg8 arg9 arg10 arg16 x2 x7 x8 x9 x10 D ∗ owns (c : Thread nD τ) arg6 fullShare x6
      ∗ owns (c : Thread nD τ) arg17 fullShare R ∗ owns (c : Thread nD τ) arg18 fullShare Q)
      ⊢ wp frame (wpE (defs₀ (F := F)) Variants.none c none) E
          (k0_part19 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (BitVec.ofNat 32 (i 1).val) k0_pay133 k0_pay134 k0_pay135 k0_pay136 k0_pay137 k0_pay138 k0_pay139 k0_pay140 kb vb (k0_pay142 kb) (k0_pay143 kb) nb
            (iota .tc S1024x512 32 [0] iota_S1024x512_d0_w32) (iota .tc S1024x512 32 [1] iota_S1024x512_d1_w32))
          (fun r => iprop(reads c arg2 arg7 arg8 arg9 arg10 arg16 x2 x7 x8 x9 x10 (initD i x6 x8 D) ∗ owns (c : Thread nD τ) arg6 fullShare x6
            ∗ owns (c : Thread nD τ) arg17 fullShare (diag i x2 x7 x8 x9 x10 kb vb nb (initD i x6 x8 D) (initR i R) (initQ i Q)).2.1
            ∗ owns (c : Thread nD τ) arg18 fullShare (diag i x2 x7 x8 x9 x10 kb vb nb (initD i x6 x8 D) (initR i R) (initQ i Q)).2.2
            ∗ ⌜r = ⟨(diag i x2 x7 x8 x9 x10 kb vb nb (initD i x6 x8 D) (initR i R) (initQ i Q)).1.1,
                (diag i x2 x7 x8 x9 x10 kb vb nb (initD i x6 x8 D) (initR i R) (initQ i Q)).1.2.1,
                (diag i x2 x7 x8 x9 x10 kb vb nb (initD i x6 x8 D) (initR i R) (initQ i Q)).1.2.2, Scalar.addi (blk i) 1#32⟩⌝)) := by
  simp only [k0_part19_eq_skeleton]
  unfold k0_part19_skel
  unfold reads owns
  iintro ⟨⟨⟨%f2, %h2, H2⟩, ⟨%f7, %h7, H7⟩, ⟨%f8, %h8, H8⟩, ⟨%f9, %h9, H9⟩, ⟨%f10, %h10, H10⟩, ⟨%f16, %h16, H16⟩⟩, ⟨%f6, %h6, H6⟩, ⟨%f17, %h17, H17⟩, ⟨%f18, %h18, H18⟩⟩
  subst h2 h6 h7 h8 h9 h10 h16 h17 h18
  by_cases h1 : first i = 1#1
  · have hj : (i 1).val = 0 := (first_iff i).mp h1
    have hc : ¬ k0_cond2 i = 1#1 := by rw [odd_iff, hj]; decide
    have hI : ∀ a b d, initD (F := F) i a b d = fillD a b := fun a b d => if_pos h1
    have hR : ∀ d, initR (F := F) i d = k0_pay18 := fun d => if_pos h1
    have hQ : ∀ d, initQ (F := F) i d = k0_pay17 := fun d => if_pos h1
    unfold first at h1
    rw [hI, hR, hQ, diag, dif_neg hc]
    sl_exec
    sl_step
    have e16 : arg16.view.read (Elt F) (arg16.view.writes (Elt F) arg16.view.junk (part19_run.sl.H16_8 c arg6 arg8 f8 f6))
        = fillD (arg6.view.read (Elt F) f6) (arg8.view.read (Elt F) f8) := by
      sl_unfold_run_names
      exact View.read_writes_eq_canon _ _ _ (cover_rows _ _ _ _ _ _ _ _)
    have e17 : arg17.view.read (Elt F) (arg17.view.writes (Elt F) arg17.view.junk part19_run.sl.H17_1) = k0_pay18 := by
      sl_unfold_run_names
      rw [read_writes_cons]; exact overlay_whole _ _
    have e18 : arg18.view.read (Elt F) (arg18.view.writes (Elt F) arg18.view.junk part19_run.sl.H18_1) = k0_pay17 := by
      sl_unfold_run_names
      rw [read_writes_cons]; exact overlay_whole _ _
    rw [← e16, ← e17, ← e18]
    isplitl [H2 H7 H8 H9 H10 H16]
    · isplitl [H2]
      · iexists f2; isplitr; · ipureintro; rfl
        iexact H2
      isplitl [H7]
      · iexists f7; isplitr; · ipureintro; rfl
        iexact H7
      isplitl [H8]
      · iexists f8; isplitr; · ipureintro; rfl
        iexact H8
      isplitl [H9]
      · iexists f9; isplitr; · ipureintro; rfl
        iexact H9
      isplitl [H10]
      · iexists f10; isplitr; · ipureintro; rfl
        iexact H10
      iexists _; isplitr
      swap; · iexact H16
      ipureintro; rfl
    isplitl [H6]
    · iexists f6; isplitr; · ipureintro; rfl
      iexact H6
    isplitl [H17]
    · iexists _; isplitr
      swap; · iexact H17
      ipureintro
      rw [read_writes_cons]; sl_unfold_run_names; dsimp only [eQ, eR, eS, eDq0]; rfl
    isplitl [H18]
    · iexists _; isplitr
      swap; · iexact H18
      ipureintro
      rw [read_writes_cons]; sl_unfold_run_names; dsimp only [eQ, eR, eS, eDq0]; rfl
    ipureintro
    sl_unfold_run_names; dsimp only [eQ, eR, eS, eDq0]; rfl
  · have hI : ∀ a b d, initD (F := F) i a b d = d := fun a b d => if_neg h1
    have hR : ∀ d, initR (F := F) i d = d := fun d => if_neg h1
    have hQ : ∀ d, initQ (F := F) i d = d := fun d => if_neg h1
    unfold first at h1
    rw [hI, hR, hQ]
    by_cases hc : k0_cond2 i = 1#1
    · rw [diag, dif_pos hc]
      sl_exec
      sl_step
      isplitl [H2 H7 H8 H9 H10 H16]
      · isplitl [H2]
        · iexists f2; isplitr; · ipureintro; rfl
          iexact H2
        isplitl [H7]
        · iexists f7; isplitr; · ipureintro; rfl
          iexact H7
        isplitl [H8]
        · iexists f8; isplitr; · ipureintro; rfl
          iexact H8
        isplitl [H9]
        · iexists f9; isplitr; · ipureintro; rfl
          iexact H9
        isplitl [H10]
        · iexists f10; isplitr; · ipureintro; rfl
          iexact H10
        iexists _; isplitr
        swap; · iexact H16
        ipureintro; rfl
      isplitl [H6]
      · iexists f6; isplitr; · ipureintro; rfl
        iexact H6
      isplitl [H17]
      · iexists _; isplitr
        swap; · iexact H17
        ipureintro
        rw [read_writes_cons]; sl_unfold_run_names; dsimp only [oQ, oR, oS, oDq0, oDq1]; rfl
      isplitl [H18]
      · iexists _; isplitr
        swap; · iexact H18
        ipureintro
        rw [read_writes_cons]; sl_unfold_run_names; dsimp only [oQ, oR, oS, oDq0, oDq1]; rfl
      ipureintro
      sl_unfold_run_names; dsimp only [oQ, oR, oS, oDq0, oDq1]; rfl
    · rw [diag, dif_neg hc]
      sl_exec
      sl_step
      isplitl [H2 H7 H8 H9 H10 H16]
      · isplitl [H2]
        · iexists f2; isplitr; · ipureintro; rfl
          iexact H2
        isplitl [H7]
        · iexists f7; isplitr; · ipureintro; rfl
          iexact H7
        isplitl [H8]
        · iexists f8; isplitr; · ipureintro; rfl
          iexact H8
        isplitl [H9]
        · iexists f9; isplitr; · ipureintro; rfl
          iexact H9
        isplitl [H10]
        · iexists f10; isplitr; · ipureintro; rfl
          iexact H10
        iexists _; isplitr
        swap; · iexact H16
        ipureintro; rfl
      isplitl [H6]
      · iexists f6; isplitr; · ipureintro; rfl
        iexact H6
      isplitl [H17]
      · iexists _; isplitr
        swap; · iexact H17
        ipureintro
        rw [read_writes_cons]; sl_unfold_run_names; dsimp only [eQ, eR, eS, eDq0]; rfl
      isplitl [H18]
      · iexists _; isplitr
        swap; · iexact H18
        ipureintro
        rw [read_writes_cons]; sl_unfold_run_names; dsimp only [eQ, eR, eS, eDq0]; rfl
      ipureintro
      sl_unfold_run_names; dsimp only [eQ, eR, eS, eDq0]; rfl

end Cert.Proof.Fox

end
-- ==== Proof.Body.lean ====
/-
  One grid point of the kernel's body, run: what it leaves in its five output buffers and its three carried arrays.
-/
module

public import proofs.«01_k».proof.Proof.Diag

@[expose] public section

noncomputable section

namespace Cert.Proof.Fox

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The block of dk a point writes, from its running sums; -/
def outK (S : Sums F) : Vec F S512x128 .bf16 := View.canon [⟨rB, k0_pay13 k0_pay137 S.1 S.2.1⟩]
/-- of dv; -/
def outV (S : Sums F) : Vec F S512x128 .bf16 := View.canon [⟨rB, k0_pay14 S.2.2⟩]
/-- of the columns' bias gradient. -/
def outN (S : Sums F) : Vec F S1x1x2x512 .f32 := View.canon [⟨rN, k0_pay15 S.1 S.2.1⟩]
/-- The block of dq a head pair's last point writes, from `Q`; -/
def outQ (Q : Vec F S8192x128 .f32) : Vec F S8192x128 .bf16 := View.canon [⟨rA, k0_pay123 (View.ld Q rA)⟩]

/-- A row block of the rows' bias gradient. -/
abbrev rS0 : Rect S1x8x2x1024 := Rect.unit (s := S1x8x2x1024) ![0, 0, 0, 0] S1x1x2x1024.size inb_S1x8x2x1024_S1x1x2x1024_0_0_0_0
abbrev rS1 : Rect S1x8x2x1024 := Rect.unit (s := S1x8x2x1024) ![0, 1, 0, 0] S1x1x2x1024.size inb_S1x8x2x1024_S1x1x2x1024_0_1_0_0
abbrev rS2 : Rect S1x8x2x1024 := Rect.unit (s := S1x8x2x1024) ![0, 2, 0, 0] S1x1x2x1024.size inb_S1x8x2x1024_S1x1x2x1024_0_2_0_0
abbrev rS3 : Rect S1x8x2x1024 := Rect.unit (s := S1x8x2x1024) ![0, 3, 0, 0] S1x1x2x1024.size inb_S1x8x2x1024_S1x1x2x1024_0_3_0_0
abbrev rS4 : Rect S1x8x2x1024 := Rect.unit (s := S1x8x2x1024) ![0, 4, 0, 0] S1x1x2x1024.size inb_S1x8x2x1024_S1x1x2x1024_0_4_0_0
abbrev rS5 : Rect S1x8x2x1024 := Rect.unit (s := S1x8x2x1024) ![0, 5, 0, 0] S1x1x2x1024.size inb_S1x8x2x1024_S1x1x2x1024_0_5_0_0
abbrev rS6 : Rect S1x8x2x1024 := Rect.unit (s := S1x8x2x1024) ![0, 6, 0, 0] S1x1x2x1024.size inb_S1x8x2x1024_S1x1x2x1024_0_6_0_0
abbrev rS7 : Rect S1x8x2x1024 := Rect.unit (s := S1x8x2x1024) ![0, 7, 0, 0] S1x1x2x1024.size inb_S1x8x2x1024_S1x1x2x1024_0_7_0_0

/-- The rows' bias gradient a head pair's last point writes, from `R`, by row blocks. -/
def outR (R : Vec F S8192x128 .f32) : Vec F S1x8x2x1024 .f32 :=
  View.canon [
    ⟨rS7, k0_pay16 (k0_pay132 (View.ld R rR7))⟩,
    ⟨rS6, k0_pay131 (View.ld R rR6)⟩,
    ⟨rS5, k0_pay130 (View.ld R rR5)⟩,
    ⟨rS4, k0_pay129 (View.ld R rR4)⟩,
    ⟨rS3, k0_pay128 (k0_pay127 (View.ld R rR3))⟩,
    ⟨rS2, k0_pay126 (View.ld R rR2)⟩,
    ⟨rS1, k0_pay125 (View.ld R rR1)⟩,
    ⟨rS0, k0_pay124 (View.ld R rR0)⟩]

/-- The row blocks fill the array. -/
theorem cover_rowBlocks (p0 p1 p2 p3 p4 p5 p6 p7 : Vec F S1x1x2x1024 .f32) (y : S1x8x2x1024.Idx) :
    ∃ pc ∈ ([⟨rS7, p7⟩, ⟨rS6, p6⟩, ⟨rS5, p5⟩, ⟨rS4, p4⟩, ⟨rS3, p3⟩, ⟨rS2, p2⟩, ⟨rS1, p1⟩, ⟨rS0, p0⟩] : List (View.Piece (Elt F) S1x8x2x1024 .f32)), y ∈ pc.1.set :=
  View.cover_of_tiled [⟨rS7, p7⟩, ⟨rS6, p6⟩, ⟨rS5, p5⟩, ⟨rS4, p4⟩, ⟨rS3, p3⟩, ⟨rS2, p2⟩, ⟨rS1, p1⟩, ⟨rS0, p0⟩] S1x1x2x1024.size (by rfl) y
theorem cover_block (p : Vec F S512x128 .bf16) (y : S512x128.Idx) :
    ∃ pc ∈ ([⟨rB, p⟩] : List (View.Piece (Elt F) S512x128 .bf16)), y ∈ pc.1.set :=
  View.cover_of_tiled [⟨rB, p⟩] S512x128.size (by rfl) y
theorem cover_bias (p : Vec F S1x1x2x512 .f32) (y : S1x1x2x512.Idx) :
    ∃ pc ∈ ([⟨rN, p⟩] : List (View.Piece (Elt F) S1x1x2x512 .f32)), y ∈ pc.1.set :=
  View.cover_of_tiled [⟨rN, p⟩] S1x1x2x512.size (by rfl) y
theorem cover_all (p : Vec F S8192x128 .bf16) (y : S8192x128.Idx) :
    ∃ pc ∈ ([⟨rA, p⟩] : List (View.Piece (Elt F) S8192x128 .bf16)), y ∈ pc.1.set :=
  View.cover_of_tiled [⟨rA, p⟩] S8192x128.size (by rfl) y

/-- The set-up of a point: the loads of k, v and the bias. -/
theorem part18_run (c : Dev nD) (E : Set ℕ) (i : grid0.Coords) (arg2 : Memref sig .tc .vmem S8192x128 .bf16) (harg2 : arg2.IsWhole) (arg3 : Memref sig .tc .vmem S512x128 .bf16) (harg3 : arg3.IsWhole) (arg4 : Memref sig .tc .vmem S512x128 .bf16) (harg4 : arg4.IsWhole) (arg5 : Memref sig .tc .vmem S1x1x2x512 .f32) (harg5 : arg5.IsWhole) (arg6 : Memref sig .tc .vmem S8192x128 .bf16) (harg6 : arg6.IsWhole) (arg7 : Memref sig .tc .vmem S1x8192x128 .f32) (harg7 : arg7.IsWhole) (arg8 : Memref sig .tc .vmem S8192x128 .bf16) (harg8 : arg8.IsWhole) (arg9 : Memref sig .tc .vmem S8x128x1024 .bf16) (harg9 : arg9.IsWhole) (arg10 : Memref sig .tc .vmem S8x128x1024 .bf16) (harg10 : arg10.IsWhole) (arg11 : Memref sig .tc .vmem S8192x128 .bf16) (harg11 : arg11.IsWhole) (arg12 : Memref sig .tc .vmem S512x128 .bf16) (harg12 : arg12.IsWhole) (arg13 : Memref sig .tc .vmem S512x128 .bf16) (harg13 : arg13.IsWhole) (arg14 : Memref sig .tc .vmem S1x1x2x512 .f32) (harg14 : arg14.IsWhole) (arg15 : Memref sig .tc .vmem S1x8x2x1024 .f32) (harg15 : arg15.IsWhole) (arg16 : Memref sig .tc .vmem S8192x128 .f32) (harg16 : arg16.IsWhole) (arg17 : Memref sig .tc .vmem S8192x128 .f32) (harg17 : arg17.IsWhole) (arg18 : Memref sig .tc .vmem S8192x128 .f32) (harg18 : arg18.IsWhole)
    (x3 x4 : Vec F S512x128 .bf16) (x5 : Vec F S1x1x2x512 .f32) :
    (iprop(owns (c : Thread nD τ) arg3 fullShare x3 ∗ owns (c : Thread nD τ) arg4 fullShare x4 ∗ owns (c : Thread nD τ) arg5 fullShare x5) : sProp 𝕄)
      ⊢ wp frame (wpE (defs₀ (F := F)) Variants.none c none) E
          (k0_part18 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18)
          (fun r => iprop(owns (c : Thread nD τ) arg3 fullShare x3 ∗ owns (c : Thread nD τ) arg4 fullShare x4 ∗ owns (c : Thread nD τ) arg5 fullShare x5
            ∗ ⌜r = ⟨BitVec.ofNat 32 (i 1).val, k0_pay133, k0_pay134, k0_pay135, k0_pay136, k0_pay137, k0_pay138, k0_pay139, k0_pay140,
                View.ld x3 rB, View.ld x4 rB, k0_pay142 (View.ld x3 rB), k0_pay143 (View.ld x3 rB), k0_pay144 (View.ld x5 rN),
                iota .tc S1024x512 32 [0] iota_S1024x512_d0_w32, iota .tc S1024x512 32 [1] iota_S1024x512_d1_w32⟩⌝)) := by
  simp only [k0_part18_eq_skeleton]
  unfold k0_part18_skel
  unfold owns
  iintro ⟨⟨%f3, %h3, H3⟩, ⟨%f4, %h4, H4⟩, ⟨%f5, %h5, H5⟩⟩
  subst h3 h4 h5
  sl_exec
  sl_step
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  ipureintro
  sl_unfold_run_names; rfl

/-- The loop over the row blocks below the diagonal: from the state `s` it leaves the state `V` its trips lead to. -/
theorem loop_run (c : Dev nD) (E : Set ℕ) (i : grid0.Coords) (arg2 : Memref sig .tc .vmem S8192x128 .bf16) (harg2 : arg2.IsWhole) (arg3 : Memref sig .tc .vmem S512x128 .bf16) (harg3 : arg3.IsWhole) (arg4 : Memref sig .tc .vmem S512x128 .bf16) (harg4 : arg4.IsWhole) (arg5 : Memref sig .tc .vmem S1x1x2x512 .f32) (harg5 : arg5.IsWhole) (arg6 : Memref sig .tc .vmem S8192x128 .bf16) (harg6 : arg6.IsWhole) (arg7 : Memref sig .tc .vmem S1x8192x128 .f32) (harg7 : arg7.IsWhole) (arg8 : Memref sig .tc .vmem S8192x128 .bf16) (harg8 : arg8.IsWhole) (arg9 : Memref sig .tc .vmem S8x128x1024 .bf16) (harg9 : arg9.IsWhole) (arg10 : Memref sig .tc .vmem S8x128x1024 .bf16) (harg10 : arg10.IsWhole) (arg11 : Memref sig .tc .vmem S8192x128 .bf16) (harg11 : arg11.IsWhole) (arg12 : Memref sig .tc .vmem S512x128 .bf16) (harg12 : arg12.IsWhole) (arg13 : Memref sig .tc .vmem S512x128 .bf16) (harg13 : arg13.IsWhole) (arg14 : Memref sig .tc .vmem S1x1x2x512 .f32) (harg14 : arg14.IsWhole) (arg15 : Memref sig .tc .vmem S1x8x2x1024 .f32) (harg15 : arg15.IsWhole) (arg16 : Memref sig .tc .vmem S8192x128 .f32) (harg16 : arg16.IsWhole) (arg17 : Memref sig .tc .vmem S8192x128 .f32) (harg17 : arg17.IsWhole) (arg18 : Memref sig .tc .vmem S8192x128 .f32) (harg18 : arg18.IsWhole)
    (x2 : Vec F S8192x128 .bf16) (x7 : Vec F S1x8192x128 .f32) (x8 : Vec F S8192x128 .bf16) (x9 x10 : Vec F S8x128x1024 .bf16) (D : Vec F S8192x128 .f32)
    (kb vb : Vec F S512x128 .bf16) (nb : FVec F S2x512 .f32) (w : BitVec 32)
    (s V : Sums F × Vec F S8192x128 .f32 × Vec F S8192x128 .f32) (hV : V = loopAt i x2 x7 x8 x9 x10 D kb vb nb s (k0_t1_loop i).trips) :
    iprop(reads c arg2 arg7 arg8 arg9 arg10 arg16 x2 x7 x8 x9 x10 D
      ∗ owns (c : Thread nD τ) arg17 fullShare s.2.1 ∗ owns (c : Thread nD τ) arg18 fullShare s.2.2)
      ⊢ wp frame (wpE (defs₀ (F := F)) Variants.none c none) E
          (Scf.Loop.for (k0_t1_loop i) (k0_t1_ok i) s.1 (k0_t1_body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 k0_pay133 k0_pay134 k0_pay135 k0_pay136 k0_pay137 k0_pay138 k0_pay139 k0_pay140 kb vb (k0_pay142 kb) (k0_pay143 kb) nb w))
          (fun acc => iprop(reads c arg2 arg7 arg8 arg9 arg10 arg16 x2 x7 x8 x9 x10 D
            ∗ owns (c : Thread nD τ) arg17 fullShare V.2.1 ∗ owns (c : Thread nD τ) arg18 fullShare V.2.2 ∗ ⌜acc = V.1⌝)) := by
  subst hV
  refine BIBase.Entails.trans ?_ (Scf.wp_for frame (wpE (defs₀ (F := F)) Variants.none c none) E _ _ _ (k0_t1_ok i) s.1 _ _
    (loopInv_step c E i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x2 x7 x8 x9 x10 D kb vb nb w s))
  unfold loopInv
  iintro ⟨HR, H17, H18⟩
  isplitl
  swap; · iintro %acc H; iexact H
  isplitl [HR]; · iexact HR
  isplitl [H17]; · iexact H17
  isplitl [H18]; · iexact H18
  ipureintro; rfl

/-- The point's run. `V` names the state after the loop. -/
theorem point_run (c : Dev nD) (E : Set ℕ) (i : grid0.Coords) (arg2 : Memref sig .tc .vmem S8192x128 .bf16) (harg2 : arg2.IsWhole) (arg3 : Memref sig .tc .vmem S512x128 .bf16) (harg3 : arg3.IsWhole) (arg4 : Memref sig .tc .vmem S512x128 .bf16) (harg4 : arg4.IsWhole) (arg5 : Memref sig .tc .vmem S1x1x2x512 .f32) (harg5 : arg5.IsWhole) (arg6 : Memref sig .tc .vmem S8192x128 .bf16) (harg6 : arg6.IsWhole) (arg7 : Memref sig .tc .vmem S1x8192x128 .f32) (harg7 : arg7.IsWhole) (arg8 : Memref sig .tc .vmem S8192x128 .bf16) (harg8 : arg8.IsWhole) (arg9 : Memref sig .tc .vmem S8x128x1024 .bf16) (harg9 : arg9.IsWhole) (arg10 : Memref sig .tc .vmem S8x128x1024 .bf16) (harg10 : arg10.IsWhole) (arg11 : Memref sig .tc .vmem S8192x128 .bf16) (harg11 : arg11.IsWhole) (arg12 : Memref sig .tc .vmem S512x128 .bf16) (harg12 : arg12.IsWhole) (arg13 : Memref sig .tc .vmem S512x128 .bf16) (harg13 : arg13.IsWhole) (arg14 : Memref sig .tc .vmem S1x1x2x512 .f32) (harg14 : arg14.IsWhole) (arg15 : Memref sig .tc .vmem S1x8x2x1024 .f32) (harg15 : arg15.IsWhole) (arg16 : Memref sig .tc .vmem S8192x128 .f32) (harg16 : arg16.IsWhole) (arg17 : Memref sig .tc .vmem S8192x128 .f32) (harg17 : arg17.IsWhole) (arg18 : Memref sig .tc .vmem S8192x128 .f32) (harg18 : arg18.IsWhole)
    (x2 : Vec F S8192x128 .bf16) (x3 x4 : Vec F S512x128 .bf16) (x5 : Vec F S1x1x2x512 .f32) (x6 : Vec F S8192x128 .bf16) (x7 : Vec F S1x8192x128 .f32)
    (x8 : Vec F S8192x128 .bf16) (x9 x10 : Vec F S8x128x1024 .bf16)
    (o11 : Vec F S8192x128 .bf16) (o12 o13 : Vec F S512x128 .bf16) (o14 : Vec F S1x1x2x512 .f32) (o15 : Vec F S1x8x2x1024 .f32)
    (D R Q : Vec F S8192x128 .f32) (V : Sums F × Vec F S8192x128 .f32 × Vec F S8192x128 .f32)
    (hV : V = point i x2 x3 x4 x5 x6 x7 x8 x9 x10 D R Q) :
    iprop((reads c arg2 arg7 arg8 arg9 arg10 arg16 x2 x7 x8 x9 x10 D ∗ owns (c : Thread nD τ) arg6 fullShare x6
        ∗ owns (c : Thread nD τ) arg17 fullShare R ∗ owns (c : Thread nD τ) arg18 fullShare Q)
      ∗ (owns (c : Thread nD τ) arg3 fullShare x3 ∗ owns (c : Thread nD τ) arg4 fullShare x4 ∗ owns (c : Thread nD τ) arg5 fullShare x5)
      ∗ owns (c : Thread nD τ) arg11 fullShare o11 ∗ owns (c : Thread nD τ) arg12 fullShare o12 ∗ owns (c : Thread nD τ) arg13 fullShare o13
      ∗ owns (c : Thread nD τ) arg14 fullShare o14 ∗ owns (c : Thread nD τ) arg15 fullShare o15)
      ⊢ wp frame (wpE (defs₀ (F := F)) Variants.none c none) E
          (cc0_fox_bwd (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18)
          (fun _ => iprop((reads c arg2 arg7 arg8 arg9 arg10 arg16 x2 x7 x8 x9 x10 (initD i x6 x8 D) ∗ owns (c : Thread nD τ) arg6 fullShare x6
              ∗ owns (c : Thread nD τ) arg17 fullShare V.2.1 ∗ owns (c : Thread nD τ) arg18 fullShare V.2.2)
            ∗ (owns (c : Thread nD τ) arg3 fullShare x3 ∗ owns (c : Thread nD τ) arg4 fullShare x4 ∗ owns (c : Thread nD τ) arg5 fullShare x5)
            ∗ owns (c : Thread nD τ) arg11 fullShare (if k0_cond3 i = 1#1 then outQ V.2.2 else o11) ∗ owns (c : Thread nD τ) arg12 fullShare (outK V.1)
            ∗ owns (c : Thread nD τ) arg13 fullShare (outV V.1) ∗ owns (c : Thread nD τ) arg14 fullShare (outN V.1)
            ∗ owns (c : Thread nD τ) arg15 fullShare (if k0_cond3 i = 1#1 then outR V.2.1 else o15))) := by
  have htr := trips2_eq i
  simp only [cc0_fox_bwd_eq_skeleton]
  unfold cc0_fox_bwd_skel
  iintro ⟨⟨HR, H6, H17, H18⟩, H345, H11, H12, H13, H14, H15⟩
  rw [wp_bind]
  iapply (wp_wand_r _ _ _)
  isplitl [H345]
  · iapply (part18_run c E i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x3 x4 x5); iexact H345
  iintro %r ⟨H3, H4, H5, %hr⟩
  subst hr
  dsimp only
  rw [wp_bind]
  iapply (wp_wand_r _ _ _)
  isplitl [HR H6 H17 H18]
  · iapply (part19_run c E i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x2 x6 x7 x8 x9 x10 D R Q (View.ld x3 rB) (View.ld x4 rB) (k0_pay144 (View.ld x5 rN)))
    isplitl [HR]; · iexact HR
    isplitl [H6]; · iexact H6
    isplitl [H17]; · iexact H17
    iexact H18
  iintro %r ⟨HR, H6, H17, H18, %hr⟩
  subst hr
  dsimp only
  rw [wp_bind]
  iapply (wp_wand_r _ _ _)
  isplitl [HR H17 H18]
  · iapply (loop_run c E i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x2 x7 x8 x9 x10 (initD i x6 x8 D) (View.ld x3 rB) (View.ld x4 rB) (k0_pay144 (View.ld x5 rN)) (Scalar.addi (blk i) 1#32)
      (diag i x2 x7 x8 x9 x10 (View.ld x3 rB) (View.ld x4 rB) (k0_pay144 (View.ld x5 rN)) (initD i x6 x8 D) (initR i R) (initQ i Q)) V hV)
    isplitl [HR]; · iexact HR
    isplitl [H17]; · iexact H17
    iexact H18
  iintro %acc ⟨HR, H17, H18, %ha⟩
  subst ha
  clear hV
  obtain ⟨⟨a0, a1, a2⟩, R', Q'⟩ := V
  dsimp only
  by_cases hl : k0_cond3 i = 1#1
  · rw [if_pos hl, if_pos hl]
    unfold owns
    icases H11 with ⟨%f11, %h11, H11⟩
    icases H12 with ⟨%f12, %h12, H12⟩
    icases H13 with ⟨%f13, %h13, H13⟩
    icases H14 with ⟨%f14, %h14, H14⟩
    icases H15 with ⟨%f15, %h15, H15⟩
    icases H17 with ⟨%f17, %h17, H17⟩
    icases H18 with ⟨%f18, %h18, H18⟩
    subst h17 h18
    sl_exec
    sl_step
    isplitl [HR H6 H17 H18]
    · isplitl [HR]; · iexact HR
      isplitl [H6]; · iexact H6
      isplitl [H17]
      · iexists f17; isplitr; · ipureintro; rfl
        iexact H17
      iexists f18; isplitr; · ipureintro; rfl
      iexact H18
    isplitl [H3 H4 H5]
    · isplitl [H3]; · iexact H3
      isplitl [H4]; · iexact H4
      iexact H5
    isplitl [H11]
    · iexists _; isplitr
      swap; · iexact H11
      ipureintro; exact View.read_writes_eq_canon _ _ _ (cover_all _)
    isplitl [H12]
    · iexists _; isplitr
      swap; · iexact H12
      ipureintro; exact View.read_writes_eq_canon _ _ _ (cover_block _)
    isplitl [H13]
    · iexists _; isplitr
      swap; · iexact H13
      ipureintro; exact View.read_writes_eq_canon _ _ _ (cover_block _)
    isplitl [H14]
    · iexists _; isplitr
      swap; · iexact H14
      ipureintro; exact View.read_writes_eq_canon _ _ _ (cover_bias _)
    iexists _; isplitr
    swap; · iexact H15
    ipureintro; sl_unfold_run_names; exact View.read_writes_eq_canon _ _ _ (cover_rowBlocks _ _ _ _ _ _ _ _)
  · rw [if_neg hl, if_neg hl]
    unfold owns
    icases H12 with ⟨%f12, %h12, H12⟩
    icases H13 with ⟨%f13, %h13, H13⟩
    icases H14 with ⟨%f14, %h14, H14⟩
    sl_exec
    sl_step
    isplitl [HR H6 H17 H18]
    · isplitl [HR]; · iexact HR
      isplitl [H6]; · iexact H6
      isplitl [H17]; · iexact H17
      iexact H18
    isplitl [H3 H4 H5]
    · isplitl [H3]; · iexact H3
      isplitl [H4]; · iexact H4
      iexact H5
    isplitl [H11]; · iexact H11
    isplitl [H12]
    · iexists _; isplitr
      swap; · iexact H12
      ipureintro; exact View.read_writes_eq_canon _ _ _ (cover_block _)
    isplitl [H13]
    · iexists _; isplitr
      swap; · iexact H13
      ipureintro; exact View.read_writes_eq_canon _ _ _ (cover_block _)
    isplitl [H14]
    · iexists _; isplitr
      swap; · iexact H14
      ipureintro; exact View.read_writes_eq_canon _ _ _ (cover_bias _)
    iexact H15

end Cert.Proof.Fox

end
-- ==== Proof.Run.lean ====
/-
  The run of the kernel's pipeline: the carried arrays from point to point, the proof data, the body obligation and the launch; from
  them that every run ends with the arguments as they were and every counter at zero, and what the five result arrays hold.
-/
module

public import proofs.«01_k».proof.Proof.Body
public import proofs.«01_k».proof.Proof.Gen.KernelIdeal.Frame
public import Idealize.ShloMosaic.Lib.Claim

@[expose] public section

noncomputable section

namespace Cert.Proof.Fox

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The carried arrays -/

/-- A point whose first-point test holds does not depend on what the carried arrays held. -/
theorem point_first (i : grid0.Coords) (h : first i = 1#1) (x2 : Vec F S8192x128 .bf16) (x3 x4 : Vec F S512x128 .bf16) (x5 : Vec F S1x1x2x512 .f32)
    (x6 : Vec F S8192x128 .bf16) (x7 : Vec F S1x8192x128 .f32) (x8 : Vec F S8192x128 .bf16) (x9 x10 : Vec F S8x128x1024 .bf16)
    (D R Q D' R' Q' : Vec F S8192x128 .f32) :
    point i x2 x3 x4 x5 x6 x7 x8 x9 x10 D R Q = point i x2 x3 x4 x5 x6 x7 x8 x9 x10 D' R' Q' := by
  unfold point
  rw [show initD i x6 x8 D = initD i x6 x8 D' from (if_pos h).trans (if_pos h).symm,
    show initR i R = initR i R' from (if_pos h).trans (if_pos h).symm, show initQ i Q = initQ i Q' from (if_pos h).trans (if_pos h).symm]

/-- Point `t` from the carried arrays `s`: the running sums, `R` and `Q` after it. -/
def at_ (c : Dev nD) (t : Fin cfg0.N) (s : Vec F S8192x128 .f32 × Vec F S8192x128 .f32 × Vec F S8192x128 .f32) :
    Sums F × Vec F S8192x128 .f32 × Vec F S8192x128 .f32 :=
  point (grid0.coords t) (iblk m c 0 t) (iblk m c 1 t) (iblk m c 2 t) (iblk m c 3 t) (iblk m c 4 t) (iblk m c 5 t) (iblk m c 6 t) (iblk m c 7 t) (iblk m c 8 t) s.1 s.2.1 s.2.2

/-- The carried arrays after point `t`, from those before it. -/
def nextAt (c : Dev nD) (t : Fin cfg0.N) (s : Vec F S8192x128 .f32 × Vec F S8192x128 .f32 × Vec F S8192x128 .f32) :
    Vec F S8192x128 .f32 × Vec F S8192x128 .f32 × Vec F S8192x128 .f32 :=
  (initD (grid0.coords t) (iblk m c 4 t) (iblk m c 6 t) s.1, (at_ m c t s).2.1, (at_ m c t s).2.2)

def next (c : Dev nD) (n : ℕ) (s : Vec F S8192x128 .f32 × Vec F S8192x128 .f32 × Vec F S8192x128 .f32) : Vec F S8192x128 .f32 × Vec F S8192x128 .f32 × Vec F S8192x128 .f32 :=
  if h : n < cfg0.N then nextAt m c ⟨n, h⟩ s else s

/-- The carried arrays `D`, `R`, `Q` before point `n` (before point 0 of no account). -/
def carried (c : Dev nD) (n : ℕ) : Vec F S8192x128 .f32 × Vec F S8192x128 .f32 × Vec F S8192x128 .f32 :=
  Nat.rec (k0_pay17 (F := F), k0_pay17 (F := F), k0_pay17 (F := F)) (fun n s => next m c n s) n

theorem carried_at (c : Dev nD) (n : ℕ) (h : n < cfg0.N) : carried m c (n + 1) = nextAt m c ⟨n, h⟩ (carried m c n) :=
  show next m c n (carried m c n) = _ from dif_pos h

theorem carried_succ (c : Dev nD) : ∀ t : Fin cfg0.N, carried m c (t.val + 1) = nextAt m c t (carried m c t.val)
  | ⟨n, h⟩ => carried_at m c n h

/-- The second coordinate of a point. -/
theorem coord1 : ∀ t : Fin cfg0.N, (grid0.coords t 1).val = t.val % 16 :=
  (by decide +kernel : ∀ t : Fin grid0.N, (grid0.coords t 1).val = t.val % 16)
theorem coord0 : ∀ t : Fin cfg0.N, (grid0.coords t 0).val = t.val / 16 :=
  (by decide +kernel : ∀ t : Fin grid0.N, (grid0.coords t 0).val = t.val / 16)

/-- The carried arrays as the invariant holds them: after the first point they are `carried`. -/
def inv (c : Dev nD) (p : Fin (cfg0.N + 1)) : sProp 𝕄 :=
  iprop(∃ D R Q, ⌜p.val ≠ 0 → ((D, R, Q) : Vec F S8192x128 .f32 × Vec F S8192x128 .f32 × Vec F S8192x128 .f32) = carried m c p.val⌝
    ∗ owns (c : Thread nD τ) (Memref.whole cc0_scratch0) fullShare D ∗ owns (c : Thread nD τ) (Memref.whole cc0_scratch1) fullShare R
    ∗ owns (c : Thread nD τ) (Memref.whole cc0_scratch2) fullShare Q ∗ ∃ r, prngReg c r)

/-! ## The proof data -/

/-- The arrays as the region finds them; after the body at point `t` each input's block as it was and each output's as `point` says. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => outQ (at_ m c t (carried m c t.val)).2.2
    | ⟨10, _⟩ => outK (at_ m c t (carried m c t.val)).1
    | ⟨11, _⟩ => outV (at_ m c t (carried m c t.val)).1
    | ⟨12, _⟩ => outN (at_ m c t (carried m c t.val)).1
    | ⟨13, _⟩ => outR (at_ m c t (carried m c t.val)).2.1
  Φ p := inv m c p
  q w := Pipeline.shareOf spec0 w
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = outQ (at_ m c t (carried m c t.val)).2.2 := by dsimp only [dats]
theorem after0_10 (c : Dev nD) (t : Fin cfg0.N) : (dats m 0 c).after 10 t = outK (at_ m c t (carried m c t.val)).1 := by dsimp only [dats]
theorem after0_11 (c : Dev nD) (t : Fin cfg0.N) : (dats m 0 c).after 11 t = outV (at_ m c t (carried m c t.val)).1 := by dsimp only [dats]
theorem after0_12 (c : Dev nD) (t : Fin cfg0.N) : (dats m 0 c).after 12 t = outN (at_ m c t (carried m c t.val)).1 := by dsimp only [dats]
theorem after0_13 (c : Dev nD) (t : Fin cfg0.N) : (dats m 0 c).after 13 t = outR (at_ m c t (carried m c t.val)).2.1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d

/-! ## The body obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d)))

/-- and what it returns: the two outputs written only at a head pair's last point are handed back as found at the others. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ (dats m 0 c).leavesExact 9 t
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ (dats m 0 c).leavesExact 13 t)

theorem idle9 (t : Fin cfg0.N) : cfg0.idle 9 (cfg0.grid.coords t) = !(k0_cond3 (grid0.coords t) == 1#1) := rfl
theorem idle13 (t : Fin cfg0.N) : cfg0.idle 13 (cfg0.grid.coords t) = !(k0_cond3 (grid0.coords t) == 1#1) := rfl

/-- What a point written only at the last returns, in one form: the written value at the last point, what was found elsewhere. -/
theorem leaves9 (c : Dev nD) (t : Fin cfg0.N) (d) :
    owns (c : Thread nD τ) (st0_9 t) fullShare (if k0_cond3 (grid0.coords t) = 1#1 then outQ (at_ m c t (carried m c t.val)).2.2 else (dats m 0 c).before 9 t d)
      ⊢ (dats m 0 c).leavesExact 9 t := by
  by_cases hl : k0_cond3 (grid0.coords t) = 1#1
  · rw [if_pos hl]
    have hi : cfg0.idle 9 (cfg0.grid.coords t) = false := by rw [idle9, hl]; rfl
    unfold Dat.leavesExact; rw [hi]
    rw [after0_9]
  · rw [if_neg hl]
    have hi : cfg0.idle 9 (cfg0.grid.coords t) = true := by rw [idle9]; simp [hl]
    have hf : (cfg0.win 9).flush t = false := by
      rw [Bool.eq_false_iff]; intro h; rw [flush0_9] at h; exact hl ((last_iff _).mpr ((coord1 t).trans h))
    rw [Dat.leavesExact_idle _ 9 t hi hf]
    iintro H; iexists d; iexact H
theorem leaves13 (c : Dev nD) (t : Fin cfg0.N) (d) :
    owns (c : Thread nD τ) (st0_13 t) fullShare (if k0_cond3 (grid0.coords t) = 1#1 then outR (at_ m c t (carried m c t.val)).2.1 else (dats m 0 c).before 13 t d)
      ⊢ (dats m 0 c).leavesExact 13 t := by
  by_cases hl : k0_cond3 (grid0.coords t) = 1#1
  · rw [if_pos hl]
    have hi : cfg0.idle 13 (cfg0.grid.coords t) = false := by rw [idle13, hl]; rfl
    unfold Dat.leavesExact; rw [hi]
    rw [after0_13]
  · rw [if_neg hl]
    have hi : cfg0.idle 13 (cfg0.grid.coords t) = true := by rw [idle13]; simp [hl]
    have hf : (cfg0.win 13).flush t = false := by
      rw [Bool.eq_false_iff]; intro h; rw [flush0_13] at h; exact hl ((last_iff _).mpr ((coord1 t).trans h))
    rw [Dat.leavesExact_idle _ 13 t hi hf]
    iintro H; iexists d; iexact H

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8]
  rw [show (dats m 0 c).owesAt () t.succ = (dats m 0 c).owesAt () t.castSucc from rfl,
    show (dats m 0 c).Φ t.castSucc = inv m c t.castSucc from rfl, show (dats m 0 c).Φ t.succ = inv m c t.succ from rfl,
    after0_0, after0_1, after0_2, after0_3, after0_4, after0_5, after0_6, after0_7, after0_8, after0_10, after0_11, after0_12]
  unfold inv
  iintro ⟨⟨%D, %R, %Q, %hs, HD, HR, HQ, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
  have e : at_ m c t (D, R, Q) = at_ m c t (carried m c t.val) ∧
      initD (grid0.coords t) (iblk m c 4 t) (iblk m c 6 t) D = initD (grid0.coords t) (iblk m c 4 t) (iblk m c 6 t) (carried m c t.val).1 := by
    by_cases h0 : t.val = 0
    · have hf : first (grid0.coords t) = 1#1 := (first_iff _).mpr (by rw [coord1, h0])
      exact ⟨point_first _ hf _ _ _ _ _ _ _ _ _ _ _ _ _ _ _, (if_pos hf).trans (if_pos hf).symm⟩
    · have h := hs h0
      constructor
      · exact congrArg (at_ m c t) h
      · exact congrArg (fun s => initD (grid0.coords t) (iblk m c 4 t) (iblk m c 6 t) s.1) h
  iapply (wp_wand_r _ _ _)
  isplitl [H0 H1 H2 H3 H4 H5 H6 H7 H8 H9 H10 H11 H12 H13 HD HR HQ]
  · iapply (point_run c Set.univ (grid0.coords t) _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t)
      ((dats m 0 c).before 9 t d9) ((dats m 0 c).before 10 t d10) ((dats m 0 c).before 11 t d11) ((dats m 0 c).before 12 t d12) ((dats m 0 c).before 13 t d13)
      D R Q (at_ m c t (carried m c t.val)) e.1.symm)
    unfold reads
    isplitl [H0 H4 H5 H6 H7 H8 HD HR HQ]
    · isplitl [H0 H5 H6 H7 H8 HD]
      · isplitl [H0]; · iexact H0
        isplitl [H5]; · iexact H5
        isplitl [H6]; · iexact H6
        isplitl [H7]; · iexact H7
        isplitl [H8]; · iexact H8
        iexact HD
      isplitl [H4]; · iexact H4
      isplitl [HR]; · iexact HR
      iexact HQ
    isplitl [H1 H2 H3]
    · isplitl [H1]; · iexact H1
      isplitl [H2]; · iexact H2
      iexact H3
    isplitl [H9]; · iexact H9
    isplitl [H10]; · iexact H10
    isplitl [H11]; · iexact H11
    isplitl [H12]; · iexact H12
    iexact H13
  unfold reads
  iintro %_ ⟨⟨⟨H0, H5, H6, H7, H8, HD⟩, H4, HR, HQ⟩, ⟨H1, H2, H3⟩, H9, H10, H11, H12, H13⟩
  isplitl [HD HR HQ Hg]
  · iexists _, _, _
    isplitr
    swap
    · isplitl [HD]; · iexact HD
      isplitl [HR]; · iexact HR
      isplitl [HQ]; · iexact HQ
      iexact Hg
    ipureintro
    intro _
    rw [show (t.succ : Fin (cfg0.N + 1)).val = t.val + 1 from rfl, carried_succ]; unfold nextAt; rw [e.2]
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iapply (leaves9 m c t d9); iexact H9
  isplitl [H10]; · iexact H10
  isplitl [H11]; · iexact H11
  isplitl [H12]; · iexact H12
  iapply (leaves13 m c t d13); iexact H13

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

/-- The region's scratch at any contents is the invariant before the first point, -/
theorem inv_in (c : Dev nD) : Pipeline.ΦA spec0 c ⊢ inv m c 0 := by
  unfold Pipeline.ΦA inv
  rw [scopedRest0_eq]
  iintro ⟨⟨⟨%a, Ha⟩, ⟨%b, Hb⟩, ⟨%d, Hd⟩⟩, Hg⟩
  iexists a, b, d
  isplitr; · ipureintro; intro h; exact absurd rfl h
  rw [owns_whole, owns_whole, owns_whole]
  isplitl [Ha]; · iexact Ha
  isplitl [Hb]; · iexact Hb
  isplitl [Hd]; · iexact Hd
  iexact Hg

/-- and the invariant after the last point gives it back. -/
theorem inv_out (c : Dev nD) : inv m c (Fin.last cfg0.N) ⊢ Pipeline.ΦA spec0 c := by
  unfold Pipeline.ΦA inv
  rw [scopedRest0_eq]
  simp only [owns_whole]
  iintro ⟨%D, %R, %Q, -, Ha, Hb, Hd, Hg⟩
  isplitl [Ha Hb Hd]
  · isplitl [Ha]; · iexists _; iexact Ha
    isplitl [Hb]; · iexists _; iexact Hb
    iexists _; iexact Hd
  iexact Hg

set_option backward.isDefEq.respectTransparency.types false in
/-- The launch: the arrays as the proof data says, and every semaphore counter at zero, at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun c w _ => rfl)
    (howed := fun _ _ => rfl) (V := V m) (hmain := hmain m Variants.none) (hA := A_eq m) (hin := inv_in m) (hout := inv_out m)

theorem run_main : θ_run defs (onTc (τ := τ) (main (F := F))) (s₀ m ρ) (Pipeline.FramePost cfgs (dats m) 0 (V m)) :=
  (θ_run defs _ _).mono (fun _ h => h.1) (run_main_quiescent m ρ)

theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

/-- The frame, at any values. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (unchanged m ρ) ((θ_run defs _ _).mono (fun _ h => h.2) (run_main_quiescent m ρ))

end Cert.Proof.Fox

end
-- ==== Proof.Same.lean ====
/- The kernel and its idealization are the same program: no operation was rewritten. -/
module
public import proofs.«01_k».proof.Kernel
public import proofs.«01_k».proof.KernelIdeal
public import Idealize.ShloMosaic.Adequacy
public import Idealize.ShloMosaic.Init
@[expose] public section

open Idealize.ShloMosaic
namespace Cert.Proof
variable {F : FTy → Type} [FloatOps F] [Cert.Kernel.Facts] [Cert.KernelIdeal.Facts]
set_option maxHeartbeats 2000000
/-- The body tables agree: the one label runs the same body. -/
theorem kernel_body : (Cert.Kernel.defs₀ (F := F)) = (Cert.KernelIdeal.defs₀ (F := F)) := by
  refine congrArg Defs.onTc (funext fun ℓ => funext fun a => ?_)
  match ℓ, a with
  | ⟨0, _⟩, (t, s) => rfl

/-- … and the tables with the pipeline's own labels. -/
theorem kernel_defs : (Cert.Kernel.defs (F := F)) = (Cert.KernelIdeal.defs (F := F)) :=
  congrArg (Pipeline.defs Cert.KernelIdeal.pcfgs) kernel_body
/-- … and the programs' text. -/
theorem kernel_main : (Cert.Kernel.main (F := F)) = (Cert.KernelIdeal.main (F := F)) := rfl
end Cert.Proof
end
-- ==== Proof.Spec.lean ====
/-
  The sums the kernel's body forms, over the extended reals, as functions of rows, columns and lanes: a block of rows `ι` against
  one block of 512 columns. Lanes 0–63 of a row belong to the first head of the pair, lanes 64–127 to the second; each head's
  operands carry ones in one spare lane of the other half, which collects the row (or column) sums.
-/
module

public import proofs.«01_k».proof.Proof.Step
public import Idealize.ShloMosaic.Lib.Pointwise

@[expose] public section

noncomputable section

namespace Cert.Proof.Fox

open Idealize.ShloMosaic Idealize.ShloMosaic.TcCoe

/-- Lane `e` belongs to head `h`. -/
abbrev half (h : Fin 2) (e : Fin 128) : Prop := e.val / 64 = h.val
/-- Lane `e` is the spare lane of head `h`. -/
abbrev spare (h : Fin 2) (e : Fin 128) : Prop := e.val = 64 - 64 * h.val
/-- The first lane of head `h`. -/
def hl (h : Fin 2) : Fin 128 := ⟨64 * h.val, by have := h.isLt; omega⟩

theorem hl_zero : hl 0 = 0 := rfl
theorem hl_one : hl 1 = 64 := rfl

/-- The scale of the scores, as the two formats spell it. -/
def w8 : EReal := Ideal.ofBits .bf16 0x3E00#16
def w8f : EReal := Ideal.ofBits .f32 0x3E000000#32

/-- A block of rows against a block of columns: which pairs are kept, the rows of q, of the output's gradient, of both again from
    their transposed copies, the rows' log-sums and deltas (one lane per head), the columns of k and v, and the columns' bias. -/
structure Blk (ι : Type) where
  M : ι → Fin 512 → Bool
  q : ι → Fin 128 → EReal
  qo : ι → Fin 128 → EReal
  qt : ι → Fin 128 → EReal
  dt : ι → Fin 128 → EReal
  l : ι → Fin 128 → EReal
  de : ι → Fin 128 → EReal
  k : Fin 512 → Fin 128 → EReal
  v : Fin 512 → Fin 128 → EReal
  nb : Fin 2 → Fin 512 → EReal

namespace Blk

variable {ι : Type} (B : Blk ι)

/-- The rows picked by `f`. -/
def comap {κ : Type} (f : κ → ι) : Blk κ :=
  ⟨fun r => B.M (f r), fun r => B.q (f r), fun r => B.qo (f r), fun r => B.qt (f r), fun r => B.dt (f r), fun r => B.l (f r),
    fun r => B.de (f r), B.k, B.v, B.nb⟩

/-- The probability of column `c` in row `r` for head `h`. -/
def P (h : Fin 2) (r : ι) (c : Fin 512) : EReal :=
  if B.M r c = true then
    Ideal.exp (∑ e, (if half h e then B.q r e * w8 * B.k c e else 0) + B.nb h c - B.l r (hl h)) else 0
/-- The gradient of the score. -/
def DS (h : Fin 2) (r : ι) (c : Fin 512) : EReal :=
  B.P h r c * (∑ e, (if half h e then B.qo r e * B.v c e else 0) - B.de r (hl h))
/-- Row `r`'s term of dv. -/
def cV (h : Fin 2) (r : ι) (e : Fin 128) (c : Fin 512) : EReal := (if half h e then B.dt r e else 0) * B.P h r c
/-- Row `r`'s term of dk, and in the spare lane of the column sum. -/
def cK (h : Fin 2) (r : ι) (e : Fin 128) (c : Fin 512) : EReal :=
  (if half h e then B.qt r e * w8 else if spare h e then 1 else 0) * B.DS h r c
/-- The columns' part of dq, and in the spare lane of the row sum. -/
def dqf (h : Fin 2) (r : ι) (e : Fin 128) : EReal :=
  ∑ c, B.DS h r c * (if half h e then B.k c e else if spare h e then 1 else 0)
def cQ (r : ι) (e : Fin 128) : EReal := (if half 0 e then B.dqf 0 r e else B.dqf 1 r e) * w8f
def cR (r : ι) (e : Fin 128) : EReal :=
  if spare 0 e then B.dqf 0 r e else if spare 1 e then B.dqf 1 r e else 0

end Blk

/-! ## The body's lane tests -/

theorem cmp_lt (e : Fin 128) : IntOp.cmpi .slt (BitVec.ofNat 32 e.val) 64#32 = if half 0 e then 1#1 else 0#1 := by
  revert e; decide
theorem cmp_ge (e : Fin 128) : IntOp.cmpi .sge (BitVec.ofNat 32 e.val) 64#32 = if half 1 e then 1#1 else 0#1 := by
  revert e; decide
theorem cmp_64 (e : Fin 128) : IntOp.cmpi .eq (BitVec.ofNat 32 e.val) 64#32 = if spare 0 e then 1#1 else 0#1 := by
  revert e; decide
theorem cmp_0 (e : Fin 128) : IntOp.cmpi .eq (BitVec.ofNat 32 e.val) 0#32 = if spare 1 e then 1#1 else 0#1 := by
  revert e; decide

theorem sel_ite {α : Type} (p : Prop) [Decidable p] (x y : α) :
    Scalar.select (if p then 1#1 else 0#1) x y = if p then x else y := by
  by_cases h : p <;> simp [h, Scalar.select]

theorem bite_mul (b : Bool) {_ : Decidable (b = true)} (x y : EReal) : (if b = true then x else 0) * y = if b = true then x * y else 0 := by
  cases b <;> simp
theorem mul_bite (b : Bool) {_ : Decidable (b = true)} (x y : EReal) : y * (if b = true then x else 0) = if b = true then y * x else 0 := by
  cases b <;> simp

/-! ## The terms with the mask outermost -/

namespace Blk

variable {ι : Type} (B : Blk ι)

theorem DS_eq (h : Fin 2) (r : ι) (c : Fin 512) : B.DS h r c = if B.M r c = true then
    Ideal.exp (∑ e, (if half h e then B.q r e * w8 * B.k c e else 0) + B.nb h c - B.l r (hl h))
      * (∑ e, (if half h e then B.qo r e * B.v c e else 0) - B.de r (hl h)) else 0 := by
  simp only [DS, P, bite_mul]

theorem cV_eq (h : Fin 2) (r : ι) (e : Fin 128) (c : Fin 512) : B.cV h r e c = if B.M r c = true then
    (if half h e then B.dt r e * Ideal.exp (∑ e, (if half h e then B.q r e * w8 * B.k c e else 0) + B.nb h c - B.l r (hl h)) else 0) else 0 := by
  simp only [cV, P, mul_bite, ite_mul, zero_mul]
  cases B.M r c <;> simp

theorem cK_eq (h : Fin 2) (r : ι) (e : Fin 128) (c : Fin 512) : B.cK h r e c = if B.M r c = true then
    (if half h e then B.qt r e * w8 else if spare h e then 1 else 0)
      * (Ideal.exp (∑ e, (if half h e then B.q r e * w8 * B.k c e else 0) + B.nb h c - B.l r (hl h))
        * (∑ e, (if half h e then B.qo r e * B.v c e else 0) - B.de r (hl h))) else 0 := by
  simp only [cK, DS_eq, mul_bite]

theorem dqf_eq (h : Fin 2) (r : ι) (e : Fin 128) : B.dqf h r e = ∑ c, if B.M r c = true then
    Ideal.exp (∑ e, (if half h e then B.q r e * w8 * B.k c e else 0) + B.nb h c - B.l r (hl h))
      * (∑ e, (if half h e then B.qo r e * B.v c e else 0) - B.de r (hl h))
      * (if half h e then B.k c e else if spare h e then 1 else 0) else 0 := by
  simp only [dqf, DS_eq, bite_mul]

end Blk

/-- Halves exclude one another, and a lane is in one of the two. -/
theorem half_one_iff (e : Fin 128) : half 1 e ↔ ¬half 0 e := by
  have := e.isLt
  simp only [half, Fin.val_one, Fin.val_zero]
  omega

end Cert.Proof.Fox

end
-- ==== Proof.Cells.lean ====
/-
  What the body's payloads compute at an index, over the extended reals: one trip of the loop, and the diagonal step in its even
  and its odd form, as the sums of `Proof/Spec.lean`.
-/
module

public import proofs.«01_k».proof.Proof.Spec

@[expose] public section

noncomputable section

namespace Cert.Proof.Fox

open Cert.KernelIdeal Cert.KernelIdeal.Gen
open Idealize.ShloMosaic Idealize.ShloMosaic.TcCoe

section Full

variable (M : Fin 1024 → Fin 512 → Bool) (q qo : Vec Ideal S1024x128 .bf16) (qt dt : Vec Ideal S1x128x1024 .bf16) (l : Vec Ideal S1x1024x128 .f32)
  (de : Vec Ideal S1024x128 .f32) (kb vb : Vec Ideal S512x128 .bf16) (nb : FVec Ideal S2x512 .f32)

/-- A block of 1024 rows. -/
def bE : Blk (Fin 1024) where
  M := M
  q r e := q (ix2 r e)
  qo r e := qo (ix2 r e)
  qt r e := qt (ix3 0 e r)
  dt r e := dt (ix3 0 e r)
  l r e := l (ix3 0 r e)
  de r e := de (ix2 r e)
  k c e := kb (ix2 c e)
  v c e := vb (ix2 c e)
  nb h c := nb (ix2 h c)

variable (A : Sums Ideal) (R Q : Vec Ideal S1024x128 .f32)

theorem tS_k0 (e : Fin 128) (c : Fin 512) : (tS (F := Ideal) q qo qt dt l de kb vb nb A).1 (ix2 e c)
    = A.1 (ix2 e c) + ∑ r, (bE (fun _ _ => true) q qo qt dt l de kb vb nb).cK 0 r e c := by
  pointwise [tS, k0_pay99, k0_pay97, k0_pay96, k0_pay87, k0_pay90, k0_pay91, k0_pay92, k0_pay93, k0_pay133, k0_pay137, k0_pay139, k0_pay88]
  simp only [cmp_lt, cmp_ge, cmp_64, cmp_0, sel_ite]
  simp only [Blk.cK, Blk.DS, Blk.P, bE, if_true, hl_zero]
  rfl

theorem tS_k1 (e : Fin 128) (c : Fin 512) : (tS (F := Ideal) q qo qt dt l de kb vb nb A).2.1 (ix2 e c)
    = A.2.1 (ix2 e c) + ∑ r, (bE (fun _ _ => true) q qo qt dt l de kb vb nb).cK 1 r e c := by
  pointwise [tS, tP1, k0_pay3, k0_pay1, k0_pay101, k0_pay102, k0_pay104, k0_pay87, k0_pay90, k0_pay134, k0_pay138, k0_pay140, k0_pay88]
  simp only [cmp_lt, cmp_ge, cmp_64, cmp_0, sel_ite]
  simp only [Blk.cK, Blk.DS, Blk.P, bE, if_true, hl_one]
  rfl

theorem tS_v (e : Fin 128) (c : Fin 512) : (tS (F := Ideal) q qo qt dt l de kb vb nb A).2.2 (ix2 e c)
    = A.2.2 (ix2 e c) + ∑ r, (bE (fun _ _ => true) q qo qt dt l de kb vb nb).cV 0 r e c
      + ∑ r, (bE (fun _ _ => true) q qo qt dt l de kb vb nb).cV 1 r e c := by
  pointwise [tS, k0_pay2, k0_pay98, k0_pay96, tP1, k0_pay103, k0_pay104, k0_pay134, k0_pay87, k0_pay90, k0_pay89, k0_pay91, k0_pay94, k0_pay95, k0_pay133, k0_pay137, k0_pay138]
  simp only [cmp_lt, cmp_ge, cmp_64, cmp_0, sel_ite]
  simp only [Blk.cV, Blk.P, bE, if_true, hl_zero, hl_one, ite_mul, zero_mul]
  rfl

theorem tQ_at (r : Fin 1024) (e : Fin 128) : tQ (F := Ideal) q qo l de kb vb nb Q (ix2 r e)
    = Q (ix2 r e) + (bE (fun _ _ => true) q qo qt dt l de kb vb nb).cQ r e := by
  pointwise [tQ, tDq0, tP1, k0_pay5, k0_pay4, k0_pay1, k0_pay100, k0_pay97, k0_pay96, k0_pay87, k0_pay90, k0_pay91, k0_pay92, k0_pay101, k0_pay104, k0_pay133, k0_pay134, k0_pay135, k0_pay136, k0_pay142, k0_pay143, k0_pay141]
  simp only [cmp_lt, cmp_ge, cmp_64, cmp_0, sel_ite]
  simp only [Blk.cQ, Blk.dqf, Blk.DS, Blk.P, bE, if_true, hl_zero, hl_one]
  rfl

theorem tR_at (r : Fin 1024) (e : Fin 128) : tR (F := Ideal) q qo l de kb vb nb R (ix2 r e)
    = R (ix2 r e) + (bE (fun _ _ => true) q qo qt dt l de kb vb nb).cR r e := by
  pointwise [tR, tDq0, tP1, k0_pay6, k0_pay4, k0_pay1, k0_pay100, k0_pay97, k0_pay96, k0_pay87, k0_pay90, k0_pay91, k0_pay92, k0_pay101, k0_pay104, k0_pay133, k0_pay134, k0_pay135, k0_pay136, k0_pay142, k0_pay143, k0_pay141]
  simp only [cmp_lt, cmp_ge, cmp_64, cmp_0, sel_ite]
  simp only [Blk.cR, Blk.dqf, Blk.DS, Blk.P, bE, if_true, hl_zero, hl_one]
  rfl

variable (a b : BitVec 32)
  (hM : ∀ (r : Fin 1024) (c : Fin 512), IntOp.cmpi .sge (IntOp.subi (BitVec.ofNat 32 r.val) (BitVec.ofNat 32 c.val))
    (Scalar.subi (Scalar.muli a 512#32) (Scalar.muli b 1024#32)) = if M r c = true then 1#1 else 0#1)

include hM

theorem eS_k0 (e : Fin 128) (c : Fin 512) : (eS (F := Ideal) a b q qo qt dt l de kb vb nb).1 (ix2 e c)
    = ∑ r, (bE M q qo qt dt l de kb vb nb).cK 0 r e c := by
  pointwise [eS, k0_pay62, k0_pay63, k0_pay64, k0_pay65, k0_pay66, k0_pay67, k0_pay68, k0_pay69, k0_pay70, k0_pay71, k0_pay73, k0_pay133, k0_pay137, k0_pay139, k0_pay147, rel, k0_pay145]
  simp only [cmp_lt, cmp_ge, cmp_64, cmp_0, hM, sel_ite]
  simp only [Blk.cK_eq, bE, hl_zero]
  rfl

theorem eS_k1 (e : Fin 128) (c : Fin 512) : (eS (F := Ideal) a b q qo qt dt l de kb vb nb).2.1 (ix2 e c)
    = ∑ r, (bE M q qo qt dt l de kb vb nb).cK 1 r e c := by
  pointwise [eS, k0_pay62, k0_pay63, k0_pay64, k0_pay65, k0_pay75, k0_pay76, k0_pay77, k0_pay78, k0_pay79, k0_pay80, k0_pay82, k0_pay134, k0_pay138, k0_pay140, k0_pay147, rel, k0_pay145]
  simp only [cmp_lt, cmp_ge, cmp_64, cmp_0, hM, sel_ite]
  simp only [Blk.cK_eq, bE, hl_one]
  rfl

theorem eS_v (e : Fin 128) (c : Fin 512) : (eS (F := Ideal) a b q qo qt dt l de kb vb nb).2.2 (ix2 e c)
    = ∑ r, (bE M q qo qt dt l de kb vb nb).cV 0 r e c + ∑ r, (bE M q qo qt dt l de kb vb nb).cV 1 r e c := by
  pointwise [eS, k0_pay62, k0_pay63, k0_pay64, k0_pay65, k0_pay66, k0_pay69, k0_pay70, k0_pay72, k0_pay75, k0_pay76, k0_pay78, k0_pay79, k0_pay81, k0_pay133, k0_pay134, k0_pay137, k0_pay138, k0_pay147, rel, k0_pay145]
  simp only [cmp_lt, cmp_ge, cmp_64, cmp_0, hM, sel_ite]
  simp only [Blk.cV_eq, bE, hl_zero, hl_one]
  rfl

theorem eQ_at (r : Fin 1024) (e : Fin 128) : eQ (F := Ideal) a b q qo l de kb vb nb Q (ix2 r e)
    = Q (ix2 r e) + (bE M q qo qt dt l de kb vb nb).cQ r e := by
  pointwise [eQ, eDq0, k0_pay62, k0_pay65, k0_pay66, k0_pay67, k0_pay70, k0_pay71, k0_pay74, k0_pay75, k0_pay76, k0_pay79, k0_pay80, k0_pay83, k0_pay84, k0_pay133, k0_pay134, k0_pay135, k0_pay136, k0_pay141, k0_pay142, k0_pay143, rel, k0_pay145]
  simp only [cmp_lt, cmp_ge, cmp_64, cmp_0, hM, sel_ite]
  simp only [Blk.cQ, Blk.dqf_eq, bE, hl_zero, hl_one]
  rfl

theorem eR_at (r : Fin 1024) (e : Fin 128) : eR (F := Ideal) a b q qo l de kb vb nb R (ix2 r e)
    = R (ix2 r e) + (bE M q qo qt dt l de kb vb nb).cR r e := by
  pointwise [eR, eDq0, k0_pay62, k0_pay65, k0_pay66, k0_pay67, k0_pay70, k0_pay71, k0_pay74, k0_pay75, k0_pay76, k0_pay79, k0_pay80, k0_pay83, k0_pay85, k0_pay86, k0_pay149, k0_pay133, k0_pay134, k0_pay135, k0_pay136, k0_pay141, k0_pay142, k0_pay143, rel, k0_pay145]
  simp only [cmp_lt, cmp_ge, cmp_64, cmp_0, hM, sel_ite]
  simp only [Blk.cR, Blk.dqf_eq, bE, hl_zero, hl_one]
  rfl

end Full

section Lower

variable (M : Fin 512 → Fin 512 → Bool) (q qo : Vec Ideal S512x128 .bf16) (qt dt : Vec Ideal S1x128x1024 .bf16) (l : Vec Ideal S1x512x128 .f32)
  (de : Vec Ideal S512x128 .f32) (kb vb : Vec Ideal S512x128 .bf16) (nb : FVec Ideal S2x512 .f32)

/-- The lower half of a row block: its rows 512 to 1023. -/
def low (r : Fin 512) : Fin 1024 := ⟨512 + r.val, by have := r.isLt; omega⟩

def bO : Blk (Fin 512) where
  M := M
  q r e := q (ix2 r e)
  qo r e := qo (ix2 r e)
  qt r e := qt (ix3 0 e (low r))
  dt r e := dt (ix3 0 e (low r))
  l r e := l (ix3 0 r e)
  de r e := de (ix2 r e)
  k c e := kb (ix2 c e)
  v c e := vb (ix2 c e)
  nb h c := nb (ix2 h c)

variable (A : Sums Ideal) (R Q : Vec Ideal S512x128 .f32) (a b : BitVec 32)
  (hM : ∀ (r : Fin 512) (c : Fin 512), IntOp.cmpi .sge (IntOp.subi (BitVec.ofNat 32 (512 + r.val)) (BitVec.ofNat 32 c.val))
    (Scalar.subi (Scalar.muli a 512#32) (Scalar.muli b 1024#32)) = if M r c = true then 1#1 else 0#1)

include hM

theorem oS_k0 (e : Fin 128) (c : Fin 512) : (oS (F := Ideal) a b q qo qt dt l de kb vb nb).1 (ix2 e c)
    = ∑ r, (bO M q qo qt dt l de kb vb nb).cK 0 r e c := by
  pointwise [oS, k0_pay37, k0_pay38, k0_pay39, k0_pay40, k0_pay41, k0_pay42, k0_pay43, k0_pay44, k0_pay45, k0_pay46, k0_pay47, k0_pay48, k0_pay49, k0_pay51, k0_pay52, k0_pay53, k0_pay54, k0_pay55, k0_pay56, k0_pay57, k0_pay58, k0_pay133, k0_pay134, k0_pay137, k0_pay138, k0_pay139, k0_pay140, k0_pay147, rel, k0_pay145]
  simp only [cmp_lt, cmp_ge, cmp_64, cmp_0, hM, sel_ite]
  simp only [Blk.cK_eq, bO, hl_zero]
  rfl

theorem oS_k1 (e : Fin 128) (c : Fin 512) : (oS (F := Ideal) a b q qo qt dt l de kb vb nb).2.1 (ix2 e c)
    = ∑ r, (bO M q qo qt dt l de kb vb nb).cK 1 r e c := by
  pointwise [oS, k0_pay37, k0_pay38, k0_pay39, k0_pay40, k0_pay41, k0_pay42, k0_pay43, k0_pay44, k0_pay45, k0_pay46, k0_pay47, k0_pay48, k0_pay49, k0_pay51, k0_pay52, k0_pay53, k0_pay54, k0_pay55, k0_pay56, k0_pay57, k0_pay58, k0_pay133, k0_pay134, k0_pay137, k0_pay138, k0_pay139, k0_pay140, k0_pay147, rel, k0_pay145]
  simp only [cmp_lt, cmp_ge, cmp_64, cmp_0, hM, sel_ite]
  simp only [Blk.cK_eq, bO, hl_one]
  rfl

theorem oS_v (e : Fin 128) (c : Fin 512) : (oS (F := Ideal) a b q qo qt dt l de kb vb nb).2.2 (ix2 e c)
    = ∑ r, (bO M q qo qt dt l de kb vb nb).cV 0 r e c + ∑ r, (bO M q qo qt dt l de kb vb nb).cV 1 r e c := by
  pointwise [oS, k0_pay37, k0_pay38, k0_pay39, k0_pay40, k0_pay41, k0_pay42, k0_pay43, k0_pay44, k0_pay45, k0_pay46, k0_pay47, k0_pay48, k0_pay49, k0_pay51, k0_pay52, k0_pay53, k0_pay54, k0_pay55, k0_pay56, k0_pay57, k0_pay58, k0_pay133, k0_pay134, k0_pay137, k0_pay138, k0_pay139, k0_pay140, k0_pay147, rel, k0_pay145]
  simp only [cmp_lt, cmp_ge, cmp_64, cmp_0, hM, sel_ite]
  simp only [Blk.cV_eq, bO, hl_zero, hl_one]
  rfl

theorem oQ_at (r : Fin 512) (e : Fin 128) : oQ (F := Ideal) a b q qo l de kb vb nb Q (ix2 r e)
    = Q (ix2 r e) + (bO M q qo qt dt l de kb vb nb).cQ r e := by
  pointwise [oQ, oDq0, k0_pay37, k0_pay40, k0_pay41, k0_pay42, k0_pay46, k0_pay47, k0_pay50, k0_pay51, k0_pay52, k0_pay55, k0_pay56, k0_pay59, k0_pay60, k0_pay133, k0_pay134, k0_pay135, k0_pay136, k0_pay141, k0_pay142, k0_pay143, rel, k0_pay145]
  simp only [cmp_lt, cmp_ge, cmp_64, cmp_0, hM, sel_ite]
  simp only [Blk.cQ, Blk.dqf_eq, bO, hl_zero, hl_one]
  rfl

theorem oR_at (r : Fin 512) (e : Fin 128) : oR (F := Ideal) a b q qo l de kb vb nb R (ix2 r e)
    = R (ix2 r e) + (bO M q qo qt dt l de kb vb nb).cR r e := by
  pointwise [oR, oDq0, oDq1, k0_pay37, k0_pay40, k0_pay41, k0_pay42, k0_pay46, k0_pay47, k0_pay50, k0_pay51, k0_pay52, k0_pay55, k0_pay56, k0_pay59, k0_pay61, k0_pay133, k0_pay134, k0_pay135, k0_pay136, k0_pay141, k0_pay142, k0_pay143, k0_pay148, rel, k0_pay145]
  simp only [cmp_lt, cmp_ge, cmp_64, cmp_0, hM, sel_ite]
  simp only [Blk.cR, Blk.dqf_eq, bO, hl_zero, hl_one]
  rfl

end Lower

end Cert.Proof.Fox

end
-- ==== Proof.Rows.lean ====
/-
  Blocks of rows read and written: the arrays of all rows by row number, a block of them loaded at a row, and a block of rows stored.
-/
module

public import proofs.«01_k».proof.Proof.Cells
public import proofs.«01_k».proof.Proof.Offsets

@[expose] public section

noncomputable section

namespace Cert.Proof.Fox

open Cert.KernelIdeal Cert.KernelIdeal.Gen
open Idealize.ShloMosaic Idealize.ShloMosaic.TcCoe

/-- Row number `r` of 8192, and the row block and the row in it. -/
def fr (r : ℕ) : Fin 8192 := ⟨r % 8192, Nat.mod_lt _ (by decide)⟩
def frb (r : ℕ) : Fin 8 := ⟨r / 1024 % 8, Nat.mod_lt _ (by decide)⟩
def fri (r : ℕ) : Fin 1024 := ⟨r % 1024, Nat.mod_lt _ (by decide)⟩

theorem fr_val (r : Fin 8192) : fr r.val = r := Fin.ext (Nat.mod_eq_of_lt r.isLt)
theorem fr_of_lt {r : ℕ} (h : r < 8192) : (fr r).val = r := Nat.mod_eq_of_lt h

section Load

variable {t : EltTy}

theorem ld_rows (X : Vec Ideal S8192x128 t) {n off : ℕ} {o : Fin 2 → ℕ} (ho : o = ![off, 0])
    (inb : ∀ a : Fin 2, o a + (![n, 128] : Fin 2 → ℕ) a ≤ S8192x128.size a) (r : Fin n) (e : Fin 128) :
    View.ld X (Rect.unit (s := S8192x128) o ![n, 128] inb) (ix2 r e) = X (ix2 (fr (off + r.val)) e) := by
  subst ho
  have h : off + n ≤ 8192 := inb 0
  refine congrArg X (funext fun a => Fin.ext ?_)
  have hr := r.isLt
  match a with
  | ⟨0, _⟩ => show off + 1 * r.val = (off + r.val) % 8192; rw [Nat.mod_eq_of_lt (by omega)]; omega
  | ⟨1, _⟩ => show 0 + 1 * e.val = e.val; omega

theorem ld_rowsT (X : Vec Ideal S8x128x1024 t) {b : ℕ} {o : Fin 3 → ℕ} (ho : o = ![b, 0, 0])
    (inb : ∀ a : Fin 3, o a + (![1, 128, 1024] : Fin 3 → ℕ) a ≤ S8x128x1024.size a) (r : ℕ) (hr : r / 1024 = b) (e : Fin 128) :
    View.ld X (Rect.unit (s := S8x128x1024) o ![1, 128, 1024] inb) (ix3 0 e (fri r)) = X (ix3 (frb r) e (fri r)) := by
  subst ho
  have h : b + 1 ≤ 8 := inb 0
  refine congrArg X (funext fun a => Fin.ext ?_)
  match a with
  | ⟨0, _⟩ => show b + 1 * 0 = r / 1024 % 8; rw [hr, Nat.mod_eq_of_lt (by omega)]; omega
  | ⟨1, _⟩ => show 0 + 1 * e.val = e.val; omega
  | ⟨2, _⟩ => show 0 + 1 * (fri r).val = (fri r).val; omega

theorem ld_rowsL (X : Vec Ideal S1x8192x128 t) {n off : ℕ} {o : Fin 3 → ℕ} (ho : o = ![0, off, 0])
    (inb : ∀ a : Fin 3, o a + (![1, n, 128] : Fin 3 → ℕ) a ≤ S1x8192x128.size a) (r : Fin n) (e : Fin 128) :
    View.ld X (Rect.unit (s := S1x8192x128) o ![1, n, 128] inb) (ix3 0 r e) = X (ix3 0 (fr (off + r.val)) e) := by
  subst ho
  have h : off + n ≤ 8192 := inb 1
  refine congrArg X (funext fun a => Fin.ext ?_)
  have hr := r.isLt
  match a with
  | ⟨0, _⟩ => rfl
  | ⟨1, _⟩ => show off + 1 * r.val = (off + r.val) % 8192; rw [Nat.mod_eq_of_lt (by omega)]; omega
  | ⟨2, _⟩ => show 0 + 1 * e.val = e.val; omega

theorem st_in {α : Type} (X : S8192x128.Idx → α) {n off : ℕ} {o : Fin 2 → ℕ} (ho : o = ![off, 0])
    (inb : ∀ a : Fin 2, o a + (![n, 128] : Fin 2 → ℕ) a ≤ S8192x128.size a) (p : (⟨2, ![n, 128]⟩ : Shape).Idx → α) (r : Fin n) (e : Fin 128) :
    (Rect.unit (s := S8192x128) o ![n, 128] inb).overlay X p (ix2 (fr (off + r.val)) e) = p (ix2 r e) := by
  subst ho
  have h : off + n ≤ 8192 := inb 0
  have hr := r.isLt
  have hE : (Rect.unit (s := S8192x128) ![off, 0] ![n, 128] inb).emb (ix2 r e) = ix2 (fr (off + r.val)) e := by
    refine funext fun a => Fin.ext ?_
    match a with
    | ⟨0, _⟩ => show off + 1 * r.val = (off + r.val) % 8192; rw [Nat.mod_eq_of_lt (by omega)]; omega
    | ⟨1, _⟩ => show 0 + 1 * e.val = e.val; omega
  rw [← hE]
  exact Rect.overlay_emb (Rect.unit (s := S8192x128) ![off, 0] ![n, 128] inb) X p (ix2 r e)

theorem st_out {α : Type} (X : S8192x128.Idx → α) {n off : ℕ} {o : Fin 2 → ℕ} (ho : o = ![off, 0])
    (inb : ∀ a : Fin 2, o a + (![n, 128] : Fin 2 → ℕ) a ≤ S8192x128.size a) (p : (⟨2, ![n, 128]⟩ : Shape).Idx → α)
    (r : Fin 8192) (hr : r.val < off ∨ off + n ≤ r.val) (e : Fin 128) :
    (Rect.unit (s := S8192x128) o ![n, 128] inb).overlay X p (ix2 r e) = X (ix2 r e) := by
  subst ho
  refine Rect.overlay_of_not_mem (Rect.unit (s := S8192x128) ![off, 0] ![n, 128] inb) X p fun hm => ?_
  obtain ⟨y, hy, h0⟩ := (LoadRect.mem_set _).mp hm (0 : Fin 2)
  have h1 : r.val = off + 1 * y := h0
  have h2 : y < n := hy
  omega

end Load

/-- All rows against one block of columns, number `j`: a pair is kept when the row is at or below the column's. -/
def gB (j : ℕ) (x2 : Vec Ideal S8192x128 .bf16) (x7 : Vec Ideal S1x8192x128 .f32) (x8 : Vec Ideal S8192x128 .bf16) (x9 x10 : Vec Ideal S8x128x1024 .bf16)
    (D : Vec Ideal S8192x128 .f32) (kb vb : Vec Ideal S512x128 .bf16) (nb : FVec Ideal S2x512 .f32) : Blk ℕ where
  M r c := decide (512 * j + c.val ≤ r)
  q r e := x2 (ix2 (fr r) e)
  qo r e := x8 (ix2 (fr r) e)
  qt r e := x9 (ix3 (frb r) e (fri r))
  dt r e := x10 (ix3 (frb r) e (fri r))
  l r e := x7 (ix3 0 (fr r) e)
  de r e := D (ix2 (fr r) e)
  k c e := kb (ix2 c e)
  v c e := vb (ix2 c e)
  nb h c := nb (ix2 h c)

end Cert.Proof.Fox

end
-- ==== Proof.Blocks.lean ====
/-
  The blocks the body is given at a point, at an index, as elements of the arrays the call is given.
-/
module

public import proofs.«01_k».proof.Proof.Rows
public import proofs.«01_k».proof.Proof.Run
public import Idealize.ShloMosaic.Lib.Pipeline.ValueKit.Geometry

@[expose] public section

noncomputable section

namespace Cert.Proof.Fox

open Cert.KernelIdeal Cert.KernelIdeal.Gen
open Idealize.ShloMosaic Idealize.ShloMosaic.TcCoe

/-- The index of a number, wrapped into its range. -/
def fx (n : ℕ) [NeZero n] (i : ℕ) : Fin n := ⟨i % n, Nat.mod_lt _ (NeZero.pos n)⟩
theorem fx_val (n : ℕ) [NeZero n] {i : ℕ} (h : i < n) : (fx n i).val = i := Nat.mod_eq_of_lt h

variable (m : (ℓ : Loc nD τ sig) → Buf (Elt Ideal) ℓ) (c : Dev nD)

theorem ix_0 : ∀ t : Fin cfg0.N, win0_0.index t = ![0, 42 + t.val / 16] := (by decide +kernel : ∀ t : Fin grid0.N, _)
theorem rd0 (t : Fin cfg0.N) (X : Vec Ideal S8192x8704 .bf16) (r : Fin 8192) (e : Fin 128) :
    (((cfg0.win 0).blk t).view.read (Elt Ideal) X : Vec Ideal S8192x128 .bf16) (ix2 r e) = X (ix2 r (fx 8704 (128 * (42 + t.val / 16) + e.val))) := by
  have ht : t.val < 128 := t.isLt
  blk_ext [ix_0, fx]
theorem iblk0 (t : Fin cfg0.N) (r : Fin 8192) (e : Fin 128) :
    (iblk m c 0 t : Vec Ideal S8192x128 .bf16) (ix2 r e) = (V m c main_arg0 : Vec Ideal S8192x8704 .bf16) (ix2 r (fx 8704 (128 * (42 + t.val / 16) + e.val))) :=
  rd0 t (V m c main_arg0) r e
theorem ix_1 : ∀ t : Fin cfg0.N, win0_1.index t = ![t.val % 16, 50 + t.val / 16] := (by decide +kernel : ∀ t : Fin grid0.N, _)
theorem rd1 (t : Fin cfg0.N) (X : Vec Ideal S8192x8704 .bf16) (x : Fin 512) (e : Fin 128) :
    (((cfg0.win 1).blk t).view.read (Elt Ideal) X : Vec Ideal S512x128 .bf16) (ix2 x e) = X (ix2 (fx 8192 (512 * (t.val % 16) + x.val)) (fx 8704 (128 * (50 + t.val / 16) + e.val))) := by
  have ht : t.val < 128 := t.isLt
  blk_ext [ix_1, fx]
theorem iblk1 (t : Fin cfg0.N) (x : Fin 512) (e : Fin 128) :
    (iblk m c 1 t : Vec Ideal S512x128 .bf16) (ix2 x e) = (V m c main_arg0 : Vec Ideal S8192x8704 .bf16) (ix2 (fx 8192 (512 * (t.val % 16) + x.val)) (fx 8704 (128 * (50 + t.val / 16) + e.val))) :=
  rd1 t (V m c main_arg0) x e
theorem ix_2 : ∀ t : Fin cfg0.N, win0_2.index t = ![t.val % 16, 58 + t.val / 16] := (by decide +kernel : ∀ t : Fin grid0.N, _)
theorem rd2 (t : Fin cfg0.N) (X : Vec Ideal S8192x8704 .bf16) (x : Fin 512) (e : Fin 128) :
    (((cfg0.win 2).blk t).view.read (Elt Ideal) X : Vec Ideal S512x128 .bf16) (ix2 x e) = X (ix2 (fx 8192 (512 * (t.val % 16) + x.val)) (fx 8704 (128 * (58 + t.val / 16) + e.val))) := by
  have ht : t.val < 128 := t.isLt
  blk_ext [ix_2, fx]
theorem iblk2 (t : Fin cfg0.N) (x : Fin 512) (e : Fin 128) :
    (iblk m c 2 t : Vec Ideal S512x128 .bf16) (ix2 x e) = (V m c main_arg0 : Vec Ideal S8192x8704 .bf16) (ix2 (fx 8192 (512 * (t.val % 16) + x.val)) (fx 8704 (128 * (58 + t.val / 16) + e.val))) :=
  rd2 t (V m c main_arg0) x e
theorem ix_3 : ∀ t : Fin cfg0.N, win0_3.index t = ![t.val / 16, t.val % 16, 0, 0] := (by decide +kernel : ∀ t : Fin grid0.N, _)
theorem rd3 (t : Fin cfg0.N) (X : Vec Ideal S8x16x2x512 .f32) (h : Fin 2) (x : Fin 512) :
    (((cfg0.win 3).blk t).view.read (Elt Ideal) X : Vec Ideal S1x1x2x512 .f32) (ix4 0 0 h x) = X (ix4 (fx 8 (t.val / 16)) (fx 16 (t.val % 16)) h x) := by
  have ht : t.val < 128 := t.isLt
  blk_ext [ix_3, fx]
theorem iblk3 (t : Fin cfg0.N) (h : Fin 2) (x : Fin 512) :
    (iblk m c 3 t : Vec Ideal S1x1x2x512 .f32) (ix4 0 0 h x) = (V m c main_v44 : Vec Ideal S8x16x2x512 .f32) (ix4 (fx 8 (t.val / 16)) (fx 16 (t.val % 16)) h x) :=
  rd3 t (V m c main_v44) h x
theorem ix_4 : ∀ t : Fin cfg0.N, win0_4.index t = ![0, t.val / 16] := (by decide +kernel : ∀ t : Fin grid0.N, _)
theorem rd4 (t : Fin cfg0.N) (X : Vec Ideal S8192x1024 .bf16) (r : Fin 8192) (e : Fin 128) :
    (((cfg0.win 4).blk t).view.read (Elt Ideal) X : Vec Ideal S8192x128 .bf16) (ix2 r e) = X (ix2 r (fx 1024 (128 * (t.val / 16) + e.val))) := by
  have ht : t.val < 128 := t.isLt
  blk_ext [ix_4, fx]
theorem iblk4 (t : Fin cfg0.N) (r : Fin 8192) (e : Fin 128) :
    (iblk m c 4 t : Vec Ideal S8192x128 .bf16) (ix2 r e) = (V m c main_v35 : Vec Ideal S8192x1024 .bf16) (ix2 r (fx 1024 (128 * (t.val / 16) + e.val))) :=
  rd4 t (V m c main_v35) r e
theorem ix_5 : ∀ t : Fin cfg0.N, win0_5.index t = ![t.val / 16, 0, 0] := (by decide +kernel : ∀ t : Fin grid0.N, _)
theorem rd5 (t : Fin cfg0.N) (X : Vec Ideal S8x8192x128 .f32) (r : Fin 8192) (e : Fin 128) :
    (((cfg0.win 5).blk t).view.read (Elt Ideal) X : Vec Ideal S1x8192x128 .f32) (ix3 0 r e) = X (ix3 (fx 8 (t.val / 16)) r e) := by
  have ht : t.val < 128 := t.isLt
  blk_ext [ix_5, fx]
theorem iblk5 (t : Fin cfg0.N) (r : Fin 8192) (e : Fin 128) :
    (iblk m c 5 t : Vec Ideal S1x8192x128 .f32) (ix3 0 r e) = (V m c main_v42 : Vec Ideal S8x8192x128 .f32) (ix3 (fx 8 (t.val / 16)) r e) :=
  rd5 t (V m c main_v42) r e
theorem ix_6 : ∀ t : Fin cfg0.N, win0_6.index t = ![0, t.val / 16] := (by decide +kernel : ∀ t : Fin grid0.N, _)
theorem rd6 (t : Fin cfg0.N) (X : Vec Ideal S8192x1024 .bf16) (r : Fin 8192) (e : Fin 128) :
    (((cfg0.win 6).blk t).view.read (Elt Ideal) X : Vec Ideal S8192x128 .bf16) (ix2 r e) = X (ix2 r (fx 1024 (128 * (t.val / 16) + e.val))) := by
  have ht : t.val < 128 := t.isLt
  blk_ext [ix_6, fx]
theorem iblk6 (t : Fin cfg0.N) (r : Fin 8192) (e : Fin 128) :
    (iblk m c 6 t : Vec Ideal S8192x128 .bf16) (ix2 r e) = (V m c main_arg2 : Vec Ideal S8192x1024 .bf16) (ix2 r (fx 1024 (128 * (t.val / 16) + e.val))) :=
  rd6 t (V m c main_arg2) r e
theorem ix_7 : ∀ t : Fin cfg0.N, win0_7.index t = ![0, t.val / 16, 0] := (by decide +kernel : ∀ t : Fin grid0.N, _)
theorem rd7 (t : Fin cfg0.N) (X : Vec Ideal S8x1024x1024 .bf16) (b : Fin 8) (e : Fin 128) (x : Fin 1024) :
    (((cfg0.win 7).blk t).view.read (Elt Ideal) X : Vec Ideal S8x128x1024 .bf16) (ix3 b e x) = X (ix3 b (fx 1024 (128 * (t.val / 16) + e.val)) x) := by
  have ht : t.val < 128 := t.isLt
  blk_ext [ix_7, fx]
theorem iblk7 (t : Fin cfg0.N) (b : Fin 8) (e : Fin 128) (x : Fin 1024) :
    (iblk m c 7 t : Vec Ideal S8x128x1024 .bf16) (ix3 b e x) = (V m c main_v47 : Vec Ideal S8x1024x1024 .bf16) (ix3 b (fx 1024 (128 * (t.val / 16) + e.val)) x) :=
  rd7 t (V m c main_v47) b e x
theorem ix_8 : ∀ t : Fin cfg0.N, win0_8.index t = ![0, t.val / 16, 0] := (by decide +kernel : ∀ t : Fin grid0.N, _)
theorem rd8 (t : Fin cfg0.N) (X : Vec Ideal S8x1024x1024 .bf16) (b : Fin 8) (e : Fin 128) (x : Fin 1024) :
    (((cfg0.win 8).blk t).view.read (Elt Ideal) X : Vec Ideal S8x128x1024 .bf16) (ix3 b e x) = X (ix3 b (fx 1024 (128 * (t.val / 16) + e.val)) x) := by
  have ht : t.val < 128 := t.isLt
  blk_ext [ix_8, fx]
theorem iblk8 (t : Fin cfg0.N) (b : Fin 8) (e : Fin 128) (x : Fin 1024) :
    (iblk m c 8 t : Vec Ideal S8x128x1024 .bf16) (ix3 b e x) = (V m c main_v49 : Vec Ideal S8x1024x1024 .bf16) (ix3 b (fx 1024 (128 * (t.val / 16) + e.val)) x) :=
  rd8 t (V m c main_v49) b e x
theorem ix_9 : ∀ t : Fin cfg0.N, win0_9.index t = ![0, t.val / 16] := (by decide +kernel : ∀ t : Fin grid0.N, _)
theorem ix_10 : ∀ t : Fin cfg0.N, win0_10.index t = ![t.val % 16, t.val / 16] := (by decide +kernel : ∀ t : Fin grid0.N, _)
theorem ix_11 : ∀ t : Fin cfg0.N, win0_11.index t = ![t.val % 16, t.val / 16] := (by decide +kernel : ∀ t : Fin grid0.N, _)
theorem ix_12 : ∀ t : Fin cfg0.N, win0_12.index t = ![t.val / 16, t.val % 16, 0, 0] := (by decide +kernel : ∀ t : Fin grid0.N, _)
theorem ix_13 : ∀ t : Fin cfg0.N, win0_13.index t = ![t.val / 16, 0, 0, 0] := (by decide +kernel : ∀ t : Fin grid0.N, _)

end Cert.Proof.Fox
-- ==== Proof.Attn.lean ====
/-
  One head of the attention and of its gradient over the extended reals, as the host's lines of the kernel's program and as the
  reference compute it: queries `q`, keys `k`, values `v`, the output's gradient `d`, and the keys' bias `n`.
-/
module

public import proofs.«01_k».proof.Proof.Spec

@[expose] public section

noncomputable section

namespace Cert.Proof.Fox

open Idealize.ShloMosaic

/-- The score of a masked pair. -/
def negInf : EReal := Ideal.ofBits FTy.f32 4286578688#32

section Head

variable (q k v d : Fin 8192 → Fin 64 → EReal) (n : Fin 8192 → EReal)

/-! ## The forward pass's saved values, as the host computes them -/

def sc (i j : Fin 8192) : EReal := if j.val ≤ i.val then (∑ x, q i x * k j x) * w8f + n j else negInf
def mx (i : Fin 8192) : EReal := Finset.univ.fold max negInf (sc q k n i)
def ex (i j : Fin 8192) : EReal := Ideal.exp (sc q k n i j - mx q k n i)
def sm (i : Fin 8192) : EReal := ∑ j, ex q k n i j
def out (i : Fin 8192) (x : Fin 64) : EReal := ∑ j, v j x * Ideal.div (ex q k n i j) (sm q k n i)
def lse (i : Fin 8192) : EReal := mx q k n i + Ideal.log (sm q k n i)

/-! ## The reference -/

def rsc (i j : Fin 8192) : EReal := if j.val ≤ i.val then (∑ x, q i x * k j x) * w8f + (-n i - -n j) else negInf
def rtop (i : Fin 8192) : EReal := Finset.univ.fold max negInf (rsc q k n i)
def rmx (i : Fin 8192) : EReal := max negInf (rtop q k n i)
def rex (i j : Fin 8192) : EReal := Ideal.exp (rsc q k n i j - rmx q k n i)
def rsm (i : Fin 8192) : EReal := ∑ j, rex q k n i j
def rdp (i j : Fin 8192) : EReal := ∑ x, d i x * v j x
def rwt (i : Fin 8192) : EReal := ∑ j, rdp v d i j * Ideal.div 1 (rsm q k n i * rsm q k n i) * rex q k n i j
def rds (i j : Fin 8192) : EReal :=
  if j.val ≤ i.val then (Ideal.div (rdp v d i j) (rsm q k n i) + -rwt q k v d n i) * rex q k n i j else 0

def rdq (i : Fin 8192) (x : Fin 64) : EReal := ∑ j, rds q k v d n i j * w8f * k j x
def rdk (j : Fin 8192) (x : Fin 64) : EReal := ∑ i, rds q k v d n i j * w8f * q i x
def rdv (j : Fin 8192) (x : Fin 64) : EReal := ∑ i, d i x * Ideal.div (rex q k n i j) (rsm q k n i)
def rdn (j : Fin 8192) : EReal := -∑ i, -rds q k v d n i j
def rdr (i : Fin 8192) : EReal := ∑ j, rds q k v d n i j

end Head

/-! ## A head of the arguments -/

/-- Head `h` of the 1024 columns from `b`; -/
def hd (P : Vec Ideal ⟨2, ![8192, 8704]⟩ .bf16) (b : ℕ) (hb : b + 1024 ≤ 8704) (h : Fin 16) (i : Fin 8192) (x : Fin 64) : EReal :=
  P (ix2 i ⟨b + (h.val * 64 + x.val), by omega⟩)
/-- of the output's gradient; -/
def hg (G : Vec Ideal ⟨2, ![8192, 1024]⟩ .bf16) (h : Fin 16) (i : Fin 8192) (x : Fin 64) : EReal := G (ix2 i ⟨h.val * 64 + x.val, by omega⟩)
/-- of the bias. -/
def hn (N : Vec Ideal ⟨2, ![16, 8192]⟩ .f32) (h : Fin 16) (i : Fin 8192) : EReal := N (ix2 h i)

abbrev hq (P : Vec Ideal ⟨2, ![8192, 8704]⟩ .bf16) := hd P 5376 (by decide)
abbrev hk (P : Vec Ideal ⟨2, ![8192, 8704]⟩ .bf16) := hd P 6400 (by decide)
abbrev hv (P : Vec Ideal ⟨2, ![8192, 8704]⟩ .bf16) := hd P 7424 (by decide)

/-- The largest of each row of an array. -/
theorem maxRows {n0 n1 n2 : ℕ} {s : Shape} (v : Vec Ideal ⟨3, ![n0, n1, n2]⟩ .f32) (c : Vec Ideal s .f32) (h : (⟨3, ![n0, n1, n2]⟩ : Shape).ReducesTo [2] ⟨2, ![n0, n1]⟩)
    (hu : 0 < s.numel) (i : Fin n0) (j : Fin n1) :
    Host.reduce (FloatOps.maximumf : Ideal .f32 → Ideal .f32 → Ideal .f32) v c h hu (ix2 i j) = Finset.univ.fold max (c (Shape.Idx.first hu)) fun k : Fin n2 => v (ix3 i j k) := by
  pointwise

/-- The causal test of two indices, as the programs spell it. -/
theorem cmp_le (j i : Fin 8192) : IntOp.cmpi .sle (BitVec.ofNat 32 j.val) (BitVec.ofNat 32 i.val) = if j.val ≤ i.val then 1#1 else 0#1 := by
  have hj := j.isLt
  have hi := i.isLt
  have h1 : (BitVec.ofNat 32 j.val).toInt = j.val := by rw [BitVec.toInt_ofNat', Int.bmod_eq_of_le (by omega) (by omega)]
  have h2 : (BitVec.ofNat 32 i.val).toInt = i.val := by rw [BitVec.toInt_ofNat', Int.bmod_eq_of_le (by omega) (by omega)]
  have h3 : IntOp.cmpi .sle (BitVec.ofNat 32 j.val) (BitVec.ofNat 32 i.val) = BitVec.ofBool (decide (j.val ≤ i.val)) := by
    show BitVec.ofBool (BitVec.sle _ _) = _
    rw [BitVec.sle, h1, h2]; simp
  rw [h3]
  by_cases h : j.val ≤ i.val <;> simp [h]

end Cert.Proof.Fox
-- ==== Proof.Host.lean ====
/-
  What the kernel's call is given by the host, at an index of the arguments.
-/
module

public import proofs.«01_k».proof.Proof.Attn
public import proofs.«01_k».proof.Proof.Gen.KernelIdeal.Frame
public import Idealize.ShloMosaic.Lib.StableHlo.ReadAt

@[expose] public section

set_option maxRecDepth 100000

noncomputable section

namespace Cert.Proof.Fox

open Cert.KernelIdeal Cert.KernelIdeal.Gen
open Idealize.ShloMosaic Idealize.ShloMosaic.TcCoe

variable (m : (ℓ : Loc nD τ sig) → Buf (Elt Ideal) ℓ) (c : Dev nD)

/-- The arguments. -/
abbrev arg0 : Vec Ideal ⟨2, ![8192, 8704]⟩ .bf16 := m (c, Proc.tc.devRef main_arg0)
abbrev arg1 : Vec Ideal ⟨2, ![16, 8192]⟩ .f32 := m (c, Proc.tc.devRef main_arg1)
abbrev arg2 : Vec Ideal ⟨2, ![8192, 1024]⟩ .bf16 := m (c, Proc.tc.devRef main_arg2)

/-- The array of the bias, by pair, block and head; -/
theorem host_44 (p : Fin 8) (j : Fin 16) (h : Fin 2) (x : Fin 512) : (V m c main_v44 : Vec Ideal S8x16x2x512 .f32) (ix4 p j h x)
    = hn (arg1 m c) ⟨p.val * 2 + h.val, by omega⟩ ⟨j.val * 512 + x.val, by omega⟩ := by
  unfold V
  simp only [List.flatten_cons, List.flatten_nil, List.append_nil, List.cons_append, List.nil_append]
  after_reads_at
  rfl

/-- of the queries, transposed by row block; -/
theorem host_47 (b : Fin 8) (e : Fin 1024) (x : Fin 1024) : (V m c main_v47 : Vec Ideal S8x1024x1024 .bf16) (ix3 b e x)
    = (arg0 m c : Vec Ideal S8192x8704 .bf16) (ix2 ⟨b.val * 1024 + x.val, by omega⟩ ⟨5376 + e.val, by omega⟩) := by
  unfold V
  simp only [List.flatten_cons, List.flatten_nil, List.append_nil, List.cons_append, List.nil_append]
  after_reads_at

/-- of the output's gradient, transposed by row block; -/
theorem host_49 (b : Fin 8) (e : Fin 1024) (x : Fin 1024) : (V m c main_v49 : Vec Ideal S8x1024x1024 .bf16) (ix3 b e x)
    = (arg2 m c : Vec Ideal S8192x1024 .bf16) (ix2 ⟨b.val * 1024 + x.val, by omega⟩ e) := by
  unfold V
  simp only [List.flatten_cons, List.flatten_nil, List.append_nil, List.cons_append, List.nil_append]
  after_reads_at

/-! ## The forward pass's arrays -/

section Forward

variable (A0 : Vec Ideal S8192x8704 .bf16) (A1 : Vec Ideal S16x8192 .f32)

def fMask : IVec S16x8192x8192 1 :=
  broadcastInDim S16x8192x8192 ![0, 1, 2] bcast_S1x8192x8192_S16x8192x8192_0_1_2 (cmpi .sle (broadcastInDim S1x8192x8192 ![0, 1, 2] bcast_S1x1x8192_S1x8192x8192_0_1_2 (broadcastInDim S1x1x8192 ![2] bcast_S8192_S1x1x8192_2 (iotaInDim S8192 32 0))) (broadcastInDim S1x8192x8192 ![0, 1, 2] bcast_S1x8192x1_S1x8192x8192_0_1_2 (broadcastInDim S1x8192x1 ![1] bcast_S8192_S1x8192x1_1 (iotaInDim S8192 32 0))))
def fS : FVec Ideal S16x8192x8192 .f32 :=
  select fMask (addf (mulf (Host.dotGeneral dot_S8192x16x64_S8192x16x64_S16x8192x8192_2_2_0_0_1_1 none (shapeCast S8192x16x64 (extf .f32 (extractStridedSlice S8192x1024 ![0, 5376] A0 slices_S8192x8704_S8192x1024_0_5376) bitsLt_bf16_f32) shapeCasts_S8192x1024_S8192x16x64) (shapeCast S8192x16x64 (extf .f32 (extractStridedSlice S8192x1024 ![0, 6400] A0 slices_S8192x8704_S8192x1024_0_6400) bitsLt_bf16_f32) shapeCasts_S8192x1024_S8192x16x64)) (broadcastInDim S16x8192x8192 ![] bcast_S_S16x8192x8192 (constant S_ .f32 0x3E000000#32))) (broadcastInDim S16x8192x8192 ![0, 1, 2] bcast_S16x1x8192_S16x8192x8192_0_1_2 (broadcastInDim S16x1x8192 ![0, 2] bcast_S16x8192_S16x1x8192_0_2 A1))) (broadcastInDim S16x8192x8192 ![] bcast_S_S16x8192x8192 (id (constant S_ .f32 0xFF800000#32)))
def fM : FVec Ideal S16x8192 .f32 :=
  Host.reduce FloatOps.maximumf (fS A0 A1) (constant S_ .f32 0xFF800000#32) reducesTo_S16x8192x8192_S16x8192_d2 h_S_
def fMc : FVec Ideal S16x8192x1 .f32 := broadcastInDim S16x8192x1 ![0, 1] bcast_S16x8192_S16x8192x1_0_1 (fM A0 A1)
def fE : FVec Ideal S16x8192x8192 .f32 :=
  Host.exp (subf (fS A0 A1) (broadcastInDim S16x8192x8192 ![0, 1, 2] bcast_S16x8192x1_S16x8192x8192_0_1_2 (fMc A0 A1)))
def fL : FVec Ideal S16x8192x1 .f32 :=
  broadcastInDim S16x8192x1 ![0, 1] bcast_S16x8192_S16x8192x1_0_1 (Host.reduceAdd (fE A0 A1) (constant S_ .f32 0x00000000#32) reducesTo_S16x8192x8192_S16x8192_d2 h_S_)
def fO : Vec Ideal S8192x1024 .bf16 :=
  truncf .bf16 (shapeCast S8192x1024 (transpose S8192x16x64 [2, 0, 1] (Host.dotGeneral dot_S8192x16x64_S16x8192x8192_S16x64x8192_0_2_2_1_1_0 none (shapeCast S8192x16x64 (extf .f32 (extractStridedSlice S8192x1024 ![0, 7424] A0 slices_S8192x8704_S8192x1024_0_7424) bitsLt_bf16_f32) shapeCasts_S8192x1024_S8192x16x64) (Host.divf (fE A0 A1) (broadcastInDim S16x8192x8192 ![0, 1, 2] bcast_S16x8192x1_S16x8192x8192_0_1_2 (fL A0 A1)))) transposes_S16x64x8192_S8192x16x64_2_0_1) shapeCasts_S8192x16x64_S8192x1024) bitsLt_bf16_f32
def fLse : Vec Ideal S8x8192x128 .f32 :=
  shapeCast S8x8192x128 (broadcastInDim S8x8192x2x64 ![0, 1, 2, 3] bcast_S8x8192x2x1_S8x8192x2x64_0_1_2_3 (broadcastInDim S8x8192x2x1 ![0, 1, 2] bcast_S8x8192x2_S8x8192x2x1_0_1_2 (transpose S8x8192x2 [0, 2, 1] (shapeCast S8x2x8192 (addf (fMc A0 A1) (Host.log (fL A0 A1))) shapeCasts_S16x8192x1_S8x2x8192) transposes_S8x2x8192_S8x8192x2_0_2_1))) shapeCasts_S8x8192x2x64_S8x8192x128

theorem fMask_at (h : Fin 16) (i j : Fin 8192) : fMask (ix3 h i j) = if j.val ≤ i.val then 1#1 else 0#1 := by
  pointwise [fMask]
  exact cmp_le j i

theorem fS_at (h : Fin 16) (i j : Fin 8192) : fS A0 A1 (ix3 h i j) = sc (hq A0 h) (hk A0 h) (hn A1 h) i j := by
  pointwise [fS]
  rw [fMask_at, sel_ite]
  rfl

theorem fM_at (h : Fin 16) (i : Fin 8192) : fM A0 A1 (ix2 h i) = mx (hq A0 h) (hk A0 h) (hn A1 h) i := by
  have e : (fun k => fS A0 A1 (ix3 h i k)) = sc (hq A0 h) (hk A0 h) (hn A1 h) i := funext fun k => fS_at A0 A1 h i k
  unfold fM mx
  rw [maxRows, e]
  exact congrArg (fun b => Finset.univ.fold max b _) rfl

theorem fMc_at (h : Fin 16) (i : Fin 8192) (x : Fin 1) : fMc A0 A1 (ix3 h i x) = mx (hq A0 h) (hk A0 h) (hn A1 h) i := by
  pointwise [fMc]
  exact fM_at A0 A1 h i

theorem expCol_at (S : FVec Ideal S16x8192x8192 .f32) (M : FVec Ideal S16x8192x1 .f32) (h : Fin 16) (i j : Fin 8192) :
    Host.exp (subf S (broadcastInDim S16x8192x8192 ![0, 1, 2] bcast_S16x8192x1_S16x8192x8192_0_1_2 M)) (ix3 h i j)
      = Ideal.exp (S (ix3 h i j) - M (ix3 h i 0)) := by
  pointwise

theorem fE_at (h : Fin 16) (i j : Fin 8192) : fE A0 A1 (ix3 h i j) = ex (hq A0 h) (hk A0 h) (hn A1 h) i j := by
  unfold fE ex
  rw [expCol_at, fS_at, fMc_at]

theorem fL_at (h : Fin 16) (i : Fin 8192) (x : Fin 1) : fL A0 A1 (ix3 h i x) = sm (hq A0 h) (hk A0 h) (hn A1 h) i := by
  pointwise [fL]
  simp only [fE_at]
  rfl

theorem fO_at (i : Fin 8192) (e : Fin 1024) : fO A0 A1 (ix2 i e)
    = out (hq A0 ⟨e.val / 64, by omega⟩) (hk A0 ⟨e.val / 64, by omega⟩) (hv A0 ⟨e.val / 64, by omega⟩)
      (hn A1 ⟨e.val / 64, by omega⟩) i ⟨e.val % 64, by omega⟩ := by
  pointwise [fO]
  simp only [fE_at, fL_at]
  unfold out
  refine Finset.sum_congr rfl fun x _ => ?_
  refine congrArg (· * _) (congrArg A0 (congrArg (ix2 x) (Fin.ext ?_)))
  show 7424 + e.val = 7424 + (e.val / 64 * 64 + e.val % 64)
  omega

theorem lanes_at (M L : FVec Ideal S16x8192x1 .f32) (p : Fin 8) (i : Fin 8192) (e : Fin 128) :
    (shapeCast S8x8192x128 (broadcastInDim S8x8192x2x64 ![0, 1, 2, 3] bcast_S8x8192x2x1_S8x8192x2x64_0_1_2_3 (broadcastInDim S8x8192x2x1 ![0, 1, 2] bcast_S8x8192x2_S8x8192x2x1_0_1_2 (transpose S8x8192x2 [0, 2, 1] (shapeCast S8x2x8192 (addf M (Host.log L)) shapeCasts_S16x8192x1_S8x2x8192) transposes_S8x2x8192_S8x8192x2_0_2_1))) shapeCasts_S8x8192x2x64_S8x8192x128 : Vec Ideal S8x8192x128 .f32) (ix3 p i e)
      = M (ix3 ⟨p.val * 2 + e.val / 64, by omega⟩ i 0) + Ideal.log (L (ix3 ⟨p.val * 2 + e.val / 64, by omega⟩ i 0)) := by
  pointwise

theorem fLse_at (p : Fin 8) (i : Fin 8192) (e : Fin 128) : fLse A0 A1 (ix3 p i e)
    = lse (hq A0 ⟨p.val * 2 + e.val / 64, by omega⟩) (hk A0 ⟨p.val * 2 + e.val / 64, by omega⟩)
      (hn A1 ⟨p.val * 2 + e.val / 64, by omega⟩) i := by
  unfold fLse lse
  rw [lanes_at, fMc_at, fL_at]

end Forward

theorem host_35 : (V m c main_v35 : Vec Ideal S8192x1024 .bf16) = fO (arg0 m c) (arg1 m c) := by
  unfold V
  simp only [hostOps0, hostOps0_1, hostOps0_2, List.flatten_cons, List.flatten_nil, List.append_nil, List.cons_append, List.nil_append, StableHlo.TRef.nullary, StableHlo.TRef.unary, StableHlo.TRef.ternary, StableHlo.TRef.toBuf, StableHlo.TRef.ofBuf, cast_eq]
  after_results_simp
  rfl

theorem host_42 : (V m c main_v42 : Vec Ideal S8x8192x128 .f32) = fLse (arg0 m c) (arg1 m c) := by
  unfold V
  simp only [hostOps0, hostOps0_1, hostOps0_2, List.flatten_cons, List.flatten_nil, List.append_nil, List.cons_append, List.nil_append, StableHlo.TRef.nullary, StableHlo.TRef.unary, StableHlo.TRef.ternary, StableHlo.TRef.toBuf, StableHlo.TRef.ofBuf, cast_eq]
  after_results_simp
  rfl

end Cert.Proof.Fox
-- ==== Proof.Accum.lean ====
/-
  One grid point's sums: after the diagonal step and each trip of the loop the running sums are sums over the rows so far, and `R` and
  `Q` have the rows' terms added; after the point, over all rows, since the rows above the diagonal add zero.
-/
module

public import proofs.«01_k».proof.Proof.Rows

@[expose] public section

noncomputable section

namespace Cert.Proof.Fox

open Cert.KernelIdeal Cert.KernelIdeal.Gen
open Idealize.ShloMosaic Idealize.ShloMosaic.TcCoe
open Finset (range)

namespace Blk

variable {ι : Type} (B : Blk ι) (h : Fin 2) (r : ι) (e : Fin 128) (c : Fin 512)

/-! ### A row masked everywhere adds zero -/

theorem cV_masked (hr : B.M r c = false) : B.cV h r e c = 0 := by rw [cV_eq, hr]; rfl
theorem cK_masked (hr : B.M r c = false) : B.cK h r e c = 0 := by rw [cK_eq, hr]; rfl
theorem dqf_masked (hr : ∀ c, B.M r c = false) : B.dqf h r e = 0 := by
  rw [dqf_eq]; exact Finset.sum_eq_zero fun c _ => by rw [hr]; rfl
theorem cQ_masked (hr : ∀ c, B.M r c = false) : B.cQ r e = 0 := by
  rw [cQ, dqf_masked B 0 r e hr, dqf_masked B 1 r e hr, ite_self, zero_mul]
theorem cR_masked (hr : ∀ c, B.M r c = false) : B.cR r e = 0 := by
  rw [cR, dqf_masked B 0 r e hr, dqf_masked B 1 r e hr, ite_self, ite_self]

end Blk

/-- The sums over rows 0 to `n - 1`, and `R` and `Q` with those rows' terms added. -/
structure Acc (B : Blk ℕ) (R Q : Vec Ideal S8192x128 .f32) (n : ℕ) (s : Sums Ideal × Vec Ideal S8192x128 .f32 × Vec Ideal S8192x128 .f32) : Prop where
  k0 : ∀ e c, s.1.1 (ix2 e c) = ∑ r ∈ range n, B.cK 0 r e c
  k1 : ∀ e c, s.1.2.1 (ix2 e c) = ∑ r ∈ range n, B.cK 1 r e c
  v : ∀ e c, s.1.2.2 (ix2 e c) = ∑ r ∈ range n, B.cV 0 r e c + ∑ r ∈ range n, B.cV 1 r e c
  r : ∀ (r : Fin 8192) e, s.2.1 (ix2 r e) = R (ix2 r e) + if r.val < n then B.cR r.val e else 0
  q : ∀ (r : Fin 8192) e, s.2.2 (ix2 r e) = Q (ix2 r e) + if r.val < n then B.cQ r.val e else 0

/-- A sum over `n` numbers on from `off`. -/
theorem sum_shift (n off : ℕ) (f : ℕ → EReal) : ∑ r : Fin n, f (off + r.val) = ∑ r ∈ range n, f (off + r) :=
  Fin.sum_univ_eq_sum_range (fun x => f (off + x)) n

/-- A sum that starts at `off`, when the terms before are zero. -/
theorem sum_from (n off : ℕ) (f : ℕ → EReal) (h0 : ∀ r, r < off → f r = 0) : ∑ r : Fin n, f (off + r.val) = ∑ r ∈ range (off + n), f r := by
  rw [sum_shift, Finset.sum_range_add, Finset.sum_eq_zero (fun r hr => h0 r (Finset.mem_range.mp hr)), zero_add]

theorem sum_on (n off : ℕ) (f : ℕ → EReal) : ∑ r ∈ range off, f r + ∑ r : Fin n, f (off + r.val) = ∑ r ∈ range (off + n), f r := by
  rw [sum_shift, Finset.sum_range_add]

/-- An array with a block of its rows `off` to `off + n - 1` changed by the rows' terms, when the rows before have theirs already. -/
theorem rows_add (R X : Vec Ideal S8192x128 .f32) {n off : ℕ} {o : Fin 2 → ℕ} (ho : o = ![off, 0])
    (inb : ∀ a : Fin 2, o a + (![n, 128] : Fin 2 → ℕ) a ≤ S8192x128.size a) (p : (⟨2, ![n, 128]⟩ : Shape).Idx → EReal) (f : ℕ → Fin 128 → EReal)
    (hX : ∀ (r : Fin 8192) e, X (ix2 r e) = R (ix2 r e) + if r.val < off then f r.val e else 0)
    (hp : ∀ (x : Fin n) e, p (ix2 x e) = X (ix2 (fr (off + x.val)) e) + f (off + x.val) e) (r : Fin 8192) (e : Fin 128) :
    (Rect.unit (s := S8192x128) o ![n, 128] inb).overlay X p (ix2 r e) = R (ix2 r e) + if r.val < off + n then f r.val e else 0 := by
  by_cases hr : off ≤ r.val ∧ r.val < off + n
  · have e1 : off + (r.val - off) = r.val := by omega
    have h1 := st_in X ho inb p ⟨r.val - off, by omega⟩ e
    have h2 := hp ⟨r.val - off, by omega⟩ e
    simp only [e1, fr_val] at h1 h2
    rw [h1, h2, hX, if_neg (by omega), add_zero, if_pos hr.2]
  · rw [st_out X ho inb p r (by omega) e, hX]
    by_cases h1 : r.val < off
    · rw [if_pos h1, if_pos (by omega)]
    · rw [if_neg h1, if_neg (by omega)]

variable (i : grid0.Coords) (x2 : Vec Ideal S8192x128 .bf16) (x7 : Vec Ideal S1x8192x128 .f32) (x8 : Vec Ideal S8192x128 .bf16) (x9 x10 : Vec Ideal S8x128x1024 .bf16)
    (kb vb : Vec Ideal S512x128 .bf16) (nb : FVec Ideal S2x512 .f32) (D R Q : Vec Ideal S8192x128 .f32)

/-- Point `i`'s columns. -/
abbrev pB : Blk ℕ := gB (i 1).val x2 x7 x8 x9 x10 D kb vb nb

theorem pB_M (r : ℕ) (c : Fin 512) : (pB i x2 x7 x8 x9 x10 kb vb nb D).M r c = decide (512 * (i 1).val + c.val ≤ r) := rfl

/-- A trip's block is the rows' part of `pB`. -/
theorem trip_blk (k : Fin (k0_t1_loop i).trips) :
    bE (fun _ _ => true) (View.ld x2 (rT i k)) (View.ld x8 (rT i k)) (View.ld x9 (rTt i k)) (View.ld x10 (rTt i k)) (View.ld x7 (rTl i k)) (View.ld D (rT i k)) kb vb nb
      = (pB i x2 x7 x8 x9 x10 kb vb nb D).comap fun r : Fin 1024 => 1024 * ((i 1).val / 2 + 1 + k.val) + r.val := by
  have hk : k.val < 7 - (i 1).val / 2 := lt_of_lt_of_eq k.isLt (trips_eq i)
  have hd : ∀ r : Fin 1024, (1024 * ((i 1).val / 2 + 1 + k.val) + r.val) / 1024 = (i 1).val / 2 + 1 + k.val := fun r => by have := r.isLt; omega
  have hf : ∀ r : Fin 1024, fri (1024 * ((i 1).val / 2 + 1 + k.val) + r.val) = r := fun r => Fin.ext (by
    show (1024 * ((i 1).val / 2 + 1 + k.val) + r.val) % 1024 = r.val
    have := r.isLt; omega)
  unfold bE Blk.comap pB gB
  congr 1
  · funext r c
    have := c.isLt
    exact (decide_eq_true (by show 512 * (i 1).val + c.val ≤ 1024 * ((i 1).val / 2 + 1 + k.val) + r.val; omega)).symm
  · funext r e; exact ld_rows x2 (off7_eq i k) _ r e
  · funext r e; exact ld_rows x8 (off7_eq i k) _ r e
  · funext r e
    have := ld_rowsT x9 (off8_eq i k) (k0_off8_inb i k) _ (hd r) e
    rw [hf r] at this
    show _ = x9 (ix3 (frb (1024 * ((i 1).val / 2 + 1 + k.val) + r.val)) e (fri (1024 * ((i 1).val / 2 + 1 + k.val) + r.val)))
    rw [hf r]; exact this
  · funext r e
    have := ld_rowsT x10 (off8_eq i k) (k0_off8_inb i k) _ (hd r) e
    rw [hf r] at this
    show _ = x10 (ix3 (frb (1024 * ((i 1).val / 2 + 1 + k.val) + r.val)) e (fri (1024 * ((i 1).val / 2 + 1 + k.val) + r.val)))
    rw [hf r]; exact this
  · funext r e; exact ld_rowsL x7 (off9_eq i k) _ r e
  · funext r e; exact ld_rows D (off7_eq i k) _ r e

/-- A trip adds the next 1024 rows. -/
theorem acc_trip (k : Fin (k0_t1_loop i).trips) (s : Sums Ideal × Vec Ideal S8192x128 .f32 × Vec Ideal S8192x128 .f32)
    (h : Acc (pB i x2 x7 x8 x9 x10 kb vb nb D) R Q (1024 * ((i 1).val / 2 + 1 + k.val)) s) :
    Acc (pB i x2 x7 x8 x9 x10 kb vb nb D) R Q (1024 * ((i 1).val / 2 + 1 + k.val) + 1024) (trip i x2 x7 x8 x9 x10 D kb vb nb k s) := by
  have hb := trip_blk i x2 x7 x8 x9 x10 kb vb nb D k
  have hk : k.val < 7 - (i 1).val / 2 := lt_of_lt_of_eq k.isLt (trips_eq i)
  constructor
  · intro e c
    refine (tS_k0 _ _ _ _ _ _ kb vb nb s.1 e c).trans ?_
    rw [hb, h.k0]; exact sum_on _ _ _
  · intro e c
    refine (tS_k1 _ _ _ _ _ _ kb vb nb s.1 e c).trans ?_
    rw [hb, h.k1]; exact sum_on _ _ _
  · intro e c
    refine (tS_v _ _ _ _ _ _ kb vb nb s.1 e c).trans ?_
    rw [hb, h.v, add_assoc, add_add_add_comm]
    exact congrArg₂ (· + ·) (sum_on _ _ _) (sum_on _ _ _)
  · dsimp only [trip]
    refine rows_add (n := 1024) R s.2.1 (off7_eq i k) (k0_off7_inb i k)
      (tR (View.ld x2 (rT i k)) (View.ld x8 (rT i k)) (View.ld x7 (rTl i k)) (View.ld D (rT i k)) kb vb nb (View.ld s.2.1 (rT i k)))
      (pB i x2 x7 x8 x9 x10 kb vb nb D).cR h.r ?_
    · intro x e
      refine (tR_at _ _ (View.ld x9 (rTt i k)) (View.ld x10 (rTt i k)) _ _ kb vb nb _ x e).trans ?_
      rw [hb, ld_rows s.2.1 (off7_eq i k) _ x e]; rfl
  · dsimp only [trip]
    refine rows_add (n := 1024) Q s.2.2 (off7_eq i k) (k0_off7_inb i k)
      (tQ (View.ld x2 (rT i k)) (View.ld x8 (rT i k)) (View.ld x7 (rTl i k)) (View.ld D (rT i k)) kb vb nb (View.ld s.2.2 (rT i k)))
      (pB i x2 x7 x8 x9 x10 kb vb nb D).cQ h.q ?_
    · intro x e
      refine (tQ_at _ _ (View.ld x9 (rTt i k)) (View.ld x10 (rTt i k)) _ _ kb vb nb _ x e).trans ?_
      rw [hb, ld_rows s.2.2 (off7_eq i k) _ x e]; rfl

/-- The loop adds the rows of every row block below the diagonal one. -/
theorem acc_loop (s : Sums Ideal × Vec Ideal S8192x128 .f32 × Vec Ideal S8192x128 .f32)
    (h : Acc (pB i x2 x7 x8 x9 x10 kb vb nb D) R Q (1024 * ((i 1).val / 2 + 1)) s) (k : ℕ) (hk : k ≤ (k0_t1_loop i).trips) :
    Acc (pB i x2 x7 x8 x9 x10 kb vb nb D) R Q (1024 * ((i 1).val / 2 + 1 + k)) (loopAt i x2 x7 x8 x9 x10 D kb vb nb s k) := by
  induction k with
  | zero => exact h
  | succ k ih =>
    have := acc_trip i x2 x7 x8 x9 x10 kb vb nb D R Q ⟨k, hk⟩ _ (ih (by omega))
    rw [loopAt_succ i x2 x7 x8 x9 x10 D kb vb nb s ⟨k, hk⟩]
    exact (show 1024 * ((i 1).val / 2 + 1 + (k + 1)) = 1024 * ((i 1).val / 2 + 1 + k) + 1024 by omega) ▸ this

/-! ### The diagonal step -/

/-- The number of the diagonal row block. -/
theorem blk_eq : ∀ i : grid0.Coords, blk i = BitVec.ofNat 32 ((i 1).val / 2) := by decide +kernel

theorem cmp_mask (off : ℕ) (r c : ℕ) (hr : r < 1024) (hc : c < 512) (ho : off ≤ 512) :
    IntOp.cmpi .sge (IntOp.subi (BitVec.ofNat 32 r) (BitVec.ofNat 32 c)) (BitVec.ofNat 32 off) = if decide (off + c ≤ r) = true then 1#1 else 0#1 := by
  have hn : ∀ n : ℕ, n < 2048 → (BitVec.ofNat 32 n).toInt = (n : ℤ) := fun n h => by
    rw [BitVec.toInt_ofNat', Int.bmod_eq_of_le (by omega) (by omega)]
  have h : (IntOp.subi (BitVec.ofNat 32 r) (BitVec.ofNat 32 c)).toInt = (r : ℤ) - c := by
    unfold IntOp.subi
    rw [BitVec.toInt_sub, hn r (by omega), hn c (by omega), Int.bmod_eq_of_le (by omega) (by omega)]
  have h2 := hn off (by omega)
  unfold IntOp.cmpi
  simp only [BitVec.sle, h, h2, decide_eq_true_eq]
  by_cases hle : off + c ≤ r
  · rw [if_pos hle, decide_eq_true (by omega)]; rfl
  · rw [if_neg hle, decide_eq_false (by omega)]; rfl

theorem off_even (i : grid0.Coords) : (i 1).val % 2 = 0 → Scalar.subi (Scalar.muli (BitVec.ofNat 32 (i 1).val) 512#32) (Scalar.muli (blk i) 1024#32) = BitVec.ofNat 32 0 := by
  revert i; decide +kernel
theorem off_odd (i : grid0.Coords) : (i 1).val % 2 = 1 → Scalar.subi (Scalar.muli (BitVec.ofNat 32 (i 1).val) 512#32) (Scalar.muli (blk i) 1024#32) = BitVec.ofNat 32 512 := by
  revert i; decide +kernel

/-- An even step's block, and an odd step's, are the rows' part of `pB`. -/
theorem even_blk (h : ¬(k0_cond2 i = 1#1)) (hj : (i 1).val % 2 = 0) :
    bE (fun r c => decide (0 + c.val ≤ r.val)) (View.ld x2 (rE i h)) (View.ld x8 (rE i h)) (View.ld x9 (rEt i h)) (View.ld x10 (rEt i h)) (View.ld x7 (rEl i h)) (View.ld D (rE i h)) kb vb nb
      = (pB i x2 x7 x8 x9 x10 kb vb nb D).comap fun r : Fin 1024 => 1024 * ((i 1).val / 2) + r.val := by
  have hd : ∀ r : Fin 1024, (1024 * ((i 1).val / 2) + r.val) / 1024 = (i 1).val / 2 := fun r => by have := r.isLt; omega
  have hf : ∀ r : Fin 1024, fri (1024 * ((i 1).val / 2) + r.val) = r := fun r => Fin.ext (by
    show (1024 * ((i 1).val / 2) + r.val) % 1024 = r.val
    have := r.isLt; omega)
  unfold bE Blk.comap pB gB
  congr 1
  · funext r c
    exact decide_eq_decide.mpr (by show _ ↔ 512 * (i 1).val + c.val ≤ 1024 * ((i 1).val / 2) + r.val; omega)
  · funext r e; exact ld_rows x2 (off4_eq i) _ r e
  · funext r e; exact ld_rows x8 (off4_eq i) _ r e
  · funext r e
    have := ld_rowsT x9 (off5_eq i) (k0_off5_inb i h) _ (hd r) e
    rw [hf r] at this
    show _ = x9 (ix3 (frb (1024 * ((i 1).val / 2) + r.val)) e (fri (1024 * ((i 1).val / 2) + r.val)))
    rw [hf r]; exact this
  · funext r e
    have := ld_rowsT x10 (off5_eq i) (k0_off5_inb i h) _ (hd r) e
    rw [hf r] at this
    show _ = x10 (ix3 (frb (1024 * ((i 1).val / 2) + r.val)) e (fri (1024 * ((i 1).val / 2) + r.val)))
    rw [hf r]; exact this
  · funext r e; exact ld_rowsL x7 (off6_eq i) _ r e
  · funext r e; exact ld_rows D (off4_eq i) _ r e

theorem odd_blk (h : k0_cond2 i = 1#1) (hj : (i 1).val % 2 = 1) :
    bO (fun r c => decide (512 + c.val ≤ 512 + r.val)) (View.ld x2 (rO i h)) (View.ld x8 (rO i h)) (View.ld x9 (rOt i h)) (View.ld x10 (rOt i h)) (View.ld x7 (rOl i h)) (View.ld D (rO i h)) kb vb nb
      = (pB i x2 x7 x8 x9 x10 kb vb nb D).comap fun r : Fin 512 => 1024 * ((i 1).val / 2) + 512 + r.val := by
  have hd : ∀ r : Fin 512, (1024 * ((i 1).val / 2) + 512 + r.val) / 1024 = (i 1).val / 2 := fun r => by have := r.isLt; omega
  have hf : ∀ r : Fin 512, fri (1024 * ((i 1).val / 2) + 512 + r.val) = low r := fun r => Fin.ext (by
    show (1024 * ((i 1).val / 2) + 512 + r.val) % 1024 = 512 + r.val
    have := r.isLt; omega)
  unfold bO Blk.comap pB gB
  congr 1
  · funext r c
    exact decide_eq_decide.mpr (by show _ ↔ 512 * (i 1).val + c.val ≤ 1024 * ((i 1).val / 2) + 512 + r.val; omega)
  · funext r e; exact ld_rows x2 (off1_eq i) _ r e
  · funext r e; exact ld_rows x8 (off1_eq i) _ r e
  · funext r e
    have := ld_rowsT x9 (off2_eq i) (k0_off2_inb i h) _ (hd r) e
    rw [hf r] at this
    show _ = x9 (ix3 (frb (1024 * ((i 1).val / 2) + 512 + r.val)) e (fri (1024 * ((i 1).val / 2) + 512 + r.val)))
    rw [hf r]; exact this
  · funext r e
    have := ld_rowsT x10 (off2_eq i) (k0_off2_inb i h) _ (hd r) e
    rw [hf r] at this
    show _ = x10 (ix3 (frb (1024 * ((i 1).val / 2) + 512 + r.val)) e (fri (1024 * ((i 1).val / 2) + 512 + r.val)))
    rw [hf r]; exact this
  · funext r e; exact ld_rowsL x7 (off3_eq i) _ r e
  · funext r e; exact ld_rows D (off1_eq i) _ r e

/-- Rows above the block's columns are masked everywhere. -/
theorem pB_masked (r : ℕ) (hr : r < 512 * (i 1).val) (c : Fin 512) : (pB i x2 x7 x8 x9 x10 kb vb nb D).M r c = false :=
  decide_eq_false (by omega)

theorem rows_before (X : Vec Ideal S8192x128 .f32) (f : ℕ → Fin 128 → EReal) (off : ℕ) (h : ∀ r e, r < off → f r e = 0) (r : Fin 8192) (e : Fin 128) :
    X (ix2 r e) = X (ix2 r e) + if r.val < off then f r.val e else 0 := by
  by_cases hr : r.val < off
  · rw [if_pos hr, h _ _ hr, add_zero]
  · rw [if_neg hr, add_zero]

set_option maxHeartbeats 2000000 in
/-- The diagonal step leaves the sums over all rows to the end of its row block: in odd column blocks, -/
theorem acc_odd (h : k0_cond2 i = 1#1) : Acc (pB i x2 x7 x8 x9 x10 kb vb nb D) R Q (1024 * ((i 1).val / 2 + 1)) (diag i x2 x7 x8 x9 x10 kb vb nb D R Q) := by
  have hm := pB_masked i x2 x7 x8 x9 x10 kb vb nb D
  have hj := (odd_iff i).mp h
  have hb := odd_blk i x2 x7 x8 x9 x10 kb vb nb D h hj
  have hM : ∀ (r : Fin 512) (c : Fin 512), IntOp.cmpi .sge (IntOp.subi (BitVec.ofNat 32 (512 + r.val)) (BitVec.ofNat 32 c.val))
      (Scalar.subi (Scalar.muli (BitVec.ofNat 32 (i 1).val) 512#32) (Scalar.muli (blk i) 1024#32)) = if decide (512 + c.val ≤ 512 + r.val) = true then 1#1 else 0#1 := fun r c => by
    rw [off_odd i hj]; exact cmp_mask 512 _ _ (by have := r.isLt; omega) c.isLt (by omega)
  have hn : 1024 * ((i 1).val / 2 + 1) = 1024 * ((i 1).val / 2) + 512 + 512 := by omega
  rw [hn, diag, dif_pos h]
  constructor
  · intro e c
    refine (oS_k0 _ _ _ _ _ _ _ kb vb nb _ _ hM e c).trans ?_
    rw [hb]; exact sum_from _ _ _ fun r hr => Blk.cK_masked _ 0 r e c (hm r (by omega) c)
  · intro e c
    refine (oS_k1 _ _ _ _ _ _ _ kb vb nb _ _ hM e c).trans ?_
    rw [hb]; exact sum_from _ _ _ fun r hr => Blk.cK_masked _ 1 r e c (hm r (by omega) c)
  · intro e c
    refine (oS_v _ _ _ _ _ _ _ kb vb nb _ _ hM e c).trans ?_
    rw [hb]; exact congrArg₂ (· + ·) (sum_from _ _ _ fun r hr => Blk.cV_masked _ 0 r e c (hm r (by omega) c))
      (sum_from _ _ _ fun r hr => Blk.cV_masked _ 1 r e c (hm r (by omega) c))
  · dsimp only
    exact rows_add (n := 512) R R (off1_eq i) (k0_off1_inb i h) _ (pB i x2 x7 x8 x9 x10 kb vb nb D).cR
      (rows_before R _ _ fun r e hr => Blk.cR_masked _ r e (hm r (by omega))) fun x e => by
      refine (oR_at _ _ _ (View.ld x9 (rOt i h)) (View.ld x10 (rOt i h)) _ _ kb vb nb _ _ _ hM x e).trans ?_
      rw [hb, ld_rows R (off1_eq i) _ x e]; rfl
  · dsimp only
    exact rows_add (n := 512) Q Q (off1_eq i) (k0_off1_inb i h) _ (pB i x2 x7 x8 x9 x10 kb vb nb D).cQ
      (rows_before Q _ _ fun r e hr => Blk.cQ_masked _ r e (hm r (by omega))) fun x e => by
      refine (oQ_at _ _ _ (View.ld x9 (rOt i h)) (View.ld x10 (rOt i h)) _ _ kb vb nb _ _ _ hM x e).trans ?_
      rw [hb, ld_rows Q (off1_eq i) _ x e]; rfl

set_option maxHeartbeats 2000000 in
/-- and in even ones. -/
theorem acc_even (h : ¬(k0_cond2 i = 1#1)) : Acc (pB i x2 x7 x8 x9 x10 kb vb nb D) R Q (1024 * ((i 1).val / 2 + 1)) (diag i x2 x7 x8 x9 x10 kb vb nb D R Q) := by
  have hm := pB_masked i x2 x7 x8 x9 x10 kb vb nb D
  have hj : (i 1).val % 2 = 0 := by have := mt (odd_iff i).mpr h; omega
  have hb := even_blk i x2 x7 x8 x9 x10 kb vb nb D h hj
  have hM : ∀ (r : Fin 1024) (c : Fin 512), IntOp.cmpi .sge (IntOp.subi (BitVec.ofNat 32 r.val) (BitVec.ofNat 32 c.val))
      (Scalar.subi (Scalar.muli (BitVec.ofNat 32 (i 1).val) 512#32) (Scalar.muli (blk i) 1024#32)) = if decide (0 + c.val ≤ r.val) = true then 1#1 else 0#1 := fun r c => by
    rw [off_even i hj]; exact cmp_mask 0 _ _ r.isLt c.isLt (by omega)
  have hn : 1024 * ((i 1).val / 2 + 1) = 1024 * ((i 1).val / 2) + 1024 := by omega
  rw [hn, diag, dif_neg h]
  constructor
  · intro e c
    refine (eS_k0 _ _ _ _ _ _ _ kb vb nb _ _ hM e c).trans ?_
    rw [hb]; exact sum_from _ _ _ fun r hr => Blk.cK_masked _ 0 r e c (hm r (by omega) c)
  · intro e c
    refine (eS_k1 _ _ _ _ _ _ _ kb vb nb _ _ hM e c).trans ?_
    rw [hb]; exact sum_from _ _ _ fun r hr => Blk.cK_masked _ 1 r e c (hm r (by omega) c)
  · intro e c
    refine (eS_v _ _ _ _ _ _ _ kb vb nb _ _ hM e c).trans ?_
    rw [hb]; exact congrArg₂ (· + ·) (sum_from _ _ _ fun r hr => Blk.cV_masked _ 0 r e c (hm r (by omega) c))
      (sum_from _ _ _ fun r hr => Blk.cV_masked _ 1 r e c (hm r (by omega) c))
  · dsimp only
    exact rows_add (n := 1024) R R (off4_eq i) (k0_off4_inb i h) _ (pB i x2 x7 x8 x9 x10 kb vb nb D).cR
      (rows_before R _ _ fun r e hr => Blk.cR_masked _ r e (hm r (by omega))) fun x e => by
      refine (eR_at _ _ _ (View.ld x9 (rEt i h)) (View.ld x10 (rEt i h)) _ _ kb vb nb _ _ _ hM x e).trans ?_
      rw [hb, ld_rows R (off4_eq i) _ x e]; rfl
  · dsimp only
    exact rows_add (n := 1024) Q Q (off4_eq i) (k0_off4_inb i h) _ (pB i x2 x7 x8 x9 x10 kb vb nb D).cQ
      (rows_before Q _ _ fun r e hr => Blk.cQ_masked _ r e (hm r (by omega))) fun x e => by
      refine (eQ_at _ _ _ (View.ld x9 (rEt i h)) (View.ld x10 (rEt i h)) _ _ kb vb nb _ _ _ hM x e).trans ?_
      rw [hb, ld_rows Q (off4_eq i) _ x e]; rfl

theorem acc_diag : Acc (pB i x2 x7 x8 x9 x10 kb vb nb D) R Q (1024 * ((i 1).val / 2 + 1)) (diag i x2 x7 x8 x9 x10 kb vb nb D R Q) := by
  by_cases h : k0_cond2 i = 1#1
  · exact acc_odd i x2 x7 x8 x9 x10 kb vb nb D R Q h
  · exact acc_even i x2 x7 x8 x9 x10 kb vb nb D R Q h

/-- One grid point. -/
theorem acc_point (x3 x4 : Vec Ideal S512x128 .bf16) (x5 : Vec Ideal S1x1x2x512 .f32) (x6 : Vec Ideal S8192x128 .bf16) :
    Acc (pB i x2 x7 x8 x9 x10 (View.ld x3 rB) (View.ld x4 rB) (k0_pay144 (View.ld x5 rN)) (initD i x6 x8 D)) (initR i R) (initQ i Q) 8192
      (point i x2 x3 x4 x5 x6 x7 x8 x9 x10 D R Q) := by
  have h := acc_loop i x2 x7 x8 x9 x10 (View.ld x3 rB) (View.ld x4 rB) (k0_pay144 (View.ld x5 rN)) (initD i x6 x8 D) (initR i R) (initQ i Q) _
    (acc_diag i x2 x7 x8 x9 x10 (View.ld x3 rB) (View.ld x4 rB) (k0_pay144 (View.ld x5 rN)) (initD i x6 x8 D) (initR i R) (initQ i Q)) _ le_rfl
  have hj : (i 1).val < 16 := (i 1).isLt
  have hn : 1024 * ((i 1).val / 2 + 1 + (k0_t1_loop i).trips) = 8192 := by rw [trips_eq]; omega
  rw [hn] at h
  exact h

end Cert.Proof.Fox

end
-- ==== Proof.Ends.lean ====
/-
  A head pair's first point and what a point writes out, at an index: the filled `D`, the zeroed `R` and `Q`, and the five output
  blocks from the running sums and the carried arrays.
-/
module

public import proofs.«01_k».proof.Proof.Rows
public import proofs.«01_k».proof.Proof.Body

@[expose] public section

noncomputable section

namespace Cert.Proof.Fox

open Cert.KernelIdeal Cert.KernelIdeal.Gen
open Idealize.ShloMosaic Idealize.ShloMosaic.TcCoe

theorem outK_at (S : Sums Ideal) (c : Fin 512) (e : Fin 128) :
    outK S (ix2 c e) = if half 0 e then S.1 (ix2 e c) else S.2.1 (ix2 e c) := by
  rw [outK, View.canon_unit_zero (by funext a; fin_cases a <;> rfl)]
  pointwise [k0_pay13, k0_pay137]
  simp only [cmp_lt, cmp_ge, cmp_64, cmp_0, sel_ite]

theorem outV_at (S : Sums Ideal) (c : Fin 512) (e : Fin 128) : outV S (ix2 c e) = S.2.2 (ix2 e c) := by
  rw [outV, View.canon_unit_zero (by funext a; fin_cases a <;> rfl)]
  pointwise [k0_pay14]

theorem outN_at (S : Sums Ideal) (h : Fin 2) (c : Fin 512) :
    outN S (ix4 0 0 h c) = if h = 0 then S.1 (ix2 64 c) else S.2.1 (ix2 0 c) := by
  rw [outN, View.canon_unit_zero (by funext a; fin_cases a <;> rfl)]
  pointwise [k0_pay15]
  fin_cases h <;> rfl

theorem outQ_at (Q : Vec Ideal S8192x128 .f32) (r : Fin 8192) (e : Fin 128) : outQ Q (ix2 r e) = Q (ix2 r e) := by
  rw [outQ, View.canon_unit_zero (by funext a; fin_cases a <;> rfl), View.ld_unit_zero (by funext a; fin_cases a <;> rfl)]
  pointwise [k0_pay123]

theorem zeroR (r : Fin 8192) (e : Fin 128) : k0_pay18 (F := Ideal) (ix2 r e) = 0 := by
  pointwise [k0_pay18]
theorem zeroQ (r : Fin 8192) (e : Fin 128) : k0_pay17 (F := Ideal) (ix2 r e) = 0 := by
  pointwise [k0_pay17]

/-- The spare lane of a head. -/
def sl (h : Fin 2) : Fin 128 := if h = 0 then 64 else 0

section Fill

variable (a b : Vec Ideal S1024x128 .bf16)

/-- A row's dot product over one half of the lanes, spread over the half. -/
def rowdot (a b : Fin 128 → EReal) (e : Fin 128) : EReal :=
  if half 0 e then ∑ x, (if half 0 x then a x * b x else 0) else ∑ x, (if half 1 x then a x * b x else 0)

theorem fill7 (r : Fin 1024) (e : Fin 128) : k0_pay146 k0_pay133 k0_pay134 (k0_pay36 (F := Ideal) a b) (Scalar.ofBits .f32 0x00000000#32) (ix2 r e)
    = rowdot (fun x => a (ix2 r x)) (fun x => b (ix2 r x)) e := by
  pointwise [k0_pay146, k0_pay36, k0_pay30, k0_pay133, k0_pay134]
  simp only [cmp_lt, cmp_ge, cmp_64, cmp_0, sel_ite, rowdot]

theorem fill6 (r : Fin 1024) (e : Fin 128) : k0_pay35 (F := Ideal) k0_pay133 k0_pay134 a b (ix2 r e)
    = rowdot (fun x => a (ix2 r x)) (fun x => b (ix2 r x)) e := by
  pointwise [k0_pay35, k0_pay133, k0_pay134]
  simp only [cmp_lt, cmp_ge, cmp_64, cmp_0, sel_ite, rowdot]
theorem fill5 (r : Fin 1024) (e : Fin 128) : k0_pay34 (F := Ideal) (k0_pay31 k0_pay134 a b) (k0_pay32 k0_pay133) (k0_pay33 k0_pay133 a b) (ix2 r e)
    = rowdot (fun x => a (ix2 r x)) (fun x => b (ix2 r x)) e := by
  pointwise [k0_pay34, k0_pay31, k0_pay32, k0_pay33, k0_pay30, k0_pay133, k0_pay134]
  simp only [cmp_lt, cmp_ge, cmp_64, cmp_0, sel_ite, rowdot]
theorem fill4 (r : Fin 1024) (e : Fin 128) : k0_pay29 (F := Ideal) k0_pay133 k0_pay134 (k0_pay27 a) (k0_pay28 b) (ix2 r e)
    = rowdot (fun x => a (ix2 r x)) (fun x => b (ix2 r x)) e := by
  pointwise [k0_pay29, k0_pay27, k0_pay28, k0_pay133, k0_pay134]
  simp only [cmp_lt, cmp_ge, cmp_64, cmp_0, sel_ite, rowdot]
theorem fill3 (r : Fin 1024) (e : Fin 128) : k0_pay26 (F := Ideal) k0_pay133 k0_pay134 a b (ix2 r e)
    = rowdot (fun x => a (ix2 r x)) (fun x => b (ix2 r x)) e := by
  pointwise [k0_pay26, k0_pay133, k0_pay134]
  simp only [cmp_lt, cmp_ge, cmp_64, cmp_0, sel_ite, rowdot]
theorem fill2 (r : Fin 1024) (e : Fin 128) : k0_pay25 (F := Ideal) k0_pay133 (k0_pay23 k0_pay133 a b) (k0_pay24 k0_pay134 a b) (ix2 r e)
    = rowdot (fun x => a (ix2 r x)) (fun x => b (ix2 r x)) e := by
  pointwise [k0_pay25, k0_pay23, k0_pay24, k0_pay22, k0_pay133, k0_pay134]
  simp only [cmp_lt, cmp_ge, cmp_64, cmp_0, sel_ite, rowdot]

theorem fill1 (r : Fin 1024) (e : Fin 128) : k0_pay21 (F := Ideal) k0_pay133 k0_pay134 (k0_pay20 a) b (ix2 r e)
    = rowdot (fun x => a (ix2 r x)) (fun x => b (ix2 r x)) e := by
  pointwise [k0_pay21, k0_pay20, k0_pay133, k0_pay134]
  simp only [cmp_lt, cmp_ge, cmp_64, cmp_0, sel_ite, rowdot]
theorem fill0 (r : Fin 1024) (e : Fin 128) : k0_pay19 (F := Ideal) k0_pay133 k0_pay134 a b (ix2 r e)
    = rowdot (fun x => a (ix2 r x)) (fun x => b (ix2 r x)) e := by
  pointwise [k0_pay19, k0_pay133, k0_pay134]
  simp only [cmp_lt, cmp_ge, cmp_64, cmp_0, sel_ite, rowdot]

end Fill

theorem rows7 (X : Vec Ideal S1024x128 .f32) (h : Fin 2) (x : Fin 1024) :
    k0_pay16 (F := Ideal) (k0_pay132 X) (ix4 0 0 h x) = X (ix2 x (sl h)) := by
  pointwise [k0_pay16, k0_pay132]
  fin_cases h <;> rfl
theorem rows3 (X : Vec Ideal S1024x128 .f32) (h : Fin 2) (x : Fin 1024) :
    k0_pay128 (F := Ideal) (k0_pay127 X) (ix4 0 0 h x) = X (ix2 x (sl h)) := by
  pointwise [k0_pay128, k0_pay127]
  fin_cases h <;> rfl
theorem rows6 (X : Vec Ideal S1024x128 .f32) (h : Fin 2) (x : Fin 1024) :
    k0_pay131 (F := Ideal) X (ix4 0 0 h x) = X (ix2 x (sl h)) := by
  pointwise [k0_pay131]
  fin_cases h <;> rfl
theorem rows5 (X : Vec Ideal S1024x128 .f32) (h : Fin 2) (x : Fin 1024) :
    k0_pay130 (F := Ideal) X (ix4 0 0 h x) = X (ix2 x (sl h)) := by
  pointwise [k0_pay130]
  fin_cases h <;> rfl
theorem rows4 (X : Vec Ideal S1024x128 .f32) (h : Fin 2) (x : Fin 1024) :
    k0_pay129 (F := Ideal) X (ix4 0 0 h x) = X (ix2 x (sl h)) := by
  pointwise [k0_pay129]
  fin_cases h <;> rfl
theorem rows2 (X : Vec Ideal S1024x128 .f32) (h : Fin 2) (x : Fin 1024) :
    k0_pay126 (F := Ideal) X (ix4 0 0 h x) = X (ix2 x (sl h)) := by
  pointwise [k0_pay126]
  fin_cases h <;> rfl
theorem rows1 (X : Vec Ideal S1024x128 .f32) (h : Fin 2) (x : Fin 1024) :
    k0_pay125 (F := Ideal) X (ix4 0 0 h x) = X (ix2 x (sl h)) := by
  pointwise [k0_pay125]
  fin_cases h <;> rfl
theorem rows0 (X : Vec Ideal S1024x128 .f32) (h : Fin 2) (x : Fin 1024) :
    k0_pay124 (F := Ideal) X (ix4 0 0 h x) = X (ix2 x (sl h)) := by
  pointwise [k0_pay124]
  fin_cases h <;> rfl

section Blocks

variable (x6 x8 : Vec Ideal S8192x128 .bf16)

theorem emb_rows {off : ℕ} {o : Fin 2 → ℕ} (ho : o = ![off, 0]) (inb : ∀ a : Fin 2, o a + (![1024, 128] : Fin 2 → ℕ) a ≤ S8192x128.size a)
    (r : Fin 1024) (e : Fin 128) : (Rect.unit (s := S8192x128) o ![1024, 128] inb).emb (ix2 r e) = ix2 (fr (off + r.val)) e := by
  subst ho
  have h : off + 1024 ≤ 8192 := inb 0
  have hr := r.isLt
  refine funext fun a => Fin.ext ?_
  match a with
  | ⟨0, _⟩ => show off + 1 * r.val = (off + r.val) % 8192; rw [Nat.mod_eq_of_lt (by omega)]; omega
  | ⟨1, _⟩ => show 0 + 1 * e.val = e.val; omega

/-- The rows' dot products, by index; -/
def dots : Vec Ideal S8192x128 .f32 := fun y => rowdot (fun x => x8 (ix2 (y 0) x)) (fun x => x6 (ix2 (y 0) x)) (y 1)
/-- the spare lanes of all rows, by row block. -/
def spares (R : Vec Ideal S8192x128 .f32) : Vec Ideal S1x8x2x1024 .f32 := fun y => R (ix2 (fr (1024 * (y 1).val + (y 3).val)) (sl (y 2)))

/-- The filled `D`: a row's dot product over each half of the lanes. -/
theorem fillD_at (r : Fin 8192) (e : Fin 128) :
    fillD x6 x8 (ix2 r e) = rowdot (fun x => x8 (ix2 r x)) (fun x => x6 (ix2 r x)) e := by
  have key : ∀ {off : ℕ} {o : Fin 2 → ℕ} (ho : o = ![off, 0]) (inb : ∀ a : Fin 2, o a + (![1024, 128] : Fin 2 → ℕ) a ≤ S8192x128.size a)
      (p : Vec Ideal S1024x128 .f32)
      (hp : ∀ (r : Fin 1024) (e : Fin 128), p (ix2 r e) = rowdot (fun x => View.ld x8 (Rect.unit (s := S8192x128) o ![1024, 128] inb) (ix2 r x))
        (fun x => View.ld x6 (Rect.unit (s := S8192x128) o ![1024, 128] inb) (ix2 r x)) e) (x : S1024x128.Idx),
      p x = (dots x6 x8)
        ((Rect.unit (s := S8192x128) o ![1024, 128] inb).emb x) := by
    intro off o ho inb p hp x
    obtain ⟨r, e, rfl⟩ : ∃ r e, x = ix2 r e := ⟨x 0, x 1, eq_ix2 x⟩
    rw [emb_rows ho, hp]
    simp only [ld_rows x8 ho inb, ld_rows x6 ho inb]
    rfl
  refine View.canon_apply_of_pieces (dots x6 x8) _ ?_ _
    (cover_rows _ _ _ _ _ _ _ _ _)
  simp only [List.mem_cons, List.not_mem_nil, or_false, forall_eq_or_imp, forall_eq]
  exact ⟨key rfl _ _ (fill7 _ _), key rfl _ _ (fill6 _ _), key rfl _ _ (fill5 _ _), key rfl _ _ (fill4 _ _), key rfl _ _ (fill3 _ _),
    key rfl _ _ (fill2 _ _), key rfl _ _ (fill1 _ _), key rfl _ _ (fill0 _ _)⟩

/-- What a head pair's last point writes of the rows' bias gradient. -/
theorem outR_at (R : Vec Ideal S8192x128 .f32) (b : Fin 8) (h : Fin 2) (x : Fin 1024) :
    outR R (ix4 0 b h x) = R (ix2 (fr (1024 * b.val + x.val)) (sl h)) := by
  have key : ∀ {n : ℕ} {o : Fin 4 → ℕ} (ho : o = ![0, n, 0, 0]) (inb : ∀ a : Fin 4, o a + (![1, 1, 2, 1024] : Fin 4 → ℕ) a ≤ S1x8x2x1024.size a)
      {o' : Fin 2 → ℕ} (ho' : o' = ![1024 * n, 0]) (inb' : ∀ a : Fin 2, o' a + (![1024, 128] : Fin 2 → ℕ) a ≤ S8192x128.size a)
      (p : Vec Ideal S1x1x2x1024 .f32)
      (hp : ∀ (h : Fin 2) (x : Fin 1024), p (ix4 0 0 h x) = View.ld R (Rect.unit (s := S8192x128) o' ![1024, 128] inb') (ix2 x (sl h))) (y : S1x1x2x1024.Idx),
      p y = (spares R)
        ((Rect.unit (s := S1x8x2x1024) o ![1, 1, 2, 1024] inb).emb y) := by
    intro n o ho inb o' ho' inb' p hp y
    obtain ⟨h, x, rfl⟩ : ∃ h x, y = ix4 0 0 h x := ⟨y 2, y 3, by
      funext a; match a with
      | ⟨0, _⟩ => exact Subsingleton.elim (α := Fin 1) _ _
      | ⟨1, _⟩ => exact Subsingleton.elim (α := Fin 1) _ _
      | ⟨2, _⟩ => rfl
      | ⟨3, _⟩ => rfl⟩
    rw [hp, ld_rows R ho' inb']
    subst ho
    have e1 : ((Rect.unit (s := S1x8x2x1024) ![0, n, 0, 0] ![1, 1, 2, 1024] inb).emb (ix4 0 0 h x) 1).val = n := by
      show n + 1 * 0 = n; omega
    have e2 : (Rect.unit (s := S1x8x2x1024) ![0, n, 0, 0] ![1, 1, 2, 1024] inb).emb (ix4 0 0 h x) 2 = h := by
      refine Fin.ext ?_; show 0 + 1 * h.val = h.val; omega
    have e3 : ((Rect.unit (s := S1x8x2x1024) ![0, n, 0, 0] ![1, 1, 2, 1024] inb).emb (ix4 0 0 h x) 3).val = x.val := by
      show 0 + 1 * x.val = x.val; omega
    unfold spares
    rw [e1, e2, e3]
  refine View.canon_apply_of_pieces (spares R) _ ?_ _
    (cover_rowBlocks _ _ _ _ _ _ _ _ _)
  simp only [List.mem_cons, List.not_mem_nil, or_false, forall_eq_or_imp, forall_eq]
  exact ⟨key rfl _ rfl _ _ (rows7 _), key rfl _ rfl _ _ (rows6 _), key rfl _ rfl _ _ (rows5 _), key rfl _ rfl _ _ (rows4 _), key rfl _ rfl _ _ (rows3 _),
    key rfl _ rfl _ _ (rows2 _), key rfl _ rfl _ _ (rows1 _), key rfl _ rfl _ _ (rows0 _)⟩

end Blocks

end Cert.Proof.Fox
-- ==== Proof.Kern.lean ====
/-
  A block of the kernel in terms of its two heads: lane `64 h + x` of the 128 is column `x` of head `h`.
-/
module

public import proofs.«01_k».proof.Proof.Accum
public import proofs.«01_k».proof.Proof.Ends

@[expose] public section

noncomputable section

namespace Cert.Proof.Fox

open Idealize.ShloMosaic Idealize.ShloMosaic.TcCoe
open Finset (range)

/-- Column `x` of head `h` among the lanes. -/
def ln (h : Fin 2) (x : Fin 64) : Fin 128 := ⟨64 * h.val + x.val, by omega⟩

theorem half_ln (h g : Fin 2) (x : Fin 64) : half h (ln g x) ↔ h = g := by
  rw [Fin.ext_iff]; simp only [half, ln]; omega

theorem half_self (h : Fin 2) (x : Fin 64) : half h (ln h x) := (half_ln h h x).mpr rfl

theorem sum_half (h : Fin 2) (f : Fin 128 → EReal) : ∑ e, (if half h e then f e else 0) = ∑ x, f (ln h x) := by
  rw [← Finset.sum_filter]
  refine (Finset.sum_nbij (ln h) (fun x _ => Finset.mem_filter.mpr ⟨Finset.mem_univ _, half_self h x⟩) ?_ ?_ (fun _ _ => rfl)).symm
  · intro x _ y _ e
    have := congrArg Fin.val e
    simp only [ln] at this
    exact Fin.ext (by omega)
  · intro e he
    have he : e.val / 64 = h.val := (Finset.mem_filter.mp (Finset.mem_coe.mp he)).2
    exact ⟨⟨e.val % 64, by omega⟩, Finset.mem_coe.mpr (Finset.mem_univ _), Fin.ext (by simp only [ln]; omega)⟩

/-- A sum over the rows, by number. -/
theorem sum_rows (f : ℕ → EReal) (g : Fin 8192 → EReal) (h : ∀ r : Fin 8192, f r.val = g r) : ∑ r ∈ range 8192, f r = ∑ r, g r := by
  rw [Finset.sum_range]; exact Finset.sum_congr rfl fun r _ => h r

/-! ## One head -/

section Head

variable (q k v d : Fin 8192 → Fin 64 → EReal) (n l δ : Fin 8192 → EReal)

/-- The kernel's probability, from the saved log-sums, and its gradient of the score, from the deltas. -/
def kp (i j : Fin 8192) : EReal := if j.val ≤ i.val then Ideal.exp (∑ x, q i x * w8 * k j x + n j - l i) else 0
def kds (i j : Fin 8192) : EReal := kp q k n l i j * (∑ x, d i x * v j x - δ i)

end Head

/-- Block `B` holds all rows and the columns of block `j` of two heads. -/
structure Holds (B : Blk ℕ) (j : ℕ) (q k v d : Fin 2 → Fin 8192 → Fin 64 → EReal) (n l δ : Fin 2 → Fin 8192 → EReal) : Prop where
  aM : ∀ r c, B.M r c = decide (512 * j + c.val ≤ r)
  aq : ∀ h r x, B.q r (ln h x) = q h (fr r) x
  aqo : ∀ h r x, B.qo r (ln h x) = d h (fr r) x
  aqt : ∀ h r x, B.qt r (ln h x) = q h (fr r) x
  adt : ∀ h r x, B.dt r (ln h x) = d h (fr r) x
  al : ∀ h r, B.l r (hl h) = l h (fr r)
  ade : ∀ h r, B.de r (hl h) = δ h (fr r)
  ak : ∀ h c x, B.k c (ln h x) = k h (fr (512 * j + c.val)) x
  av : ∀ h c x, B.v c (ln h x) = v h (fr (512 * j + c.val)) x
  anb : ∀ h c, B.nb h c = n h (fr (512 * j + c.val))

namespace Holds

variable {B : Blk ℕ} {j : ℕ} {q k v d : Fin 2 → Fin 8192 → Fin 64 → EReal} {n l δ : Fin 2 → Fin 8192 → EReal}
  (H : Holds B j q k v d n l δ) (hj : j < 16)
include H hj

theorem P_eq (h : Fin 2) (r : Fin 8192) (c : Fin 512) : B.P h r.val c = kp (q h) (k h) (n h) (l h) r (fr (512 * j + c.val)) := by
  unfold Blk.P kp
  rw [H.aM, sum_half h fun e => B.q r.val e * w8 * B.k c e, H.anb, H.al, fr_of_lt (by omega), fr_val]
  simp only [H.aq, H.ak, fr_val, decide_eq_true_eq]

theorem DS_eq (h : Fin 2) (r : Fin 8192) (c : Fin 512) :
    B.DS h r.val c = kds (q h) (k h) (v h) (d h) (n h) (l h) (δ h) r (fr (512 * j + c.val)) := by
  unfold Blk.DS kds
  rw [H.P_eq hj, sum_half h fun e => B.qo r.val e * B.v c e, H.ade, fr_val]
  simp only [H.aqo, H.av, fr_val]

theorem cV_own (h : Fin 2) (r : Fin 8192) (x : Fin 64) (c : Fin 512) :
    B.cV h r.val (ln h x) c = d h r x * kp (q h) (k h) (n h) (l h) r (fr (512 * j + c.val)) := by
  rw [Blk.cV, if_pos (half_self h x), H.P_eq hj, H.adt, fr_val]
omit H hj in
theorem cV_other (h g : Fin 2) (hg : h ≠ g) (r : ℕ) (x : Fin 64) (c : Fin 512) : B.cV h r (ln g x) c = 0 := by
  rw [Blk.cV, if_neg fun e => hg ((half_ln h g x).mp e), zero_mul]

theorem cK_own (h : Fin 2) (r : Fin 8192) (x : Fin 64) (c : Fin 512) :
    B.cK h r.val (ln h x) c = q h r x * w8 * kds (q h) (k h) (v h) (d h) (n h) (l h) (δ h) r (fr (512 * j + c.val)) := by
  rw [Blk.cK, if_pos (half_self h x), H.DS_eq hj, H.aqt, fr_val]

omit H hj in
theorem spare_sl (h : Fin 2) : spare h (sl h) ∧ ¬half h (sl h) := by revert h; decide

theorem cK_spare (h : Fin 2) (r : Fin 8192) (c : Fin 512) :
    B.cK h r.val (sl h) c = kds (q h) (k h) (v h) (d h) (n h) (l h) (δ h) r (fr (512 * j + c.val)) := by
  rw [Blk.cK, if_neg (spare_sl h).2, if_pos (spare_sl h).1, one_mul, H.DS_eq hj]

theorem dqf_own (h : Fin 2) (r : Fin 8192) (x : Fin 64) :
    B.dqf h r.val (ln h x) = ∑ c : Fin 512, kds (q h) (k h) (v h) (d h) (n h) (l h) (δ h) r (fr (512 * j + c.val)) * k h (fr (512 * j + c.val)) x := by
  rw [Blk.dqf]
  refine Finset.sum_congr rfl fun c _ => ?_
  rw [if_pos (half_self h x), H.DS_eq hj, H.ak]

theorem dqf_spare (h : Fin 2) (r : Fin 8192) :
    B.dqf h r.val (sl h) = ∑ c : Fin 512, kds (q h) (k h) (v h) (d h) (n h) (l h) (δ h) r (fr (512 * j + c.val)) := by
  rw [Blk.dqf]
  refine Finset.sum_congr rfl fun c _ => ?_
  rw [if_neg (spare_sl h).2, if_pos (spare_sl h).1, mul_one, H.DS_eq hj]

theorem cQ_own (h : Fin 2) (r : Fin 8192) (x : Fin 64) :
    B.cQ r.val (ln h x) = (∑ c : Fin 512, kds (q h) (k h) (v h) (d h) (n h) (l h) (δ h) r (fr (512 * j + c.val)) * k h (fr (512 * j + c.val)) x) * w8f := by
  rw [← H.dqf_own hj, Blk.cQ]
  congr 1
  match h with
  | 0 => exact if_pos (half_self 0 x)
  | 1 => exact if_neg fun e => absurd ((half_ln 0 1 x).mp e) (by decide)

theorem cR_own (h : Fin 2) (r : Fin 8192) :
    B.cR r.val (sl h) = ∑ c : Fin 512, kds (q h) (k h) (v h) (d h) (n h) (l h) (δ h) r (fr (512 * j + c.val)) := by
  rw [← H.dqf_spare hj, Blk.cR]
  match h with
  | 0 => exact if_pos (spare_sl 0).1
  | 1 => exact (if_neg (by decide)).trans (if_pos (spare_sl 1).1)

/-! ## The sums after all rows -/

variable {R Q : Vec Ideal ⟨2, ![8192, 128]⟩ .f32} {s : Sums Ideal × Vec Ideal ⟨2, ![8192, 128]⟩ .f32 × Vec Ideal ⟨2, ![8192, 128]⟩ .f32}
  (A : Acc B R Q 8192 s)
include A

theorem outK_own (h : Fin 2) (x : Fin 64) (c : Fin 512) : outK s.1 (ix2 c (ln h x))
    = ∑ r, q h r x * w8 * kds (q h) (k h) (v h) (d h) (n h) (l h) (δ h) r (fr (512 * j + c.val)) := by
  rw [outK_at]
  refine Eq.trans ?_ (sum_rows (fun r => B.cK h r (ln h x) c) _ fun r => H.cK_own hj h r x c)
  match h with
  | 0 => exact (if_pos (half_self 0 x)).trans (A.k0 _ _)
  | 1 => exact (if_neg fun e => absurd ((half_ln 0 1 x).mp e) (by decide)).trans (A.k1 _ _)

theorem outV_own (h : Fin 2) (x : Fin 64) (c : Fin 512) : outV s.1 (ix2 c (ln h x))
    = ∑ r, d h r x * kp (q h) (k h) (n h) (l h) r (fr (512 * j + c.val)) := by
  rw [outV_at, A.v]
  refine Eq.trans ?_ (sum_rows (fun r => B.cV h r (ln h x) c) _ fun r => H.cV_own hj h r x c)
  match h with
  | 0 => rw [Finset.sum_eq_zero (f := fun r => B.cV 1 r _ c) fun r _ => cV_other 1 0 (by decide) r x c, add_zero]
  | 1 => rw [Finset.sum_eq_zero (f := fun r => B.cV 0 r _ c) fun r _ => cV_other 0 1 (by decide) r x c, zero_add]

theorem outN_own (h : Fin 2) (c : Fin 512) : outN s.1 (ix4 0 0 h c)
    = ∑ r, kds (q h) (k h) (v h) (d h) (n h) (l h) (δ h) r (fr (512 * j + c.val)) := by
  rw [outN_at]
  refine Eq.trans ?_ (sum_rows (fun r => B.cK h r (sl h) c) _ fun r => H.cK_spare hj h r c)
  match h with
  | 0 => exact (if_pos rfl).trans (A.k0 _ _)
  | 1 => exact (if_neg (by decide)).trans (A.k1 _ _)

theorem q_own (h : Fin 2) (r : Fin 8192) (x : Fin 64) : s.2.2 (ix2 r (ln h x)) = Q (ix2 r (ln h x))
    + (∑ c : Fin 512, kds (q h) (k h) (v h) (d h) (n h) (l h) (δ h) r (fr (512 * j + c.val)) * k h (fr (512 * j + c.val)) x) * w8f := by
  rw [A.q, if_pos r.isLt, H.cQ_own hj]

theorem r_own (h : Fin 2) (r : Fin 8192) : s.2.1 (ix2 r (sl h)) = R (ix2 r (sl h))
    + ∑ c : Fin 512, kds (q h) (k h) (v h) (d h) (n h) (l h) (δ h) r (fr (512 * j + c.val)) := by
  rw [A.r, if_pos r.isLt, H.cR_own hj]

end Holds

/-! ## The body's block, from the blocks it is given -/

section Given

open Cert.KernelIdeal Cert.KernelIdeal.Gen

theorem ldB (X : Vec Ideal S512x128 .bf16) (r : Fin 512) (e : Fin 128) : View.ld X rB (ix2 r e) = X (ix2 r e) := by
  rw [View.ld_unit_zero (by funext a; fin_cases a <;> rfl)]
theorem ldN (X : Vec Ideal S1x1x2x512 .f32) (h : Fin 2) (r : Fin 512) : (k0_pay144 (View.ld X rN) : Vec Ideal S2x512 .f32) (ix2 h r) = X (ix4 0 0 h r) := by
  rw [View.ld_unit_zero (by funext a; fin_cases a <;> rfl)]
  pointwise [k0_pay144]

theorem holds_pB (i : grid0.Coords) (x2 : Vec Ideal S8192x128 .bf16) (x3 x4 : Vec Ideal S512x128 .bf16) (x5 : Vec Ideal S1x1x2x512 .f32) (x7 : Vec Ideal S1x8192x128 .f32)
    (x8 : Vec Ideal S8192x128 .bf16) (x9 x10 : Vec Ideal S8x128x1024 .bf16) (D : Vec Ideal S8192x128 .f32) (j : ℕ)
    (q k v d : Fin 2 → Fin 8192 → Fin 64 → EReal) (n l δ : Fin 2 → Fin 8192 → EReal) (hi : (i 1).val = j)
    (h2 : ∀ h r x, x2 (ix2 r (ln h x)) = q h r x) (h3 : ∀ h r x, x3 (ix2 r (ln h x)) = k h (fr (512 * j + r.val)) x)
    (h4 : ∀ h r x, x4 (ix2 r (ln h x)) = v h (fr (512 * j + r.val)) x) (h5 : ∀ h r, x5 (ix4 0 0 h r) = n h (fr (512 * j + r.val)))
    (h7 : ∀ h r e, e.val / 64 = h.val → x7 (ix3 0 r e) = l h r) (h8 : ∀ h r x, x8 (ix2 r (ln h x)) = d h r x)
    (h9 : ∀ h r x, x9 (ix3 (frb r) (ln h x) (fri r)) = q h (fr r) x) (h10 : ∀ h r x, x10 (ix3 (frb r) (ln h x) (fri r)) = d h (fr r) x)
    (hD : ∀ h r, D (ix2 r (hl h)) = δ h r) :
    Holds (pB i x2 x7 x8 x9 x10 (View.ld x3 rB) (View.ld x4 rB) (k0_pay144 (View.ld x5 rN)) D) j q k v d n l δ where
  aM r x := by show decide (512 * (i 1).val + x.val ≤ r) = _; rw [hi]
  aq h r x := h2 h (fr r) x
  aqo h r x := h8 h (fr r) x
  aqt h r x := h9 h r x
  adt h r x := h10 h r x
  al h r := h7 h (fr r) (hl h) (by show 64 * h.val / 64 = h.val; omega)
  ade h r := hD h (fr r)
  ak h r x := (ldB _ r (ln h x)).trans (h3 h r x)
  av h r x := (ldB _ r (ln h x)).trans (h4 h r x)
  anb h r := (ldN _ h r).trans (h5 h r)

theorem fill_own (x6 x8 : Vec Ideal S8192x128 .bf16) (o d : Fin 64 → EReal) (h : Fin 2) (r : Fin 8192) (h6 : ∀ x, x6 (ix2 r (ln h x)) = o x)
    (h8 : ∀ x, x8 (ix2 r (ln h x)) = d x) : fillD x6 x8 (ix2 r (hl h)) = ∑ x, d x * o x := by
  rw [fillD_at]
  have e : (∑ x, if half h x then x8 (ix2 r x) * x6 (ix2 r x) else 0) = ∑ x, d x * o x := by
    rw [sum_half h fun x => x8 (ix2 r x) * x6 (ix2 r x)]
    refine Finset.sum_congr rfl fun x _ => ?_
    rw [h6, h8]
  match h, e with
  | 0, e => exact (if_pos rfl).trans e
  | 1, e => exact (if_neg (by decide)).trans e

variable (i : grid0.Coords)

theorem initD_first (h : (i 1).val = 0) (x6 x8 : Vec Ideal S8192x128 .bf16) (D : Vec Ideal S8192x128 .f32) : initD i x6 x8 D = fillD x6 x8 := if_pos ((first_iff i).mpr h)
theorem initD_later (h : (i 1).val ≠ 0) (x6 x8 : Vec Ideal S8192x128 .bf16) (D : Vec Ideal S8192x128 .f32) : initD i x6 x8 D = D := if_neg fun e => h ((first_iff i).mp e)
theorem initR_first (h : (i 1).val = 0) (R : Vec Ideal S8192x128 .f32) : initR i R = k0_pay18 (F := Ideal) := if_pos ((first_iff i).mpr h)
theorem initR_later (h : (i 1).val ≠ 0) (R : Vec Ideal S8192x128 .f32) : initR i R = R := if_neg fun e => h ((first_iff i).mp e)
theorem initQ_first (h : (i 1).val = 0) (Q : Vec Ideal S8192x128 .f32) : initQ i Q = k0_pay17 (F := Ideal) := if_pos ((first_iff i).mpr h)
theorem initQ_later (h : (i 1).val ≠ 0) (Q : Vec Ideal S8192x128 .f32) : initQ i Q = Q := if_neg fun e => h ((first_iff i).mp e)

end Given

end Cert.Proof.Fox
-- ==== Proof.Carry.lean ====
/-
  The carried arrays and the results' blocks at each point, head by head. The points of a pair of heads run through its 16 column
  blocks: the first fills the deltas and clears the sums, and each adds its columns' terms.
-/
module

public import proofs.«01_k».proof.Proof.Blocks
public import proofs.«01_k».proof.Proof.Host
public import proofs.«01_k».proof.Proof.Kern

@[expose] public section

noncomputable section

namespace Cert.Proof.Fox

open Cert.KernelIdeal Cert.KernelIdeal.Gen
open Idealize.ShloMosaic Idealize.ShloMosaic.TcCoe
open Finset (range)

variable (m : (ℓ : Loc nD τ sig) → Buf (Elt Ideal) ℓ) (c : Dev nD)

/-- Head `h` of pair `p`. -/
def hp (p : ℕ) (h : Fin 2) : Fin 16 := fx 16 (2 * p + h.val)

abbrev Qh (p : ℕ) (h : Fin 2) : Fin 8192 → Fin 64 → EReal := hq (arg0 m c) (hp p h)
abbrev Kh (p : ℕ) (h : Fin 2) : Fin 8192 → Fin 64 → EReal := hk (arg0 m c) (hp p h)
abbrev Vh (p : ℕ) (h : Fin 2) : Fin 8192 → Fin 64 → EReal := hv (arg0 m c) (hp p h)
abbrev Gh (p : ℕ) (h : Fin 2) : Fin 8192 → Fin 64 → EReal := hg (arg2 m c) (hp p h)
abbrev Nh (p : ℕ) (h : Fin 2) : Fin 8192 → EReal := hn (arg1 m c) (hp p h)
abbrev Lh (p : ℕ) (h : Fin 2) : Fin 8192 → EReal := lse (Qh m c p h) (Kh m c p h) (Nh m c p h)
abbrev Oh (p : ℕ) (h : Fin 2) : Fin 8192 → Fin 64 → EReal := out (Qh m c p h) (Kh m c p h) (Vh m c p h) (Nh m c p h)
/-- The deltas. -/
def Dh (p : ℕ) (h : Fin 2) (i : Fin 8192) : EReal := ∑ x, Gh m c p h i x * Oh m c p h i x

variable (t : Fin cfg0.N)

theorem t_lt : t.val < 128 := t.isLt

/-! ## The blocks given to a point -/

theorem b0 (h : Fin 2) (r : Fin 8192) (x : Fin 64) : (iblk m c 0 t : Vec Ideal S8192x128 .bf16) (ix2 r (ln h x)) = Qh m c (t.val / 16) h r x := by
  have ht := t_lt t
  rw [iblk0, V_main_arg0]
  refine congrArg (arg0 m c) (congrArg (ix2 r) (Fin.ext ?_))
  show (128 * (42 + t.val / 16) + (64 * h.val + x.val)) % 8704 = 5376 + ((2 * (t.val / 16) + h.val) % 16 * 64 + x.val)
  omega
theorem b1 (h : Fin 2) (r : Fin 512) (x : Fin 64) : (iblk m c 1 t : Vec Ideal S512x128 .bf16) (ix2 r (ln h x)) = Kh m c (t.val / 16) h (fr (512 * (t.val % 16) + r.val)) x := by
  have ht := t_lt t
  rw [iblk1, V_main_arg0]
  refine congrArg (arg0 m c) (congrArg (ix2 _) (Fin.ext ?_))
  show (128 * (50 + t.val / 16) + (64 * h.val + x.val)) % 8704 = 6400 + ((2 * (t.val / 16) + h.val) % 16 * 64 + x.val)
  omega
theorem b2 (h : Fin 2) (r : Fin 512) (x : Fin 64) : (iblk m c 2 t : Vec Ideal S512x128 .bf16) (ix2 r (ln h x)) = Vh m c (t.val / 16) h (fr (512 * (t.val % 16) + r.val)) x := by
  have ht := t_lt t
  rw [iblk2, V_main_arg0]
  refine congrArg (arg0 m c) (congrArg (ix2 _) (Fin.ext ?_))
  show (128 * (58 + t.val / 16) + (64 * h.val + x.val)) % 8704 = 7424 + ((2 * (t.val / 16) + h.val) % 16 * 64 + x.val)
  omega
theorem b3 (h : Fin 2) (r : Fin 512) : (iblk m c 3 t : Vec Ideal S1x1x2x512 .f32) (ix4 0 0 h r) = Nh m c (t.val / 16) h (fr (512 * (t.val % 16) + r.val)) := by
  have ht := t_lt t
  rw [iblk3, host_44]
  refine congrArg₂ (hn (arg1 m c)) (Fin.ext ?_) (Fin.ext ?_)
  · show t.val / 16 % 8 * 2 + h.val = (2 * (t.val / 16) + h.val) % 16
    omega
  · show t.val % 16 % 16 * 512 + r.val = (512 * (t.val % 16) + r.val) % 8192
    omega
theorem b4 (h : Fin 2) (r : Fin 8192) (x : Fin 64) : (iblk m c 4 t : Vec Ideal S8192x128 .bf16) (ix2 r (ln h x)) = Oh m c (t.val / 16) h r x := by
  have ht := t_lt t
  rw [iblk4, host_35, fO_at]
  have e1 : (⟨(fx 1024 (128 * (t.val / 16) + (ln h x).val)).val / 64, by omega⟩ : Fin 16) = hp (t.val / 16) h := Fin.ext (by
    show (128 * (t.val / 16) + (64 * h.val + x.val)) % 1024 / 64 = (2 * (t.val / 16) + h.val) % 16
    omega)
  have e2 : (⟨(fx 1024 (128 * (t.val / 16) + (ln h x).val)).val % 64, by omega⟩ : Fin 64) = x := Fin.ext (by
    show (128 * (t.val / 16) + (64 * h.val + x.val)) % 1024 % 64 = x.val
    omega)
  rw [e1, e2]
theorem b5 (h : Fin 2) (r : Fin 8192) (e : Fin 128) (he : e.val / 64 = h.val) : (iblk m c 5 t : Vec Ideal S1x8192x128 .f32) (ix3 0 r e) = Lh m c (t.val / 16) h r := by
  have ht := t_lt t
  rw [iblk5, host_42, fLse_at]
  have e1 : (⟨(fx 8 (t.val / 16)).val * 2 + e.val / 64, by omega⟩ : Fin 16) = hp (t.val / 16) h := Fin.ext (by
    show t.val / 16 % 8 * 2 + e.val / 64 = (2 * (t.val / 16) + h.val) % 16
    omega)
  rw [e1]
theorem b6 (h : Fin 2) (r : Fin 8192) (x : Fin 64) : (iblk m c 6 t : Vec Ideal S8192x128 .bf16) (ix2 r (ln h x)) = Gh m c (t.val / 16) h r x := by
  have ht := t_lt t
  rw [iblk6, V_main_arg2]
  refine congrArg (arg2 m c) (congrArg (ix2 r) (Fin.ext ?_))
  show (128 * (t.val / 16) + (64 * h.val + x.val)) % 1024 = (2 * (t.val / 16) + h.val) % 16 * 64 + x.val
  omega
theorem b7 (h : Fin 2) (r : ℕ) (x : Fin 64) : (iblk m c 7 t : Vec Ideal S8x128x1024 .bf16) (ix3 (frb r) (ln h x) (fri r)) = Qh m c (t.val / 16) h (fr r) x := by
  have ht := t_lt t
  rw [iblk7, host_47]
  refine congrArg (arg0 m c) (congrArg₂ ix2 (Fin.ext ?_) (Fin.ext ?_))
  · show r / 1024 % 8 * 1024 + r % 1024 = r % 8192
    omega
  · show 5376 + (128 * (t.val / 16) + (64 * h.val + x.val)) % 1024 = 5376 + ((2 * (t.val / 16) + h.val) % 16 * 64 + x.val)
    omega
theorem b8 (h : Fin 2) (r : ℕ) (x : Fin 64) : (iblk m c 8 t : Vec Ideal S8x128x1024 .bf16) (ix3 (frb r) (ln h x) (fri r)) = Gh m c (t.val / 16) h (fr r) x := by
  have ht := t_lt t
  rw [iblk8, host_49]
  refine congrArg (arg2 m c) (congrArg₂ ix2 (Fin.ext ?_) (Fin.ext ?_))
  · show r / 1024 % 8 * 1024 + r % 1024 = r % 8192
    omega
  · show (128 * (t.val / 16) + (64 * h.val + x.val)) % 1024 = (2 * (t.val / 16) + h.val) % 16 * 64 + x.val
    omega

/-- Point `t`'s block, with the deltas `D`. -/
abbrev B_ (D : Vec Ideal S8192x128 .f32) : Blk ℕ :=
  pB (grid0.coords t) (iblk m c 0 t) (iblk m c 5 t) (iblk m c 6 t) (iblk m c 7 t) (iblk m c 8 t) (View.ld (iblk m c 1 t) rB) (View.ld (iblk m c 2 t) rB)
    (k0_pay144 (View.ld (iblk m c 3 t) rN)) D

abbrev HoldsAt (B : Blk ℕ) : Prop :=
  Holds B (t.val % 16) (Qh m c (t.val / 16)) (Kh m c (t.val / 16)) (Vh m c (t.val / 16)) (Gh m c (t.val / 16)) (Nh m c (t.val / 16)) (Lh m c (t.val / 16)) (Dh m c (t.val / 16))

theorem holds_at (D : Vec Ideal S8192x128 .f32) (hD : ∀ h r, D (ix2 r (hl h)) = Dh m c (t.val / 16) h r) : HoldsAt m c t (B_ m c t D) :=
  holds_pB (grid0.coords t) (iblk m c 0 t) (iblk m c 1 t) (iblk m c 2 t) (iblk m c 3 t) (iblk m c 5 t) (iblk m c 6 t) (iblk m c 7 t) (iblk m c 8 t) D (t.val % 16)
    (Qh m c (t.val / 16)) (Kh m c (t.val / 16)) (Vh m c (t.val / 16)) (Gh m c (t.val / 16)) (Nh m c (t.val / 16)) (Lh m c (t.val / 16)) (Dh m c (t.val / 16))
    (coord1 t) (b0 m c t) (b1 m c t) (b2 m c t) (b3 m c t) (b5 m c t) (b6 m c t) (b7 m c t) (b8 m c t) hD

/-! ## The carried arrays -/

/-- The carried arrays as point `t` finds them, after the first point's filling. -/
def cD : Vec Ideal S8192x128 .f32 := initD (grid0.coords t) (iblk m c 4 t) (iblk m c 6 t) (carried m c t.val).1
def cR : Vec Ideal S8192x128 .f32 := initR (grid0.coords t) (carried m c t.val).2.1
def cQ : Vec Ideal S8192x128 .f32 := initQ (grid0.coords t) (carried m c t.val).2.2

theorem cD_first (h0 : t.val % 16 = 0) (h : Fin 2) (r : Fin 8192) : cD m c t (ix2 r (hl h)) = Dh m c (t.val / 16) h r :=
  (congrFun (initD_first (grid0.coords t) ((coord1 t).trans h0) (iblk m c 4 t) (iblk m c 6 t) (carried m c t.val).1) _).trans
    (fill_own (iblk m c 4 t) (iblk m c 6 t) (Oh m c (t.val / 16) h r) (Gh m c (t.val / 16) h r) h r (b4 m c t h r) (b6 m c t h r))
theorem cR_first (h0 : t.val % 16 = 0) : cR m c t = k0_pay18 (F := Ideal) := initR_first _ ((coord1 t).trans h0) _
theorem cQ_first (h0 : t.val % 16 = 0) : cQ m c t = k0_pay17 (F := Ideal) := initQ_first _ ((coord1 t).trans h0) _

theorem nextAt_1 (s) : (nextAt m c t s).1 = initD (grid0.coords t) (iblk m c 4 t) (iblk m c 6 t) s.1 := rfl
theorem nextAt_21 (s) : (nextAt m c t s).2.1 = (at_ m c t s).2.1 := by dsimp only [nextAt]
theorem nextAt_22 (s) : (nextAt m c t s).2.2 = (at_ m c t s).2.2 := by dsimp only [nextAt]

/-- What point `t` leaves. -/
abbrev left_ := at_ m c t (carried m c t.val)

section Later
variable (n : ℕ) (hn : n + 1 < cfg0.N) (h0 : (n + 1) % 16 ≠ 0)
include h0

theorem later1 : (grid0.coords ⟨n + 1, hn⟩ 1).val ≠ 0 := fun e => h0 ((coord1 ⟨n + 1, hn⟩).symm.trans e)
theorem cD_later : cD m c ⟨n + 1, hn⟩ = cD m c ⟨n, by omega⟩ :=
  (initD_later _ (later1 n hn h0) _ _ _).trans ((congrArg Prod.fst (carried_at m c n (by omega))).trans (nextAt_1 m c _ _))
theorem cR_later : cR m c ⟨n + 1, hn⟩ = (left_ m c ⟨n, by omega⟩).2.1 :=
  (initR_later _ (later1 n hn h0) _).trans ((congrArg (fun s => s.2.1) (carried_at m c n (by omega))).trans (nextAt_21 m c _ _))
theorem cQ_later : cQ m c ⟨n + 1, hn⟩ = (left_ m c ⟨n, by omega⟩).2.2 :=
  (initQ_later _ (later1 n hn h0) _).trans ((congrArg (fun s => s.2.2) (carried_at m c n (by omega))).trans (nextAt_22 m c _ _))

end Later

/-- The deltas the point works with. -/
theorem cD_at : ∀ (n : ℕ) (hn : n < cfg0.N) (h : Fin 2) (r : Fin 8192), cD m c ⟨n, hn⟩ (ix2 r (hl h)) = Dh m c (n / 16) h r := by
  intro n
  induction n with
  | zero => exact fun hn h r => cD_first m c ⟨0, hn⟩ rfl h r
  | succ n ih =>
    intro hn h r
    by_cases h0 : (n + 1) % 16 = 0
    · exact cD_first m c ⟨n + 1, hn⟩ h0 h r
    · rw [cD_later m c n hn h0, ih (by omega) h r, show (n + 1) / 16 = n / 16 by omega]

theorem holds_t : HoldsAt m c t (B_ m c t (cD m c t)) := holds_at m c t (cD m c t) (cD_at m c t.val t.isLt)

theorem acc_t : Acc (B_ m c t (cD m c t)) (cR m c t) (cQ m c t) 8192 (left_ m c t) :=
  acc_point (grid0.coords t) (iblk m c 0 t) (iblk m c 5 t) (iblk m c 6 t) (iblk m c 7 t) (iblk m c 8 t) (carried m c t.val).1 (carried m c t.val).2.1
    (carried m c t.val).2.2 (iblk m c 1 t) (iblk m c 2 t) (iblk m c 3 t) (iblk m c 4 t)

/-! ## One head's results -/

/-- The kernel's gradient of the score for head `h` of pair `p`, -/
def Sh (p : ℕ) (h : Fin 2) : Fin 8192 → Fin 8192 → EReal :=
  kds (Qh m c p h) (Kh m c p h) (Vh m c p h) (Gh m c p h) (Nh m c p h) (Lh m c p h) (Dh m c p h)
/-- its probability, -/
def Ph (p : ℕ) (h : Fin 2) : Fin 8192 → Fin 8192 → EReal := kp (Qh m c p h) (Kh m c p h) (Nh m c p h) (Lh m c p h)
/-- and what column block `j` adds to dq and to the row sums. -/
def qT (p : ℕ) (h : Fin 2) (r : Fin 8192) (x : Fin 64) (j : ℕ) : EReal :=
  (∑ y : Fin 512, Sh m c p h r (fr (512 * j + y.val)) * Kh m c p h (fr (512 * j + y.val)) x) * w8f
def rT_ (p : ℕ) (h : Fin 2) (r : Fin 8192) (j : ℕ) : EReal := ∑ y : Fin 512, Sh m c p h r (fr (512 * j + y.val))

theorem mod_lt : t.val % 16 < 16 := Nat.mod_lt _ (by decide)

theorem q_step (h : Fin 2) (r : Fin 8192) (x : Fin 64) : (left_ m c t).2.2 (ix2 r (ln h x)) = cQ m c t (ix2 r (ln h x)) + qT m c (t.val / 16) h r x (t.val % 16) := by
  have e := (holds_t m c t).q_own (mod_lt t) (acc_t m c t) h r x
  rw [e]
  rfl
theorem r_step (h : Fin 2) (r : Fin 8192) : (left_ m c t).2.1 (ix2 r (sl h)) = cR m c t (ix2 r (sl h)) + rT_ m c (t.val / 16) h r (t.val % 16) := by
  have e := (holds_t m c t).r_own (mod_lt t) (acc_t m c t) h r
  rw [e]
  rfl

theorem q_first (h0 : t.val % 16 = 0) (h : Fin 2) (r : Fin 8192) (x : Fin 64) : (left_ m c t).2.2 (ix2 r (ln h x))
    = ∑ j ∈ range (t.val % 16 + 1), qT m c (t.val / 16) h r x j := by
  rw [q_step, cQ_first m c t h0, zeroQ, zero_add, h0, Finset.sum_range_one]
theorem r_first (h0 : t.val % 16 = 0) (h : Fin 2) (r : Fin 8192) : (left_ m c t).2.1 (ix2 r (sl h))
    = ∑ j ∈ range (t.val % 16 + 1), rT_ m c (t.val / 16) h r j := by
  rw [r_step, cR_first m c t h0, zeroR, zero_add, h0, Finset.sum_range_one]

/-- The sums over the columns so far. -/
theorem q_t : ∀ (n : ℕ) (hn : n < cfg0.N) (h : Fin 2) (r : Fin 8192) (x : Fin 64), (left_ m c ⟨n, hn⟩).2.2 (ix2 r (ln h x))
    = ∑ j ∈ range (n % 16 + 1), qT m c (n / 16) h r x j := by
  intro n
  induction n with
  | zero => exact fun hn h r x => q_first m c ⟨0, hn⟩ rfl h r x
  | succ n ih =>
    intro hn h r x
    by_cases h0 : (n + 1) % 16 = 0
    · exact q_first m c ⟨n + 1, hn⟩ h0 h r x
    · rw [q_step, cQ_later m c n hn h0, ih (by omega) h r x, show (n + 1) / 16 = n / 16 by omega, show n % 16 + 1 = (n + 1) % 16 by omega]
      exact (Finset.sum_range_succ _ _).symm

theorem r_t : ∀ (n : ℕ) (hn : n < cfg0.N) (h : Fin 2) (r : Fin 8192), (left_ m c ⟨n, hn⟩).2.1 (ix2 r (sl h))
    = ∑ j ∈ range (n % 16 + 1), rT_ m c (n / 16) h r j := by
  intro n
  induction n with
  | zero => exact fun hn h r => r_first m c ⟨0, hn⟩ rfl h r
  | succ n ih =>
    intro hn h r
    by_cases h0 : (n + 1) % 16 = 0
    · exact r_first m c ⟨n + 1, hn⟩ h0 h r
    · rw [r_step, cR_later m c n hn h0, ih (by omega) h r, show (n + 1) / 16 = n / 16 by omega, show n % 16 + 1 = (n + 1) % 16 by omega]
      exact (Finset.sum_range_succ _ _).symm

theorem k_t (h : Fin 2) (x : Fin 64) (y : Fin 512) : outK (left_ m c t).1 (ix2 y (ln h x))
    = ∑ r, Qh m c (t.val / 16) h r x * w8 * Sh m c (t.val / 16) h r (fr (512 * (t.val % 16) + y.val)) := by
  have e := (holds_t m c t).outK_own (mod_lt t) (acc_t m c t) h x y
  rw [e]
  rfl
theorem v_t (h : Fin 2) (x : Fin 64) (y : Fin 512) : outV (left_ m c t).1 (ix2 y (ln h x))
    = ∑ r, Gh m c (t.val / 16) h r x * Ph m c (t.val / 16) h r (fr (512 * (t.val % 16) + y.val)) := by
  have e := (holds_t m c t).outV_own (mod_lt t) (acc_t m c t) h x y
  rw [e]
  rfl
theorem n_t (h : Fin 2) (y : Fin 512) : outN (left_ m c t).1 (ix4 0 0 h y)
    = ∑ r, Sh m c (t.val / 16) h r (fr (512 * (t.val % 16) + y.val)) := by
  have e := (holds_t m c t).outN_own (mod_lt t) (acc_t m c t) h y
  rw [e]
  rfl

end Cert.Proof.Fox
-- ==== Proof.Refs.lean ====
/-
  The reference's results at an index, as the head-by-head values of `Proof/Attn.lean`.
-/
module

public import proofs.«01_k».proof.Proof.Attn
public import proofs.«01_k».proof.Proof.Gen.ReferenceIdeal.Run
public import Idealize.ShloMosaic.Lib.StableHlo.ReadAt

@[expose] public section

set_option maxRecDepth 100000

noncomputable section

namespace Cert.Proof.Fox.Ref

open Cert.ReferenceIdeal Cert.ReferenceIdeal.Gen Cert.ReferenceIdeal.Value
open Idealize.ShloMosaic Idealize.ShloMosaic.TcCoe Idealize.SL.Sem Idealize.ShloMosaic.StableHlo

/-! ## The reference's intermediate arrays -/

def rMask  : IVec S16x8192x8192 1 :=
  broadcastInDim S16x8192x8192 ![0, 1, 2] bcast_S1x8192x8192_S16x8192x8192_0_1_2 (cmpi .sle (broadcastInDim S1x8192x8192 ![0, 1, 2] bcast_S1x1x8192_S1x8192x8192_0_1_2 (broadcastInDim S1x1x8192 ![2] bcast_S8192_S1x1x8192_2 (iotaInDim S8192 32 0))) (broadcastInDim S1x8192x8192 ![0, 1, 2] bcast_S1x8192x1_S1x8192x8192_0_1_2 (broadcastInDim S1x8192x1 ![1] bcast_S8192_S1x8192x1_1 (iotaInDim S8192 32 0))))
def rS (A0 : Vec Ideal S8192x8704 .bf16) (A1 : Vec Ideal S16x8192 .f32) : FVec Ideal S16x8192x8192 .f32 :=
  select rMask (addf (mulf (Host.dotGeneral dot_S8192x16x64_S8192x16x64_S16x8192x8192_2_2_0_0_1_1 none (shapeCast _ (extf .f32 (extractStridedSlice S8192x1024 ![0, 5376] A0 slices_S8192x8704_S8192x1024_0_5376) bitsLt_bf16_f32) shapeCasts_S8192x1024_S8192x16x64) (shapeCast _ (extf .f32 (extractStridedSlice S8192x1024 ![0, 6400] A0 slices_S8192x8704_S8192x1024_0_6400) bitsLt_bf16_f32) shapeCasts_S8192x1024_S8192x16x64)) (broadcastInDim S16x8192x8192 ![] bcast_S_S16x8192x8192 (constant S_ .f32 0x3E000000#32))) (subf (broadcastInDim S16x8192x8192 ![0, 1, 2] bcast_S16x8192x1_S16x8192x8192_0_1_2 (broadcastInDim S16x8192x1 ![0, 1] bcast_S16x8192_S16x8192x1_0_1 (Host.negf A1))) (broadcastInDim S16x8192x8192 ![0, 1, 2] bcast_S16x1x8192_S16x8192x8192_0_1_2 (broadcastInDim S16x1x8192 ![0, 2] bcast_S16x8192_S16x1x8192_0_2 (Host.negf A1))))) (broadcastInDim S16x8192x8192 ![] bcast_S_S16x8192x8192 (id (constant S_ .f32 0xFF800000#32)))
def rM (A0 : Vec Ideal S8192x8704 .bf16) (A1 : Vec Ideal S16x8192 .f32) : FVec Ideal S16x8192 .f32 :=
  Host.reduce FloatOps.maximumf (rS A0 A1) (constant S_ .f32 0xFF800000#32) reducesTo_S16x8192x8192_S16x8192_d2 h_S_
def rE (A0 : Vec Ideal S8192x8704 .bf16) (A1 : Vec Ideal S16x8192 .f32) : FVec Ideal S16x8192x8192 .f32 :=
  Host.exp (subf (rS A0 A1) (broadcastInDim S16x8192x8192 ![0, 1, 2] bcast_S16x8192x1_S16x8192x8192_0_1_2 (broadcastInDim S16x8192x1 ![0, 1] bcast_S16x8192_S16x8192x1_0_1 (maximumf (broadcastInDim S16x8192 ![] bcast_S_S16x8192 (constant S_ .f32 0xFF800000#32)) (rM A0 A1)))))
def rL (A0 : Vec Ideal S8192x8704 .bf16) (A1 : Vec Ideal S16x8192 .f32) : FVec Ideal S16x8192 .f32 :=
  Host.reduceAdd (rE A0 A1) (constant S_ .f32 0x00000000#32) reducesTo_S16x8192x8192_S16x8192_d2 h_S_
def rDP (A0 : Vec Ideal S8192x8704 .bf16) (A2 : Vec Ideal S8192x1024 .bf16) : FVec Ideal S16x8192x8192 .f32 :=
  Host.dotGeneral dot_S16x64x8192_S8192x16x64_S16x8192x8192_1_2_2_0_0_1 none (transpose S16x64x8192 [1, 2, 0] (shapeCast _ (extf .f32 A2 bitsLt_bf16_f32) shapeCasts_S8192x1024_S8192x16x64) transposes_S8192x16x64_S16x64x8192_1_2_0) (shapeCast _ (extf .f32 (extractStridedSlice S8192x1024 ![0, 7424] A0 slices_S8192x8704_S8192x1024_0_7424) bitsLt_bf16_f32) shapeCasts_S8192x1024_S8192x16x64)
def rW (A0 : Vec Ideal S8192x8704 .bf16) (A1 : Vec Ideal S16x8192 .f32) (A2 : Vec Ideal S8192x1024 .bf16) : FVec Ideal S16x8192 .f32 :=
  Host.reduceAdd (mulf (mulf (rDP A0 A2) (broadcastInDim S16x8192x8192 ![0, 1, 2] bcast_S16x8192x1_S16x8192x8192_0_1_2 (Host.divf (broadcastInDim S16x8192x1 ![] bcast_S_S16x8192x1 (constant S_ .f32 0x3F800000#32)) (mulf (broadcastInDim S16x8192x1 ![0, 1] bcast_S16x8192_S16x8192x1_0_1 (rL A0 A1)) (broadcastInDim S16x8192x1 ![0, 1] bcast_S16x8192_S16x8192x1_0_1 (rL A0 A1)))))) (rE A0 A1)) (constant S_ .f32 0x00000000#32) reducesTo_S16x8192x8192_S16x8192_d2 h_S_
def rDS (A0 : Vec Ideal S8192x8704 .bf16) (A1 : Vec Ideal S16x8192 .f32) (A2 : Vec Ideal S8192x1024 .bf16) : FVec Ideal S16x8192x8192 .f32 :=
  select rMask (mulf (addf (Host.divf (rDP A0 A2) (broadcastInDim S16x8192x8192 ![0, 1, 2] bcast_S16x8192x1_S16x8192x8192_0_1_2 (broadcastInDim S16x8192x1 ![0, 1] bcast_S16x8192_S16x8192x1_0_1 (rL A0 A1)))) (broadcastInDim S16x8192x8192 ![0, 1] bcast_S16x8192_S16x8192x8192_0_1 (Host.reduceAdd (Host.negf (shapeCast _ (rW A0 A1 A2) shapeCasts_S16x8192_S16x8192x1)) (constant S_ .f32 0x00000000#32) reducesTo_S16x8192x1_S16x8192_d2 h_S_))) (rE A0 A1)) (broadcastInDim S16x8192x8192 ![] bcast_S_S16x8192x8192 (constant S_ .f32 0x00000000#32))

variable (A0 : Vec Ideal S8192x8704 .bf16) (A1 : Vec Ideal S16x8192 .f32) (A2 : Vec Ideal S8192x1024 .bf16)

def rQo : Vec Ideal S8192x1024 .bf16 :=
  truncf .bf16 (shapeCast _ (transpose S8192x16x64 [1, 0, 2] (Host.dotGeneral dot_S16x8192x8192_S8192x16x64_S16x8192x64_2_0_1_2_0_1 none (mulf (rDS A0 A1 A2) (broadcastInDim S16x8192x8192 ![] bcast_S_S16x8192x8192 (constant S_ .f32 0x3E000000#32))) (shapeCast _ (extf .f32 (extractStridedSlice S8192x1024 ![0, 6400] A0 slices_S8192x8704_S8192x1024_0_6400) bitsLt_bf16_f32) shapeCasts_S8192x1024_S8192x16x64)) transposes_S16x8192x64_S8192x16x64_1_0_2) shapeCasts_S8192x16x64_S8192x1024) bitsLt_bf16_f32
def rKo : Vec Ideal S8192x1024 .bf16 :=
  truncf .bf16 (shapeCast _ (transpose S8192x16x64 [1, 0, 2] (Host.dotGeneral dot_S16x8192x8192_S8192x16x64_S16x8192x64_1_0_2_2_0_1 none (mulf (rDS A0 A1 A2) (broadcastInDim S16x8192x8192 ![] bcast_S_S16x8192x8192 (constant S_ .f32 0x3E000000#32))) (shapeCast _ (extf .f32 (extractStridedSlice S8192x1024 ![0, 5376] A0 slices_S8192x8704_S8192x1024_0_5376) bitsLt_bf16_f32) shapeCasts_S8192x1024_S8192x16x64)) transposes_S16x8192x64_S8192x16x64_1_0_2) shapeCasts_S8192x16x64_S8192x1024) bitsLt_bf16_f32
def rVo : Vec Ideal S8192x1024 .bf16 :=
  truncf .bf16 (shapeCast _ (transpose S8192x16x64 [2, 0, 1] (Host.dotGeneral dot_S16x64x8192_S16x8192x8192_S16x64x8192_2_1_1_2_0_0 none (transpose S16x64x8192 [1, 2, 0] (shapeCast _ (extf .f32 A2 bitsLt_bf16_f32) shapeCasts_S8192x1024_S8192x16x64) transposes_S8192x16x64_S16x64x8192_1_2_0) (Host.divf (rE A0 A1) (broadcastInDim S16x8192x8192 ![0, 1, 2] bcast_S16x8192x1_S16x8192x8192_0_1_2 (broadcastInDim S16x8192x1 ![0, 1] bcast_S16x8192_S16x8192x1_0_1 (rL A0 A1))))) transposes_S16x64x8192_S8192x16x64_2_0_1) shapeCasts_S8192x16x64_S8192x1024) bitsLt_bf16_f32
def rNo : Vec Ideal S8x16x2x512 .f32 :=
  transpose S8x16x2x512 [0, 2, 1, 3] (shapeCast _ (Host.negf (Host.reduceAdd (shapeCast _ (Host.reduceAdd (Host.negf (rDS A0 A1 A2)) (constant S_ .f32 0x00000000#32) reducesTo_S16x8192x8192_S16x8192_d1 h_S_) shapeCasts_S16x8192_S16x1x8192) (constant S_ .f32 0x00000000#32) reducesTo_S16x1x8192_S16x8192_d1 h_S_)) shapeCasts_S16x8192_S8x2x16x512) transposes_S8x2x16x512_S8x16x2x512_0_2_1_3
def rRo : Vec Ideal S8x8x2x1024 .f32 :=
  transpose S8x8x2x1024 [0, 2, 1, 3] (shapeCast _ (Host.reduceAdd (shapeCast _ (Host.reduceAdd (rDS A0 A1 A2) (constant S_ .f32 0x00000000#32) reducesTo_S16x8192x8192_S16x8192_d2 h_S_) shapeCasts_S16x8192_S16x8192x1) (constant S_ .f32 0x00000000#32) reducesTo_S16x8192x1_S16x8192_d2 h_S_) shapeCasts_S16x8192_S8x2x8x1024) transposes_S8x2x8x1024_S8x8x2x1024_0_2_1_3

variable (m : (ℓ : Loc nD τ sig) → Buf (Elt Ideal) ℓ) (c : Dev nD)

theorem res_v91 : res_main_v91 m c = rQo (m ((c.tc : Thread nD τ).loc main_arg0)) (m ((c.tc : Thread nD τ).loc main_arg1)) (m ((c.tc : Thread nD τ).loc main_arg2)) := rfl
theorem res_v93 : res_main_v93 m c = rKo (m ((c.tc : Thread nD τ).loc main_arg0)) (m ((c.tc : Thread nD τ).loc main_arg1)) (m ((c.tc : Thread nD τ).loc main_arg2)) := rfl
theorem res_v95 : res_main_v95 m c = rVo (m ((c.tc : Thread nD τ).loc main_arg0)) (m ((c.tc : Thread nD τ).loc main_arg1)) (m ((c.tc : Thread nD τ).loc main_arg2)) := rfl
theorem res_v98 : res_main_v98 m c = rNo (m ((c.tc : Thread nD τ).loc main_arg0)) (m ((c.tc : Thread nD τ).loc main_arg1)) (m ((c.tc : Thread nD τ).loc main_arg2)) := rfl
theorem res_v100 : res_main_v100 m c = rRo (m ((c.tc : Thread nD τ).loc main_arg0)) (m ((c.tc : Thread nD τ).loc main_arg1)) (m ((c.tc : Thread nD τ).loc main_arg2)) := rfl

theorem rMask_at (h : Fin 16) (i j : Fin 8192) : rMask (ix3 h i j) = if j.val ≤ i.val then 1#1 else 0#1 := by
  pointwise [rMask]
  exact cmp_le j i

theorem rS_at (h : Fin 16) (i j : Fin 8192) : rS A0 A1 (ix3 h i j) = rsc (hq A0 h) (hk A0 h) (hn A1 h) i j := by
  pointwise [rS]
  rw [rMask_at, sel_ite]
  rfl

theorem rM_at (h : Fin 16) (i : Fin 8192) : rM A0 A1 (ix2 h i) = rtop (hq A0 h) (hk A0 h) (hn A1 h) i := by
  have e : (fun k => rS A0 A1 (ix3 h i k)) = rsc (hq A0 h) (hk A0 h) (hn A1 h) i := funext fun k => rS_at A0 A1 h i k
  unfold rM rtop
  rw [maxRows, e]
  exact congrArg (fun b => Finset.univ.fold max b _) rfl

theorem expRow_at (S : FVec Ideal S16x8192x8192 .f32) (M : FVec Ideal S16x8192 .f32) (h : Fin 16) (i j : Fin 8192) :
    Host.exp (subf S (broadcastInDim S16x8192x8192 ![0, 1, 2] bcast_S16x8192x1_S16x8192x8192_0_1_2 (broadcastInDim S16x8192x1 ![0, 1] bcast_S16x8192_S16x8192x1_0_1 (maximumf (broadcastInDim S16x8192 ![] bcast_S_S16x8192 (constant S_ .f32 0xFF800000#32)) M)))) (ix3 h i j)
      = Ideal.exp (S (ix3 h i j) - max negInf (M (ix2 h i))) := by
  pointwise
  rfl

theorem rE_at (h : Fin 16) (i j : Fin 8192) : rE A0 A1 (ix3 h i j) = rex (hq A0 h) (hk A0 h) (hn A1 h) i j := by
  unfold rE rex rmx
  rw [expRow_at, rS_at, rM_at]

theorem rL_at (h : Fin 16) (i : Fin 8192) : rL A0 A1 (ix2 h i) = rsm (hq A0 h) (hk A0 h) (hn A1 h) i := by
  pointwise [rL]
  simp only [rE_at]
  rfl

theorem rDP_at (h : Fin 16) (i j : Fin 8192) : rDP A0 A2 (ix3 h i j) = rdp (hv A0 h) (hg A2 h) i j := by
  pointwise [rDP]
  rfl

theorem rW_at (h : Fin 16) (i : Fin 8192) : rW A0 A1 A2 (ix2 h i) = rwt (hq A0 h) (hk A0 h) (hv A0 h) (hg A2 h) (hn A1 h) i := by
  pointwise [rW]
  simp only [rDP_at, rL_at, rE_at]
  rfl

theorem rDS_at (h : Fin 16) (i j : Fin 8192) : rDS A0 A1 A2 (ix3 h i j) = rds (hq A0 h) (hk A0 h) (hv A0 h) (hg A2 h) (hn A1 h) i j := by
  pointwise [rDS]
  simp only [rMask_at, rDP_at, rL_at, rE_at, rW_at, sel_ite, Fin.sum_univ_one]
  rfl

theorem rQo_at (i : Fin 8192) (e : Fin 1024) : rQo A0 A1 A2 (ix2 i e)
    = rdq (hq A0 ⟨e.val / 64, by omega⟩) (hk A0 ⟨e.val / 64, by omega⟩) (hv A0 ⟨e.val / 64, by omega⟩) (hg A2 ⟨e.val / 64, by omega⟩) (hn A1 ⟨e.val / 64, by omega⟩) i ⟨e.val % 64, by omega⟩ := by
  pointwise [rQo]
  simp only [rDS_at]
  unfold rdq
  refine Finset.sum_congr rfl fun x _ => ?_
  refine congrArg (_ * ·) (congrArg A0 (congrArg (ix2 x) (Fin.ext ?_)))
  show 6400 + e.val = 6400 + (e.val / 64 * 64 + e.val % 64)
  omega
theorem rKo_at (i : Fin 8192) (e : Fin 1024) : rKo A0 A1 A2 (ix2 i e)
    = rdk (hq A0 ⟨e.val / 64, by omega⟩) (hk A0 ⟨e.val / 64, by omega⟩) (hv A0 ⟨e.val / 64, by omega⟩) (hg A2 ⟨e.val / 64, by omega⟩) (hn A1 ⟨e.val / 64, by omega⟩) i ⟨e.val % 64, by omega⟩ := by
  pointwise [rKo]
  simp only [rDS_at]
  unfold rdk
  refine Finset.sum_congr rfl fun x _ => ?_
  refine congrArg (_ * ·) (congrArg A0 (congrArg (ix2 x) (Fin.ext ?_)))
  show 5376 + e.val = 5376 + (e.val / 64 * 64 + e.val % 64)
  omega
theorem rVo_at (i : Fin 8192) (e : Fin 1024) : rVo A0 A1 A2 (ix2 i e)
    = rdv (hq A0 ⟨e.val / 64, by omega⟩) (hk A0 ⟨e.val / 64, by omega⟩) (hg A2 ⟨e.val / 64, by omega⟩) (hn A1 ⟨e.val / 64, by omega⟩) i ⟨e.val % 64, by omega⟩ := by
  pointwise [rVo]
  simp only [rE_at, rL_at]
  unfold rdv
  refine Finset.sum_congr rfl fun x _ => ?_
  refine congrArg (· * _) (congrArg A2 (congrArg (ix2 x) (Fin.ext ?_)))
  show e.val = e.val / 64 * 64 + e.val % 64
  omega
theorem rNo_at (p : Fin 8) (j : Fin 16) (h : Fin 2) (x : Fin 512) : rNo A0 A1 A2 (ix4 p j h x)
    = rdn (hq A0 ⟨p.val * 2 + h.val, by omega⟩) (hk A0 ⟨p.val * 2 + h.val, by omega⟩) (hv A0 ⟨p.val * 2 + h.val, by omega⟩) (hg A2 ⟨p.val * 2 + h.val, by omega⟩) (hn A1 ⟨p.val * 2 + h.val, by omega⟩) ⟨j.val * 512 + x.val, by omega⟩ := by
  pointwise [rNo]
  simp only [rDS_at, Fin.sum_univ_one]
  rfl
theorem rRo_at (p : Fin 8) (j : Fin 8) (h : Fin 2) (x : Fin 1024) : rRo A0 A1 A2 (ix4 p j h x)
    = rdr (hq A0 ⟨p.val * 2 + h.val, by omega⟩) (hk A0 ⟨p.val * 2 + h.val, by omega⟩) (hv A0 ⟨p.val * 2 + h.val, by omega⟩) (hg A2 ⟨p.val * 2 + h.val, by omega⟩) (hn A1 ⟨p.val * 2 + h.val, by omega⟩) ⟨j.val * 1024 + x.val, by omega⟩ := by
  pointwise [rRo]
  simp only [rDS_at, Fin.sum_univ_one]
  rfl

end Cert.Proof.Fox.Ref
-- ==== Proof.Real.lean ====
/-
  The equation of the two computations, for one head of finite numbers: the probability and the gradient of the score are the same real
  numbers, whichever row maximum is subtracted and whether the row's bias is added or not.
-/
module

public import proofs.«01_k».proof.Proof.Attn
public import proofs.«01_k».proof.Proof.Kern
public import Idealize.ShloMosaic.Lib.IdealHost

@[expose] public section

noncomputable section

namespace Cert.Proof.Fox

open Idealize.ShloMosaic

/-! ## Real numbers among the extended ones -/

theorem csum {ι : Type} (s : Finset ι) (f : ι → ℝ) : ∑ i ∈ s, (f i : EReal) = ((∑ i ∈ s, f i : ℝ) : EReal) := by
  classical
  induction s using Finset.induction_on with
  | empty => rw [Finset.sum_empty, Finset.sum_empty, EReal.coe_zero]
  | insert a s ha ih => rw [Finset.sum_insert ha, Finset.sum_insert ha, ih, EReal.coe_add]

theorem exp_coe (r : ℝ) : Ideal.exp (r : EReal) = (Real.exp r : EReal) := rfl
theorem exp_bot : Ideal.exp ⊥ = 0 := rfl
theorem log_coe {r : ℝ} (h : 0 < r) : Ideal.log (r : EReal) = (Real.log r : EReal) := if_neg (not_le.mpr h)
theorem div_coe (a : ℝ) {b : ℝ} (h : b ≠ 0) : Ideal.div (a : EReal) (b : EReal) = ((a / b : ℝ) : EReal) := by
  rw [Ideal.div, if_neg (by exact_mod_cast h), ← EReal.coe_inv, ← EReal.coe_mul, div_eq_mul_inv]
theorem negInf_eq : negInf = ⊥ := by simp [negInf, Ideal.ofBits, Ideal.ieee]
theorem w8f_eq : w8f = ((1 / 8 : ℝ) : EReal) := by
  simp [w8f, Ideal.ofBits, Ideal.ieee, -EReal.coe_mul]; norm_num
theorem w8_eq : w8 = ((1 / 8 : ℝ) : EReal) := by
  simp [w8, Ideal.ofBits, Ideal.ieee, -EReal.coe_mul]; norm_num

theorem ite_coe (P : Prop) [Decidable P] (a : ℝ) : (if P then (a : EReal) else 0) = ((if P then a else 0 : ℝ) : EReal) := by
  split <;> simp

/-! ## One row of scores -/

section Row

variable {ι : Type} [Fintype ι] (P : ι → Prop) [DecidablePred P] (a : ι → ℝ)

/-- The weights of a row, kept where `P` holds, and their sum. -/
def wt (j : ι) : ℝ := if P j then Real.exp (a j) else 0
def tot : ℝ := ∑ j, wt P a j

theorem tot_pos (j0 : ι) (h0 : P j0) : 0 < tot P a := by
  refine Finset.sum_pos' (fun j _ => ?_) ⟨j0, Finset.mem_univ _, ?_⟩
  · unfold wt; split
    · exact (Real.exp_pos _).le
    · exact le_rfl
  · rw [wt, if_pos h0]; exact Real.exp_pos _

/-- A row's largest score is a number. -/
theorem top_real (f : ι → EReal) (hf : ∀ j, f j = if P j then (a j : EReal) else ⊥) (j0 : ι) (h0 : P j0) :
    ∃ M : ℝ, Finset.univ.fold max ⊥ f = (M : EReal) := by
  have hs : Finset.univ.fold max ⊥ f = Finset.univ.sup f := rfl
  obtain ⟨j, -, hj⟩ := Finset.exists_mem_eq_sup Finset.univ ⟨j0, Finset.mem_univ _⟩ f
  by_cases h : P j
  · exact ⟨a j, by rw [hs, hj, hf, if_pos h]⟩
  · have h1 : f j0 ≤ f j := hj ▸ Finset.le_sup (Finset.mem_univ j0)
    rw [hf j0, hf j, if_pos h0, if_neg h] at h1
    exact absurd (le_bot_iff.mp h1) (EReal.coe_ne_bot _)

theorem exp_row (f : ι → EReal) (hf : ∀ j, f j = if P j then (a j : EReal) else ⊥) (M : ℝ) (j : ι) :
    Ideal.exp (f j - (M : EReal)) = ((wt P a j * Real.exp (-M) : ℝ) : EReal) := by
  rw [hf, wt]
  split
  · rw [← EReal.coe_sub, exp_coe, sub_eq_add_neg, Real.exp_add]
  · rw [EReal.bot_sub, exp_bot, zero_mul, EReal.coe_zero]

theorem wt_shift (b : ℝ) (j : ι) : wt P (fun j => a j - b) j = wt P a j * Real.exp (-b) := by
  unfold wt
  split
  · rw [← Real.exp_add, ← sub_eq_add_neg]
  · rw [zero_mul]
theorem tot_shift (b : ℝ) : tot P (fun j => a j - b) = tot P a * Real.exp (-b) := by
  unfold tot
  rw [Finset.sum_mul]
  exact Finset.sum_congr rfl fun j _ => wt_shift P a b j

end Row

/-! ## One head -/

section Head

variable (Q K V D : Fin 8192 → Fin 64 → ℝ) (N : Fin 8192 → ℝ)

/-- A head's numbers among the extended reals. -/
abbrev ce (Q : Fin 8192 → Fin 64 → ℝ) : Fin 8192 → Fin 64 → EReal := fun i x => (Q i x : EReal)
abbrev cn (N : Fin 8192 → ℝ) : Fin 8192 → EReal := fun i => (N i : EReal)

/-- The score, the probability, the gradient of the probability, and of the score. -/
def aR (i j : Fin 8192) : ℝ := (∑ x, Q i x * K j x) * (1 / 8) + N j
abbrev le_ (i j : Fin 8192) : Prop := j.val ≤ i.val
def pR (i j : Fin 8192) : ℝ := wt (le_ i) (aR Q K N i) j / tot (le_ i) (aR Q K N i)
def dpR (i j : Fin 8192) : ℝ := ∑ x, D i x * V j x
def dsR (i j : Fin 8192) : ℝ := pR Q K N i j * (dpR V D i j - ∑ j', pR Q K N i j' * dpR V D i j')

theorem tot_pos' (i : Fin 8192) : 0 < tot (le_ i) (aR Q K N i) := tot_pos _ _ i le_rfl

theorem dot_coe (i j : Fin 8192) : ∑ x, (Q i x : EReal) * (K j x : EReal) = ((∑ x, Q i x * K j x : ℝ) : EReal) := by
  rw [← csum]; exact Finset.sum_congr rfl fun x _ => (EReal.coe_mul _ _).symm

/-! ### The forward pass -/

theorem sc_eq (i j : Fin 8192) : sc (ce Q) (ce K) (cn N) i j = if le_ i j then (aR Q K N i j : EReal) else ⊥ := by
  rw [sc, dot_coe, w8f_eq, negInf_eq, ← EReal.coe_mul, ← EReal.coe_add]; rfl

theorem mx_real (i : Fin 8192) : ∃ M : ℝ, mx (ce Q) (ce K) (cn N) i = (M : EReal) := by
  rw [mx, negInf_eq]; exact top_real (le_ i) (aR Q K N i) _ (sc_eq Q K N i) i le_rfl

theorem ex_eq (i : Fin 8192) (M : ℝ) (hM : mx (ce Q) (ce K) (cn N) i = (M : EReal)) (j : Fin 8192) :
    ex (ce Q) (ce K) (cn N) i j = ((wt (le_ i) (aR Q K N i) j * Real.exp (-M) : ℝ) : EReal) := by
  rw [ex, hM]; exact exp_row (le_ i) (aR Q K N i) _ (sc_eq Q K N i) M j

theorem sm_eq (i : Fin 8192) (M : ℝ) (hM : mx (ce Q) (ce K) (cn N) i = (M : EReal)) :
    sm (ce Q) (ce K) (cn N) i = ((tot (le_ i) (aR Q K N i) * Real.exp (-M) : ℝ) : EReal) := by
  rw [sm, tot, Finset.sum_mul, ← csum]; exact Finset.sum_congr rfl fun j _ => ex_eq Q K N i M hM j

theorem out_eq (i : Fin 8192) (x : Fin 64) : out (ce Q) (ce K) (ce V) (cn N) i x = ((∑ j, V j x * pR Q K N i j : ℝ) : EReal) := by
  obtain ⟨M, hM⟩ := mx_real Q K N i
  have hG := (tot_pos' Q K N i).ne'
  have hE := (Real.exp_pos (-M)).ne'
  rw [out, ← csum]
  refine Finset.sum_congr rfl fun j _ => ?_
  rw [ex_eq Q K N i M hM, sm_eq Q K N i M hM, div_coe _ (mul_ne_zero hG hE), ← EReal.coe_mul, mul_div_mul_right _ _ hE]; rfl

theorem lse_eq (i : Fin 8192) : lse (ce Q) (ce K) (cn N) i = (Real.log (tot (le_ i) (aR Q K N i)) : EReal) := by
  obtain ⟨M, hM⟩ := mx_real Q K N i
  have hG := tot_pos' Q K N i
  rw [lse, sm_eq Q K N i M hM, hM, log_coe (mul_pos hG (Real.exp_pos _)), ← EReal.coe_add, Real.log_mul hG.ne' (Real.exp_pos _).ne', Real.log_exp,
    add_comm M, add_assoc, neg_add_cancel, add_zero]

/-! ### The kernel -/

theorem kp_eq (i j : Fin 8192) : kp (ce Q) (ce K) (cn N) (lse (ce Q) (ce K) (cn N)) i j = (pR Q K N i j : EReal) := by
  have hG := tot_pos' Q K N i
  have hs : ∑ x, (Q i x : EReal) * w8 * (K j x : EReal) = (((∑ x, Q i x * K j x) * (1 / 8) : ℝ) : EReal) := by
    rw [w8_eq, Finset.sum_mul, ← csum]
    refine Finset.sum_congr rfl fun x _ => ?_
    rw [← EReal.coe_mul, ← EReal.coe_mul, mul_right_comm]
  rw [kp, pR, lse_eq, hs, ← EReal.coe_add, ← EReal.coe_sub, exp_coe, ite_coe, wt, Real.exp_sub, Real.exp_log hG]
  congr 1
  by_cases h : j.val ≤ i.val
  · rw [if_pos h, if_pos h]; rfl
  · rw [if_neg h, if_neg h, zero_div]

theorem delta_eq (i : Fin 8192) : ∑ x, (D i x : EReal) * out (ce Q) (ce K) (ce V) (cn N) i x = ((∑ j, pR Q K N i j * dpR V D i j : ℝ) : EReal) := by
  have e : ∑ j, pR Q K N i j * dpR V D i j = ∑ x, D i x * ∑ j, V j x * pR Q K N i j := by
    simp only [dpR, Finset.mul_sum]
    rw [Finset.sum_comm]
    exact Finset.sum_congr rfl fun x _ => Finset.sum_congr rfl fun j _ => by ring
  rw [e, ← csum]
  refine Finset.sum_congr rfl fun x _ => ?_
  rw [out_eq, ← EReal.coe_mul]

theorem kds_eq (i j : Fin 8192) : kds (ce Q) (ce K) (ce V) (ce D) (cn N) (lse (ce Q) (ce K) (cn N)) (fun i => ∑ x, (D i x : EReal) * out (ce Q) (ce K) (ce V) (cn N) i x) i j
    = (dsR Q K V D N i j : EReal) := by
  rw [kds, kp_eq, delta_eq, dot_coe D V, ← EReal.coe_sub, ← EReal.coe_mul]; rfl

/-! ### The reference -/

theorem rsc_eq (i j : Fin 8192) : rsc (ce Q) (ce K) (cn N) i j = if le_ i j then ((aR Q K N i j - N i : ℝ) : EReal) else ⊥ := by
  rw [rsc, dot_coe, w8f_eq, negInf_eq, ← EReal.coe_mul, ← EReal.coe_neg, ← EReal.coe_neg, ← EReal.coe_sub, ← EReal.coe_add]
  refine if_congr Iff.rfl (congrArg _ ?_) rfl
  unfold aR; ring

theorem rmx_real (i : Fin 8192) : ∃ M : ℝ, rmx (ce Q) (ce K) (cn N) i = (M : EReal) := by
  rw [rmx, rtop, negInf_eq, max_eq_right bot_le]; exact top_real (le_ i) (fun j => aR Q K N i j - N i) _ (rsc_eq Q K N i) i le_rfl

/-- The reference's weights are the forward pass's, all scaled by one number. -/
theorem rex_real (i : Fin 8192) : ∃ c : ℝ, 0 < c ∧ (∀ j, rex (ce Q) (ce K) (cn N) i j = ((wt (le_ i) (aR Q K N i) j * c : ℝ) : EReal))
    ∧ rsm (ce Q) (ce K) (cn N) i = ((tot (le_ i) (aR Q K N i) * c : ℝ) : EReal) := by
  obtain ⟨M, hM⟩ := rmx_real Q K N i
  have h : ∀ j, rex (ce Q) (ce K) (cn N) i j = ((wt (le_ i) (aR Q K N i) j * (Real.exp (-N i) * Real.exp (-M)) : ℝ) : EReal) := fun j => by
    rw [rex, hM, ← mul_assoc, ← wt_shift]; exact exp_row (le_ i) (fun j => aR Q K N i j - N i) _ (rsc_eq Q K N i) M j
  refine ⟨_, mul_pos (Real.exp_pos _) (Real.exp_pos _), h, ?_⟩
  rw [rsm, tot, Finset.sum_mul, ← csum]; exact Finset.sum_congr rfl fun j _ => h j

theorem rp_eq (i j : Fin 8192) : Ideal.div (rex (ce Q) (ce K) (cn N) i j) (rsm (ce Q) (ce K) (cn N) i) = (pR Q K N i j : EReal) := by
  obtain ⟨c, hc, h, hs⟩ := rex_real Q K N i
  rw [h, hs, div_coe _ (mul_ne_zero (tot_pos' Q K N i).ne' hc.ne'), mul_div_mul_right _ _ hc.ne']; rfl

theorem rdp_eq (i j : Fin 8192) : rdp (ce V) (ce D) i j = (dpR V D i j : EReal) := dot_coe D V i j

theorem rds_eq (i j : Fin 8192) : rds (ce Q) (ce K) (ce V) (ce D) (cn N) i j = (dsR Q K V D N i j : EReal) := by
  obtain ⟨c, hc, h, hs⟩ := rex_real Q K N i
  have hG := (tot_pos' Q K N i).ne'
  have hc := hc.ne'
  have hw : rwt (ce Q) (ce K) (ce V) (ce D) (cn N) i
      = ((∑ j, dpR V D i j * (1 / (tot (le_ i) (aR Q K N i) * c * (tot (le_ i) (aR Q K N i) * c))) * (wt (le_ i) (aR Q K N i) j * c) : ℝ) : EReal) := by
    rw [rwt, ← csum]
    refine Finset.sum_congr rfl fun j _ => ?_
    rw [rdp_eq, h, hs, ← EReal.coe_mul, ← EReal.coe_one, div_coe _ (mul_ne_zero (mul_ne_zero hG hc) (mul_ne_zero hG hc)), ← EReal.coe_mul, ← EReal.coe_mul]
  have hsum : ∑ j, dpR V D i j * (1 / (tot (le_ i) (aR Q K N i) * c * (tot (le_ i) (aR Q K N i) * c))) * (wt (le_ i) (aR Q K N i) j * c)
      = (∑ j, pR Q K N i j * dpR V D i j) * (1 / (tot (le_ i) (aR Q K N i) * c)) := by
    rw [Finset.sum_mul]
    refine Finset.sum_congr rfl fun j _ => ?_
    unfold pR
    field_simp
  rw [rds, hw, hsum, rdp_eq, h, hs, div_coe _ (mul_ne_zero hG hc), ← EReal.coe_neg, ← EReal.coe_add, ← EReal.coe_mul, ite_coe, dsR]
  refine congrArg _ ?_
  generalize (∑ j, pR Q K N i j * dpR V D i j) = S
  unfold pR
  by_cases hm : j.val ≤ i.val
  · rw [if_pos hm]; field_simp; ring
  · rw [if_neg hm, wt, if_neg hm, zero_div, zero_mul]

/-! ### The five gradients -/

/-- Sixteen runs of 512 make up the whole. -/
theorem sum_runs {M : Type} [AddCommMonoid M] (f : Fin 8192 → M) :
    ∑ j ∈ Finset.range 16, ∑ y : Fin 512, f (fr (512 * j + y.val)) = ∑ i, f i := by
  rw [Finset.sum_range, ← Fintype.sum_prod_type' (f := fun (j : Fin 16) (y : Fin 512) => f (fr (512 * j.val + y.val))),
    ← Equiv.sum_comp (finProdFinEquiv : Fin 16 × Fin 512 ≃ Fin 8192)]
  refine Finset.sum_congr rfl fun z _ => congrArg f (Fin.ext ?_)
  have h1 := z.1.isLt
  have h2 := z.2.isLt
  rw [fr_of_lt (show 512 * z.1.val + z.2.val < 8192 by omega)]
  show 512 * z.1.val + z.2.val = z.2.val + 512 * z.1.val
  omega

/-- What the kernel uses for a head's probabilities and score gradients. -/
abbrev kpE : Fin 8192 → Fin 8192 → EReal := kp (ce Q) (ce K) (cn N) (lse (ce Q) (ce K) (cn N))
abbrev kdsE : Fin 8192 → Fin 8192 → EReal :=
  kds (ce Q) (ce K) (ce V) (ce D) (cn N) (lse (ce Q) (ce K) (cn N)) (fun i => ∑ x, (D i x : EReal) * out (ce Q) (ce K) (ce V) (cn N) i x)

theorem dq_eq (i : Fin 8192) (x : Fin 64) :
    ∑ j ∈ Finset.range 16, (∑ y : Fin 512, kdsE Q K V D N i (fr (512 * j + y.val)) * ce K (fr (512 * j + y.val)) x) * w8f
      = rdq (ce Q) (ce K) (ce V) (ce D) (cn N) i x := by
  rw [rdq, ← sum_runs]
  refine Finset.sum_congr rfl fun j _ => ?_
  have h1 : ∀ y : Fin 512, kdsE Q K V D N i (fr (512 * j + y.val)) * ce K (fr (512 * j + y.val)) x
      = ((dsR Q K V D N i (fr (512 * j + y.val)) * K (fr (512 * j + y.val)) x : ℝ) : EReal) := fun y => by
    rw [kdsE, kds_eq, ← EReal.coe_mul]
  have h2 : ∀ y : Fin 512, rds (ce Q) (ce K) (ce V) (ce D) (cn N) i (fr (512 * j + y.val)) * w8f * ce K (fr (512 * j + y.val)) x
      = ((dsR Q K V D N i (fr (512 * j + y.val)) * K (fr (512 * j + y.val)) x * (1 / 8) : ℝ) : EReal) := fun y => by
    rw [rds_eq, w8f_eq, ← EReal.coe_mul, ← EReal.coe_mul, mul_right_comm]
  rw [Finset.sum_congr rfl fun y _ => h1 y, Finset.sum_congr rfl fun y _ => h2 y, csum, csum, w8f_eq, ← EReal.coe_mul, Finset.sum_mul]

theorem dk_eq (j : Fin 8192) (x : Fin 64) :
    ∑ i, ce Q i x * w8 * kdsE Q K V D N i j = rdk (ce Q) (ce K) (ce V) (ce D) (cn N) j x := by
  rw [rdk]
  refine Finset.sum_congr rfl fun i _ => ?_
  rw [kdsE, kds_eq, rds_eq, w8_eq, w8f_eq, ← EReal.coe_mul, ← EReal.coe_mul, ← EReal.coe_mul, ← EReal.coe_mul]
  exact congrArg _ (by ring)

theorem dv_eq (j : Fin 8192) (x : Fin 64) :
    ∑ i, ce D i x * kpE Q K N i j = rdv (ce Q) (ce K) (ce D) (cn N) j x := by
  rw [rdv]
  refine Finset.sum_congr rfl fun i _ => ?_
  rw [kpE, kp_eq, rp_eq]

theorem dn_eq (j : Fin 8192) : ∑ i, kdsE Q K V D N i j = rdn (ce Q) (ce K) (ce V) (ce D) (cn N) j := by
  have h1 : ∀ i, kdsE Q K V D N i j = (dsR Q K V D N i j : EReal) := fun i => kds_eq Q K V D N i j
  have h2 : ∀ i, -rds (ce Q) (ce K) (ce V) (ce D) (cn N) i j = ((-dsR Q K V D N i j : ℝ) : EReal) := fun i => by
    rw [rds_eq, EReal.coe_neg]
  rw [rdn, Finset.sum_congr rfl fun i _ => h1 i, Finset.sum_congr rfl fun i _ => h2 i, csum, csum, ← EReal.coe_neg, Finset.sum_neg_distrib, neg_neg]

theorem dr_eq (i : Fin 8192) :
    ∑ j ∈ Finset.range 16, ∑ y : Fin 512, kdsE Q K V D N i (fr (512 * j + y.val)) = rdr (ce Q) (ce K) (ce V) (ce D) (cn N) i := by
  rw [rdr, ← sum_runs]
  refine Finset.sum_congr rfl fun j _ => Finset.sum_congr rfl fun y _ => ?_
  rw [kdsE, kds_eq, rds_eq]

end Head

end Cert.Proof.Fox
-- ==== Proof.Finite.lean ====
/-
  The precondition read back: the columns of q, k and v in `proj`, the biases and the gradients of the output are real numbers.
-/
module

public import proofs.«01_k».proof.Pre_finite
public import proofs.«01_k».proof.Proof.Real
public import Idealize.ShloMosaic.Lib.ReduceAll

@[expose] public section

noncomputable section

namespace Cert.Proof.Fox

open Idealize.ShloMosaic

/-- An extended real whose absolute value is below infinity is a real number. -/
theorem real_of_abs (x : EReal) (h : Ideal.cmp .olt (max x (-x)) (Ideal.ofBits .f32 0x7F800000#32) = 1#1) : ∃ r : ℝ, x = (r : EReal) := by
  have ht : Ideal.ofBits .f32 0x7F800000#32 = ⊤ := by simp [Ideal.ofBits, Ideal.ieee]
  rw [ht] at h
  have hl : max x (-x) < ⊤ := by
    by_contra hn
    have : Ideal.cmp .olt (max x (-x)) ⊤ = 0#1 := by simp [Ideal.cmp, hn]
    rw [this] at h
    exact absurd h (by decide)
  obtain ⟨h1, h2⟩ := max_lt_iff.mp hl
  induction x with
  | bot => exact absurd h2 (by simp)
  | coe r => exact ⟨r, rfl⟩
  | top => exact absurd h1 (by simp)

/-- An array whose absolute values are all below infinity. -/
theorem all_real {s t u : Shape} {axes : List (Fin s.rank)} [Subsingleton t.Idx] (X : FVec Ideal s .f32) (B : FVec Ideal s .f32)
    (hB : ∀ i, B i = Ideal.ofBits .f32 0x7F800000#32) (init : u.Idx → BitVec 1) (h : s.ReducesTo axes t) (hu : 0 < u.numel) (j : t.Idx)
    (e : Host.reduce IntOp.andi (cmpf .olt (Host.absf X) B) init h hu j = 1#1) (i : s.Idx) : ∃ r : ℝ, X i = (r : EReal) := by
  have h1 : Ideal.cmp .olt (max (X i) (-X i)) (B i) = 1#1 := Host.reduce_andi_all _ init h hu j e i
  rw [hB] at h1
  exact real_of_abs _ h1

/-- What the precondition says of the three arguments. -/
theorem finite_args [Cert.Pre_finite.Facts] (A0 : FVec Ideal Cert.Pre_finite.S8192x8704 .bf16) (A1 : FVec Ideal Cert.Pre_finite.S16x8192 .f32) (A2 : FVec Ideal Cert.Pre_finite.S8192x1024 .bf16)
    (h : Cert.Pre_finite.fn (F := Ideal) A0 A1 A2 = fun _ => 1#1) :
    (∀ (i : Fin 8192) (e : Fin 3072), ∃ r : ℝ, A0 (ix2 i ⟨5376 + e.val, by omega⟩) = (r : EReal)) ∧ (∀ (p : Fin 16) (i : Fin 8192), ∃ r : ℝ, A1 (ix2 p i) = (r : EReal))
      ∧ ∀ (i : Fin 8192) (e : Fin 1024), ∃ r : ℝ, A2 (ix2 i e) = (r : EReal) := by
  haveI : Subsingleton Cert.Pre_finite.S_.Idx := ⟨fun a b => funext fun x => x.elim0⟩
  have h0 := congrFun h (fun a => a.elim0)
  dsimp only [Cert.Pre_finite.fn] at h0
  obtain ⟨h01, h2⟩ := IntOp.andi_eq_one.1 h0
  obtain ⟨h0, h1⟩ := IntOp.andi_eq_one.1 h01
  refine ⟨fun i e => ?_, fun p i => ?_, fun i e => ?_⟩
  · obtain ⟨r, hr⟩ := all_real _ _ (fun _ => rfl) _ _ _ _ h0 (ix2 i e)
    refine ⟨r, Eq.trans (congrArg A0 ?_) hr⟩
    funext a
    fin_cases a
    · exact Fin.ext (Nat.zero_add _).symm
    · rfl
  · exact all_real _ _ (fun _ => rfl) _ _ _ _ h1 (ix2 p i)
  · exact all_real _ _ (fun _ => rfl) _ _ _ _ h2 (ix2 i e)

/-- A head whose inputs are real numbers. -/
def RealHead (q k v d : Fin 8192 → Fin 64 → EReal) (n : Fin 8192 → EReal) : Prop :=
  (∃ Q, q = ce Q) ∧ (∃ K, k = ce K) ∧ (∃ V, v = ce V) ∧ (∃ D, d = ce D) ∧ ∃ N, n = cn N

theorem ce_of (q : Fin 8192 → Fin 64 → EReal) (h : ∀ i x, ∃ r : ℝ, q i x = (r : EReal)) : ∃ Q, q = ce Q := by
  choose Q hQ using h
  exact ⟨Q, funext fun i => funext fun x => hQ i x⟩
theorem cn_of (n : Fin 8192 → EReal) (h : ∀ i, ∃ r : ℝ, n i = (r : EReal)) : ∃ N, n = cn N := by
  choose N hN using h
  exact ⟨N, funext hN⟩

theorem real_head [Cert.Pre_finite.Facts] (A0 : FVec Ideal Cert.Pre_finite.S8192x8704 .bf16) (A1 : FVec Ideal Cert.Pre_finite.S16x8192 .f32) (A2 : FVec Ideal Cert.Pre_finite.S8192x1024 .bf16)
    (h : Cert.Pre_finite.fn (F := Ideal) A0 A1 A2 = fun _ => 1#1) (a : Fin 16) : RealHead (hq A0 a) (hk A0 a) (hv A0 a) (hg A2 a) (hn A1 a) := by
  obtain ⟨h0, h1, h2⟩ := finite_args A0 A1 A2 h
  have ha := a.isLt
  have hc : ∀ (b : ℕ) (hb : b + 1024 ≤ 8704) (b' : ℕ) (e : b = 5376 + b') (l : b' + 1024 ≤ 3072), ∀ i x, ∃ r : ℝ, hd A0 b hb a i x = (r : EReal) := by
    intro b hb b' e l i x
    have hx := x.isLt
    subst e
    obtain ⟨r, hr⟩ := h0 i ⟨b' + (a.val * 64 + x.val), by omega⟩
    exact ⟨r, (congrArg A0 (congrArg (ix2 i) (Fin.ext (Nat.add_assoc _ _ _)))).trans hr⟩
  exact ⟨ce_of _ (hc 5376 _ 0 rfl (by decide)), ce_of _ (hc 6400 _ 1024 rfl (by decide)), ce_of _ (hc 7424 _ 2048 rfl (by decide)),
    ce_of _ fun i x => h2 i _, cn_of _ fun i => h1 a i⟩

/-! ## The equations, for such a head -/

section Eqs

variable {q k v d : Fin 8192 → Fin 64 → EReal} {n : Fin 8192 → EReal}

/-- The kernel's gradient of the scores, from the row sums and deltas that are the forward pass's. -/
abbrev kdsOf (q k v d : Fin 8192 → Fin 64 → EReal) (n : Fin 8192 → EReal) : Fin 8192 → Fin 8192 → EReal :=
  kds q k v d n (lse q k n) fun i => ∑ x, d i x * out q k v n i x

theorem dq_of (H : RealHead q k v d n) (i : Fin 8192) (x : Fin 64) :
    ∑ j ∈ Finset.range 16, (∑ y : Fin 512, kdsOf q k v d n i (fr (512 * j + y.val)) * k (fr (512 * j + y.val)) x) * w8f = rdq q k v d n i x := by
  obtain ⟨⟨Q, rfl⟩, ⟨K, rfl⟩, ⟨V, rfl⟩, ⟨D, rfl⟩, ⟨N, rfl⟩⟩ := H
  exact dq_eq Q K V D N i x
theorem dk_of (H : RealHead q k v d n) (j : Fin 8192) (x : Fin 64) : ∑ i, q i x * w8 * kdsOf q k v d n i j = rdk q k v d n j x := by
  obtain ⟨⟨Q, rfl⟩, ⟨K, rfl⟩, ⟨V, rfl⟩, ⟨D, rfl⟩, ⟨N, rfl⟩⟩ := H
  exact dk_eq Q K V D N j x
theorem dv_of (H : RealHead q k v d n) (j : Fin 8192) (x : Fin 64) : ∑ i, d i x * kp q k n (lse q k n) i j = rdv q k d n j x := by
  obtain ⟨⟨Q, rfl⟩, ⟨K, rfl⟩, ⟨V, rfl⟩, ⟨D, rfl⟩, ⟨N, rfl⟩⟩ := H
  exact dv_eq Q K D N j x
theorem dn_of (H : RealHead q k v d n) (j : Fin 8192) : ∑ i, kdsOf q k v d n i j = rdn q k v d n j := by
  obtain ⟨⟨Q, rfl⟩, ⟨K, rfl⟩, ⟨V, rfl⟩, ⟨D, rfl⟩, ⟨N, rfl⟩⟩ := H
  exact dn_eq Q K V D N j
theorem dr_of (H : RealHead q k v d n) (i : Fin 8192) :
    ∑ j ∈ Finset.range 16, ∑ y : Fin 512, kdsOf q k v d n i (fr (512 * j + y.val)) = rdr q k v d n i := by
  obtain ⟨⟨Q, rfl⟩, ⟨K, rfl⟩, ⟨V, rfl⟩, ⟨D, rfl⟩, ⟨N, rfl⟩⟩ := H
  exact dr_eq Q K V D N i

end Eqs

end Cert.Proof.Fox
-- ==== Proof.Arrays.lean ====
/-
  What the five result arrays hold after the kernel's run, for arguments that are real numbers: the reference's gradients.
-/
module

public import proofs.«01_k».proof.Proof.Carry
public import proofs.«01_k».proof.Proof.Refs
public import proofs.«01_k».proof.Proof.Finite

@[expose] public section

noncomputable section

namespace Cert.Proof.Fox

open Cert.KernelIdeal Cert.KernelIdeal.Gen
open Idealize.ShloMosaic Idealize.ShloMosaic.TcCoe
open Ref (rQo rKo rVo rNo rRo rQo_at rKo_at rVo_at rNo_at rRo_at)

variable (m : (ℓ : Loc nD τ sig) → Buf (Elt Ideal) ℓ) (c : Dev nD)

/-- Every head's inputs are real numbers. -/
abbrev RealArgs : Prop := ∀ a : Fin 16, RealHead (hq (arg0 m c) a) (hk (arg0 m c) a) (hv (arg0 m c) a) (hg (arg2 m c) a) (hn (arg1 m c) a)

section Points

variable (H : RealArgs m c) (t : Fin cfg0.N) (h : Fin 2)
include H

theorem q_ref (hf : t.val % 16 = 15) (r : Fin 8192) (x : Fin 64) : (left_ m c t).2.2 (ix2 r (ln h x))
    = rdq (Qh m c (t.val / 16) h) (Kh m c (t.val / 16) h) (Vh m c (t.val / 16) h) (Gh m c (t.val / 16) h) (Nh m c (t.val / 16) h) r x := by
  have e := q_t m c t.val t.isLt h r x
  rw [hf, show 15 + 1 = 16 from rfl] at e
  rw [e]
  exact (dq_of (H (hp (t.val / 16) h)) r x)
theorem r_ref (hf : t.val % 16 = 15) (r : Fin 8192) : (left_ m c t).2.1 (ix2 r (sl h))
    = rdr (Qh m c (t.val / 16) h) (Kh m c (t.val / 16) h) (Vh m c (t.val / 16) h) (Gh m c (t.val / 16) h) (Nh m c (t.val / 16) h) r := by
  have e := r_t m c t.val t.isLt h r
  rw [hf, show 15 + 1 = 16 from rfl] at e
  rw [e]
  exact (dr_of (H (hp (t.val / 16) h)) r)
theorem k_ref (x : Fin 64) (y : Fin 512) : outK (left_ m c t).1 (ix2 y (ln h x))
    = rdk (Qh m c (t.val / 16) h) (Kh m c (t.val / 16) h) (Vh m c (t.val / 16) h) (Gh m c (t.val / 16) h) (Nh m c (t.val / 16) h) (fr (512 * (t.val % 16) + y.val)) x :=
  (k_t m c t h x y).trans (dk_of (H (hp (t.val / 16) h)) _ x)
theorem v_ref (x : Fin 64) (y : Fin 512) : outV (left_ m c t).1 (ix2 y (ln h x))
    = rdv (Qh m c (t.val / 16) h) (Kh m c (t.val / 16) h) (Gh m c (t.val / 16) h) (Nh m c (t.val / 16) h) (fr (512 * (t.val % 16) + y.val)) x :=
  (v_t m c t h x y).trans (dv_of (H (hp (t.val / 16) h)) _ x)
theorem n_ref (y : Fin 512) : outN (left_ m c t).1 (ix4 0 0 h y)
    = rdn (Qh m c (t.val / 16) h) (Kh m c (t.val / 16) h) (Vh m c (t.val / 16) h) (Gh m c (t.val / 16) h) (Nh m c (t.val / 16) h) (fr (512 * (t.val % 16) + y.val)) :=
  (n_t m c t h y).trans (dn_of (H (hp (t.val / 16) h)) _)

end Points

/-! ## Where a point's block sits -/

/-- Lane `x` of head `h` of pair `p` is this column. -/
abbrev col (p : ℕ) (e : Fin 128) : Fin 1024 := fx 1024 (128 * p + e.val)

theorem col_head (p : ℕ) (hp8 : p < 8) (h : Fin 2) (x : Fin 64) : (⟨(col p (ln h x)).val / 64, by omega⟩ : Fin 16) = hp p h := Fin.ext (by
  show (128 * p + (64 * h.val + x.val)) % 1024 / 64 = (2 * p + h.val) % 16
  omega)
theorem col_lane (p : ℕ) (hp8 : p < 8) (h : Fin 2) (x : Fin 64) : (⟨(col p (ln h x)).val % 64, by omega⟩ : Fin 64) = x := Fin.ext (by
  show (128 * p + (64 * h.val + x.val)) % 1024 % 64 = x.val
  omega)
theorem ln_split (e : Fin 128) : e = ln ⟨e.val / 64, by omega⟩ ⟨e.val % 64, by omega⟩ := Fin.ext (by
  show e.val = 64 * (e.val / 64) + e.val % 64
  omega)
theorem pair_head (p : ℕ) (hp8 : p < 8) (h : Fin 2) : (⟨(fx 8 p).val * 2 + h.val, by have := (fx 8 p).isLt; omega⟩ : Fin 16) = hp p h := Fin.ext (by
  show p % 8 * 2 + h.val = (2 * p + h.val) % 16
  omega)

theorem em9 (t : Fin cfg0.N) (X : Vec Ideal S8192x1024 .bf16) (r : Fin 8192) (e : Fin 128) :
    X (((cfg0.win 9).blk t).view.emb (ix2 r e)) = X (ix2 r (col (t.val / 16) e)) := by
  have ht : t.val < 128 := t.isLt
  blk_ext [ix_9, fx]
theorem em10 (t : Fin cfg0.N) (X : Vec Ideal S8192x1024 .bf16) (y : Fin 512) (e : Fin 128) :
    X (((cfg0.win 10).blk t).view.emb (ix2 y e)) = X (ix2 (fr (512 * (t.val % 16) + y.val)) (col (t.val / 16) e)) := by
  have ht : t.val < 128 := t.isLt
  blk_ext [ix_10, fx, fr]
theorem em11 (t : Fin cfg0.N) (X : Vec Ideal S8192x1024 .bf16) (y : Fin 512) (e : Fin 128) :
    X (((cfg0.win 11).blk t).view.emb (ix2 y e)) = X (ix2 (fr (512 * (t.val % 16) + y.val)) (col (t.val / 16) e)) := by
  have ht : t.val < 128 := t.isLt
  blk_ext [ix_11, fx, fr]
theorem em12 (t : Fin cfg0.N) (X : Vec Ideal S8x16x2x512 .f32) (h : Fin 2) (y : Fin 512) :
    X (((cfg0.win 12).blk t).view.emb (ix4 0 0 h y)) = X (ix4 (fx 8 (t.val / 16)) (fx 16 (t.val % 16)) h y) := by
  have ht : t.val < 128 := t.isLt
  blk_ext [ix_12, fx]
theorem em13 (t : Fin cfg0.N) (X : Vec Ideal S8x8x2x1024 .f32) (b : Fin 8) (h : Fin 2) (y : Fin 1024) :
    X (((cfg0.win 13).blk t).view.emb (ix4 0 b h y)) = X (ix4 (fx 8 (t.val / 16)) b h y) := by
  have ht : t.val < 128 := t.isLt
  blk_ext [ix_13, fx]

/-! ## The points against the reference -/

section Ref_

variable (H : RealArgs m c) (t : Fin cfg0.N)
include H

theorem point9 (hf : t.val % 16 = 15) (r : Fin 8192) (e : Fin 128) :
    outQ (left_ m c t).2.2 (ix2 r e) = rQo (arg0 m c) (arg1 m c) (arg2 m c) (ix2 r (col (t.val / 16) e)) := by
  have ht := t_lt t
  rw [ln_split e, outQ_at, q_ref m c H t _ hf, rQo_at, col_head _ (by omega), col_lane _ (by omega)]
theorem point10 (y : Fin 512) (e : Fin 128) :
    outK (left_ m c t).1 (ix2 y e) = rKo (arg0 m c) (arg1 m c) (arg2 m c) (ix2 (fr (512 * (t.val % 16) + y.val)) (col (t.val / 16) e)) := by
  have ht := t_lt t
  rw [ln_split e, k_ref m c H t, rKo_at, col_head _ (by omega), col_lane _ (by omega)]
theorem point11 (y : Fin 512) (e : Fin 128) :
    outV (left_ m c t).1 (ix2 y e) = rVo (arg0 m c) (arg1 m c) (arg2 m c) (ix2 (fr (512 * (t.val % 16) + y.val)) (col (t.val / 16) e)) := by
  have ht := t_lt t
  rw [ln_split e, v_ref m c H t, rVo_at, col_head _ (by omega), col_lane _ (by omega)]
theorem point12 (h : Fin 2) (y : Fin 512) :
    outN (left_ m c t).1 (ix4 0 0 h y) = rNo (arg0 m c) (arg1 m c) (arg2 m c) (ix4 (fx 8 (t.val / 16)) (fx 16 (t.val % 16)) h y) := by
  have ht := t_lt t
  have e : (⟨(fx 16 (t.val % 16)).val * 512 + y.val, by have := (fx 16 (t.val % 16)).isLt; omega⟩ : Fin 8192) = fr (512 * (t.val % 16) + y.val) := Fin.ext (by
    show t.val % 16 % 16 * 512 + y.val = (512 * (t.val % 16) + y.val) % 8192
    omega)
  rw [n_ref m c H t, rNo_at, pair_head _ (by omega), e]
theorem point13 (hf : t.val % 16 = 15) (b : Fin 8) (h : Fin 2) (y : Fin 1024) :
    outR (left_ m c t).2.1 (ix4 0 b h y) = rRo (arg0 m c) (arg1 m c) (arg2 m c) (ix4 (fx 8 (t.val / 16)) b h y) := by
  have ht := t_lt t
  have e : (⟨b.val * 1024 + y.val, by omega⟩ : Fin 8192) = fr (1024 * b.val + y.val) := Fin.ext (by
    show b.val * 1024 + y.val = (1024 * b.val + y.val) % 8192
    omega)
  rw [outR_at, r_ref m c H t _ hf, rRo_at, pair_head _ (by omega), e]

/-! ## The arrays -/

omit t

theorem arr_q : (dats m 0 c).arrAt 9 cfg0.N = rQo (arg0 m c) (arg1 m c) (arg2 m c) := by
  refine (dats m 0 c).arrAt_eq_of_covers 9 _ (by decide +kernel) fun t hf y => ?_
  rw [flush0_9] at hf
  blk_simp
  rw [after0_9]
  obtain ⟨r, e, rfl⟩ : ∃ (r : Fin 8192) (e : Fin 128), y = ix2 r e := ⟨y 0, y 1, eq_ix2 y⟩
  rw [point9 m c H t hf r e]
  exact (em9 t _ r e).symm
theorem arr_k : (dats m 0 c).arrAt 10 cfg0.N = rKo (arg0 m c) (arg1 m c) (arg2 m c) := by
  refine (dats m 0 c).arrAt_eq_of_covers 10 _ (by decide +kernel) fun t hf y => ?_
  blk_simp
  rw [after0_10]
  obtain ⟨r, e, rfl⟩ : ∃ (r : Fin 512) (e : Fin 128), y = ix2 r e := ⟨y 0, y 1, eq_ix2 y⟩
  rw [point10 m c H t r e]
  exact (em10 t _ r e).symm
theorem arr_v : (dats m 0 c).arrAt 11 cfg0.N = rVo (arg0 m c) (arg1 m c) (arg2 m c) := by
  refine (dats m 0 c).arrAt_eq_of_covers 11 _ (by decide +kernel) fun t hf y => ?_
  blk_simp
  rw [after0_11]
  obtain ⟨r, e, rfl⟩ : ∃ (r : Fin 512) (e : Fin 128), y = ix2 r e := ⟨y 0, y 1, eq_ix2 y⟩
  rw [point11 m c H t r e]
  exact (em11 t _ r e).symm
theorem arr_n : (dats m 0 c).arrAt 12 cfg0.N = rNo (arg0 m c) (arg1 m c) (arg2 m c) := by
  refine (dats m 0 c).arrAt_eq_of_covers 12 _ (by decide +kernel) fun t hf y => ?_
  blk_simp
  rw [after0_12]
  obtain ⟨h, x, rfl⟩ : ∃ (h : Fin 2) (x : Fin 512), y = ix4 (0 : Fin 1) (0 : Fin 1) h x := ⟨y 2, y 3, (eq_ix4 y).trans (by
    rw [Subsingleton.elim (α := Fin 1) (y 0) 0, Subsingleton.elim (α := Fin 1) (y 1) 0])⟩
  rw [point12 m c H t h x]
  exact (em12 t _ h x).symm
theorem arr_r : (dats m 0 c).arrAt 13 cfg0.N = rRo (arg0 m c) (arg1 m c) (arg2 m c) := by
  refine (dats m 0 c).arrAt_eq_of_covers 13 _ (by decide +kernel) fun t hf y => ?_
  rw [flush0_13] at hf
  blk_simp
  rw [after0_13]
  obtain ⟨b, h, x, rfl⟩ : ∃ (b : Fin 8) (h : Fin 2) (x : Fin 1024), y = ix4 (0 : Fin 1) b h x := ⟨y 1, y 2, y 3, (eq_ix4 y).trans (by
    rw [Subsingleton.elim (α := Fin 1) (y 0) 0])⟩
  rw [point13 m c H t hf b h x]
  exact (em13 t _ b h x).symm

end Ref_

end Cert.Proof.Fox
-- ==== Proof.Value.lean ====
/-
  The runs: the kernel's, for arguments that are real numbers, and the reference's end with the same five arrays. And the side conditions
  the precondition's text takes.
-/
module

public import proofs.«01_k».proof.Proof.Arrays

@[expose] public section

noncomputable section

namespace Cert.Proof

open Idealize.ShloMosaic Idealize.ShloMosaic.TcCoe Idealize.SL.Sem

/-- The side conditions of the precondition's operations. -/
theorem pre_facts : Cert.Pre_finite.Facts where
  slices_S8192x8704_S8192x3072_0_5376 := by decide
  bitsLt_bf16_f32 := by decide
  bcast_S_S8192x3072 := by decide
  reducesTo_S8192x3072_S_d0_1 := by decide
  h_S_ := by decide
  bcast_S_S16x8192 := by decide
  reducesTo_S16x8192_S_d0_1 := by decide
  bcast_S_S8192x1024 := by decide
  reducesTo_S8192x1024_S_d0_1 := by decide

namespace Fox

section Kernel

open Cert.KernelIdeal Cert.KernelIdeal.Gen
open Ref (rQo rKo rVo rNo rRo)

variable (m : (ℓ : Loc nD τ sig) → Buf (Elt Ideal) ℓ) (ρ : Dev nD → PrngReg)

/-- What the kernel leaves. -/
theorem kernel_values (H : ∀ c, RealArgs m c) :
    θ_run defs (onTc (τ := τ) (main (F := Ideal))) ⟨m, fun _ => 0, ρ⟩ fun r => ∀ c : Dev nD,
      r.2.mem ((c.tc : Thread nD τ).loc main_v50_0) = rQo (arg0 m c) (arg1 m c) (arg2 m c)
      ∧ r.2.mem ((c.tc : Thread nD τ).loc main_v50_1) = rKo (arg0 m c) (arg1 m c) (arg2 m c)
      ∧ r.2.mem ((c.tc : Thread nD τ).loc main_v50_2) = rVo (arg0 m c) (arg1 m c) (arg2 m c)
      ∧ r.2.mem ((c.tc : Thread nD τ).loc main_v50_3) = rNo (arg0 m c) (arg1 m c) (arg2 m c)
      ∧ r.2.mem ((c.tc : Thread nD τ).loc main_v50_4) = rRo (arg0 m c) (arg1 m c) (arg2 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h.1.out_eq c 9).trans (arr_q m c (H c)), (h.1.out_eq c 10).trans (arr_k m c (H c)),
      (h.1.out_eq c 11).trans (arr_v m c (H c)), (h.1.out_eq c 12).trans (arr_n m c (H c)), (h.1.out_eq c 13).trans (arr_r m c (H c)),
      (h.2 c).1, (h.2 c).2.1, (h.2 c).2.2⟩)
    (θ_run_and (run_main m ρ) (unchanged m ρ))

end Kernel

section Reference

open Cert.ReferenceIdeal Cert.ReferenceIdeal.Gen
open Ref (rQo rKo rVo rNo rRo)

variable (m : (ℓ : Loc nD τ sig) → Buf (Elt Ideal) ℓ) (ρ : Dev nD → PrngReg)

/-- What the reference leaves, from its arguments `A`. -/
theorem reference_values (A0 : Dev nD → Vec Ideal S8192x8704 .bf16) (A1 : Dev nD → Vec Ideal S16x8192 .f32) (A2 : Dev nD → Vec Ideal S8192x1024 .bf16)
    (hA : ∀ c : Dev nD, m ((c.tc : Thread nD τ).loc main_arg0) = A0 c ∧ m ((c.tc : Thread nD τ).loc main_arg1) = A1 c ∧ m ((c.tc : Thread nD τ).loc main_arg2) = A2 c) :
    θ_run defs (onTc (τ := τ) (main (F := Ideal))) ⟨m, fun _ => 0, ρ⟩ fun r => ∀ c : Dev nD,
      r.2.mem ((c.tc : Thread nD τ).loc main_v91) = rQo (A0 c) (A1 c) (A2 c)
      ∧ r.2.mem ((c.tc : Thread nD τ).loc main_v93) = rKo (A0 c) (A1 c) (A2 c)
      ∧ r.2.mem ((c.tc : Thread nD τ).loc main_v95) = rVo (A0 c) (A1 c) (A2 c)
      ∧ r.2.mem ((c.tc : Thread nD τ).loc main_v98) = rNo (A0 c) (A1 c) (A2 c)
      ∧ r.2.mem ((c.tc : Thread nD τ).loc main_v100) = rRo (A0 c) (A1 c) (A2 c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) := by
  refine (θ_run defs _ _).mono (fun r h c => ?_) (Value.run (F := Ideal) m ρ)
  obtain ⟨h0, h1, h2, h3, h4, h5⟩ := h c
  obtain ⟨e0, e1, e2⟩ := hA c
  rw [Ref.res_v91, e0, e1, e2] at h0
  rw [Ref.res_v93, e0, e1, e2] at h1
  rw [Ref.res_v95, e0, e1, e2] at h2
  rw [Ref.res_v98, e0, e1, e2] at h3
  rw [Ref.res_v100, e0, e1, e2] at h4
  exact ⟨h0, h1, h2, h3, h4, h5⟩

end Reference

end Fox

end Cert.Proof
-- ==== Proof.DAct.lean ====
/- The gradient before the squared ReLU, kernel `mm_d_act`: each block of the cotangent times the weights, all 2048
   columns at once, then times twice the activation. It is the derivative of the reference's squared ReLU. -/
module

public import proofs.«01_k».proof.Proof.Gen.Kernel2Ideal.Value
public import proofs.«01_k».proof.Proof.Gen.Reference2Ideal.Run
public import Idealize.ShloMosaic.Lib.Pipeline.ValueKit

@[expose] public section

set_option maxRecDepth 16384

noncomputable section

namespace Cert.Proof.DAct

open Idealize.ShloMosaic Idealize.ShloMosaic.TcCoe Idealize.SL.Sem
open Idealize.ShloMosaic.Pipeline (Dat)
open Cert.Kernel2Ideal Cert.Kernel2Ideal.Gen

/-- The array of zeros, in the reference. -/
abbrev zeros : FVec Ideal S8192x8192 .f32 :=
  broadcastInDim S8192x8192 ![] Cert.Reference2Ideal.Gen.bcast_S_S8192x8192 (constant Cert.Reference2Ideal.S_ .f32 0x00000000#32)

/-- The values after the ReLU, in the reference. -/
abbrev relu (z : FVec Ideal S8192x8192 .bf16) : FVec Ideal S8192x8192 .f32 :=
  maximumf (extf .f32 z Cert.Reference2Ideal.Gen.bitsLt_bf16_f32) zeros

/-- The cotangent times the weights, in the reference. -/
abbrev prod (w : FVec Ideal S8192x2048 .f32) (ct : FVec Ideal S8192x2048 .bf16) : FVec Ideal S8192x8192 .f32 :=
  Host.dotGeneral Cert.Reference2Ideal.dot_S8192x2048_S8192x2048_S8192x8192_1_1_0_0_n_n none (extf .f32 ct Cert.Reference2Ideal.Gen.bitsLt_bf16_f32) w

/-- The reference's result over its arguments. -/
abbrev grad (z : FVec Ideal S8192x8192 .bf16) (w : FVec Ideal S8192x2048 .f32) (ct : FVec Ideal S8192x2048 .bf16) : FVec Ideal S8192x8192 .bf16 :=
  truncf .bf16 (select (cmpf .ogt (extf .f32 z Cert.Reference2Ideal.Gen.bitsLt_bf16_f32) zeros)
    (addf (mulf (relu z) (prod w ct)) (mulf (prod w ct) (relu z))) zeros) Cert.Reference2Ideal.Gen.bitsLt_bf16_f32

/-- Half of the derivative of a square, twice. -/
theorem twice (s u : EReal) : u * s + s * u = s * (2 * u) := by
  rw [mul_comm u s, ← mul_assoc, mul_comm s 2, mul_assoc]
  generalize s * u = p
  induction p with
  | bot => rw [EReal.bot_add]; exact (EReal.mul_bot_of_pos (by norm_num)).symm
  | top => rw [EReal.top_add_top]; exact (EReal.mul_top_of_pos (by norm_num)).symm
  | coe x => rw [← EReal.coe_add, ← two_mul]; rfl

/-- The derivative of the squared ReLU, with the two sides of zero apart. -/
theorem square_relu (z s : EReal) : (if 0 < z then max z 0 * s + s * max z 0 else 0) = s * (2 * max z 0) := by
  split
  · exact twice s _
  · next h => rw [max_eq_right (not_lt.mp h), mul_zero, mul_zero]

/-- The values after the ReLU. -/
def hidden (z : FVec Ideal S8192x8192 .bf16) : FVec Ideal S8192x8192 .bf16 := fun i => max (z i) 0

/-- The reference at one place. -/
theorem grad_at (z : FVec Ideal S8192x8192 .bf16) (w : FVec Ideal S8192x2048 .f32) (ct : FVec Ideal S8192x2048 .bf16) (j) :
    grad z w ct j = (∑ l : Fin 2048, ct (ix2 (j 0) l) * w (ix2 (j 1) l)) * (2 * hidden z j) := by
  unfold hidden
  rw [← square_relu]
  pointwise [grad, relu, zeros, prod]

/-- The constant of the kernel is two. -/
theorem two_eq : Ideal.ofBits .f32 0x40000000#32 = 2 := by
  simp [Ideal.ofBits, Ideal.ieee, -EReal.coe_mul]; norm_num; rfl

/-- What one block holds at one place. -/
theorem part_at (a : FVec Ideal S2048x2048 .bf16) (b : FVec Ideal S1024x2048 .bf16) (u : FVec Ideal S2048x1024 .bf16) (j) :
    k0_pay1 a b u j = (∑ l : Fin 2048, a (ix2 (j 0) l) * b (ix2 (j 1) l)) * (2 * u j) := by
  pointwise [k0_pay1]
  rw [two_eq]

/-- Which blocks the points read and write. -/
theorem index_at : ∀ t : Fin cfg0.N, win0_0.index t = ![t.val / 8, 0] ∧ win0_1.index t = ![t.val % 8, 0]
    ∧ win0_2.index t = ![t.val / 8, t.val % 8] ∧ win0_3.index t = ![t.val / 8, t.val % 8] :=
  (by decide +kernel : ∀ t : Fin grid0.N, _)

variable (m : (ℓ : Loc nD τ sig) → Buf (Elt Ideal) ℓ)

/-- The call's third operand is the ReLU of its argument. -/
theorem operand_at (c : Dev nD) : V m c main_v1 = hidden (m ((c : Thread nD τ).loc main_arg0)) := by
  funext i
  unfold hidden
  entry_read
  pointwise

/-- The result array is the reference's. -/
theorem final (c : Dev nD) : (dats m 0 c).arrAt 3 (cfgs 0).N
    = grad (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  rw [after0_3]
  frame_out
  rw [part_at, grad_at, ← operand_at m c]
  blk_point [iblk, V, index_at t]

end Cert.Proof.DAct

end
-- ==== Proof.DwDown.lean ====
/- The gradient of the squared-ReLU layer's weights, kernel `mm_dw_down`: columns of the squared activations against
   columns of the cotangent, the 8192 rows taken in four runs of 2048 that are summed in a scratch. What the result
   array holds is the one product. -/
module

public import proofs.«01_k».proof.Proof.Gen.Kernel3Ideal.Value
public import proofs.«01_k».proof.Proof.Gen.Reference3Ideal.Run
public import Idealize.ShloMosaic.Lib.Pipeline.ValueKit

@[expose] public section

set_option maxRecDepth 16384

noncomputable section

namespace Cert.Proof.DwDown

open Idealize.ShloMosaic Idealize.ShloMosaic.TcCoe Idealize.SL.Sem
open Idealize.ShloMosaic.Pipeline (Dat)
open Cert.Kernel3Ideal Cert.Kernel3Ideal.Gen

/-- The values after the ReLU, in the reference. -/
abbrev relu (z : FVec Ideal S8192x8192 .bf16) : FVec Ideal S8192x8192 .f32 :=
  maximumf (extf .f32 z Cert.Reference3Ideal.Gen.bitsLt_bf16_f32)
    (broadcastInDim S8192x8192 ![] Cert.Reference3Ideal.Gen.bcast_S_S8192x8192 (constant Cert.Reference3Ideal.S_ .f32 0x00000000#32))

/-- The reference's result over its arguments. -/
abbrev grad (z : FVec Ideal S8192x8192 .bf16) (ct : FVec Ideal S8192x2048 .bf16) : FVec Ideal S8192x2048 .bf16 :=
  truncf .bf16 (transpose Cert.Reference3Ideal.S8192x2048 [1, 0]
    (Host.dotGeneral Cert.Reference3Ideal.dot_S8192x2048_S8192x8192_S2048x8192_0_0_1_1_n_n none
      (extf .f32 ct Cert.Reference3Ideal.Gen.bitsLt_bf16_f32) (mulf (relu z) (relu z)))
    Cert.Reference3Ideal.Gen.transposes_S2048x8192_S8192x2048_1_0) Cert.Reference3Ideal.Gen.bitsLt_bf16_f32

/-- The values after the ReLU. -/
def hidden (z : FVec Ideal S8192x8192 .bf16) : FVec Ideal S8192x8192 .bf16 := fun i => max (z i) 0

/-- The reference at one place: a sum over the 8192 rows. -/
theorem grad_at (z : FVec Ideal S8192x8192 .bf16) (ct : FVec Ideal S8192x2048 .bf16) (j) :
    grad z ct j = ∑ l : Fin 8192, (hidden z (ix2 l (j 0)) * hidden z (ix2 l (j 0))) * ct (ix2 l (j 1)) := by
  pointwise! [grad, relu, hidden]

/-- The scratch begins at zero. -/
theorem zero_at (j) : k0_pay1 (F := Ideal) j = 0 := by
  pointwise [k0_pay1]

/-- One run adds its part of the product. -/
theorem part_at (acc : FVec Ideal S1024x1024 .f32) (a : FVec Ideal S2048x1024 .bf16) (b : FVec Ideal S2048x1024 .bf16) (j) :
    k0_pay2 acc a b j = acc j + ∑ k : Fin 2048, (a (ix2 k (j 0)) * a (ix2 k (j 0))) * b (ix2 k (j 1)) := by
  pointwise [k0_pay2]

/-- What is written out is what the scratch holds. -/
theorem out_at (acc : FVec Ideal S1024x1024 .f32) (j) : (k0_pay3 (F := Ideal) acc j : EReal) = acc j := by
  pointwise [k0_pay3]

/-- Which blocks the points read and write. -/
theorem index_at : ∀ t : Fin cfg0.N, win0_0.index t = ![t.val % 4, t.val / 8] ∧ win0_1.index t = ![t.val % 4, t.val / 4 % 2]
    ∧ win0_2.index t = ![t.val / 8, t.val / 4 % 2] :=
  (by decide +kernel : ∀ t : Fin grid0.N, _)

variable (m : (ℓ : Loc nD τ sig) → Buf (Elt Ideal) ℓ)

/-- The call's first operand is the ReLU of its argument. -/
theorem operand_at (c : Dev nD) : V m c main_v1 = hidden (m ((c : Thread nD τ).loc main_arg0)) := by
  funext i
  unfold hidden
  entry_read
  pointwise

/-- At a run's last point the block written out is the scratch. -/
theorem out_scratch (c : Dev nD) (t : Fin cfg0.N) (h : t.val % 4 = 3) (y) :
    (outsAt0 m c t.val t.isLt).1 y = (outsAt0 m c t.val t.isLt).2 y := by
  rw [outsAt0_C m c t (by omega) h]
  frame_out
  rw [out_at]

set_option maxHeartbeats 2000000 in
/-- The result array is the reference's. -/
theorem final (c : Dev nD) : (dats m 0 c).arrAt 2 (cfgs 0).N
    = grad (m ((c : Thread nD τ).loc main_arg0)) (m ((c : Thread nD τ).loc main_arg2)) := by
  refine (dats m 0 c).arrAt_eq_of_covers 2 _ (by decide +kernel) fun t hf y => ?_
  have h3 : t.val % 4 = 3 := (flush0_2 t).mp hf
  blk_simp
  rw [after0_2, out_scratch m c t h3,
    Pipeline.eq_sum_fin_of_reset_step_apply_of_flush (fun n h => (outsAt0 m c n h).2) 4 (fun _ => 0) _
      (fun t h j => by rw [outsAt0_A m c t h (by omega)]; frame_out; rw [part_at, zero_at])
      (fun t h j => by
        have e := congrFun ((Memref.isWhole_whole cc0_scratch0).read_unread
          (outsAt0 m c (t.val - 1) (Nat.lt_of_le_of_lt (Nat.sub_le _ _) t.isLt)).2) j
        by_cases h1 : t.val % 4 = 3
        · rw [outsAt0_C m c t h h1]; frame_out; rw [part_at]; exact congrArg (· + _) e
        · rw [outsAt0_B m c t h h1]; frame_out; rw [part_at]; exact congrArg (· + _) e)
      t h3 _, zero_add, grad_at, ← operand_at m c]
  refine Fin.sum_mul_add_congr fun s k hl => ?_
  blk_point [iblk, V, index_at t, index_at ⟨_, Pipeline.run_point_lt_of_flush t h3 s⟩]

end Cert.Proof.DwDown

end
-- ==== Proof.Dh2.lean ====
/- The gradient of a dense layer's input, kernel `mm_dh2`: each block of rows times the weights, the 8192 columns
   taken in four runs of 2048 that are summed in a scratch. What the result array holds is the one product. -/
module

public import proofs.«01_k».proof.Proof.Gen.Kernel4Ideal.Value
public import proofs.«01_k».proof.Proof.Gen.Reference4Ideal.Run
public import Idealize.ShloMosaic.Lib.Pipeline.ValueKit

@[expose] public section

set_option maxRecDepth 16384

noncomputable section

namespace Cert.Proof.Dh2

open Idealize.ShloMosaic Idealize.ShloMosaic.TcCoe Idealize.SL.Sem
open Idealize.ShloMosaic.Pipeline (Dat)
open Cert.Kernel4Ideal Cert.Kernel4Ideal.Gen

/-- The reference's result over its arguments. -/
abbrev grad (w : FVec Ideal S2048x8192 .f32) (ct : FVec Ideal S8192x8192 .bf16) : FVec Ideal S8192x2048 .bf16 :=
  truncf .bf16 (Host.dotGeneral Cert.Reference4Ideal.dot_S8192x8192_S2048x8192_S8192x2048_1_1_0_0_n_n none
    (extf .f32 ct Cert.Reference4Ideal.Gen.bitsLt_bf16_f32) w) Cert.Reference4Ideal.Gen.bitsLt_bf16_f32

/-- The reference at one place: a sum over the 8192 columns. -/
theorem grad_at (w : FVec Ideal S2048x8192 .f32) (ct : FVec Ideal S8192x8192 .bf16) (j) :
    grad w ct j = ∑ l : Fin 8192, ct (ix2 (j 0) l) * w (ix2 (j 1) l) := by
  pointwise [grad]

/-- The scratch begins at zero. -/
theorem zero_at (j) : k0_pay1 (F := Ideal) j = 0 := by
  pointwise [k0_pay1]

/-- One run adds its part of the product. -/
theorem part_at (acc : FVec Ideal S512x2048 .f32) (a : FVec Ideal S512x2048 .bf16) (b : FVec Ideal S2048x2048 .bf16) (j) :
    k0_pay2 acc a b j = acc j + ∑ k : Fin 2048, a (ix2 (j 0) k) * b (ix2 k (j 1)) := by
  pointwise [k0_pay2]

/-- What is written out is what the scratch holds. -/
theorem out_at (acc : FVec Ideal S512x2048 .f32) (j) : (k0_pay3 (F := Ideal) acc j : EReal) = acc j := by
  pointwise [k0_pay3]

/-- Which blocks the points read and write. -/
theorem index_at : ∀ t : Fin cfg0.N, win0_0.index t = ![t.val / 4, t.val % 4] ∧ win0_1.index t = ![t.val % 4, 0]
    ∧ win0_2.index t = ![t.val / 4, 0] :=
  (by decide +kernel : ∀ t : Fin grid0.N, _)

variable (m : (ℓ : Loc nD τ sig) → Buf (Elt Ideal) ℓ)

/-- At a run's last point the block written out is the scratch. -/
theorem out_scratch (c : Dev nD) (t : Fin cfg0.N) (h : t.val % 4 = 3) (y) :
    (outsAt0 m c t.val t.isLt).1 y = (outsAt0 m c t.val t.isLt).2 y := by
  rw [outsAt0_C m c t (by omega) h]
  frame_out
  rw [out_at]

set_option maxHeartbeats 2000000 in
/-- The result array is the reference's. -/
theorem final (c : Dev nD) : (dats m 0 c).arrAt 2 (cfgs 0).N
    = grad (m ((c : Thread nD τ).loc main_arg1)) (m ((c : Thread nD τ).loc main_arg2)) := by
  refine (dats m 0 c).arrAt_eq_of_covers 2 _ (by decide +kernel) fun t hf y => ?_
  have h3 : t.val % 4 = 3 := (flush0_2 t).mp hf
  blk_simp
  rw [after0_2, out_scratch m c t h3,
    Pipeline.eq_sum_fin_of_reset_step_apply_of_flush (fun n h => (outsAt0 m c n h).2) 4 (fun _ => 0) _
      (fun t h j => by rw [outsAt0_A m c t h (by omega)]; frame_out; rw [part_at, zero_at])
      (fun t h j => by
        have e := congrFun ((Memref.isWhole_whole cc0_scratch0).read_unread
          (outsAt0 m c (t.val - 1) (Nat.lt_of_le_of_lt (Nat.sub_le _ _) t.isLt)).2) j
        by_cases h1 : t.val % 4 = 3
        · rw [outsAt0_C m c t h h1]; frame_out; rw [part_at]; exact congrArg (· + _) e
        · rw [outsAt0_B m c t h h1]; frame_out; rw [part_at]; exact congrArg (· + _) e)
      t h3 _, zero_add, grad_at]
  refine Fin.sum_mul_add_congr fun s k hl => ?_
  blk_point [iblk, V, index_at t, index_at ⟨_, Pipeline.run_point_lt_of_flush t h3 s⟩]

end Cert.Proof.Dh2

end
-- ==== Proof.DwUp.lean ====
/- The gradient of a dense layer's weights, kernel `mm_dw_up`: columns of the result's cotangent against columns of the
   input, the 8192 rows taken in four runs of 2048 that are summed in a scratch. What the result array holds is the one
   product. -/
module

public import proofs.«01_k».proof.Proof.Gen.Kernel5Ideal.Value
public import proofs.«01_k».proof.Proof.Gen.Reference5Ideal.Run
public import Idealize.ShloMosaic.Lib.Pipeline.ValueKit

@[expose] public section

set_option maxRecDepth 16384

noncomputable section

namespace Cert.Proof.DwUp

open Idealize.ShloMosaic Idealize.ShloMosaic.TcCoe Idealize.SL.Sem
open Idealize.ShloMosaic.Pipeline (Dat)
open Cert.Kernel5Ideal Cert.Kernel5Ideal.Gen

/-- The reference's result over its arguments. -/
abbrev grad (h : FVec Ideal S8192x2048 .bf16) (ct : FVec Ideal S8192x8192 .bf16) : FVec Ideal S8192x2048 .bf16 :=
  truncf .bf16 (transpose Cert.Reference5Ideal.S8192x2048 [1, 0] (transpose Cert.Reference5Ideal.S2048x8192 [1, 0]
    (Host.dotGeneral Cert.Reference5Ideal.dot_S8192x8192_S8192x2048_S8192x2048_0_0_1_1_n_n none
      (extf .f32 ct Cert.Reference5Ideal.Gen.bitsLt_bf16_f32) (extf .f32 h Cert.Reference5Ideal.Gen.bitsLt_bf16_f32))
    Cert.Reference5Ideal.Gen.transposes_S8192x2048_S2048x8192_1_0) Cert.Reference5Ideal.Gen.transposes_S2048x8192_S8192x2048_1_0)
    Cert.Reference5Ideal.Gen.bitsLt_bf16_f32

/-- The reference at one place: a sum over the 8192 rows. -/
theorem grad_at (h : FVec Ideal S8192x2048 .bf16) (ct : FVec Ideal S8192x8192 .bf16) (j) :
    grad h ct j = ∑ l : Fin 8192, ct (ix2 l (j 0)) * h (ix2 l (j 1)) := by
  pointwise [grad]

/-- The scratch begins at zero. -/
theorem zero_at (j) : k0_pay1 (F := Ideal) j = 0 := by
  pointwise [k0_pay1]

/-- One run adds its part of the product. -/
theorem part_at (acc : FVec Ideal S1024x1024 .f32) (a : FVec Ideal S2048x1024 .bf16) (b : FVec Ideal S2048x1024 .bf16) (j) :
    k0_pay2 acc a b j = acc j + ∑ k : Fin 2048, a (ix2 k (j 0)) * b (ix2 k (j 1)) := by
  pointwise [k0_pay2]

/-- What is written out is what the scratch holds. -/
theorem out_at (acc : FVec Ideal S1024x1024 .f32) (j) : (k0_pay3 (F := Ideal) acc j : EReal) = acc j := by
  pointwise [k0_pay3]

/-- Which blocks the points read and write. -/
theorem index_at : ∀ t : Fin cfg0.N, win0_0.index t = ![t.val % 4, t.val / 8] ∧ win0_1.index t = ![t.val % 4, t.val / 4 % 2]
    ∧ win0_2.index t = ![t.val / 8, t.val / 4 % 2] :=
  (by decide +kernel : ∀ t : Fin grid0.N, _)

variable (m : (ℓ : Loc nD τ sig) → Buf (Elt Ideal) ℓ)

/-- At a run's last point the block written out is the scratch. -/
theorem out_scratch (c : Dev nD) (t : Fin cfg0.N) (h : t.val % 4 = 3) (y) :
    (outsAt0 m c t.val t.isLt).1 y = (outsAt0 m c t.val t.isLt).2 y := by
  rw [outsAt0_C m c t (by omega) h]
  frame_out
  rw [out_at]

set_option maxHeartbeats 2000000 in
/-- The result array is the reference's. -/
theorem final (c : Dev nD) : (dats m 0 c).arrAt 2 (cfgs 0).N
    = grad (m ((c : Thread nD τ).loc main_arg0)) (m ((c : Thread nD τ).loc main_arg2)) := by
  refine (dats m 0 c).arrAt_eq_of_covers 2 _ (by decide +kernel) fun t hf y => ?_
  have h3 : t.val % 4 = 3 := (flush0_2 t).mp hf
  blk_simp
  rw [after0_2, out_scratch m c t h3,
    Pipeline.eq_sum_fin_of_reset_step_apply_of_flush (fun n h => (outsAt0 m c n h).2) 4 (fun _ => 0) _
      (fun t h j => by rw [outsAt0_A m c t h (by omega)]; frame_out; rw [part_at, zero_at])
      (fun t h j => by
        have e := congrFun ((Memref.isWhole_whole cc0_scratch0).read_unread
          (outsAt0 m c (t.val - 1) (Nat.lt_of_le_of_lt (Nat.sub_le _ _) t.isLt)).2) j
        by_cases h1 : t.val % 4 = 3
        · rw [outsAt0_C m c t h h1]; frame_out; rw [part_at]; exact congrArg (· + _) e
        · rw [outsAt0_B m c t h h1]; frame_out; rw [part_at]; exact congrArg (· + _) e)
      t h3 _, zero_add, grad_at]
  refine Fin.sum_mul_add_congr fun s k hl => ?_
  blk_point [iblk, V, index_at t, index_at ⟨_, Pipeline.run_point_lt_of_flush t h3 s⟩]

end Cert.Proof.DwUp

end
-- ==== Proof.DwIn.lean ====
/- The gradient of a dense layer's weights, kernel `mm_dw_in`: columns of the result's cotangent against columns of the
   input, the 8192 rows taken in four runs of 2048 that are summed in a scratch. What the result array holds is the one
   product. -/
module

public import proofs.«01_k».proof.Proof.Gen.Kernel6Ideal.Value
public import proofs.«01_k».proof.Proof.Gen.Reference6Ideal.Run
public import Idealize.ShloMosaic.Lib.Pipeline.ValueKit

@[expose] public section

set_option maxRecDepth 16384

noncomputable section

namespace Cert.Proof.DwIn

open Idealize.ShloMosaic Idealize.ShloMosaic.TcCoe Idealize.SL.Sem
open Idealize.ShloMosaic.Pipeline (Dat)
open Cert.Kernel6Ideal Cert.Kernel6Ideal.Gen

/-- The reference's result over its arguments. -/
abbrev grad (h : FVec Ideal S8192x2048 .bf16) (ct : FVec Ideal S8192x8704 .bf16) : FVec Ideal S8704x2048 .bf16 :=
  truncf .bf16 (transpose Cert.Reference6Ideal.S8704x2048 [1, 0] (transpose Cert.Reference6Ideal.S2048x8704 [1, 0]
    (Host.dotGeneral Cert.Reference6Ideal.dot_S8192x8704_S8192x2048_S8704x2048_0_0_1_1_n_n none
      (extf .f32 ct Cert.Reference6Ideal.Gen.bitsLt_bf16_f32) (extf .f32 h Cert.Reference6Ideal.Gen.bitsLt_bf16_f32))
    Cert.Reference6Ideal.Gen.transposes_S8704x2048_S2048x8704_1_0) Cert.Reference6Ideal.Gen.transposes_S2048x8704_S8704x2048_1_0)
    Cert.Reference6Ideal.Gen.bitsLt_bf16_f32

/-- The reference at one place: a sum over the 8192 rows. -/
theorem grad_at (h : FVec Ideal S8192x2048 .bf16) (ct : FVec Ideal S8192x8704 .bf16) (j) :
    grad h ct j = ∑ l : Fin 8192, ct (ix2 l (j 0)) * h (ix2 l (j 1)) := by
  pointwise [grad]

/-- The scratch begins at zero. -/
theorem zero_at (j) : k0_pay1 (F := Ideal) j = 0 := by
  pointwise [k0_pay1]

/-- One run adds its part of the product. -/
theorem part_at (acc : FVec Ideal S512x2048 .f32) (a : FVec Ideal S2048x512 .bf16) (b : FVec Ideal S2048x2048 .bf16) (j) :
    k0_pay2 acc a b j = acc j + ∑ k : Fin 2048, a (ix2 k (j 0)) * b (ix2 k (j 1)) := by
  pointwise [k0_pay2]

/-- What is written out is what the scratch holds. -/
theorem out_at (acc : FVec Ideal S512x2048 .f32) (j) : (k0_pay3 (F := Ideal) acc j : EReal) = acc j := by
  pointwise [k0_pay3]

/-- Which blocks the points read and write. -/
theorem index_at : ∀ t : Fin cfg0.N, win0_0.index t = ![t.val % 4, t.val / 4] ∧ win0_1.index t = ![t.val % 4, t.val / 4 % 1]
    ∧ win0_2.index t = ![t.val / 4, t.val / 4 % 1] :=
  (by decide +kernel : ∀ t : Fin grid0.N, _)

variable (m : (ℓ : Loc nD τ sig) → Buf (Elt Ideal) ℓ)

/-- At a run's last point the block written out is the scratch. -/
theorem out_scratch (c : Dev nD) (t : Fin cfg0.N) (h : t.val % 4 = 3) (y) :
    (outsAt0 m c t.val t.isLt).1 y = (outsAt0 m c t.val t.isLt).2 y := by
  rw [outsAt0_C m c t (by omega) h]
  frame_out
  rw [out_at]

set_option maxHeartbeats 2000000 in
/-- The result array is the reference's. -/
theorem final (c : Dev nD) : (dats m 0 c).arrAt 2 (cfgs 0).N
    = grad (m ((c : Thread nD τ).loc main_arg0)) (m ((c : Thread nD τ).loc main_arg2)) := by
  refine (dats m 0 c).arrAt_eq_of_covers 2 _ (by decide +kernel) fun t hf y => ?_
  have h3 : t.val % 4 = 3 := (flush0_2 t).mp hf
  blk_simp
  rw [after0_2, out_scratch m c t h3,
    Pipeline.eq_sum_fin_of_reset_step_apply_of_flush (fun n h => (outsAt0 m c n h).2) 4 (fun _ => 0) _
      (fun t h j => by rw [outsAt0_A m c t h (by omega)]; frame_out; rw [part_at, zero_at])
      (fun t h j => by
        have e := congrFun ((Memref.isWhole_whole cc0_scratch0).read_unread
          (outsAt0 m c (t.val - 1) (Nat.lt_of_le_of_lt (Nat.sub_le _ _) t.isLt)).2) j
        by_cases h1 : t.val % 4 = 3
        · rw [outsAt0_C m c t h h1]; frame_out; rw [part_at]; exact congrArg (· + _) e
        · rw [outsAt0_B m c t h h1]; frame_out; rw [part_at]; exact congrArg (· + _) e)
      t h3 _, zero_add, grad_at]
  refine Fin.sum_mul_add_congr fun s k hl => ?_
  blk_point [iblk, V, index_at t, index_at ⟨_, Pipeline.run_point_lt_of_flush t h3 s⟩]

end Cert.Proof.DwIn

end
-- ==== Proof.Dh1.lean ====
/- The gradient of the input projection's rows, kernel `mm_dh1`: each block of rows times a block of the weights, the
   8704 columns taken in four runs of 2176 that are summed in a scratch. What the result array holds is the one product. -/
module

public import proofs.«01_k».proof.Proof.Gen.Kernel7Ideal.Value
public import proofs.«01_k».proof.Proof.Gen.Reference7Ideal.Run
public import Idealize.ShloMosaic.Lib.Pipeline.ValueKit

@[expose] public section

set_option maxRecDepth 16384

noncomputable section

namespace Cert.Proof.Dh1

open Idealize.ShloMosaic Idealize.ShloMosaic.TcCoe Idealize.SL.Sem
open Idealize.ShloMosaic.Pipeline (Dat)
open Cert.Kernel7Ideal Cert.Kernel7Ideal.Gen

/-- The reference's result over its arguments. -/
abbrev grad (w : FVec Ideal S2048x8704 .f32) (ct : FVec Ideal S8192x8704 .bf16) : FVec Ideal S8192x2048 .bf16 :=
  truncf .bf16 (Host.dotGeneral Cert.Reference7Ideal.dot_S8192x8704_S2048x8704_S8192x2048_1_1_0_0_n_n none
    (extf .f32 ct Cert.Reference7Ideal.Gen.bitsLt_bf16_f32) w) Cert.Reference7Ideal.Gen.bitsLt_bf16_f32

/-- The reference at one place: a sum over the 8704 columns. -/
theorem grad_at (w : FVec Ideal S2048x8704 .f32) (ct : FVec Ideal S8192x8704 .bf16) (j) :
    grad w ct j = ∑ l : Fin 8704, ct (ix2 (j 0) l) * w (ix2 (j 1) l) := by
  pointwise [grad]

/-- The scratch begins at zero. -/
theorem zero_at (j) : k0_pay1 (F := Ideal) j = 0 := by
  pointwise [k0_pay1]

/-- One run adds its part of the product. -/
theorem part_at (acc : FVec Ideal S1024x1024 .f32) (a : FVec Ideal S1024x2176 .bf16) (b : FVec Ideal S2176x1024 .bf16) (j) :
    k0_pay2 acc a b j = acc j + ∑ k : Fin 2176, a (ix2 (j 0) k) * b (ix2 k (j 1)) := by
  pointwise [k0_pay2]

/-- What is written out is what the scratch holds. -/
theorem out_at (acc : FVec Ideal S1024x1024 .f32) (j) : (k0_pay3 (F := Ideal) acc j : EReal) = acc j := by
  pointwise [k0_pay3]

/-- Which blocks the points read and write. -/
theorem index_at : ∀ t : Fin cfg0.N, win0_0.index t = ![t.val / 8, t.val % 4] ∧ win0_1.index t = ![t.val % 4, t.val / 4 % 2]
    ∧ win0_2.index t = ![t.val / 8, t.val / 4 % 2] :=
  (by decide +kernel : ∀ t : Fin grid0.N, _)

variable (m : (ℓ : Loc nD τ sig) → Buf (Elt Ideal) ℓ)

/-- At a run's last point the block written out is the scratch. -/
theorem out_scratch (c : Dev nD) (t : Fin cfg0.N) (h : t.val % 4 = 3) (y) :
    (outsAt0 m c t.val t.isLt).1 y = (outsAt0 m c t.val t.isLt).2 y := by
  rw [outsAt0_C m c t (by omega) h]
  frame_out
  rw [out_at]

set_option maxHeartbeats 2000000 in
/-- The result array is the reference's. -/
theorem final (c : Dev nD) : (dats m 0 c).arrAt 2 (cfgs 0).N
    = grad (m ((c : Thread nD τ).loc main_arg1)) (m ((c : Thread nD τ).loc main_arg2)) := by
  refine (dats m 0 c).arrAt_eq_of_covers 2 _ (by decide +kernel) fun t hf y => ?_
  have h3 : t.val % 4 = 3 := (flush0_2 t).mp hf
  blk_simp
  rw [after0_2, out_scratch m c t h3,
    Pipeline.eq_sum_fin_of_reset_step_apply_of_flush (fun n h => (outsAt0 m c n h).2) 4 (fun _ => 0) _
      (fun t h j => by rw [outsAt0_A m c t h (by omega)]; frame_out; rw [part_at, zero_at])
      (fun t h j => by
        have e := congrFun ((Memref.isWhole_whole cc0_scratch0).read_unread
          (outsAt0 m c (t.val - 1) (Nat.lt_of_le_of_lt (Nat.sub_le _ _) t.isLt)).2) j
        by_cases h1 : t.val % 4 = 3
        · rw [outsAt0_C m c t h h1]; frame_out; rw [part_at]; exact congrArg (· + _) e
        · rw [outsAt0_B m c t h h1]; frame_out; rw [part_at]; exact congrArg (· + _) e)
      t h3 _, zero_add, grad_at]
  refine Fin.sum_mul_add_congr fun s k hl => ?_
  blk_point [iblk, V, index_at t, index_at ⟨_, Pipeline.run_point_lt_of_flush t h3 s⟩]

end Cert.Proof.Dh1

end
-- ==== Proof.MmIn.lean ====
/- The input projection, kernel `mm_in`: each block of rows times a block of the weights, all 2048 columns at once. The
   result array is the one product. -/
module

public import proofs.«01_k».proof.Proof.Gen.Kernel8Ideal.Value
public import proofs.«01_k».proof.Proof.Gen.Reference8Ideal.Run
public import Idealize.ShloMosaic.Lib.Pipeline.ValueKit

@[expose] public section

set_option maxRecDepth 16384

noncomputable section

namespace Cert.Proof.MmIn

open Idealize.ShloMosaic Idealize.ShloMosaic.TcCoe Idealize.SL.Sem
open Idealize.ShloMosaic.Pipeline (Dat)
open Cert.Kernel8Ideal Cert.Kernel8Ideal.Gen

/-- The reference's result over its arguments. -/
abbrev value (h : FVec Ideal S8192x2048 .bf16) (w : FVec Ideal S2048x8704 .f32) : FVec Ideal S8192x8704 .bf16 :=
  truncf .bf16 (Host.dotGeneral Cert.Reference8Ideal.dot_S8192x2048_S2048x8704_S8192x8704_1_0_0_1_n_n none
    (extf .f32 h Cert.Reference8Ideal.Gen.bitsLt_bf16_f32) w) Cert.Reference8Ideal.Gen.bitsLt_bf16_f32

/-- The reference at one place: a sum over the 2048 columns. -/
theorem value_at (h : FVec Ideal S8192x2048 .bf16) (w : FVec Ideal S2048x8704 .f32) (j) :
    value h w j = ∑ l : Fin 2048, h (ix2 (j 0) l) * w (ix2 l (j 1)) := by
  pointwise [value]

/-- What one block holds at one place. -/
theorem part_at (a : FVec Ideal S2048x2048 .bf16) (b : FVec Ideal S512x2048 .bf16) (j) :
    k0_pay1 a b j = ∑ l : Fin 2048, a (ix2 (j 0) l) * b (ix2 (j 1) l) := by
  pointwise [k0_pay1]

/-- Which blocks the points read and write. -/
theorem index_at : ∀ t : Fin cfg0.N, win0_0.index t = ![t.val / 17, 0] ∧ win0_1.index t = ![t.val % 17, 0]
    ∧ win0_2.index t = ![t.val / 17, t.val % 17] :=
  (by decide +kernel : ∀ t : Fin grid0.N, _)

variable (m : (ℓ : Loc nD τ sig) → Buf (Elt Ideal) ℓ)

/-- The result array is the reference's. -/
theorem final (c : Dev nD) : (dats m 0 c).arrAt 2 (cfgs 0).N
    = value (m ((c : Thread nD τ).loc main_arg0)) (m ((c : Thread nD τ).loc main_arg1)) := by
  refine (dats m 0 c).arrAt_eq_of_covers 2 _ (by decide +kernel) fun t hf y => ?_
  blk_simp
  rw [after0_2]
  frame_out
  rw [part_at, value_at]
  blk_point [iblk, V, index_at t]

end Cert.Proof.MmIn

end
-- ==== Proof.MmUp.lean ====
/- The first product of the squared-ReLU layer, kernel `mm_up`: each block of rows times a block of the weights, all 2048
   columns at once, and its positive part. The result array is the reference's. -/
module

public import proofs.«01_k».proof.Proof.Gen.Kernel9Ideal.Value
public import proofs.«01_k».proof.Proof.Gen.Reference9Ideal.Run
public import Idealize.ShloMosaic.Lib.Pipeline.ValueKit

@[expose] public section

set_option maxRecDepth 16384

noncomputable section

namespace Cert.Proof.MmUp

open Idealize.ShloMosaic Idealize.ShloMosaic.TcCoe Idealize.SL.Sem
open Idealize.ShloMosaic.Pipeline (Dat)
open Cert.Kernel9Ideal Cert.Kernel9Ideal.Gen

/-- The reference's result over its arguments. -/
abbrev value (h : FVec Ideal S8192x2048 .bf16) (w : FVec Ideal S2048x8192 .f32) : FVec Ideal S8192x8192 .bf16 :=
  truncf .bf16 (maximumf (Host.dotGeneral Cert.Reference9Ideal.dot_S8192x2048_S2048x8192_S8192x8192_1_0_0_1_n_n none
    (extf .f32 h Cert.Reference9Ideal.Gen.bitsLt_bf16_f32) w)
    (broadcastInDim S8192x8192 ![] Cert.Reference9Ideal.Gen.bcast_S_S8192x8192 (constant Cert.Reference9Ideal.S_ .f32 0x00000000#32))) Cert.Reference9Ideal.Gen.bitsLt_bf16_f32

/-- The reference at one place: a sum over the 2048 columns. -/
theorem value_at (h : FVec Ideal S8192x2048 .bf16) (w : FVec Ideal S2048x8192 .f32) (j) :
    value h w j = max (∑ l : Fin 2048, h (ix2 (j 0) l) * w (ix2 l (j 1))) 0 := by
  pointwise [value]

/-- What one block holds at one place. -/
theorem part_at (a : FVec Ideal S2048x2048 .bf16) (b : FVec Ideal S1024x2048 .bf16) (j) :
    k0_pay1 a b j = max (∑ l : Fin 2048, a (ix2 (j 0) l) * b (ix2 (j 1) l)) 0 := by
  pointwise [k0_pay1]

/-- Which blocks the points read and write. -/
theorem index_at : ∀ t : Fin cfg0.N, win0_0.index t = ![t.val / 8, 0] ∧ win0_1.index t = ![t.val % 8, 0]
    ∧ win0_2.index t = ![t.val / 8, t.val % 8] :=
  (by decide +kernel : ∀ t : Fin grid0.N, _)

variable (m : (ℓ : Loc nD τ sig) → Buf (Elt Ideal) ℓ)

/-- The result array is the reference's. -/
theorem final (c : Dev nD) : (dats m 0 c).arrAt 2 (cfgs 0).N
    = value (m ((c : Thread nD τ).loc main_arg0)) (m ((c : Thread nD τ).loc main_arg1)) := by
  refine (dats m 0 c).arrAt_eq_of_covers 2 _ (by decide +kernel) fun t hf y => ?_
  blk_simp
  rw [after0_2]
  frame_out
  rw [part_at, value_at]
  blk_point [iblk, V, index_at t]

end Cert.Proof.MmUp

end
-- ==== Proof.MmDown.lean ====
/- The second product of the squared-ReLU layer, kernel `mm_down`: squared activations times the weights, the 8192
   columns taken in four runs of 2048 that are summed in a scratch, and the residual added at the end. The result array
   is the reference's. -/
module

public import proofs.«01_k».proof.Proof.Gen.Kernel10Ideal.Value
public import proofs.«01_k».proof.Proof.Gen.Reference10Ideal.Run
public import Idealize.ShloMosaic.Lib.Pipeline.ValueKit

@[expose] public section

set_option maxRecDepth 16384

noncomputable section

namespace Cert.Proof.MmDown

open Idealize.ShloMosaic Idealize.ShloMosaic.TcCoe Idealize.SL.Sem
open Idealize.ShloMosaic.Pipeline (Dat)
open Cert.Kernel10Ideal Cert.Kernel10Ideal.Gen

/-- The reference's result over its arguments. -/
abbrev value (x : FVec Ideal S8192x2048 .f32) (u : FVec Ideal S8192x8192 .bf16) (w : FVec Ideal S8192x2048 .f32) : FVec Ideal S8192x2048 .f32 :=
  addf x (Host.dotGeneral Cert.Reference10Ideal.dot_S8192x8192_S8192x2048_S8192x2048_1_0_0_1_n_n none
    (mulf (extf .f32 u Cert.Reference10Ideal.Gen.bitsLt_bf16_f32) (extf .f32 u Cert.Reference10Ideal.Gen.bitsLt_bf16_f32)) w)

/-- The reference at one place: a sum over the 8192 columns, and the residual. -/
theorem value_at (x : FVec Ideal S8192x2048 .f32) (u : FVec Ideal S8192x8192 .bf16) (w : FVec Ideal S8192x2048 .f32) (j) :
    value x u w j = x j + ∑ l : Fin 8192, (u (ix2 (j 0) l) * u (ix2 (j 0) l)) * w (ix2 l (j 1)) := by
  pointwise [value]

/-- The scratch begins at zero. -/
theorem zero_at (j) : k0_pay1 (F := Ideal) j = 0 := by
  pointwise [k0_pay1]

/-- One run adds its part of the product. -/
theorem part_at (acc : FVec Ideal S1024x1024 .f32) (a : FVec Ideal S1024x2048 .bf16) (b : FVec Ideal S2048x1024 .bf16) (j) :
    k0_pay2 acc a b j = acc j + ∑ k : Fin 2048, (a (ix2 (j 0) k) * a (ix2 (j 0) k)) * b (ix2 k (j 1)) := by
  pointwise [k0_pay2]

/-- What is written out is what the scratch holds, and the residual. -/
theorem out_at (acc x : FVec Ideal S1024x1024 .f32) (j) : k0_pay3 (F := Ideal) acc x j = acc j + x j := by
  pointwise [k0_pay3]

/-- Which blocks the points read and write. -/
theorem index_at : ∀ t : Fin cfg0.N, win0_0.index t = ![t.val / 8, t.val % 4] ∧ win0_1.index t = ![t.val % 4, t.val / 4 % 2]
    ∧ win0_2.index t = ![t.val / 8, t.val / 4 % 2] ∧ win0_3.index t = ![t.val / 8, t.val / 4 % 2] :=
  (by decide +kernel : ∀ t : Fin grid0.N, _)

variable (m : (ℓ : Loc nD τ sig) → Buf (Elt Ideal) ℓ)

/-- At a run's last point the block written out is the scratch and the residual's block. -/
theorem out_scratch (c : Dev nD) (t : Fin cfg0.N) (h : t.val % 4 = 3) (y) :
    (outsAt0 m c t.val t.isLt).1 y = (outsAt0 m c t.val t.isLt).2 y + (show FVec Ideal S1024x1024 .f32 from iblk m c 2 t) y := by
  rw [outsAt0_C m c t (by omega) h]
  frame_out
  rw [out_at]

set_option maxHeartbeats 2000000 in
/-- The result array is the reference's. -/
theorem final (c : Dev nD) : (dats m 0 c).arrAt 3 (cfgs 0).N
    = value (m ((c : Thread nD τ).loc main_arg0)) (m ((c : Thread nD τ).loc main_arg1)) (m ((c : Thread nD τ).loc main_arg2)) := by
  refine (dats m 0 c).arrAt_eq_of_covers 3 _ (by decide +kernel) fun t hf y => ?_
  have h3 : t.val % 4 = 3 := (flush0_3 t).mp hf
  blk_simp
  rw [after0_3, out_scratch m c t h3,
    Pipeline.eq_sum_fin_of_reset_step_apply_of_flush (fun n h => (outsAt0 m c n h).2) 4 (fun _ => 0) _
      (fun t h j => by rw [outsAt0_A m c t h (by omega)]; frame_out; rw [part_at, zero_at])
      (fun t h j => by
        have e := congrFun ((Memref.isWhole_whole cc0_scratch0).read_unread
          (outsAt0 m c (t.val - 1) (Nat.lt_of_le_of_lt (Nat.sub_le _ _) t.isLt)).2) j
        by_cases h1 : t.val % 4 = 3
        · rw [outsAt0_C m c t h h1]; frame_out; rw [part_at]; exact congrArg (· + _) e
        · rw [outsAt0_B m c t h h1]; frame_out; rw [part_at]; exact congrArg (· + _) e)
      t h3 _, zero_add, value_at, add_comm]
  refine congrArg₂ (· + ·) ?_ (Fin.sum_mul_add_congr fun s k hl => ?_)
  · blk_point [iblk, V, index_at t]
  · blk_point [iblk, V, index_at t, index_at ⟨_, Pipeline.run_point_lt_of_flush t h3 s⟩]

end Cert.Proof.MmDown

end
-- ==== Proof.Products.lean ====
/- The calls that multiply matrices: the frames of their references, and that each call and its reference end with
   equal results. -/
module

public import proofs.«01_k».proof.Defs
public import proofs.«01_k».proof.Proof.DAct
public import proofs.«01_k».proof.Proof.DwDown
public import proofs.«01_k».proof.Proof.Dh2
public import proofs.«01_k».proof.Proof.DwUp
public import proofs.«01_k».proof.Proof.DwIn
public import proofs.«01_k».proof.Proof.Dh1
public import proofs.«01_k».proof.Proof.MmIn
public import proofs.«01_k».proof.Proof.MmUp
public import proofs.«01_k».proof.Proof.MmDown
public import Idealize.ShloMosaic.Adequacy

@[expose] public section

noncomputable section

namespace Cert.Proof

open Idealize.ShloMosaic Idealize.SL.Sem

/-- Gradient before the squared ReLU: the reference's frame. -/
theorem frame_reference2 : Cert.quiescent_Reference2Ideal := fun m ρ _ =>
  (θ_run Cert.Reference2Ideal.defs _ _).mono (fun r h => ⟨fun c => (h c).2, sem_eq_zero_of_no_sems (by decide) r.2⟩)
    (Cert.Reference2Ideal.Value.run (F := Ideal) m ρ)

/-- Gradient before the squared ReLU: kernel and reference end with equal results. -/
theorem equal2 : Cert.algebraic_Kernel2Ideal_Reference2Ideal := fun m ρ m' ρ' _ hA =>
  ⟨fun c => DAct.grad (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)),
    (θ_run Cert.Kernel2Ideal.defs _ _).mono (fun r h c => ⟨(h c).1.trans (DAct.final m c), (h c).2⟩)
      (Cert.Kernel2Ideal.Value.run_blocks (F := Ideal) m ρ),
    (θ_run Cert.Reference2Ideal.defs _ _).mono (fun r h c => ⟨(h c).1.trans (by
        obtain ⟨h0, h1, h2⟩ := hA c
        rw [h0, h1, h2]), (h c).2⟩)
      (Cert.Reference2Ideal.Value.run (F := Ideal) m' ρ')⟩

/-- Gradient of the squared ReLU layer's weights: the reference's frame. -/
theorem frame_reference3 : Cert.quiescent_Reference3Ideal := fun m ρ _ =>
  (θ_run Cert.Reference3Ideal.defs _ _).mono (fun r h => ⟨fun c => (h c).2, sem_eq_zero_of_no_sems (by decide) r.2⟩)
    (Cert.Reference3Ideal.Value.run (F := Ideal) m ρ)

/-- Gradient of the squared ReLU layer's weights: kernel and reference end with equal results. -/
theorem equal3 : Cert.algebraic_Kernel3Ideal_Reference3Ideal := fun m ρ m' ρ' _ hA =>
  ⟨fun c => DwDown.grad (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg2)),
    (θ_run Cert.Kernel3Ideal.defs _ _).mono (fun r h c => ⟨(h c).1.trans (DwDown.final m c), (h c).2⟩)
      (Cert.Kernel3Ideal.Value.run_blocks (F := Ideal) m ρ),
    (θ_run Cert.Reference3Ideal.defs _ _).mono (fun r h c => ⟨(h c).1.trans (by
        obtain ⟨h0, h1, h2⟩ := hA c
        rw [h0, h2]), (h c).2⟩)
      (Cert.Reference3Ideal.Value.run (F := Ideal) m' ρ')⟩

/-- Gradient of the dense layer's input: the reference's frame. -/
theorem frame_reference4 : Cert.quiescent_Reference4Ideal := fun m ρ _ =>
  (θ_run Cert.Reference4Ideal.defs _ _).mono (fun r h => ⟨fun c => (h c).2, sem_eq_zero_of_no_sems (by decide) r.2⟩)
    (Cert.Reference4Ideal.Value.run (F := Ideal) m ρ)

/-- Gradient of the dense layer's input: kernel and reference end with equal results. -/
theorem equal4 : Cert.algebraic_Kernel4Ideal_Reference4Ideal := fun m ρ m' ρ' _ hA =>
  ⟨fun c => Dh2.grad (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)),
    (θ_run Cert.Kernel4Ideal.defs _ _).mono (fun r h c => ⟨(h c).1.trans (Dh2.final m c), (h c).2⟩)
      (Cert.Kernel4Ideal.Value.run_blocks (F := Ideal) m ρ),
    (θ_run Cert.Reference4Ideal.defs _ _).mono (fun r h c => ⟨(h c).1.trans (by
        obtain ⟨h0, h1, h2⟩ := hA c
        rw [h1, h2]), (h c).2⟩)
      (Cert.Reference4Ideal.Value.run (F := Ideal) m' ρ')⟩

/-- Gradient of the dense layer's weights: the reference's frame. -/
theorem frame_reference5 : Cert.quiescent_Reference5Ideal := fun m ρ _ =>
  (θ_run Cert.Reference5Ideal.defs _ _).mono (fun r h => ⟨fun c => (h c).2, sem_eq_zero_of_no_sems (by decide) r.2⟩)
    (Cert.Reference5Ideal.Value.run (F := Ideal) m ρ)

/-- Gradient of the dense layer's weights: kernel and reference end with equal results. -/
theorem equal5 : Cert.algebraic_Kernel5Ideal_Reference5Ideal := fun m ρ m' ρ' _ hA =>
  ⟨fun c => DwUp.grad (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg2)),
    (θ_run Cert.Kernel5Ideal.defs _ _).mono (fun r h c => ⟨(h c).1.trans (DwUp.final m c), (h c).2⟩)
      (Cert.Kernel5Ideal.Value.run_blocks (F := Ideal) m ρ),
    (θ_run Cert.Reference5Ideal.defs _ _).mono (fun r h c => ⟨(h c).1.trans (by
        obtain ⟨h0, h1, h2⟩ := hA c
        rw [h0, h2]), (h c).2⟩)
      (Cert.Reference5Ideal.Value.run (F := Ideal) m' ρ')⟩

/-- Gradient of the input projection's weights: the reference's frame. -/
theorem frame_reference6 : Cert.quiescent_Reference6Ideal := fun m ρ _ =>
  (θ_run Cert.Reference6Ideal.defs _ _).mono (fun r h => ⟨fun c => (h c).2, sem_eq_zero_of_no_sems (by decide) r.2⟩)
    (Cert.Reference6Ideal.Value.run (F := Ideal) m ρ)

/-- Gradient of the input projection's weights: kernel and reference end with equal results. -/
theorem equal6 : Cert.algebraic_Kernel6Ideal_Reference6Ideal := fun m ρ m' ρ' _ hA =>
  ⟨fun c => DwIn.grad (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg2)),
    (θ_run Cert.Kernel6Ideal.defs _ _).mono (fun r h c => ⟨(h c).1.trans (DwIn.final m c), (h c).2⟩)
      (Cert.Kernel6Ideal.Value.run_blocks (F := Ideal) m ρ),
    (θ_run Cert.Reference6Ideal.defs _ _).mono (fun r h c => ⟨(h c).1.trans (by
        obtain ⟨h0, h1, h2⟩ := hA c
        rw [h0, h2]), (h c).2⟩)
      (Cert.Reference6Ideal.Value.run (F := Ideal) m' ρ')⟩

/-- Gradient of the input projection's rows: the reference's frame. -/
theorem frame_reference7 : Cert.quiescent_Reference7Ideal := fun m ρ _ =>
  (θ_run Cert.Reference7Ideal.defs _ _).mono (fun r h => ⟨fun c => (h c).2, sem_eq_zero_of_no_sems (by decide) r.2⟩)
    (Cert.Reference7Ideal.Value.run (F := Ideal) m ρ)

/-- Gradient of the input projection's rows: kernel and reference end with equal results. -/
theorem equal7 : Cert.algebraic_Kernel7Ideal_Reference7Ideal := fun m ρ m' ρ' _ hA =>
  ⟨fun c => Dh1.grad (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)),
    (θ_run Cert.Kernel7Ideal.defs _ _).mono (fun r h c => ⟨(h c).1.trans (Dh1.final m c), (h c).2⟩)
      (Cert.Kernel7Ideal.Value.run_blocks (F := Ideal) m ρ),
    (θ_run Cert.Reference7Ideal.defs _ _).mono (fun r h c => ⟨(h c).1.trans (by
        obtain ⟨h0, h1, h2⟩ := hA c
        rw [h1, h2]), (h c).2⟩)
      (Cert.Reference7Ideal.Value.run (F := Ideal) m' ρ')⟩

/-- Input projection: the reference's frame. -/
theorem frame_reference8 : Cert.quiescent_Reference8Ideal := fun m ρ _ =>
  (θ_run Cert.Reference8Ideal.defs _ _).mono (fun r h => ⟨fun c => (h c).2, sem_eq_zero_of_no_sems (by decide) r.2⟩)
    (Cert.Reference8Ideal.Value.run (F := Ideal) m ρ)

/-- Input projection: kernel and reference end with equal results. -/
theorem equal8 : Cert.algebraic_Kernel8Ideal_Reference8Ideal := fun m ρ m' ρ' _ hA =>
  ⟨fun c => MmIn.value (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)),
    (θ_run Cert.Kernel8Ideal.defs _ _).mono (fun r h c => ⟨(h c).1.trans (MmIn.final m c), (h c).2⟩)
      (Cert.Kernel8Ideal.Value.run_blocks (F := Ideal) m ρ),
    (θ_run Cert.Reference8Ideal.defs _ _).mono (fun r h c => ⟨(h c).1.trans (by
        obtain ⟨h0, h1⟩ := hA c
        rw [h0, h1]), (h c).2⟩)
      (Cert.Reference8Ideal.Value.run (F := Ideal) m' ρ')⟩

/-- First product of the squared-ReLU layer: the reference's frame. -/
theorem frame_reference9 : Cert.quiescent_Reference9Ideal := fun m ρ _ =>
  (θ_run Cert.Reference9Ideal.defs _ _).mono (fun r h => ⟨fun c => (h c).2, sem_eq_zero_of_no_sems (by decide) r.2⟩)
    (Cert.Reference9Ideal.Value.run (F := Ideal) m ρ)

/-- First product of the squared-ReLU layer: kernel and reference end with equal results. -/
theorem equal9 : Cert.algebraic_Kernel9Ideal_Reference9Ideal := fun m ρ m' ρ' _ hA =>
  ⟨fun c => MmUp.value (m ((c.tc : Thread Cert.Kernel9Ideal.nD Cert.Kernel9Ideal.τ).loc Cert.Kernel9Ideal.main_arg0)) (m ((c.tc : Thread Cert.Kernel9Ideal.nD Cert.Kernel9Ideal.τ).loc Cert.Kernel9Ideal.main_arg1)),
    (θ_run Cert.Kernel9Ideal.defs _ _).mono (fun r h c => ⟨(h c).1.trans (MmUp.final m c), (h c).2⟩)
      (Cert.Kernel9Ideal.Value.run_blocks (F := Ideal) m ρ),
    (θ_run Cert.Reference9Ideal.defs _ _).mono (fun r h c => ⟨(h c).1.trans (by
        obtain ⟨h0, h1⟩ := hA c
        rw [h0, h1]), (h c).2⟩)
      (Cert.Reference9Ideal.Value.run (F := Ideal) m' ρ')⟩

/-- Second product of the squared-ReLU layer: the reference's frame. -/
theorem frame_reference10 : Cert.quiescent_Reference10Ideal := fun m ρ _ =>
  (θ_run Cert.Reference10Ideal.defs _ _).mono (fun r h => ⟨fun c => (h c).2, sem_eq_zero_of_no_sems (by decide) r.2⟩)
    (Cert.Reference10Ideal.Value.run (F := Ideal) m ρ)

/-- Second product of the squared-ReLU layer: kernel and reference end with equal results. -/
theorem equal10 : Cert.algebraic_Kernel10Ideal_Reference10Ideal := fun m ρ m' ρ' _ hA =>
  ⟨fun c => MmDown.value (m ((c.tc : Thread Cert.Kernel10Ideal.nD Cert.Kernel10Ideal.τ).loc Cert.Kernel10Ideal.main_arg0)) (m ((c.tc : Thread Cert.Kernel10Ideal.nD Cert.Kernel10Ideal.τ).loc Cert.Kernel10Ideal.main_arg1)) (m ((c.tc : Thread Cert.Kernel10Ideal.nD Cert.Kernel10Ideal.τ).loc Cert.Kernel10Ideal.main_arg2)),
    (θ_run Cert.Kernel10Ideal.defs _ _).mono (fun r h c => ⟨(h c).1.trans (MmDown.final m c), (h c).2⟩)
      (Cert.Kernel10Ideal.Value.run_blocks (F := Ideal) m ρ),
    (θ_run Cert.Reference10Ideal.defs _ _).mono (fun r h c => ⟨(h c).1.trans (by
        obtain ⟨h0, h1, h2⟩ := hA c
        rw [h0, h1, h2]), (h c).2⟩)
      (Cert.Reference10Ideal.Value.run (F := Ideal) m' ρ')⟩

end Cert.Proof

end
-- ==== Proof.DMerged.lean ====
/- The gradient through the output projection and the gated sum of the two branches, kernel `mm_d_merged`: each block of
   rows times a block of the weights, all 2048 columns at once, then the derivatives of the gates. The four result arrays are
   the reference's: the gradients of the two branches and of the two gates' arguments. -/
module

public import proofs.«01_k».proof.Proof.Gen.Kernel11Ideal.Value
public import proofs.«01_k».proof.Proof.Gen.Reference11Ideal.Run
public import Idealize.ShloMosaic.Lib.Pipeline.ValueKit

@[expose] public section

set_option maxRecDepth 16384

noncomputable section

namespace Cert.Proof.DMerged

open Idealize.ShloMosaic Idealize.ShloMosaic.TcCoe Idealize.SL.Sem
open Idealize.ShloMosaic.Pipeline (Dat)
open Cert.Kernel11Ideal Cert.Kernel11Ideal.Gen

/-- The cotangent times the weights, in the reference. -/
abbrev prod (w : FVec Ideal S2048x2048 .f32) (ct : FVec Ideal S8192x2048 .bf16) : FVec Ideal S8192x2048 .f32 :=
  Host.dotGeneral Cert.Reference11Ideal.dot_S8192x2048_S2048x2048_S8192x2048_1_1_0_0_n_n none (extf .f32 ct Cert.Reference11Ideal.Gen.bitsLt_bf16_f32) w

/-- The array of ones, in the reference. -/
abbrev ones : FVec Ideal S8192x2048 .f32 :=
  broadcastInDim S8192x2048 ![] Cert.Reference11Ideal.Gen.bcast_S_S8192x2048 (constant Cert.Reference11Ideal.S_ .f32 0x3F800000#32)

/-- The first branch's gate, in the reference. -/
abbrev gateA (p : FVec Ideal S8192x8704 .bf16) : FVec Ideal S8192x2048 .f32 :=
  Host.divf ones (addf ones (Host.exp (Host.negf (extf .f32
    (extractStridedSlice S8192x2048 ![0, 0] p Cert.Reference11Ideal.Gen.slices_S8192x8704_S8192x2048_0_0) Cert.Reference11Ideal.Gen.bitsLt_bf16_f32))))

/-- The second branch's gate, in the reference. -/
abbrev gateB (p : FVec Ideal S8192x8704 .bf16) : FVec Ideal S8192x2048 .f32 :=
  Host.divf ones (addf ones (Host.exp (Host.negf (extf .f32
    (extractStridedSlice S8192x2048 ![0, 2048] p Cert.Reference11Ideal.Gen.slices_S8192x8704_S8192x2048_0_2048) Cert.Reference11Ideal.Gen.bitsLt_bf16_f32))))

/-- The gradient of a branch, given its gate, in the reference. -/
abbrev gradY (s : FVec Ideal S8192x2048 .f32) (w : FVec Ideal S2048x2048 .f32) (ct : FVec Ideal S8192x2048 .bf16) :
    FVec Ideal S8192x2048 .bf16 :=
  truncf .bf16 (mulf s (prod w ct)) Cert.Reference11Ideal.Gen.bitsLt_bf16_f32

/-- The gradient of a gate's argument, given the branch and the gate, in the reference. -/
abbrev gradG (y : FVec Ideal S8192x2048 .bf16) (s : FVec Ideal S8192x2048 .f32) (w : FVec Ideal S2048x2048 .f32)
    (ct : FVec Ideal S8192x2048 .bf16) : FVec Ideal S8192x2048 .bf16 :=
  truncf .bf16 (mulf (mulf (prod w ct) (extf .f32 y Cert.Reference11Ideal.Gen.bitsLt_bf16_f32)) (mulf s (subf ones s))) Cert.Reference11Ideal.Gen.bitsLt_bf16_f32

/-- The columns of the first gate. -/
abbrev colA (j : S8192x2048.Idx) : S8192x8704.Idx := ix2 (j 0) ⟨(j 1).val, Nat.lt_trans (j 1).isLt (by decide)⟩

/-- The columns of the second gate. -/
abbrev colB (j : S8192x2048.Idx) : S8192x8704.Idx :=
  ix2 (j 0) ⟨2048 + (j 1).val, Nat.lt_trans (Nat.add_lt_add_left (j 1).isLt 2048) (by decide)⟩

/-- The sigmoid. -/
abbrev sigmoid (g : EReal) : EReal := Ideal.div 1 (1 + Ideal.exp (-g))

/-- The first gate at one place. -/
theorem gateA_at (p : FVec Ideal S8192x8704 .bf16) (j) : gateA p j = sigmoid (p (colA j)) := by
  pointwise [gateA, ones]

/-- The second gate at one place. -/
theorem gateB_at (p : FVec Ideal S8192x8704 .bf16) (j) : gateB p j = sigmoid (p (colB j)) := by
  pointwise [gateB, ones]

/-- The product at one place: a sum over the 2048 columns. -/
theorem prod_at (w : FVec Ideal S2048x2048 .f32) (ct : FVec Ideal S8192x2048 .bf16) (j) :
    prod w ct j = ∑ l : Fin 2048, ct (ix2 (j 0) l) * w (ix2 (j 1) l) := by
  pointwise [prod]

/-- The gradient of a branch at one place. -/
theorem gradY_at (s : FVec Ideal S8192x2048 .f32) (w : FVec Ideal S2048x2048 .f32) (ct : FVec Ideal S8192x2048 .bf16) (j) :
    (gradY s w ct j : EReal) = (∑ l : Fin 2048, ct (ix2 (j 0) l) * w (ix2 (j 1) l)) * s j := by
  rw [← prod_at, mul_comm]
  rfl

/-- The one at every place. -/
theorem ones_at (j) : ones j = 1 := by
  pointwise [ones]

/-- The gradient of a gate's argument at one place. -/
theorem gradG_at (y : FVec Ideal S8192x2048 .bf16) (s : FVec Ideal S8192x2048 .f32) (w : FVec Ideal S2048x2048 .f32)
    (ct : FVec Ideal S8192x2048 .bf16) (j) : (gradG y s w ct j : EReal)
      = (∑ l : Fin 2048, ct (ix2 (j 0) l) * w (ix2 (j 1) l)) * y j * s j * (1 - s j) := by
  rw [← prod_at, mul_assoc _ (s j : EReal), ← ones_at j]
  rfl

/-- What one block of the product holds at one place. -/
theorem part_at (a b : FVec Ideal S1024x2048 .bf16) (j) :
    (k0_pay5 (F := Ideal) a b j : EReal) = ∑ l : Fin 2048, a (ix2 (j 0) l) * b (ix2 (j 1) l) := by
  pointwise [k0_pay5]

/-- What one block of the first gate holds at one place. -/
theorem sigA_at (g : FVec Ideal S1024x1024 .bf16) (j) : (k0_pay6 (F := Ideal) g j : EReal) = sigmoid (g j) := by
  pointwise [k0_pay6]
  simp only [sigmoid, zero_sub]

/-- What one block of the second gate holds at one place. -/
theorem sigB_at (g : FVec Ideal S1024x1024 .bf16) (j) : (k0_pay7 (F := Ideal) g j : EReal) = sigmoid (g j) := by
  pointwise [k0_pay7]
  simp only [sigmoid, zero_sub]

/-- What one block of the first result holds at one place. -/
theorem yA_at (a b : FVec Ideal S1024x2048 .bf16) (g : FVec Ideal S1024x1024 .bf16) (j) :
    (k0_pay1 (F := Ideal) (k0_pay8 a b g) j : EReal) = (∑ l : Fin 2048, a (ix2 (j 0) l) * b (ix2 (j 1) l)) * sigmoid (g j) := by
  rw [← part_at, ← sigA_at]
  rfl

/-- What one block of the second result holds at one place. -/
theorem yB_at (a b : FVec Ideal S1024x2048 .bf16) (g : FVec Ideal S1024x1024 .bf16) (j) :
    (k0_pay2 (F := Ideal) (k0_pay9 a b g) j : EReal) = (∑ l : Fin 2048, a (ix2 (j 0) l) * b (ix2 (j 1) l)) * sigmoid (g j) := by
  rw [← part_at, ← sigB_at]
  rfl

/-- A block's one at every place. -/
theorem one_at (j) : (k0_pay12 (F := Ideal) j : EReal) = 1 := by
  pointwise [k0_pay12]

/-- What one block of the third result holds at one place. -/
theorem gA_at (a b : FVec Ideal S1024x2048 .bf16) (y g : FVec Ideal S1024x1024 .bf16) (j) :
    (k0_pay3 (F := Ideal) (k0_pay10 a b y g) j : EReal)
      = (∑ l : Fin 2048, a (ix2 (j 0) l) * b (ix2 (j 1) l)) * y j * sigmoid (g j) * (1 - sigmoid (g j)) := by
  rw [← part_at, ← sigA_at, ← one_at j]
  rfl

/-- What one block of the fourth result holds at one place. -/
theorem gB_at (a b : FVec Ideal S1024x2048 .bf16) (y g : FVec Ideal S1024x1024 .bf16) (j) :
    (k0_pay4 (F := Ideal) (k0_pay7 g) (k0_pay11 a b y g) k0_pay12 j : EReal)
      = (∑ l : Fin 2048, a (ix2 (j 0) l) * b (ix2 (j 1) l)) * y j * sigmoid (g j) * (1 - sigmoid (g j)) := by
  rw [← part_at, ← sigB_at, ← one_at j]
  rfl

/-- Which blocks the points read and write. -/
theorem index_at : ∀ t : Fin cfg0.N, win0_0.index t = ![t.val / 2, 0] ∧ win0_1.index t = ![t.val % 2, 0]
    ∧ win0_2.index t = ![t.val / 2, t.val % 2] ∧ win0_3.index t = ![t.val / 2, t.val % 2]
    ∧ win0_4.index t = ![t.val / 2, t.val % 2] ∧ win0_5.index t = ![t.val / 2, t.val % 2 + 2]
    ∧ win0_6.index t = ![t.val / 2, t.val % 2] ∧ win0_7.index t = ![t.val / 2, t.val % 2]
    ∧ win0_8.index t = ![t.val / 2, t.val % 2] ∧ win0_9.index t = ![t.val / 2, t.val % 2] :=
  (by decide +kernel : ∀ t : Fin grid0.N, _)

variable (m : (ℓ : Loc nD τ sig) → Buf (Elt Ideal) ℓ)

/-- The first result array is the reference's. -/
theorem final_ya (c : Dev nD) : (dats m 0 c).arrAt 6 (cfgs 0).N
    = gradY (gateA (m ((c : Thread nD τ).loc main_arg2))) (m ((c : Thread nD τ).loc main_arg3)) (m ((c : Thread nD τ).loc main_arg4)) := by
  refine (dats m 0 c).arrAt_eq_of_covers 6 _ (by decide +kernel) fun t hf y => ?_
  blk_simp
  rw [after0_6]
  simp only [outsAt0]
  frame_out
  rw [yA_at, gradY_at, gateA_at]
  unfold X0_4 Pipeline.Window.fill
  rw [dif_pos (moved0_4 t _)]
  blk_point [iblk, V, index_at t]
  · exact congrArg sigmoid (by unfold colA; blk_ext! [iblk, V, index_at t])

/-- The second result array is the reference's. -/
theorem final_yb (c : Dev nD) : (dats m 0 c).arrAt 7 (cfgs 0).N
    = gradY (gateB (m ((c : Thread nD τ).loc main_arg2))) (m ((c : Thread nD τ).loc main_arg3)) (m ((c : Thread nD τ).loc main_arg4)) := by
  refine (dats m 0 c).arrAt_eq_of_covers 7 _ (by decide +kernel) fun t hf y => ?_
  blk_simp
  rw [after0_7]
  simp only [outsAt0]
  frame_out
  rw [yB_at, gradY_at, gateB_at]
  unfold X0_5 Pipeline.Window.fill
  rw [dif_pos (moved0_5 t _)]
  blk_point [iblk, V, index_at t]
  · exact congrArg sigmoid (by unfold colB; blk_ext! [iblk, V, index_at t])

/-- The third result array is the reference's. -/
theorem final_ga (c : Dev nD) : (dats m 0 c).arrAt 8 (cfgs 0).N
    = gradG (m ((c : Thread nD τ).loc main_arg0)) (gateA (m ((c : Thread nD τ).loc main_arg2))) (m ((c : Thread nD τ).loc main_arg3)) (m ((c : Thread nD τ).loc main_arg4)) := by
  refine (dats m 0 c).arrAt_eq_of_covers 8 _ (by decide +kernel) fun t hf y => ?_
  blk_simp
  rw [after0_8]
  simp only [outsAt0]
  frame_out
  rw [gA_at, gradG_at, gateA_at]
  unfold X0_4 Pipeline.Window.fill
  rw [dif_pos (moved0_4 t _)]
  blk_point [iblk, V, index_at t]
  · exact congrArg sigmoid (by unfold colA; blk_ext! [iblk, V, index_at t])

/-- The fourth result array is the reference's. -/
theorem final_gb (c : Dev nD) : (dats m 0 c).arrAt 9 (cfgs 0).N
    = gradG (m ((c : Thread nD τ).loc main_arg1)) (gateB (m ((c : Thread nD τ).loc main_arg2))) (m ((c : Thread nD τ).loc main_arg3)) (m ((c : Thread nD τ).loc main_arg4)) := by
  refine (dats m 0 c).arrAt_eq_of_covers 9 _ (by decide +kernel) fun t hf y => ?_
  blk_simp
  rw [after0_9]
  simp only [outsAt0]
  frame_out
  rw [gB_at, gradG_at, gateB_at]
  unfold X0_5 Pipeline.Window.fill
  rw [dif_pos (moved0_5 t _)]
  blk_point [iblk, V, index_at t]
  · exact congrArg sigmoid (by unfold colB; blk_ext! [iblk, V, index_at t])

end Cert.Proof.DMerged

end
-- ==== Proof.DwOut.lean ====
/- The gradient of the output projection's weights, kernel `mm_dw_out`: the rows are taken in four runs of 2048 that are
   summed in a scratch. What the result array holds is the one product. -/
module

public import proofs.«01_k».proof.Proof.Gen.Kernel12Ideal.Value
public import proofs.«01_k».proof.Proof.Gen.Reference12Ideal.Run
public import Idealize.ShloMosaic.Lib.Pipeline.ValueKit

@[expose] public section

set_option maxRecDepth 16384

noncomputable section

namespace Cert.Proof.DwOut

open Idealize.ShloMosaic Idealize.ShloMosaic.TcCoe Idealize.SL.Sem
open Idealize.ShloMosaic.Pipeline (Dat)
open Cert.Kernel12Ideal Cert.Kernel12Ideal.Gen

/-- The reference's result over its arguments. -/
abbrev grad (h : FVec Ideal S8192x2048 .bf16) (ct : FVec Ideal S8192x2048 .bf16) : FVec Ideal S2048x2048 .bf16 :=
  truncf .bf16 (transpose Cert.Reference12Ideal.S2048x2048 [1, 0]
    (Host.dotGeneral Cert.Reference12Ideal.dot_S8192x2048_S8192x2048_S2048x2048_0_0_1_1_n_n none
      (extf .f32 ct Cert.Reference12Ideal.Gen.bitsLt_bf16_f32) (extf .f32 h Cert.Reference12Ideal.Gen.bitsLt_bf16_f32))
    Cert.Reference12Ideal.Gen.transposes_S2048x2048_S2048x2048_1_0) Cert.Reference12Ideal.Gen.bitsLt_bf16_f32

/-- The reference at one place: a sum over the 8192 rows. -/
theorem grad_at (h : FVec Ideal S8192x2048 .bf16) (ct : FVec Ideal S8192x2048 .bf16) (j) :
    grad h ct j = ∑ l : Fin 8192, h (ix2 l (j 0)) * ct (ix2 l (j 1)) := by
  have e : grad h ct j = ∑ l : Fin 8192, ct (ix2 l (j 1)) * h (ix2 l (j 0)) := by
    pointwise [grad]
  rw [e]
  exact Finset.sum_congr rfl fun l _ => mul_comm _ _

/-- The scratch begins at zero. -/
theorem zero_at (j) : k0_pay1 (F := Ideal) j = 0 := by
  pointwise [k0_pay1]

/-- One run adds its part of the product. -/
theorem part_at (acc : FVec Ideal S1024x1024 .f32) (a : FVec Ideal S2048x1024 .bf16) (b : FVec Ideal S2048x1024 .bf16) (j) :
    k0_pay2 acc a b j = acc j + ∑ k : Fin 2048, a (ix2 k (j 0)) * b (ix2 k (j 1)) := by
  pointwise [k0_pay2]

/-- What is written out is what the scratch holds. -/
theorem out_at (acc : FVec Ideal S1024x1024 .f32) (j) : (k0_pay3 (F := Ideal) acc j : EReal) = acc j := by
  pointwise [k0_pay3]

/-- Which blocks the points read and write. -/
theorem index_at : ∀ t : Fin cfg0.N, win0_0.index t = ![t.val % 4, t.val / 8] ∧ win0_1.index t = ![t.val % 4, t.val / 4 % 2]
    ∧ win0_2.index t = ![t.val / 8, t.val / 4 % 2] :=
  (by decide +kernel : ∀ t : Fin grid0.N, _)

variable (m : (ℓ : Loc nD τ sig) → Buf (Elt Ideal) ℓ)

/-- At a run's last point the block written out is the scratch. -/
theorem out_scratch (c : Dev nD) (t : Fin cfg0.N) (h : t.val % 4 = 3) (y) :
    (outsAt0 m c t.val t.isLt).1 y = (outsAt0 m c t.val t.isLt).2 y := by
  rw [outsAt0_C m c t (by omega) h]
  frame_out
  rw [out_at]

set_option maxHeartbeats 2000000 in
/-- The result array is the reference's. -/
theorem final (c : Dev nD) : (dats m 0 c).arrAt 2 (cfgs 0).N
    = grad (m ((c : Thread nD τ).loc main_arg0)) (m ((c : Thread nD τ).loc main_arg2)) := by
  refine (dats m 0 c).arrAt_eq_of_covers 2 _ (by decide +kernel) fun t hf y => ?_
  have h3 : t.val % 4 = 3 := (flush0_2 t).mp hf
  blk_simp
  rw [after0_2, out_scratch m c t h3,
    Pipeline.eq_sum_fin_of_reset_step_apply_of_flush (fun n h => (outsAt0 m c n h).2) 4 (fun _ => 0) _
      (fun t h j => by rw [outsAt0_A m c t h (by omega)]; frame_out; rw [part_at, zero_at])
      (fun t h j => by
        have e := congrFun ((Memref.isWhole_whole cc0_scratch0).read_unread
          (outsAt0 m c (t.val - 1) (Nat.lt_of_le_of_lt (Nat.sub_le _ _) t.isLt)).2) j
        by_cases h1 : t.val % 4 = 3
        · rw [outsAt0_C m c t h h1]; frame_out; rw [part_at]; exact congrArg (· + _) e
        · rw [outsAt0_B m c t h h1]; frame_out; rw [part_at]; exact congrArg (· + _) e)
      t h3 _, zero_add, grad_at]
  refine Fin.sum_mul_add_congr fun s k hl => ?_
  blk_point [iblk, V, index_at t, index_at ⟨_, Pipeline.run_point_lt_of_flush t h3 s⟩]

end Cert.Proof.DwOut

end
-- ==== Proof.DOa.lean ====
/- The gradient of the sliding-window attention's output through its branch's product, kernel `mm_d_oa`: each block of rows
   times the weights, all 2048 columns at once. The result array is the reference's. -/
module

public import proofs.«01_k».proof.Proof.Gen.Kernel13Ideal.Value
public import proofs.«01_k».proof.Proof.Gen.Reference13Ideal.Run
public import Idealize.ShloMosaic.Lib.Pipeline.ValueKit

@[expose] public section

set_option maxRecDepth 16384

noncomputable section

namespace Cert.Proof.DOa

open Idealize.ShloMosaic Idealize.ShloMosaic.TcCoe Idealize.SL.Sem
open Idealize.ShloMosaic.Pipeline (Dat)
open Cert.Kernel13Ideal Cert.Kernel13Ideal.Gen

/-- The reference's result over its arguments. -/
abbrev grad (w : FVec Ideal S1024x2048 .f32) (ct : FVec Ideal S8192x2048 .bf16) : FVec Ideal S8192x1024 .bf16 :=
  truncf .bf16 (Host.dotGeneral Cert.Reference13Ideal.dot_S8192x2048_S1024x2048_S8192x1024_1_1_0_0_n_n none
    (extf .f32 ct Cert.Reference13Ideal.Gen.bitsLt_bf16_f32) w) Cert.Reference13Ideal.Gen.bitsLt_bf16_f32

/-- The reference at one place: a sum over the 2048 columns. -/
theorem grad_at (w : FVec Ideal S1024x2048 .f32) (ct : FVec Ideal S8192x2048 .bf16) (j) :
    grad w ct j = ∑ l : Fin 2048, ct (ix2 (j 0) l) * w (ix2 (j 1) l) := by
  pointwise [grad]

/-- What one block holds at one place. -/
theorem part_at (a : FVec Ideal S1024x2048 .bf16) (b : FVec Ideal S2048x1024 .bf16) (j) :
    k0_pay1 a b j = ∑ l : Fin 2048, a (ix2 (j 0) l) * b (ix2 l (j 1)) := by
  pointwise [k0_pay1]

/-- Which blocks the points read and write. -/
theorem index_at : ∀ t : Fin cfg0.N, win0_0.index t = ![t.val, 0] ∧ win0_1.index t = ![0, 0]
    ∧ win0_2.index t = ![t.val, 0] :=
  (by decide +kernel : ∀ t : Fin grid0.N, _)

variable (m : (ℓ : Loc nD τ sig) → Buf (Elt Ideal) ℓ)

/-- The result array is the reference's. -/
theorem final (c : Dev nD) : (dats m 0 c).arrAt 2 (cfgs 0).N
    = grad (m ((c : Thread nD τ).loc main_arg1)) (m ((c : Thread nD τ).loc main_arg2)) := by
  refine (dats m 0 c).arrAt_eq_of_covers 2 _ (by decide +kernel) fun t hf y => ?_
  blk_simp
  rw [after0_2]
  frame_out
  rw [part_at, grad_at]
  blk_point [iblk, V, index_at t]

end Cert.Proof.DOa

end
-- ==== Proof.DOb.lean ====
/- The gradient of the forgetting attention's output through its branch's product, kernel `mm_d_ob`: each block of rows
   times the weights, all 2048 columns at once. The result array is the reference's. -/
module

public import proofs.«01_k».proof.Proof.Gen.Kernel14Ideal.Value
public import proofs.«01_k».proof.Proof.Gen.Reference14Ideal.Run
public import Idealize.ShloMosaic.Lib.Pipeline.ValueKit

@[expose] public section

set_option maxRecDepth 16384

noncomputable section

namespace Cert.Proof.DOb

open Idealize.ShloMosaic Idealize.ShloMosaic.TcCoe Idealize.SL.Sem
open Idealize.ShloMosaic.Pipeline (Dat)
open Cert.Kernel14Ideal Cert.Kernel14Ideal.Gen

/-- The reference's result over its arguments. -/
abbrev grad (w : FVec Ideal S1024x2048 .f32) (ct : FVec Ideal S8192x2048 .bf16) : FVec Ideal S8192x1024 .bf16 :=
  truncf .bf16 (Host.dotGeneral Cert.Reference14Ideal.dot_S8192x2048_S1024x2048_S8192x1024_1_1_0_0_n_n none
    (extf .f32 ct Cert.Reference14Ideal.Gen.bitsLt_bf16_f32) w) Cert.Reference14Ideal.Gen.bitsLt_bf16_f32

/-- The reference at one place: a sum over the 2048 columns. -/
theorem grad_at (w : FVec Ideal S1024x2048 .f32) (ct : FVec Ideal S8192x2048 .bf16) (j) :
    grad w ct j = ∑ l : Fin 2048, ct (ix2 (j 0) l) * w (ix2 (j 1) l) := by
  pointwise [grad]

/-- What one block holds at one place. -/
theorem part_at (a : FVec Ideal S1024x2048 .bf16) (b : FVec Ideal S2048x1024 .bf16) (j) :
    k0_pay1 a b j = ∑ l : Fin 2048, a (ix2 (j 0) l) * b (ix2 l (j 1)) := by
  pointwise [k0_pay1]

/-- Which blocks the points read and write. -/
theorem index_at : ∀ t : Fin cfg0.N, win0_0.index t = ![t.val, 0] ∧ win0_1.index t = ![0, 0]
    ∧ win0_2.index t = ![t.val, 0] :=
  (by decide +kernel : ∀ t : Fin grid0.N, _)

variable (m : (ℓ : Loc nD τ sig) → Buf (Elt Ideal) ℓ)

/-- The result array is the reference's. -/
theorem final (c : Dev nD) : (dats m 0 c).arrAt 2 (cfgs 0).N
    = grad (m ((c : Thread nD τ).loc main_arg1)) (m ((c : Thread nD τ).loc main_arg2)) := by
  refine (dats m 0 c).arrAt_eq_of_covers 2 _ (by decide +kernel) fun t hf y => ?_
  blk_simp
  rw [after0_2]
  frame_out
  rw [part_at, grad_at]
  blk_point [iblk, V, index_at t]

end Cert.Proof.DOb

end
-- ==== Proof.DwBs.lean ====
/- The gradient of the weights of the sliding-window attention's branch, kernel `mm_dw_bs`: the rows are taken in two runs of
   4096 that are summed in a scratch. What the result array holds is the one product. -/
module

public import proofs.«01_k».proof.Proof.Gen.Kernel15Ideal.Value
public import proofs.«01_k».proof.Proof.Gen.Reference15Ideal.Run
public import Idealize.ShloMosaic.Lib.Pipeline.ValueKit

@[expose] public section

set_option maxRecDepth 16384

noncomputable section

namespace Cert.Proof.DwBs

open Idealize.ShloMosaic Idealize.ShloMosaic.TcCoe Idealize.SL.Sem
open Idealize.ShloMosaic.Pipeline (Dat)
open Cert.Kernel15Ideal Cert.Kernel15Ideal.Gen

/-- The reference's result over its arguments. -/
abbrev grad (h : FVec Ideal S8192x1024 .bf16) (ct : FVec Ideal S8192x2048 .bf16) : FVec Ideal S2048x1024 .bf16 :=
  truncf .bf16 (transpose Cert.Reference15Ideal.S2048x1024 [1, 0] (transpose Cert.Reference15Ideal.S1024x2048 [1, 0]
    (Host.dotGeneral Cert.Reference15Ideal.dot_S8192x2048_S8192x1024_S2048x1024_0_0_1_1_n_n none
      (extf .f32 ct Cert.Reference15Ideal.Gen.bitsLt_bf16_f32) (extf .f32 h Cert.Reference15Ideal.Gen.bitsLt_bf16_f32))
    Cert.Reference15Ideal.Gen.transposes_S2048x1024_S1024x2048_1_0) Cert.Reference15Ideal.Gen.transposes_S1024x2048_S2048x1024_1_0)
    Cert.Reference15Ideal.Gen.bitsLt_bf16_f32

/-- The reference at one place: a sum over the 8192 rows. -/
theorem grad_at (h : FVec Ideal S8192x1024 .bf16) (ct : FVec Ideal S8192x2048 .bf16) (j) :
    grad h ct j = ∑ l : Fin 8192, ct (ix2 l (j 0)) * h (ix2 l (j 1)) := by
  pointwise [grad]

/-- The scratch begins at zero. -/
theorem zero_at (j) : k0_pay1 (F := Ideal) j = 0 := by
  pointwise [k0_pay1]

/-- One run adds its part of the product. -/
theorem part_at (acc : FVec Ideal S1024x1024 .f32) (a : FVec Ideal S4096x1024 .bf16) (b : FVec Ideal S4096x1024 .bf16) (j) :
    k0_pay2 acc a b j = acc j + ∑ k : Fin 4096, a (ix2 k (j 0)) * b (ix2 k (j 1)) := by
  pointwise [k0_pay2]

/-- What is written out is what the scratch holds. -/
theorem out_at (acc : FVec Ideal S1024x1024 .f32) (j) : (k0_pay3 (F := Ideal) acc j : EReal) = acc j := by
  pointwise [k0_pay3]

/-- Which blocks the points read and write. -/
theorem index_at : ∀ t : Fin cfg0.N, win0_0.index t = ![t.val % 2, t.val / 2] ∧ win0_1.index t = ![t.val % 2, 0]
    ∧ win0_2.index t = ![t.val / 2, 0] :=
  (by decide +kernel : ∀ t : Fin grid0.N, _)

variable (m : (ℓ : Loc nD τ sig) → Buf (Elt Ideal) ℓ)

/-- At a run's last point the block written out is the scratch. -/
theorem out_scratch (c : Dev nD) (t : Fin cfg0.N) (h : t.val % 2 = 1) (y) :
    (outsAt0 m c t.val t.isLt).1 y = (outsAt0 m c t.val t.isLt).2 y := by
  rw [outsAt0_B m c t (by omega) h]
  frame_out
  rw [out_at]

set_option maxHeartbeats 2000000 in
/-- The result array is the reference's. -/
theorem final (c : Dev nD) : (dats m 0 c).arrAt 2 (cfgs 0).N
    = grad (m ((c : Thread nD τ).loc main_arg0)) (m ((c : Thread nD τ).loc main_arg2)) := by
  refine (dats m 0 c).arrAt_eq_of_covers 2 _ (by decide +kernel) fun t hf y => ?_
  have h3 : t.val % 2 = 1 := (flush0_2 t).mp hf
  blk_simp
  rw [after0_2, out_scratch m c t h3,
    Pipeline.eq_sum_fin_of_reset_step_apply_of_flush (fun n h => (outsAt0 m c n h).2) 2 (fun _ => 0) _
      (fun t h j => by rw [outsAt0_A m c t h (by omega)]; frame_out; rw [part_at, zero_at])
      (fun t h j => by
        have e := congrFun ((Memref.isWhole_whole cc0_scratch0).read_unread
          (outsAt0 m c (t.val - 1) (Nat.lt_of_le_of_lt (Nat.sub_le _ _) t.isLt)).2) j
        rw [outsAt0_B m c t h (by omega)]; frame_out; rw [part_at]; exact congrArg (· + _) e)
      t h3 _, zero_add, grad_at]
  refine Fin.sum_mul_add_congr fun s k hl => ?_
  blk_point [iblk, V, index_at t, index_at ⟨_, Pipeline.run_point_lt_of_flush t h3 s⟩]

end Cert.Proof.DwBs

end
-- ==== Proof.DwBf.lean ====
/- The gradient of the weights of the forgetting attention's branch, kernel `mm_dw_bf`: the rows are taken in two runs of
   4096 that are summed in a scratch. What the result array holds is the one product. -/
module

public import proofs.«01_k».proof.Proof.Gen.Kernel16Ideal.Value
public import proofs.«01_k».proof.Proof.Gen.Reference16Ideal.Run
public import Idealize.ShloMosaic.Lib.Pipeline.ValueKit

@[expose] public section

set_option maxRecDepth 16384

noncomputable section

namespace Cert.Proof.DwBf

open Idealize.ShloMosaic Idealize.ShloMosaic.TcCoe Idealize.SL.Sem
open Idealize.ShloMosaic.Pipeline (Dat)
open Cert.Kernel16Ideal Cert.Kernel16Ideal.Gen

/-- The reference's result over its arguments. -/
abbrev grad (h : FVec Ideal S8192x1024 .bf16) (ct : FVec Ideal S8192x2048 .bf16) : FVec Ideal S2048x1024 .bf16 :=
  truncf .bf16 (transpose Cert.Reference16Ideal.S2048x1024 [1, 0] (transpose Cert.Reference16Ideal.S1024x2048 [1, 0]
    (Host.dotGeneral Cert.Reference16Ideal.dot_S8192x2048_S8192x1024_S2048x1024_0_0_1_1_n_n none
      (extf .f32 ct Cert.Reference16Ideal.Gen.bitsLt_bf16_f32) (extf .f32 h Cert.Reference16Ideal.Gen.bitsLt_bf16_f32))
    Cert.Reference16Ideal.Gen.transposes_S2048x1024_S1024x2048_1_0) Cert.Reference16Ideal.Gen.transposes_S1024x2048_S2048x1024_1_0)
    Cert.Reference16Ideal.Gen.bitsLt_bf16_f32

/-- The reference at one place: a sum over the 8192 rows. -/
theorem grad_at (h : FVec Ideal S8192x1024 .bf16) (ct : FVec Ideal S8192x2048 .bf16) (j) :
    grad h ct j = ∑ l : Fin 8192, ct (ix2 l (j 0)) * h (ix2 l (j 1)) := by
  pointwise [grad]

/-- The scratch begins at zero. -/
theorem zero_at (j) : k0_pay1 (F := Ideal) j = 0 := by
  pointwise [k0_pay1]

/-- One run adds its part of the product. -/
theorem part_at (acc : FVec Ideal S1024x1024 .f32) (a : FVec Ideal S4096x1024 .bf16) (b : FVec Ideal S4096x1024 .bf16) (j) :
    k0_pay2 acc a b j = acc j + ∑ k : Fin 4096, a (ix2 k (j 0)) * b (ix2 k (j 1)) := by
  pointwise [k0_pay2]

/-- What is written out is what the scratch holds. -/
theorem out_at (acc : FVec Ideal S1024x1024 .f32) (j) : (k0_pay3 (F := Ideal) acc j : EReal) = acc j := by
  pointwise [k0_pay3]

/-- Which blocks the points read and write. -/
theorem index_at : ∀ t : Fin cfg0.N, win0_0.index t = ![t.val % 2, t.val / 2] ∧ win0_1.index t = ![t.val % 2, 0]
    ∧ win0_2.index t = ![t.val / 2, 0] :=
  (by decide +kernel : ∀ t : Fin grid0.N, _)

variable (m : (ℓ : Loc nD τ sig) → Buf (Elt Ideal) ℓ)

/-- At a run's last point the block written out is the scratch. -/
theorem out_scratch (c : Dev nD) (t : Fin cfg0.N) (h : t.val % 2 = 1) (y) :
    (outsAt0 m c t.val t.isLt).1 y = (outsAt0 m c t.val t.isLt).2 y := by
  rw [outsAt0_B m c t (by omega) h]
  frame_out
  rw [out_at]

set_option maxHeartbeats 2000000 in
/-- The result array is the reference's. -/
theorem final (c : Dev nD) : (dats m 0 c).arrAt 2 (cfgs 0).N
    = grad (m ((c : Thread nD τ).loc main_arg0)) (m ((c : Thread nD τ).loc main_arg2)) := by
  refine (dats m 0 c).arrAt_eq_of_covers 2 _ (by decide +kernel) fun t hf y => ?_
  have h3 : t.val % 2 = 1 := (flush0_2 t).mp hf
  blk_simp
  rw [after0_2, out_scratch m c t h3,
    Pipeline.eq_sum_fin_of_reset_step_apply_of_flush (fun n h => (outsAt0 m c n h).2) 2 (fun _ => 0) _
      (fun t h j => by rw [outsAt0_A m c t h (by omega)]; frame_out; rw [part_at, zero_at])
      (fun t h j => by
        have e := congrFun ((Memref.isWhole_whole cc0_scratch0).read_unread
          (outsAt0 m c (t.val - 1) (Nat.lt_of_le_of_lt (Nat.sub_le _ _) t.isLt)).2) j
        rw [outsAt0_B m c t h (by omega)]; frame_out; rw [part_at]; exact congrArg (· + _) e)
      t h3 _, zero_add, grad_at]
  refine Fin.sum_mul_add_congr fun s k hl => ?_
  blk_point [iblk, V, index_at t, index_at ⟨_, Pipeline.run_point_lt_of_flush t h3 s⟩]

end Cert.Proof.DwBf

end
-- ==== Proof.BranchA.lean ====
/- The product of the sliding-window attention's branch, kernel `mm_branch_swa`: each block of rows times the weights, all
   1024 columns at once. The result array is the reference's. -/
module

public import proofs.«01_k».proof.Proof.Gen.Kernel17Ideal.Value
public import proofs.«01_k».proof.Proof.Gen.Reference17Ideal.Run
public import Idealize.ShloMosaic.Lib.Pipeline.ValueKit

@[expose] public section

set_option maxRecDepth 16384

noncomputable section

namespace Cert.Proof.BranchA

open Idealize.ShloMosaic Idealize.ShloMosaic.TcCoe Idealize.SL.Sem
open Idealize.ShloMosaic.Pipeline (Dat)
open Cert.Kernel17Ideal Cert.Kernel17Ideal.Gen

/-- The reference's result over its arguments. -/
abbrev value (h : FVec Ideal S8192x1024 .bf16) (w : FVec Ideal S1024x2048 .f32) : FVec Ideal S8192x2048 .bf16 :=
  truncf .bf16 (Host.dotGeneral Cert.Reference17Ideal.dot_S8192x1024_S1024x2048_S8192x2048_1_0_0_1_n_n none
    (extf .f32 h Cert.Reference17Ideal.Gen.bitsLt_bf16_f32) w) Cert.Reference17Ideal.Gen.bitsLt_bf16_f32

/-- The reference at one place: a sum over the 1024 columns. -/
theorem value_at (h : FVec Ideal S8192x1024 .bf16) (w : FVec Ideal S1024x2048 .f32) (j) :
    value h w j = ∑ l : Fin 1024, h (ix2 (j 0) l) * w (ix2 l (j 1)) := by
  pointwise [value]

/-- What one block holds at one place. -/
theorem part_at (a : FVec Ideal S512x1024 .bf16) (b : FVec Ideal S2048x1024 .bf16) (j) :
    k0_pay1 a b j = ∑ l : Fin 1024, a (ix2 (j 0) l) * b (ix2 (j 1) l) := by
  pointwise [k0_pay1]

/-- Which blocks the points read and write. -/
theorem index_at : ∀ t : Fin cfg0.N, win0_0.index t = ![t.val, 0] ∧ win0_1.index t = ![0, 0]
    ∧ win0_2.index t = ![t.val, 0] :=
  (by decide +kernel : ∀ t : Fin grid0.N, _)

variable (m : (ℓ : Loc nD τ sig) → Buf (Elt Ideal) ℓ)

/-- The result array is the reference's. -/
theorem final (c : Dev nD) : (dats m 0 c).arrAt 2 (cfgs 0).N
    = value (m ((c : Thread nD τ).loc main_arg0)) (m ((c : Thread nD τ).loc main_arg1)) := by
  refine (dats m 0 c).arrAt_eq_of_covers 2 _ (by decide +kernel) fun t hf y => ?_
  blk_simp
  rw [after0_2]
  frame_out
  rw [part_at, value_at]
  blk_point [iblk, V, index_at t]

end Cert.Proof.BranchA

end
-- ==== Proof.BranchB.lean ====
/- The product of the forgetting attention's branch and the gated sum of the two branches, kernel `mm_branch_fox`: each block
   of rows times a block of the weights, all 1024 columns at once, then the gates' sigmoids. Both result arrays are the
   reference's. -/
module

public import proofs.«01_k».proof.Proof.Gen.Kernel18Ideal.Value
public import proofs.«01_k».proof.Proof.Gen.Reference18Ideal.Run
public import Idealize.ShloMosaic.Lib.Pipeline.ValueKit

@[expose] public section

set_option maxRecDepth 16384

noncomputable section

namespace Cert.Proof.BranchB

open Idealize.ShloMosaic Idealize.ShloMosaic.TcCoe Idealize.SL.Sem
open Idealize.ShloMosaic.Pipeline (Dat)
open Cert.Kernel18Ideal Cert.Kernel18Ideal.Gen

/-- The branch's product, in the reference. -/
abbrev prod (h : FVec Ideal S8192x1024 .bf16) (w : FVec Ideal S1024x2048 .f32) : FVec Ideal S8192x2048 .f32 :=
  Host.dotGeneral Cert.Reference18Ideal.dot_S8192x1024_S1024x2048_S8192x2048_1_0_0_1_n_n none (extf .f32 h Cert.Reference18Ideal.Gen.bitsLt_bf16_f32) w

/-- The array of ones, in the reference. -/
abbrev ones : FVec Ideal S8192x2048 .f32 :=
  broadcastInDim S8192x2048 ![] Cert.Reference18Ideal.Gen.bcast_S_S8192x2048 (constant Cert.Reference18Ideal.S_ .f32 0x3F800000#32)

/-- The first branch's gate, in the reference. -/
abbrev gateA (p : FVec Ideal S8192x8704 .bf16) : FVec Ideal S8192x2048 .f32 :=
  Host.divf ones (addf ones (Host.exp (Host.negf (extf .f32
    (extractStridedSlice S8192x2048 ![0, 0] p Cert.Reference18Ideal.Gen.slices_S8192x8704_S8192x2048_0_0) Cert.Reference18Ideal.Gen.bitsLt_bf16_f32))))

/-- The second branch's gate, in the reference. -/
abbrev gateB (p : FVec Ideal S8192x8704 .bf16) : FVec Ideal S8192x2048 .f32 :=
  Host.divf ones (addf ones (Host.exp (Host.negf (extf .f32
    (extractStridedSlice S8192x2048 ![0, 2048] p Cert.Reference18Ideal.Gen.slices_S8192x8704_S8192x2048_0_2048) Cert.Reference18Ideal.Gen.bitsLt_bf16_f32))))

/-- The reference's first result over its arguments. -/
abbrev branch (h : FVec Ideal S8192x1024 .bf16) (w : FVec Ideal S1024x2048 .f32) : FVec Ideal S8192x2048 .bf16 :=
  truncf .bf16 (prod h w) Cert.Reference18Ideal.Gen.bitsLt_bf16_f32

/-- The reference's second result over its arguments. -/
abbrev merged (ya : FVec Ideal S8192x2048 .bf16) (h : FVec Ideal S8192x1024 .bf16) (p : FVec Ideal S8192x8704 .bf16)
    (w : FVec Ideal S1024x2048 .f32) : FVec Ideal S8192x2048 .bf16 :=
  truncf .bf16 (addf (mulf (gateA p) (extf .f32 ya Cert.Reference18Ideal.Gen.bitsLt_bf16_f32)) (mulf (gateB p) (prod h w))) Cert.Reference18Ideal.Gen.bitsLt_bf16_f32

/-- The columns of the first gate. -/
abbrev colA (j : S8192x2048.Idx) : S8192x8704.Idx := ix2 (j 0) ⟨(j 1).val, Nat.lt_trans (j 1).isLt (by decide)⟩

/-- The columns of the second gate. -/
abbrev colB (j : S8192x2048.Idx) : S8192x8704.Idx :=
  ix2 (j 0) ⟨2048 + (j 1).val, Nat.lt_trans (Nat.add_lt_add_left (j 1).isLt 2048) (by decide)⟩

/-- The sigmoid. -/
abbrev sigmoid (g : EReal) : EReal := Ideal.div 1 (1 + Ideal.exp (-g))

/-- The reference's first result at one place: a sum over the 1024 columns. -/
theorem branch_at (h : FVec Ideal S8192x1024 .bf16) (w : FVec Ideal S1024x2048 .f32) (j) :
    branch h w j = ∑ l : Fin 1024, h (ix2 (j 0) l) * w (ix2 l (j 1)) := by
  pointwise [branch, prod]

/-- The first gate at one place. -/
theorem gateA_at (p : FVec Ideal S8192x8704 .bf16) (j) : gateA p j = sigmoid (p (colA j)) := by
  pointwise [gateA, ones]

/-- The second gate at one place. -/
theorem gateB_at (p : FVec Ideal S8192x8704 .bf16) (j) : gateB p j = sigmoid (p (colB j)) := by
  pointwise [gateB, ones]

/-- The reference's second result at one place. -/
theorem merged_at (ya : FVec Ideal S8192x2048 .bf16) (h : FVec Ideal S8192x1024 .bf16) (p : FVec Ideal S8192x8704 .bf16)
    (w : FVec Ideal S1024x2048 .f32) (j) : merged ya h p w j
      = sigmoid (p (colA j)) * ya j + sigmoid (p (colB j)) * ∑ l : Fin 1024, h (ix2 (j 0) l) * w (ix2 l (j 1)) := by
  rw [← gateA_at, ← gateB_at, ← branch_at]
  rfl

/-- What one block of the first result holds at one place. -/
theorem part_at (a : FVec Ideal S1024x1024 .bf16) (b : FVec Ideal S1024x1024 .bf16) (j) :
    k0_pay2 a b j = ∑ l : Fin 1024, a (ix2 (j 0) l) * b (ix2 (j 1) l) := by
  pointwise [k0_pay2, k0_pay1]

/-- What one block of the second result holds at one place. -/
theorem sum_at (a : FVec Ideal S1024x1024 .bf16) (b : FVec Ideal S1024x1024 .bf16) (y ga gb : FVec Ideal S1024x1024 .bf16) (j) :
    (k0_pay3 (F := Ideal) a b y ga gb j : EReal) = sigmoid (ga j) * y j + sigmoid (gb j) * ∑ l : Fin 1024, a (ix2 (j 0) l) * b (ix2 (j 1) l) := by
  pointwise [k0_pay3, k0_pay1]
  simp only [sigmoid, zero_sub]

/-- Which blocks the points read and write. -/
theorem index_at : ∀ t : Fin cfg0.N, win0_0.index t = ![t.val / 2, 0] ∧ win0_1.index t = ![t.val % 2, 0]
    ∧ win0_2.index t = ![t.val / 2, t.val % 2] ∧ win0_3.index t = ![t.val / 2, t.val % 2]
    ∧ win0_4.index t = ![t.val / 2, t.val % 2 + 2] ∧ win0_5.index t = ![t.val / 2, t.val % 2]
    ∧ win0_6.index t = ![t.val / 2, t.val % 2] :=
  (by decide +kernel : ∀ t : Fin grid0.N, _)

variable (m : (ℓ : Loc nD τ sig) → Buf (Elt Ideal) ℓ)

/-- The first result array is the reference's. -/
theorem final_branch (c : Dev nD) : (dats m 0 c).arrAt 5 (cfgs 0).N
    = branch (m ((c : Thread nD τ).loc main_arg1)) (m ((c : Thread nD τ).loc main_arg3)) := by
  refine (dats m 0 c).arrAt_eq_of_covers 5 _ (by decide +kernel) fun t hf y => ?_
  blk_simp
  rw [after0_5]
  simp only [outsAt0]
  frame_out
  rw [part_at, branch_at]
  blk_point [iblk, V, index_at t]

/-- The second result array is the reference's. -/
theorem final_merged (c : Dev nD) : (dats m 0 c).arrAt 6 (cfgs 0).N
    = merged (m ((c : Thread nD τ).loc main_arg0)) (m ((c : Thread nD τ).loc main_arg1)) (m ((c : Thread nD τ).loc main_arg2))
        (m ((c : Thread nD τ).loc main_arg3)) := by
  refine (dats m 0 c).arrAt_eq_of_covers 6 _ (by decide +kernel) fun t hf y => ?_
  blk_simp
  rw [after0_6]
  simp only [outsAt0]
  frame_out
  rw [sum_at, merged_at]
  unfold X0_3 X0_4 Pipeline.Window.fill
  rw [dif_pos (moved0_3 t _), dif_pos (moved0_4 t _)]
  blk_point [iblk, V, index_at t]
  · exact congrArg sigmoid (by unfold colA; blk_ext! [iblk, V, index_at t])
  · exact congrArg sigmoid (by unfold colB; blk_ext! [iblk, V, index_at t])

end Cert.Proof.BranchB

end
-- ==== Proof.MmOut.lean ====
/- The output projection, the residual stream and the norm after it, kernel `mm_out`: each block of rows times the weights,
   all 2048 columns at once, plus the residual's block, and the norm of the sum's rows. Both result arrays are the
   reference's. -/
module

public import proofs.«01_k».proof.Proof.Gen.Kernel19Ideal.Value
public import proofs.«01_k».proof.Proof.Gen.Reference19Ideal.Run
public import Idealize.ShloMosaic.Lib.Pipeline.ValueKit

@[expose] public section

set_option maxRecDepth 16384

noncomputable section

namespace Cert.Proof.MmOut

open Idealize.ShloMosaic Idealize.ShloMosaic.TcCoe Idealize.SL.Sem
open Idealize.ShloMosaic.Pipeline (Dat)
open Cert.Kernel19Ideal Cert.Kernel19Ideal.Gen

/-- The reference's first result over its arguments. -/
abbrev mid (x : FVec Ideal S8192x2048 .f32) (h : FVec Ideal S8192x2048 .bf16) (w : FVec Ideal S2048x2048 .f32) :
    FVec Ideal S8192x2048 .f32 :=
  addf x (Host.dotGeneral Cert.Reference19Ideal.dot_S8192x2048_S2048x2048_S8192x2048_1_0_0_1_n_n none (extf .f32 h Cert.Reference19Ideal.Gen.bitsLt_bf16_f32) w)

/-- The reference's norm. -/
abbrev normed (x : FVec Ideal S8192x2048 .f32) (g : FVec Ideal S1x2048 .f32) : FVec Ideal S8192x2048 .bf16 :=
  truncf .bf16 (mulf (mulf x (broadcastInDim S8192x2048 ![0, 1] Cert.Reference19Ideal.Gen.bcast_S8192x1_S8192x2048_0_1
    (Host.rsqrt (addf (Host.divf (broadcastInDim Cert.Reference19Ideal.S8192x1 ![0] Cert.Reference19Ideal.Gen.bcast_S8192_S8192x1_0
        (Host.reduceAdd (mulf x x) (constant Cert.Reference19Ideal.S_ .f32 0x00000000#32) Cert.Reference19Ideal.Gen.reducesTo_S8192x2048_S8192_d1 Cert.Reference19Ideal.Gen.h_S_))
      (broadcastInDim Cert.Reference19Ideal.S8192x1 ![] Cert.Reference19Ideal.Gen.bcast_S_S8192x1 (constant Cert.Reference19Ideal.S_ .f32 0x45000000#32)))
      (broadcastInDim Cert.Reference19Ideal.S8192x1 ![] Cert.Reference19Ideal.Gen.bcast_S_S8192x1 (constant Cert.Reference19Ideal.S_ .f32 0x358637BD#32))))))
    (broadcastInDim S8192x2048 ![0, 1] Cert.Reference19Ideal.Gen.bcast_S1x2048_S8192x2048_0_1 (broadcastInDim S1x2048 ![1] Cert.Reference19Ideal.Gen.bcast_S2048_S1x2048_1
      (shapeCast _ g Cert.Reference19Ideal.Gen.shapeCasts_S1x2048_S2048)))) Cert.Reference19Ideal.Gen.bitsLt_bf16_f32

/-- The norm of one row's entry. -/
def norm (row : Fin 2048 → EReal) (v g : EReal) : EReal :=
  v * Ideal.rsqrt (Ideal.div (∑ k, row k * row k) (Ideal.ofBits .f32 0x45000000#32) + Ideal.ofBits .f32 0x358637BD#32) * g

/-- The reference's first result at one place. -/
theorem mid_at (x : FVec Ideal S8192x2048 .f32) (h : FVec Ideal S8192x2048 .bf16) (w : FVec Ideal S2048x2048 .f32) (j) :
    mid x h w j = (∑ l : Fin 2048, h (ix2 (j 0) l) * w (ix2 l (j 1))) + x j := by
  rw [add_comm]
  pointwise [mid]

/-- The reference's norm at one place. -/
theorem normed_at (x : FVec Ideal S8192x2048 .f32) (g : FVec Ideal S1x2048 .f32) (j) :
    normed x g j = norm (fun k => x (ix2 (j 0) k)) (x j) (g (ix2 0 (j 1))) := by
  pointwise [normed, norm]

/-- What one block of the first result holds at one place. -/
theorem part_at (a : FVec Ideal S512x2048 .bf16) (b : FVec Ideal S2048x2048 .bf16) (x : FVec Ideal S512x2048 .f32) (j) :
    k0_pay1 (F := Ideal) a b x j = ((∑ l : Fin 2048, a (ix2 (j 0) l) * b (ix2 l (j 1))) + x j : EReal) := by
  pointwise [k0_pay1]

/-- What one block of the second result holds at one place. -/
theorem norm_at (a : FVec Ideal S512x2048 .bf16) (b : FVec Ideal S2048x2048 .bf16) (x : FVec Ideal S512x2048 .f32)
    (g : FVec Ideal S1x2048 .f32) (j) :
    (k0_pay2 (F := Ideal) a b x g j : EReal)
      = norm (fun k => k0_pay1 (F := Ideal) a b x (ix2 (j 0) k)) (k0_pay1 (F := Ideal) a b x j) (g (ix2 0 (j 1))) := by
  generalize hp : k0_pay1 (F := Ideal) a b x = p
  unfold k0_pay2
  rw [hp]
  pointwise [norm]

/-- Which blocks the points read and write. -/
theorem index_at : ∀ t : Fin cfg0.N, win0_0.index t = ![t.val, 0] ∧ win0_1.index t = ![0, 0]
    ∧ win0_2.index t = ![t.val, 0] ∧ win0_3.index t = ![0, 0] ∧ win0_4.index t = ![t.val, 0] ∧ win0_5.index t = ![t.val, 0] :=
  (by decide +kernel : ∀ t : Fin grid0.N, _)

variable (m : (ℓ : Loc nD τ sig) → Buf (Elt Ideal) ℓ)

/-- The first result array is the reference's. -/
theorem final_mid (c : Dev nD) : (dats m 0 c).arrAt 4 (cfgs 0).N
    = mid (m ((c : Thread nD τ).loc main_arg0)) (m ((c : Thread nD τ).loc main_arg1)) (m ((c : Thread nD τ).loc main_arg2)) := by
  refine (dats m 0 c).arrAt_eq_of_covers 4 _ (by decide +kernel) fun t hf y => ?_
  blk_simp
  rw [after0_4]
  frame_out
  rw [part_at, mid_at]
  blk_point [iblk, V, index_at t]

/-- The second result array is the reference's. -/
theorem final_normed (c : Dev nD) : (dats m 0 c).arrAt 5 (cfgs 0).N
    = normed (mid (m ((c : Thread nD τ).loc main_arg0)) (m ((c : Thread nD τ).loc main_arg1)) (m ((c : Thread nD τ).loc main_arg2)))
        (m ((c : Thread nD τ).loc main_arg3)) := by
  refine (dats m 0 c).arrAt_eq_of_covers 5 _ (by decide +kernel) fun t hf y => ?_
  blk_simp
  rw [after0_5]
  frame_out
  rw [norm_at, normed_at]
  simp only [norm, part_at, mid_at]
  blk_point [iblk, V, index_at t]

end Cert.Proof.MmOut

end
-- ==== Proof.Branches.lean ====
/- The calls around the two branches of the attention layer: the frames of their references, and that each call and its
   reference end with equal results. -/
module

public import proofs.«01_k».proof.Defs
public import proofs.«01_k».proof.Proof.DMerged
public import proofs.«01_k».proof.Proof.DwOut
public import proofs.«01_k».proof.Proof.DOa
public import proofs.«01_k».proof.Proof.DOb
public import proofs.«01_k».proof.Proof.DwBs
public import proofs.«01_k».proof.Proof.DwBf
public import proofs.«01_k».proof.Proof.BranchA
public import proofs.«01_k».proof.Proof.BranchB
public import proofs.«01_k».proof.Proof.MmOut
public import Idealize.ShloMosaic.Adequacy

@[expose] public section

noncomputable section

namespace Cert.Proof

open Idealize.ShloMosaic Idealize.SL.Sem

/-- Gradients of the gated sum: the reference's frame. -/
theorem frame_reference11 : Cert.quiescent_Reference11Ideal := fun m ρ _ =>
  (θ_run Cert.Reference11Ideal.defs _ _).mono (fun r h => ⟨fun c => (h c).2.2.2.2, sem_eq_zero_of_no_sems (by decide) r.2⟩)
    (Cert.Reference11Ideal.Value.run (F := Ideal) m ρ)

/-- Gradients of the gated sum: kernel and reference end with equal results. -/
theorem equal11 : Cert.algebraic_Kernel11Ideal_Reference11Ideal := fun m ρ m' ρ' _ hA =>
  ⟨fun c => DMerged.gradY (DMerged.gateA (m ((c.tc : Thread Cert.Kernel11Ideal.nD Cert.Kernel11Ideal.τ).loc Cert.Kernel11Ideal.main_arg2))) (m ((c.tc : Thread Cert.Kernel11Ideal.nD Cert.Kernel11Ideal.τ).loc Cert.Kernel11Ideal.main_arg3)) (m ((c.tc : Thread Cert.Kernel11Ideal.nD Cert.Kernel11Ideal.τ).loc Cert.Kernel11Ideal.main_arg4)),
    fun c => DMerged.gradY (DMerged.gateB (m ((c.tc : Thread Cert.Kernel11Ideal.nD Cert.Kernel11Ideal.τ).loc Cert.Kernel11Ideal.main_arg2))) (m ((c.tc : Thread Cert.Kernel11Ideal.nD Cert.Kernel11Ideal.τ).loc Cert.Kernel11Ideal.main_arg3)) (m ((c.tc : Thread Cert.Kernel11Ideal.nD Cert.Kernel11Ideal.τ).loc Cert.Kernel11Ideal.main_arg4)),
    fun c => DMerged.gradG (m ((c.tc : Thread Cert.Kernel11Ideal.nD Cert.Kernel11Ideal.τ).loc Cert.Kernel11Ideal.main_arg0)) (DMerged.gateA (m ((c.tc : Thread Cert.Kernel11Ideal.nD Cert.Kernel11Ideal.τ).loc Cert.Kernel11Ideal.main_arg2))) (m ((c.tc : Thread Cert.Kernel11Ideal.nD Cert.Kernel11Ideal.τ).loc Cert.Kernel11Ideal.main_arg3)) (m ((c.tc : Thread Cert.Kernel11Ideal.nD Cert.Kernel11Ideal.τ).loc Cert.Kernel11Ideal.main_arg4)),
    fun c => DMerged.gradG (m ((c.tc : Thread Cert.Kernel11Ideal.nD Cert.Kernel11Ideal.τ).loc Cert.Kernel11Ideal.main_arg1)) (DMerged.gateB (m ((c.tc : Thread Cert.Kernel11Ideal.nD Cert.Kernel11Ideal.τ).loc Cert.Kernel11Ideal.main_arg2))) (m ((c.tc : Thread Cert.Kernel11Ideal.nD Cert.Kernel11Ideal.τ).loc Cert.Kernel11Ideal.main_arg3)) (m ((c.tc : Thread Cert.Kernel11Ideal.nD Cert.Kernel11Ideal.τ).loc Cert.Kernel11Ideal.main_arg4)),
    (θ_run Cert.Kernel11Ideal.defs _ _).mono (fun r h c => ⟨(h c).1.trans (DMerged.final_ya m c), (h c).2.1.trans (DMerged.final_yb m c), (h c).2.2.1.trans (DMerged.final_ga m c), (h c).2.2.2.1.trans (DMerged.final_gb m c), (h c).2.2.2.2⟩)
      (Cert.Kernel11Ideal.Value.run_blocks (F := Ideal) m ρ),
    (θ_run Cert.Reference11Ideal.defs _ _).mono (fun r h c => ⟨(h c).1.trans (by
        obtain ⟨h0, h1, h2, h3, h4⟩ := hA c
        rw [h2, h3, h4]), (h c).2.1.trans (by
        obtain ⟨h0, h1, h2, h3, h4⟩ := hA c
        rw [h2, h3, h4]), (h c).2.2.1.trans (by
        obtain ⟨h0, h1, h2, h3, h4⟩ := hA c
        rw [h0, h2, h3, h4]), (h c).2.2.2.1.trans (by
        obtain ⟨h0, h1, h2, h3, h4⟩ := hA c
        rw [h1, h2, h3, h4]), (h c).2.2.2.2⟩)
      (Cert.Reference11Ideal.Value.run (F := Ideal) m' ρ')⟩

/-- Gradient of the output projection's weights: the reference's frame. -/
theorem frame_reference12 : Cert.quiescent_Reference12Ideal := fun m ρ _ =>
  (θ_run Cert.Reference12Ideal.defs _ _).mono (fun r h => ⟨fun c => (h c).2, sem_eq_zero_of_no_sems (by decide) r.2⟩)
    (Cert.Reference12Ideal.Value.run (F := Ideal) m ρ)

/-- Gradient of the output projection's weights: kernel and reference end with equal results. -/
theorem equal12 : Cert.algebraic_Kernel12Ideal_Reference12Ideal := fun m ρ m' ρ' _ hA =>
  ⟨fun c => DwOut.grad (m ((c.tc : Thread Cert.Kernel12Ideal.nD Cert.Kernel12Ideal.τ).loc Cert.Kernel12Ideal.main_arg0)) (m ((c.tc : Thread Cert.Kernel12Ideal.nD Cert.Kernel12Ideal.τ).loc Cert.Kernel12Ideal.main_arg2)),
    (θ_run Cert.Kernel12Ideal.defs _ _).mono (fun r h c => ⟨(h c).1.trans (DwOut.final m c), (h c).2⟩)
      (Cert.Kernel12Ideal.Value.run_blocks (F := Ideal) m ρ),
    (θ_run Cert.Reference12Ideal.defs _ _).mono (fun r h c => ⟨(h c).1.trans (by
        obtain ⟨h0, h1, h2⟩ := hA c
        rw [h0, h2]), (h c).2⟩)
      (Cert.Reference12Ideal.Value.run (F := Ideal) m' ρ')⟩

/-- Gradient of the first branch's input: the reference's frame. -/
theorem frame_reference13 : Cert.quiescent_Reference13Ideal := fun m ρ _ =>
  (θ_run Cert.Reference13Ideal.defs _ _).mono (fun r h => ⟨fun c => (h c).2, sem_eq_zero_of_no_sems (by decide) r.2⟩)
    (Cert.Reference13Ideal.Value.run (F := Ideal) m ρ)

/-- Gradient of the first branch's input: kernel and reference end with equal results. -/
theorem equal13 : Cert.algebraic_Kernel13Ideal_Reference13Ideal := fun m ρ m' ρ' _ hA =>
  ⟨fun c => DOa.grad (m ((c.tc : Thread Cert.Kernel13Ideal.nD Cert.Kernel13Ideal.τ).loc Cert.Kernel13Ideal.main_arg1)) (m ((c.tc : Thread Cert.Kernel13Ideal.nD Cert.Kernel13Ideal.τ).loc Cert.Kernel13Ideal.main_arg2)),
    (θ_run Cert.Kernel13Ideal.defs _ _).mono (fun r h c => ⟨(h c).1.trans (DOa.final m c), (h c).2⟩)
      (Cert.Kernel13Ideal.Value.run_blocks (F := Ideal) m ρ),
    (θ_run Cert.Reference13Ideal.defs _ _).mono (fun r h c => ⟨(h c).1.trans (by
        obtain ⟨h0, h1, h2⟩ := hA c
        rw [h1, h2]), (h c).2⟩)
      (Cert.Reference13Ideal.Value.run (F := Ideal) m' ρ')⟩

/-- Gradient of the second branch's input: the reference's frame. -/
theorem frame_reference14 : Cert.quiescent_Reference14Ideal := fun m ρ _ =>
  (θ_run Cert.Reference14Ideal.defs _ _).mono (fun r h => ⟨fun c => (h c).2, sem_eq_zero_of_no_sems (by decide) r.2⟩)
    (Cert.Reference14Ideal.Value.run (F := Ideal) m ρ)

/-- Gradient of the second branch's input: kernel and reference end with equal results. -/
theorem equal14 : Cert.algebraic_Kernel14Ideal_Reference14Ideal := fun m ρ m' ρ' _ hA =>
  ⟨fun c => DOb.grad (m ((c.tc : Thread Cert.Kernel14Ideal.nD Cert.Kernel14Ideal.τ).loc Cert.Kernel14Ideal.main_arg1)) (m ((c.tc : Thread Cert.Kernel14Ideal.nD Cert.Kernel14Ideal.τ).loc Cert.Kernel14Ideal.main_arg2)),
    (θ_run Cert.Kernel14Ideal.defs _ _).mono (fun r h c => ⟨(h c).1.trans (DOb.final m c), (h c).2⟩)
      (Cert.Kernel14Ideal.Value.run_blocks (F := Ideal) m ρ),
    (θ_run Cert.Reference14Ideal.defs _ _).mono (fun r h c => ⟨(h c).1.trans (by
        obtain ⟨h0, h1, h2⟩ := hA c
        rw [h1, h2]), (h c).2⟩)
      (Cert.Reference14Ideal.Value.run (F := Ideal) m' ρ')⟩

/-- Gradient of the first branch's weights: the reference's frame. -/
theorem frame_reference15 : Cert.quiescent_Reference15Ideal := fun m ρ _ =>
  (θ_run Cert.Reference15Ideal.defs _ _).mono (fun r h => ⟨fun c => (h c).2, sem_eq_zero_of_no_sems (by decide) r.2⟩)
    (Cert.Reference15Ideal.Value.run (F := Ideal) m ρ)

/-- Gradient of the first branch's weights: kernel and reference end with equal results. -/
theorem equal15 : Cert.algebraic_Kernel15Ideal_Reference15Ideal := fun m ρ m' ρ' _ hA =>
  ⟨fun c => DwBs.grad (m ((c.tc : Thread Cert.Kernel15Ideal.nD Cert.Kernel15Ideal.τ).loc Cert.Kernel15Ideal.main_arg0)) (m ((c.tc : Thread Cert.Kernel15Ideal.nD Cert.Kernel15Ideal.τ).loc Cert.Kernel15Ideal.main_arg2)),
    (θ_run Cert.Kernel15Ideal.defs _ _).mono (fun r h c => ⟨(h c).1.trans (DwBs.final m c), (h c).2⟩)
      (Cert.Kernel15Ideal.Value.run_blocks (F := Ideal) m ρ),
    (θ_run Cert.Reference15Ideal.defs _ _).mono (fun r h c => ⟨(h c).1.trans (by
        obtain ⟨h0, h1, h2⟩ := hA c
        rw [h0, h2]), (h c).2⟩)
      (Cert.Reference15Ideal.Value.run (F := Ideal) m' ρ')⟩

/-- Gradient of the second branch's weights: the reference's frame. -/
theorem frame_reference16 : Cert.quiescent_Reference16Ideal := fun m ρ _ =>
  (θ_run Cert.Reference16Ideal.defs _ _).mono (fun r h => ⟨fun c => (h c).2, sem_eq_zero_of_no_sems (by decide) r.2⟩)
    (Cert.Reference16Ideal.Value.run (F := Ideal) m ρ)

/-- Gradient of the second branch's weights: kernel and reference end with equal results. -/
theorem equal16 : Cert.algebraic_Kernel16Ideal_Reference16Ideal := fun m ρ m' ρ' _ hA =>
  ⟨fun c => DwBf.grad (m ((c.tc : Thread Cert.Kernel16Ideal.nD Cert.Kernel16Ideal.τ).loc Cert.Kernel16Ideal.main_arg0)) (m ((c.tc : Thread Cert.Kernel16Ideal.nD Cert.Kernel16Ideal.τ).loc Cert.Kernel16Ideal.main_arg2)),
    (θ_run Cert.Kernel16Ideal.defs _ _).mono (fun r h c => ⟨(h c).1.trans (DwBf.final m c), (h c).2⟩)
      (Cert.Kernel16Ideal.Value.run_blocks (F := Ideal) m ρ),
    (θ_run Cert.Reference16Ideal.defs _ _).mono (fun r h c => ⟨(h c).1.trans (by
        obtain ⟨h0, h1, h2⟩ := hA c
        rw [h0, h2]), (h c).2⟩)
      (Cert.Reference16Ideal.Value.run (F := Ideal) m' ρ')⟩

/-- The first branch: the reference's frame. -/
theorem frame_reference17 : Cert.quiescent_Reference17Ideal := fun m ρ _ =>
  (θ_run Cert.Reference17Ideal.defs _ _).mono (fun r h => ⟨fun c => (h c).2, sem_eq_zero_of_no_sems (by decide) r.2⟩)
    (Cert.Reference17Ideal.Value.run (F := Ideal) m ρ)

/-- The first branch: kernel and reference end with equal results. -/
theorem equal17 : Cert.algebraic_Kernel17Ideal_Reference17Ideal := fun m ρ m' ρ' _ hA =>
  ⟨fun c => BranchA.value (m ((c.tc : Thread Cert.Kernel17Ideal.nD Cert.Kernel17Ideal.τ).loc Cert.Kernel17Ideal.main_arg0)) (m ((c.tc : Thread Cert.Kernel17Ideal.nD Cert.Kernel17Ideal.τ).loc Cert.Kernel17Ideal.main_arg1)),
    (θ_run Cert.Kernel17Ideal.defs _ _).mono (fun r h c => ⟨(h c).1.trans (BranchA.final m c), (h c).2⟩)
      (Cert.Kernel17Ideal.Value.run_blocks (F := Ideal) m ρ),
    (θ_run Cert.Reference17Ideal.defs _ _).mono (fun r h c => ⟨(h c).1.trans (by
        obtain ⟨h0, h1⟩ := hA c
        rw [h0, h1]), (h c).2⟩)
      (Cert.Reference17Ideal.Value.run (F := Ideal) m' ρ')⟩

/-- The second branch and the gated sum: the reference's frame. -/
theorem frame_reference18 : Cert.quiescent_Reference18Ideal := fun m ρ _ =>
  (θ_run Cert.Reference18Ideal.defs _ _).mono (fun r h => ⟨fun c => (h c).2.2, sem_eq_zero_of_no_sems (by decide) r.2⟩)
    (Cert.Reference18Ideal.Value.run (F := Ideal) m ρ)

/-- The second branch and the gated sum: kernel and reference end with equal results. -/
theorem equal18 : Cert.algebraic_Kernel18Ideal_Reference18Ideal := fun m ρ m' ρ' _ hA =>
  ⟨fun c => BranchB.branch (m ((c.tc : Thread Cert.Kernel18Ideal.nD Cert.Kernel18Ideal.τ).loc Cert.Kernel18Ideal.main_arg1)) (m ((c.tc : Thread Cert.Kernel18Ideal.nD Cert.Kernel18Ideal.τ).loc Cert.Kernel18Ideal.main_arg3)),
    fun c => BranchB.merged (m ((c.tc : Thread Cert.Kernel18Ideal.nD Cert.Kernel18Ideal.τ).loc Cert.Kernel18Ideal.main_arg0)) (m ((c.tc : Thread Cert.Kernel18Ideal.nD Cert.Kernel18Ideal.τ).loc Cert.Kernel18Ideal.main_arg1)) (m ((c.tc : Thread Cert.Kernel18Ideal.nD Cert.Kernel18Ideal.τ).loc Cert.Kernel18Ideal.main_arg2)) (m ((c.tc : Thread Cert.Kernel18Ideal.nD Cert.Kernel18Ideal.τ).loc Cert.Kernel18Ideal.main_arg3)),
    (θ_run Cert.Kernel18Ideal.defs _ _).mono (fun r h c => ⟨(h c).1.trans (BranchB.final_branch m c), (h c).2.1.trans (BranchB.final_merged m c), (h c).2.2⟩)
      (Cert.Kernel18Ideal.Value.run_blocks (F := Ideal) m ρ),
    (θ_run Cert.Reference18Ideal.defs _ _).mono (fun r h c => ⟨(h c).1.trans (by
        obtain ⟨h0, h1, h2, h3⟩ := hA c
        rw [h1, h3]), (h c).2.1.trans (by
        obtain ⟨h0, h1, h2, h3⟩ := hA c
        rw [h0, h1, h2, h3]), (h c).2.2⟩)
      (Cert.Reference18Ideal.Value.run (F := Ideal) m' ρ')⟩

/-- The output projection, its residual and the norm: the reference's frame. -/
theorem frame_reference19 : Cert.quiescent_Reference19Ideal := fun m ρ _ =>
  (θ_run Cert.Reference19Ideal.defs _ _).mono (fun r h => ⟨fun c => (h c).2.2, sem_eq_zero_of_no_sems (by decide) r.2⟩)
    (Cert.Reference19Ideal.Value.run (F := Ideal) m ρ)

/-- The output projection, its residual and the norm: kernel and reference end with equal results. -/
theorem equal19 : Cert.algebraic_Kernel19Ideal_Reference19Ideal := fun m ρ m' ρ' _ hA =>
  ⟨fun c => MmOut.mid (m ((c.tc : Thread Cert.Kernel19Ideal.nD Cert.Kernel19Ideal.τ).loc Cert.Kernel19Ideal.main_arg0)) (m ((c.tc : Thread Cert.Kernel19Ideal.nD Cert.Kernel19Ideal.τ).loc Cert.Kernel19Ideal.main_arg1)) (m ((c.tc : Thread Cert.Kernel19Ideal.nD Cert.Kernel19Ideal.τ).loc Cert.Kernel19Ideal.main_arg2)),
    fun c => MmOut.normed (MmOut.mid (m ((c.tc : Thread Cert.Kernel19Ideal.nD Cert.Kernel19Ideal.τ).loc Cert.Kernel19Ideal.main_arg0)) (m ((c.tc : Thread Cert.Kernel19Ideal.nD Cert.Kernel19Ideal.τ).loc Cert.Kernel19Ideal.main_arg1)) (m ((c.tc : Thread Cert.Kernel19Ideal.nD Cert.Kernel19Ideal.τ).loc Cert.Kernel19Ideal.main_arg2))) (m ((c.tc : Thread Cert.Kernel19Ideal.nD Cert.Kernel19Ideal.τ).loc Cert.Kernel19Ideal.main_arg3)),
    (θ_run Cert.Kernel19Ideal.defs _ _).mono (fun r h c => ⟨(h c).1.trans (MmOut.final_mid m c), (h c).2.1.trans (MmOut.final_normed m c), (h c).2.2⟩)
      (Cert.Kernel19Ideal.Value.run_blocks (F := Ideal) m ρ),
    (θ_run Cert.Reference19Ideal.defs _ _).mono (fun r h c => ⟨(h c).1.trans (by
        obtain ⟨h0, h1, h2, h3⟩ := hA c
        rw [h0, h1, h2]), (h c).2.1.trans (by
        obtain ⟨h0, h1, h2, h3⟩ := hA c
        rw [h0, h1, h2, h3]), (h c).2.2⟩)
      (Cert.Reference19Ideal.Value.run (F := Ideal) m' ρ')⟩

end Cert.Proof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Kernel8Ideal.Value
public import proofs.«01_k».proof.Proof.Gen.Reference8Ideal
public import proofs.«01_k».proof.Proof.Gen.Reference8Ideal.Run
public import proofs.«01_k».proof.Proof.Gen.Kernel9
public import proofs.«01_k».proof.Proof.Gen.Kernel9.Skeleton
public import proofs.«01_k».proof.Proof.Gen.Kernel9.Launch
public import proofs.«01_k».proof.Proof.Gen.Kernel9.Points
public import proofs.«01_k».proof.Proof.Gen.Kernel9.Frame
public import proofs.«01_k».proof.Proof.Gen.Kernel9Ideal
public import proofs.«01_k».proof.Proof.Gen.Kernel9Ideal.Skeleton
public import proofs.«01_k».proof.Proof.Gen.Kernel9Ideal.Launch
public import proofs.«01_k».proof.Proof.Gen.Kernel9Ideal.Points
public import proofs.«01_k».proof.Proof.Gen.Kernel9Ideal.Frame
public import proofs.«01_k».proof.Proof.Gen.Kernel9Ideal.Value
public import proofs.«01_k».proof.Proof.Gen.Reference9Ideal
public import proofs.«01_k».proof.Proof.Gen.Reference9Ideal.Run
public import proofs.«01_k».proof.Proof.Gen.Kernel10
public import proofs.«01_k».proof.Proof.Gen.Kernel10.Skeleton
public import proofs.«01_k».proof.Proof.Gen.Kernel10.Launch
public import proofs.«01_k».proof.Proof.Gen.Kernel10.Points
public import proofs.«01_k».proof.Proof.Gen.Kernel10.Frame
public import proofs.«01_k».proof.Proof.Gen.Kernel10Ideal
public import proofs.«01_k».proof.Proof.Gen.Kernel10Ideal.Skeleton
public import proofs.«01_k».proof.Proof.Gen.Kernel10Ideal.Launch
public import proofs.«01_k».proof.Proof.Gen.Kernel10Ideal.Points
public import proofs.«01_k».proof.Proof.Gen.Kernel10Ideal.Frame
public import proofs.«01_k».proof.Proof.Gen.Kernel10Ideal.Value
public import proofs.«01_k».proof.Proof.Gen.Reference10Ideal
public import proofs.«01_k».proof.Proof.Gen.Reference10Ideal.Run
public import proofs.«01_k».proof.Proof.Gen.Kernel11
public import proofs.«01_k».proof.Proof.Gen.Kernel11.Skeleton
public import proofs.«01_k».proof.Proof.Gen.Kernel11.Launch
public import proofs.«01_k».proof.Proof.Gen.Kernel11.Points
public import proofs.«01_k».proof.Proof.Gen.Kernel11.Frame
public import proofs.«01_k».proof.Proof.Gen.Kernel11Ideal
public import proofs.«01_k».proof.Proof.Gen.Kernel11Ideal.Skeleton
public import proofs.«01_k».proof.Proof.Gen.Kernel11Ideal.Launch
public import proofs.«01_k».proof.Proof.Gen.Kernel11Ideal.Points
public import proofs.«01_k».proof.Proof.Gen.Kernel11Ideal.Frame
public import proofs.«01_k».proof.Proof.Gen.Kernel11Ideal.Value
public import proofs.«01_k».proof.Proof.Gen.Reference11Ideal
public import proofs.«01_k».proof.Proof.Gen.Reference11Ideal.Run
public import proofs.«01_k».proof.Proof.Gen.Kernel12
public import proofs.«01_k».proof.Proof.Gen.Kernel12.Skeleton
public import proofs.«01_k».proof.Proof.Gen.Kernel12.Launch
public import proofs.«01_k».proof.Proof.Gen.Kernel12.Points
public import proofs.«01_k».proof.Proof.Gen.Kernel12.Frame
public import proofs.«01_k».proof.Proof.Gen.Kernel12Ideal
public import proofs.«01_k».proof.Proof.Gen.Kernel12Ideal.Skeleton
public import proofs.«01_k».proof.Proof.Gen.Kernel12Ideal.Launch
public import proofs.«01_k».proof.Proof.Gen.Kernel12Ideal.Points
public import proofs.«01_k».proof.Proof.Gen.Kernel12Ideal.Frame
public import proofs.«01_k».proof.Proof.Gen.Kernel12Ideal.Value
public import proofs.«01_k».proof.Proof.Gen.Reference12Ideal
public import proofs.«01_k».proof.Proof.Gen.Reference12Ideal.Run
public import proofs.«01_k».proof.Proof.Gen.Kernel13
public import proofs.«01_k».proof.Proof.Gen.Kernel13.Skeleton
public import proofs.«01_k».proof.Proof.Gen.Kernel13.Launch
public import proofs.«01_k».proof.Proof.Gen.Kernel13.Points
public import proofs.«01_k».proof.Proof.Gen.Kernel13.Frame
public import proofs.«01_k».proof.Proof.Gen.Kernel13Ideal
public import proofs.«01_k».proof.Proof.Gen.Kernel13Ideal.Skeleton
public import proofs.«01_k».proof.Proof.Gen.Kernel13Ideal.Launch
public import proofs.«01_k».proof.Proof.Gen.Kernel13Ideal.Points
public import proofs.«01_k».proof.Proof.Gen.Kernel13Ideal.Frame
public import proofs.«01_k».proof.Proof.Gen.Kernel13Ideal.Value
public import proofs.«01_k».proof.Proof.Gen.Reference13Ideal
public import proofs.«01_k».proof.Proof.Gen.Reference13Ideal.Run
public import proofs.«01_k».proof.Proof.Gen.Kernel14
public import proofs.«01_k».proof.Proof.Gen.Kernel14.Skeleton
public import proofs.«01_k».proof.Proof.Gen.Kernel14.Launch
public import proofs.«01_k».proof.Proof.Gen.Kernel14.Points
public import proofs.«01_k».proof.Proof.Gen.Kernel14.Frame
public import proofs.«01_k».proof.Proof.Gen.Kernel14Ideal
public import proofs.«01_k».proof.Proof.Gen.Kernel14Ideal.Skeleton
public import proofs.«01_k».proof.Proof.Gen.Kernel14Ideal.Launch
public import proofs.«01_k».proof.Proof.Gen.Kernel14Ideal.Points
public import proofs.«01_k».proof.Proof.Gen.Kernel14Ideal.Frame
public import proofs.«01_k».proof.Proof.Gen.Kernel14Ideal.Value
public import proofs.«01_k».proof.Proof.Gen.Reference14Ideal
public import proofs.«01_k».proof.Proof.Gen.Reference14Ideal.Run
public import proofs.«01_k».proof.Proof.Gen.Kernel15
public import proofs.«01_k».proof.Proof.Gen.Kernel15.Skeleton
public import proofs.«01_k».proof.Proof.Gen.Kernel15.Launch
public import proofs.«01_k».proof.Proof.Gen.Kernel15.Points
public import proofs.«01_k».proof.Proof.Gen.Kernel15.Frame
public import proofs.«01_k».proof.Proof.Gen.Kernel15Ideal
public import proofs.«01_k».proof.Proof.Gen.Kernel15Ideal.Skeleton
public import proofs.«01_k».proof.Proof.Gen.Kernel15Ideal.Launch
public import proofs.«01_k».proof.Proof.Gen.Kernel15Ideal.Points
public import proofs.«01_k».proof.Proof.Gen.Kernel15Ideal.Frame
public import proofs.«01_k».proof.Proof.Gen.Kernel15Ideal.Value
public import proofs.«01_k».proof.Proof.Gen.Reference15Ideal
public import proofs.«01_k».proof.Proof.Gen.Reference15Ideal.Run
public import proofs.«01_k».proof.Proof.Gen.Kernel16
public import proofs.«01_k».proof.Proof.Gen.Kernel16.Skeleton
public import proofs.«01_k».proof.Proof.Gen.Kernel16.Launch
public import proofs.«01_k».proof.Proof.Gen.Kernel16.Points
public import proofs.«01_k».proof.Proof.Gen.Kernel16.Frame
public import proofs.«01_k».proof.Proof.Gen.Kernel16Ideal
public import proofs.«01_k».proof.Proof.Gen.Kernel16Ideal.Skeleton
public import proofs.«01_k».proof.Proof.Gen.Kernel16Ideal.Launch
public import proofs.«01_k».proof.Proof.Gen.Kernel16Ideal.Points
public import proofs.«01_k».proof.Proof.Gen.Kernel16Ideal.Frame
public import proofs.«01_k».proof.Proof.Gen.Kernel16Ideal.Value
public import proofs.«01_k».proof.Proof.Gen.Reference16Ideal
public import proofs.«01_k».proof.Proof.Gen.Reference16Ideal.Run
public import proofs.«01_k».proof.Proof.Gen.Kernel17
public import proofs.«01_k».proof.Proof.Gen.Kernel17.Skeleton
public import proofs.«01_k».proof.Proof.Gen.Kernel17.Launch
public import proofs.«01_k».proof.Proof.Gen.Kernel17.Points
public import proofs.«01_k».proof.Proof.Gen.Kernel17.Frame
public import proofs.«01_k».proof.Proof.Gen.Kernel17Ideal
public import proofs.«01_k».proof.Proof.Gen.Kernel17Ideal.Skeleton
public import proofs.«01_k».proof.Proof.Gen.Kernel17Ideal.Launch
public import proofs.«01_k».proof.Proof.Gen.Kernel17Ideal.Points
public import proofs.«01_k».proof.Proof.Gen.Kernel17Ideal.Frame
public import proofs.«01_k».proof.Proof.Gen.Kernel17Ideal.Value
public import proofs.«01_k».proof.Proof.Gen.Reference17Ideal
public import proofs.«01_k».proof.Proof.Gen.Reference17Ideal.Run
public import proofs.«01_k».proof.Proof.Gen.Kernel18
public import proofs.«01_k».proof.Proof.Gen.Kernel18.Skeleton
public import proofs.«01_k».proof.Proof.Gen.Kernel18.Launch
public import proofs.«01_k».proof.Proof.Gen.Kernel18.Points
public import proofs.«01_k».proof.Proof.Gen.Kernel18.Frame
public import proofs.«01_k».proof.Proof.Gen.Kernel18Ideal
public import proofs.«01_k».proof.Proof.Gen.Kernel18Ideal.Skeleton
public import proofs.«01_k».proof.Proof.Gen.Kernel18Ideal.Launch
public import proofs.«01_k».proof.Proof.Gen.Kernel18Ideal.Points
public import proofs.«01_k».proof.Proof.Gen.Kernel18Ideal.Frame
public import proofs.«01_k».proof.Proof.Gen.Kernel18Ideal.Value
public import proofs.«01_k».proof.Proof.Gen.Reference18Ideal
public import proofs.«01_k».proof.Proof.Gen.Reference18Ideal.Run
public import proofs.«01_k».proof.Proof.Gen.Kernel19
public import proofs.«01_k».proof.Proof.Gen.Kernel19.Skeleton
public import proofs.«01_k».proof.Proof.Gen.Kernel19.Launch
public import proofs.«01_k».proof.Proof.Gen.Kernel19.Points
public import proofs.«01_k».proof.Proof.Gen.Kernel19.Frame
public import proofs.«01_k».proof.Proof.Gen.Kernel19Ideal
public import proofs.«01_k».proof.Proof.Gen.Kernel19Ideal.Skeleton
public import proofs.«01_k».proof.Proof.Gen.Kernel19Ideal.Launch
public import proofs.«01_k».proof.Proof.Gen.Kernel19Ideal.Points
public import proofs.«01_k».proof.Proof.Gen.Kernel19Ideal.Frame
public import proofs.«01_k».proof.Proof.Gen.Kernel19Ideal.Value
public import proofs.«01_k».proof.Proof.Gen.Reference19Ideal
public import proofs.«01_k».proof.Proof.Gen.Reference19Ideal.Run
public import proofs.«01_k».proof.Proof.Run
public import proofs.«01_k».proof.Proof.Same
public import proofs.«01_k».proof.Proof.Value
public import proofs.«01_k».proof.Proof.Products
public import proofs.«01_k».proof.Proof.Branches
public import Idealize.ShloMosaic.Adequacy
public import Idealize.ShloMosaic.Init

@[expose] public section

noncomputable section

namespace Cert.Proof

open Idealize.ShloMosaic Idealize.SL.Sem

set_option maxHeartbeats 4000000 in
/-- The kernel's frame: the one run of `Proof/Run.lean`, read at the bits; the two programs are one (`Proof/Same.lean`). -/
theorem frame_kernel : Cert.quiescent_Kernel := fun m ρ _ =>
  Eq.mp (congrArg₂ (fun D M => θ_run D (onTc (τ := Cert.KernelIdeal.τ) M) ⟨m, fun _ => 0, ρ⟩ _)
    (kernel_defs (F := Bits)).symm (kernel_main (F := Bits)).symm) (Fox.frame (F := Bits) m ρ)

theorem frame_ideal : Cert.quiescent_KernelIdeal := fun m ρ _ => Fox.frame (F := Ideal) m ρ

/-- The reference's frame: it runs operation by operation and declares no semaphore. -/
theorem frame_reference : Cert.quiescent_ReferenceIdeal := fun m ρ _ =>
  (θ_run Cert.ReferenceIdeal.defs _ _).mono (fun r h => ⟨fun c => (h c).2.2.2.2.2, sem_eq_zero_of_no_sems (by decide) r.2⟩)
    (Cert.ReferenceIdeal.Value.run (F := Ideal) m ρ)

/-- For arguments that are real numbers the kernel's five results are the reference's. -/
theorem equal_results (hP : Cert.Pre_finite.Facts) : Cert.algebraic_KernelIdeal_ReferenceIdeal_pre_finite (hPre_finite := hP) := fun m ρ m' ρ' hm hA =>
  ⟨_, _, _, _, _, Fox.kernel_values m ρ fun c a => Fox.real_head (Fox.arg0 m c) (Fox.arg1 m c) (Fox.arg2 m c) (hm c) a,
    Fox.reference_values m' ρ' (Fox.arg0 m) (Fox.arg1 m) (Fox.arg2 m) hA⟩

theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Kernel8.Gen.facts, Cert.Kernel8Ideal.Gen.facts, Cert.Reference8Ideal.Gen.facts,
    Cert.Kernel9.Gen.facts, Cert.Kernel9Ideal.Gen.facts, Cert.Reference9Ideal.Gen.facts,
    Cert.Kernel10.Gen.facts, Cert.Kernel10Ideal.Gen.facts, Cert.Reference10Ideal.Gen.facts,
    Cert.Kernel11.Gen.facts, Cert.Kernel11Ideal.Gen.facts, Cert.Reference11Ideal.Gen.facts,
    Cert.Kernel12.Gen.facts, Cert.Kernel12Ideal.Gen.facts, Cert.Reference12Ideal.Gen.facts,
    Cert.Kernel13.Gen.facts, Cert.Kernel13Ideal.Gen.facts, Cert.Reference13Ideal.Gen.facts,
    Cert.Kernel14.Gen.facts, Cert.Kernel14Ideal.Gen.facts, Cert.Reference14Ideal.Gen.facts,
    Cert.Kernel15.Gen.facts, Cert.Kernel15Ideal.Gen.facts, Cert.Reference15Ideal.Gen.facts,
    Cert.Kernel16.Gen.facts, Cert.Kernel16Ideal.Gen.facts, Cert.Reference16Ideal.Gen.facts,
    Cert.Kernel17.Gen.facts, Cert.Kernel17Ideal.Gen.facts, Cert.Reference17Ideal.Gen.facts,
    Cert.Kernel18.Gen.facts, Cert.Kernel18Ideal.Gen.facts, Cert.Reference18Ideal.Gen.facts,
    Cert.Kernel19.Gen.facts, Cert.Kernel19Ideal.Gen.facts, Cert.Reference19Ideal.Gen.facts,
    pre_facts,
    frame_kernel, frame_ideal, fun m ρ _ => frame_ideal m ρ trivial, frame_reference, fun m ρ _ => frame_reference m ρ trivial,
    fun m ρ _ => Cert.Kernel2.Gen.frame m ρ, fun m ρ _ => Cert.Kernel2Ideal.Gen.frame m ρ, frame_reference2,
    fun m ρ _ => Cert.Kernel3.Gen.frame m ρ, fun m ρ _ => Cert.Kernel3Ideal.Gen.frame m ρ, frame_reference3,
    fun m ρ _ => Cert.Kernel4.Gen.frame m ρ, fun m ρ _ => Cert.Kernel4Ideal.Gen.frame m ρ, frame_reference4,
    fun m ρ _ => Cert.Kernel5.Gen.frame m ρ, fun m ρ _ => Cert.Kernel5Ideal.Gen.frame m ρ, frame_reference5,
    fun m ρ _ => Cert.Kernel6.Gen.frame m ρ, fun m ρ _ => Cert.Kernel6Ideal.Gen.frame m ρ, frame_reference6,
    fun m ρ _ => Cert.Kernel7.Gen.frame m ρ, fun m ρ _ => Cert.Kernel7Ideal.Gen.frame m ρ, frame_reference7,
    fun m ρ _ => Cert.Kernel8.Gen.frame m ρ, fun m ρ _ => Cert.Kernel8Ideal.Gen.frame m ρ, frame_reference8,
    fun m ρ _ => Cert.Kernel9.Gen.frame m ρ, fun m ρ _ => Cert.Kernel9Ideal.Gen.frame m ρ, frame_reference9,
    fun m ρ _ => Cert.Kernel10.Gen.frame m ρ, fun m ρ _ => Cert.Kernel10Ideal.Gen.frame m ρ, frame_reference10,
    fun m ρ _ => Cert.Kernel11.Gen.frame m ρ, fun m ρ _ => Cert.Kernel11Ideal.Gen.frame m ρ, frame_reference11,
    fun m ρ _ => Cert.Kernel12.Gen.frame m ρ, fun m ρ _ => Cert.Kernel12Ideal.Gen.frame m ρ, frame_reference12,
    fun m ρ _ => Cert.Kernel13.Gen.frame m ρ, fun m ρ _ => Cert.Kernel13Ideal.Gen.frame m ρ, frame_reference13,
    fun m ρ _ => Cert.Kernel14.Gen.frame m ρ, fun m ρ _ => Cert.Kernel14Ideal.Gen.frame m ρ, frame_reference14,
    fun m ρ _ => Cert.Kernel15.Gen.frame m ρ, fun m ρ _ => Cert.Kernel15Ideal.Gen.frame m ρ, frame_reference15,
    fun m ρ _ => Cert.Kernel16.Gen.frame m ρ, fun m ρ _ => Cert.Kernel16Ideal.Gen.frame m ρ, frame_reference16,
    fun m ρ _ => Cert.Kernel17.Gen.frame m ρ, fun m ρ _ => Cert.Kernel17Ideal.Gen.frame m ρ, frame_reference17,
    fun m ρ _ => Cert.Kernel18.Gen.frame m ρ, fun m ρ _ => Cert.Kernel18Ideal.Gen.frame m ρ, frame_reference18,
    fun m ρ _ => Cert.Kernel19.Gen.frame m ρ, fun m ρ _ => Cert.Kernel19Ideal.Gen.frame m ρ, frame_reference19,
    trivial, equal_results pre_facts, trivial, equal2, trivial, equal3, trivial, equal4, trivial, equal5, trivial, equal6, trivial, equal7, trivial, equal8, trivial, equal9, trivial, equal10,
    trivial, equal11, trivial, equal12, trivial, equal13, trivial, equal14, trivial, equal15, trivial, equal16, trivial, equal17, trivial, equal18, trivial, equal19⟩

end Cert.Proof

end
